-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_below_top [hPre_decay_below_top : Cert.Pre_decay_below_top.Facts] (m : (ℓ : Loc Cert.KernelIdeal.nD Cert.KernelIdeal.τ Cert.KernelIdeal.sig) → Buf (Elt Ideal) ℓ) : Prop :=
  ∀ c : Dev Cert.KernelIdeal.nD,
    (Cert.Pre_decay_below_top.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_below_top [hPre_decay_below_top : Cert.Pre_decay_below_top.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_below_top.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_KernelInprojIdeal_inputs_finite [hPre_inputs_finite : Cert.Pre_inputs_finite.Facts] (m : (ℓ : Loc Cert.KernelInprojIdeal.nD Cert.KernelInprojIdeal.τ Cert.KernelInprojIdeal.sig) → Buf (Elt Ideal) ℓ) : Prop :=
  ∀ c : Dev Cert.KernelInprojIdeal.nD,
    (Cert.Pre_inputs_finite.fn (F := Ideal) (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg4)) (m ((c.tc : Thread Cert.KernelInprojIdeal.nD Cert.KernelInprojIdeal.τ).loc Cert.KernelInprojIdeal.main_arg5)) (m ((c.tc : Thread Cert.KernelInprojIdeal.nD Cert.KernelInprojIdeal.τ).loc Cert.KernelInprojIdeal.main_arg6))).1 = (fun _ => 1#1)
    ∧ (Cert.Pre_inputs_finite.fn (F := Ideal) (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg4)) (m ((c.tc : Thread Cert.KernelInprojIdeal.nD Cert.KernelInprojIdeal.τ).loc Cert.KernelInprojIdeal.main_arg5)) (m ((c.tc : Thread Cert.KernelInprojIdeal.nD Cert.KernelInprojIdeal.τ).loc Cert.KernelInprojIdeal.main_arg6))).2.1 = (fun _ => 1#1)
    ∧ (Cert.Pre_inputs_finite.fn (F := Ideal) (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)) (m ((c.tc : Thread Cert.KernelInprojIdeal.nD Cert.KernelInprojIdeal.τ).loc Cert.KernelInprojIdeal.main_arg4)) (m ((c.tc : Thread Cert.KernelInprojIdeal.nD Cert.KernelInprojIdeal.τ).loc Cert.KernelInprojIdeal.main_arg5)) (m ((c.tc : Thread Cert.KernelInprojIdeal.nD Cert.KernelInprojIdeal.τ).loc Cert.KernelInprojIdeal.main_arg6))).2.2 = (fun _ => 1#1)

def Pre_ReferenceInprojIdeal (m : (ℓ : Loc Cert.ReferenceInprojIdeal.nD Cert.ReferenceInprojIdeal.τ Cert.ReferenceInprojIdeal.sig) → Buf (Elt Ideal) ℓ) : Prop :=
  True

def Pre_ReferenceInprojIdeal_inputs_finite [hPre_inputs_finite : Cert.Pre_inputs_finite.Facts] (m : (ℓ : Loc Cert.ReferenceInprojIdeal.nD Cert.ReferenceInprojIdeal.τ Cert.ReferenceInprojIdeal.sig) → Buf (Elt Ideal) ℓ) : Prop :=
  ∀ c : Dev Cert.ReferenceInprojIdeal.nD,
    (Cert.Pre_inputs_finite.fn (F := Ideal) (m ((c.tc : Thread Cert.ReferenceInprojIdeal.nD Cert.ReferenceInprojIdeal.τ).loc Cert.ReferenceInprojIdeal.main_arg0)) (m ((c.tc : Thread Cert.ReferenceInprojIdeal.nD Cert.ReferenceInprojIdeal.τ).loc Cert.ReferenceInprojIdeal.main_arg1)) (m ((c.tc : Thread Cert.ReferenceInprojIdeal.nD Cert.ReferenceInprojIdeal.τ).loc Cert.ReferenceInprojIdeal.main_arg2)) (m ((c.tc : Thread Cert.ReferenceInprojIdeal.nD Cert.ReferenceInprojIdeal.τ).loc Cert.ReferenceInprojIdeal.main_arg3)) (m ((c.tc : Thread Cert.ReferenceInprojIdeal.nD Cert.ReferenceInprojIdeal.τ).loc Cert.ReferenceInprojIdeal.main_arg4)) (m ((c.tc : Thread Cert.ReferenceInprojIdeal.nD Cert.ReferenceInprojIdeal.τ).loc Cert.ReferenceInprojIdeal.main_arg5)) (m ((c.tc : Thread Cert.ReferenceInprojIdeal.nD Cert.ReferenceInprojIdeal.τ).loc Cert.ReferenceInprojIdeal.main_arg6))).1 = (fun _ => 1#1)
    ∧ (Cert.Pre_inputs_finite.fn (F := Ideal) (m ((c.tc : Thread Cert.ReferenceInprojIdeal.nD Cert.ReferenceInprojIdeal.τ).loc Cert.ReferenceInprojIdeal.main_arg0)) (m ((c.tc : Thread Cert.ReferenceInprojIdeal.nD Cert.ReferenceInprojIdeal.τ).loc Cert.ReferenceInprojIdeal.main_arg1)) (m ((c.tc : Thread Cert.ReferenceInprojIdeal.nD Cert.ReferenceInprojIdeal.τ).loc Cert.ReferenceInprojIdeal.main_arg2)) (m ((c.tc : Thread Cert.ReferenceInprojIdeal.nD Cert.ReferenceInprojIdeal.τ).loc Cert.ReferenceInprojIdeal.main_arg3)) (m ((c.tc : Thread Cert.ReferenceInprojIdeal.nD Cert.ReferenceInprojIdeal.τ).loc Cert.ReferenceInprojIdeal.main_arg4)) (m ((c.tc : Thread Cert.ReferenceInprojIdeal.nD Cert.ReferenceInprojIdeal.τ).loc Cert.ReferenceInprojIdeal.main_arg5)) (m ((c.tc : Thread Cert.ReferenceInprojIdeal.nD Cert.ReferenceInprojIdeal.τ).loc Cert.ReferenceInprojIdeal.main_arg6))).2.1 = (fun _ => 1#1)
    ∧ (Cert.Pre_inputs_finite.fn (F := Ideal) (m ((c.tc : Thread Cert.ReferenceInprojIdeal.nD Cert.ReferenceInprojIdeal.τ).loc Cert.ReferenceInprojIdeal.main_arg0)) (m ((c.tc : Thread Cert.ReferenceInprojIdeal.nD Cert.ReferenceInprojIdeal.τ).loc Cert.ReferenceInprojIdeal.main_arg1)) (m ((c.tc : Thread Cert.ReferenceInprojIdeal.nD Cert.ReferenceInprojIdeal.τ).loc Cert.ReferenceInprojIdeal.main_arg2)) (m ((c.tc : Thread Cert.ReferenceInprojIdeal.nD Cert.ReferenceInprojIdeal.τ).loc Cert.ReferenceInprojIdeal.main_arg3)) (m ((c.tc : Thread Cert.ReferenceInprojIdeal.nD Cert.ReferenceInprojIdeal.τ).loc Cert.ReferenceInprojIdeal.main_arg4)) (m ((c.tc : Thread Cert.ReferenceInprojIdeal.nD Cert.ReferenceInprojIdeal.τ).loc Cert.ReferenceInprojIdeal.main_arg5)) (m ((c.tc : Thread Cert.ReferenceInprojIdeal.nD Cert.ReferenceInprojIdeal.τ).loc Cert.ReferenceInprojIdeal.main_arg6))).2.2 = (fun _ => 1#1)

def Pre_KernelInprojSample (m : (ℓ : Loc Cert.KernelInprojSample.nD Cert.KernelInprojSample.τ Cert.KernelInprojSample.sig) → Buf (Elt Bits) ℓ) : Prop :=
  True

def Pre_KernelInprojSampleIdeal (m : (ℓ : Loc Cert.KernelInprojSampleIdeal.nD Cert.KernelInprojSampleIdeal.τ Cert.KernelInprojSampleIdeal.sig) → Buf (Elt Ideal) ℓ) : Prop :=
  True

def Pre_KernelInprojSampleIdeal_sample_finite [hPre_sample_finite : Cert.Pre_sample_finite.Facts] (m : (ℓ : Loc Cert.KernelInprojSampleIdeal.nD Cert.KernelInprojSampleIdeal.τ Cert.KernelInprojSampleIdeal.sig) → Buf (Elt Ideal) ℓ) : Prop :=
  ∀ c : Dev Cert.KernelInprojSampleIdeal.nD,
    (Cert.Pre_sample_finite.fn (F := Ideal) (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) (m ((c.tc : Thread Cert.KernelInprojSampleIdeal.nD Cert.KernelInprojSampleIdeal.τ).loc Cert.KernelInprojSampleIdeal.main_arg3)) (m ((c.tc : Thread Cert.KernelInprojSampleIdeal.nD Cert.KernelInprojSampleIdeal.τ).loc Cert.KernelInprojSampleIdeal.main_arg4)) (m ((c.tc : Thread Cert.KernelInprojSampleIdeal.nD Cert.KernelInprojSampleIdeal.τ).loc Cert.KernelInprojSampleIdeal.main_arg5)) (m ((c.tc : Thread Cert.KernelInprojSampleIdeal.nD Cert.KernelInprojSampleIdeal.τ).loc Cert.KernelInprojSampleIdeal.main_arg6))).1 = (fun _ => 1#1)
    ∧ (Cert.Pre_sample_finite.fn (F := Ideal) (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) (m ((c.tc : Thread Cert.KernelInprojSampleIdeal.nD Cert.KernelInprojSampleIdeal.τ).loc Cert.KernelInprojSampleIdeal.main_arg3)) (m ((c.tc : Thread Cert.KernelInprojSampleIdeal.nD Cert.KernelInprojSampleIdeal.τ).loc Cert.KernelInprojSampleIdeal.main_arg4)) (m ((c.tc : Thread Cert.KernelInprojSampleIdeal.nD Cert.KernelInprojSampleIdeal.τ).loc Cert.KernelInprojSampleIdeal.main_arg5)) (m ((c.tc : Thread Cert.KernelInprojSampleIdeal.nD Cert.KernelInprojSampleIdeal.τ).loc Cert.KernelInprojSampleIdeal.main_arg6))).2.1 = (fun _ => 1#1)
    ∧ (Cert.Pre_sample_finite.fn (F := Ideal) (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) (m ((c.tc : Thread Cert.KernelInprojSampleIdeal.nD Cert.KernelInprojSampleIdeal.τ).loc Cert.KernelInprojSampleIdeal.main_arg3)) (m ((c.tc : Thread Cert.KernelInprojSampleIdeal.nD Cert.KernelInprojSampleIdeal.τ).loc Cert.KernelInprojSampleIdeal.main_arg4)) (m ((c.tc : Thread Cert.KernelInprojSampleIdeal.nD Cert.KernelInprojSampleIdeal.τ).loc Cert.KernelInprojSampleIdeal.main_arg5)) (m ((c.tc : Thread Cert.KernelInprojSampleIdeal.nD Cert.KernelInprojSampleIdeal.τ).loc Cert.KernelInprojSampleIdeal.main_arg6))).2.2 = (fun _ => 1#1)

def Pre_ReferenceInprojSampleIdeal (m : (ℓ : Loc Cert.ReferenceInprojSampleIdeal.nD Cert.ReferenceInprojSampleIdeal.τ Cert.ReferenceInprojSampleIdeal.sig) → Buf (Elt Ideal) ℓ) : Prop :=
  True

def Pre_ReferenceInprojSampleIdeal_sample_finite [hPre_sample_finite : Cert.Pre_sample_finite.Facts] (m : (ℓ : Loc Cert.ReferenceInprojSampleIdeal.nD Cert.ReferenceInprojSampleIdeal.τ Cert.ReferenceInprojSampleIdeal.sig) → Buf (Elt Ideal) ℓ) : Prop :=
  ∀ c : Dev Cert.ReferenceInprojSampleIdeal.nD,
    (Cert.Pre_sample_finite.fn (F := Ideal) (m ((c.tc : Thread Cert.ReferenceInprojSampleIdeal.nD Cert.ReferenceInprojSampleIdeal.τ).loc Cert.ReferenceInprojSampleIdeal.main_arg0)) (m ((c.tc : Thread Cert.ReferenceInprojSampleIdeal.nD Cert.ReferenceInprojSampleIdeal.τ).loc Cert.ReferenceInprojSampleIdeal.main_arg1)) (m ((c.tc : Thread Cert.ReferenceInprojSampleIdeal.nD Cert.ReferenceInprojSampleIdeal.τ).loc Cert.ReferenceInprojSampleIdeal.main_arg2)) (m ((c.tc : Thread Cert.ReferenceInprojSampleIdeal.nD Cert.ReferenceInprojSampleIdeal.τ).loc Cert.ReferenceInprojSampleIdeal.main_arg3)) (m ((c.tc : Thread Cert.ReferenceInprojSampleIdeal.nD Cert.ReferenceInprojSampleIdeal.τ).loc Cert.ReferenceInprojSampleIdeal.main_arg4)) (m ((c.tc : Thread Cert.ReferenceInprojSampleIdeal.nD Cert.ReferenceInprojSampleIdeal.τ).loc Cert.ReferenceInprojSampleIdeal.main_arg5)) (m ((c.tc : Thread Cert.ReferenceInprojSampleIdeal.nD Cert.ReferenceInprojSampleIdeal.τ).loc Cert.ReferenceInprojSampleIdeal.main_arg6))).1 = (fun _ => 1#1)
    ∧ (Cert.Pre_sample_finite.fn (F := Ideal) (m ((c.tc : Thread Cert.ReferenceInprojSampleIdeal.nD Cert.ReferenceInprojSampleIdeal.τ).loc Cert.ReferenceInprojSampleIdeal.main_arg0)) (m ((c.tc : Thread Cert.ReferenceInprojSampleIdeal.nD Cert.ReferenceInprojSampleIdeal.τ).loc Cert.ReferenceInprojSampleIdeal.main_arg1)) (m ((c.tc : Thread Cert.ReferenceInprojSampleIdeal.nD Cert.ReferenceInprojSampleIdeal.τ).loc Cert.ReferenceInprojSampleIdeal.main_arg2)) (m ((c.tc : Thread Cert.ReferenceInprojSampleIdeal.nD Cert.ReferenceInprojSampleIdeal.τ).loc Cert.ReferenceInprojSampleIdeal.main_arg3)) (m ((c.tc : Thread Cert.ReferenceInprojSampleIdeal.nD Cert.ReferenceInprojSampleIdeal.τ).loc Cert.ReferenceInprojSampleIdeal.main_arg4)) (m ((c.tc : Thread Cert.ReferenceInprojSampleIdeal.nD Cert.ReferenceInprojSampleIdeal.τ).loc Cert.ReferenceInprojSampleIdeal.main_arg5)) (m ((c.tc : Thread Cert.ReferenceInprojSampleIdeal.nD Cert.ReferenceInprojSampleIdeal.τ).loc Cert.ReferenceInprojSampleIdeal.main_arg6))).2.1 = (fun _ => 1#1)
    ∧ (Cert.Pre_sample_finite.fn (F := Ideal) (m ((c.tc : Thread Cert.ReferenceInprojSampleIdeal.nD Cert.ReferenceInprojSampleIdeal.τ).loc Cert.ReferenceInprojSampleIdeal.main_arg0)) (m ((c.tc : Thread Cert.ReferenceInprojSampleIdeal.nD Cert.ReferenceInprojSampleIdeal.τ).loc Cert.ReferenceInprojSampleIdeal.main_arg1)) (m ((c.tc : Thread Cert.ReferenceInprojSampleIdeal.nD Cert.ReferenceInprojSampleIdeal.τ).loc Cert.ReferenceInprojSampleIdeal.main_arg2)) (m ((c.tc : Thread Cert.ReferenceInprojSampleIdeal.nD Cert.ReferenceInprojSampleIdeal.τ).loc Cert.ReferenceInprojSampleIdeal.main_arg3)) (m ((c.tc : Thread Cert.ReferenceInprojSampleIdeal.nD Cert.ReferenceInprojSampleIdeal.τ).loc Cert.ReferenceInprojSampleIdeal.main_arg4)) (m ((c.tc : Thread Cert.ReferenceInprojSampleIdeal.nD Cert.ReferenceInprojSampleIdeal.τ).loc Cert.ReferenceInprojSampleIdeal.main_arg5)) (m ((c.tc : Thread Cert.ReferenceInprojSampleIdeal.nD Cert.ReferenceInprojSampleIdeal.τ).loc Cert.ReferenceInprojSampleIdeal.main_arg6))).2.2 = (fun _ => 1#1)

def Pre_KernelGla (m : (ℓ : Loc Cert.KernelGla.nD Cert.KernelGla.τ Cert.KernelGla.sig) → Buf (Elt Bits) ℓ) : Prop :=
  True

def Pre_KernelGlaIdeal (m : (ℓ : Loc Cert.KernelGlaIdeal.nD Cert.KernelGlaIdeal.τ Cert.KernelGlaIdeal.sig) → Buf (Elt Ideal) ℓ) : Prop :=
  True

def Pre_KernelGlaIdeal_prompt_decay_below_top [hPre_prompt_decay_below_top : Cert.Pre_prompt_decay_below_top.Facts] (m : (ℓ : Loc Cert.KernelGlaIdeal.nD Cert.KernelGlaIdeal.τ Cert.KernelGlaIdeal.sig) → Buf (Elt Ideal) ℓ) : Prop :=
  ∀ c : Dev Cert.KernelGlaIdeal.nD,
    (Cert.Pre_prompt_decay_below_top.fn (F := Ideal) (m ((c.tc : Thread Cert.KernelGlaIdeal.nD Cert.KernelGlaIdeal.τ).loc Cert.KernelGlaIdeal.main_arg0)) (m ((c.tc : Thread Cert.KernelGlaIdeal.nD Cert.KernelGlaIdeal.τ).loc Cert.KernelGlaIdeal.main_arg1)) (m ((c.tc : Thread Cert.KernelGlaIdeal.nD Cert.KernelGlaIdeal.τ).loc Cert.KernelGlaIdeal.main_arg2)) (m ((c.tc : Thread Cert.KernelGlaIdeal.nD Cert.KernelGlaIdeal.τ).loc Cert.KernelGlaIdeal.main_arg3))) = (fun _ => 1#1)

def Pre_ReferenceGlaIdeal (m : (ℓ : Loc Cert.ReferenceGlaIdeal.nD Cert.ReferenceGlaIdeal.τ Cert.ReferenceGlaIdeal.sig) → Buf (Elt Ideal) ℓ) : Prop :=
  True

def Pre_ReferenceGlaIdeal_prompt_decay_below_top [hPre_prompt_decay_below_top : Cert.Pre_prompt_decay_below_top.Facts] (m : (ℓ : Loc Cert.ReferenceGlaIdeal.nD Cert.ReferenceGlaIdeal.τ Cert.ReferenceGlaIdeal.sig) → Buf (Elt Ideal) ℓ) : Prop :=
  ∀ c : Dev Cert.ReferenceGlaIdeal.nD,
    (Cert.Pre_prompt_decay_below_top.fn (F := Ideal) (m ((c.tc : Thread Cert.ReferenceGlaIdeal.nD Cert.ReferenceGlaIdeal.τ).loc Cert.ReferenceGlaIdeal.main_arg0)) (m ((c.tc : Thread Cert.ReferenceGlaIdeal.nD Cert.ReferenceGlaIdeal.τ).loc Cert.ReferenceGlaIdeal.main_arg1)) (m ((c.tc : Thread Cert.ReferenceGlaIdeal.nD Cert.ReferenceGlaIdeal.τ).loc Cert.ReferenceGlaIdeal.main_arg2)) (m ((c.tc : Thread Cert.ReferenceGlaIdeal.nD Cert.ReferenceGlaIdeal.τ).loc Cert.ReferenceGlaIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_decay_below_top [hKernelIdeal : Cert.KernelIdeal.Facts] [hPre_decay_below_top : Cert.Pre_decay_below_top.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_below_top m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_decay_below_top [hReferenceIdeal : Cert.ReferenceIdeal.Facts] [hPre_decay_below_top : Cert.Pre_decay_below_top.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_below_top m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1)
      ∧ r.2.mem ((c.tc : Thread Cert.KernelInproj.nD Cert.KernelInproj.τ).loc Cert.KernelInproj.main_arg2) = m ((c.tc : Thread Cert.KernelInproj.nD Cert.KernelInproj.τ).loc Cert.KernelInproj.main_arg2)
      ∧ r.2.mem ((c.tc : Thread Cert.KernelInproj.nD Cert.KernelInproj.τ).loc Cert.KernelInproj.main_arg3) = m ((c.tc : Thread Cert.KernelInproj.nD Cert.KernelInproj.τ).loc Cert.KernelInproj.main_arg3)
      ∧ r.2.mem ((c.tc : Thread Cert.KernelInproj.nD Cert.KernelInproj.τ).loc Cert.KernelInproj.main_arg4) = m ((c.tc : Thread Cert.KernelInproj.nD Cert.KernelInproj.τ).loc Cert.KernelInproj.main_arg4)
      ∧ r.2.mem ((c.tc : Thread Cert.KernelInproj.nD Cert.KernelInproj.τ).loc Cert.KernelInproj.main_arg5) = m ((c.tc : Thread Cert.KernelInproj.nD Cert.KernelInproj.τ).loc Cert.KernelInproj.main_arg5)
      ∧ r.2.mem ((c.tc : Thread Cert.KernelInproj.nD Cert.KernelInproj.τ).loc Cert.KernelInproj.main_arg6) = m ((c.tc : Thread Cert.KernelInproj.nD Cert.KernelInproj.τ).loc Cert.KernelInproj.main_arg6))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
      ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5)
      ∧ r.2.mem ((c.tc : Thread Cert.KernelInprojIdeal.nD Cert.KernelInprojIdeal.τ).loc Cert.KernelInprojIdeal.main_arg6) = m ((c.tc : Thread Cert.KernelInprojIdeal.nD Cert.KernelInprojIdeal.τ).loc Cert.KernelInprojIdeal.main_arg6))
      ∧ r.2.sem = fun _ => 0)

def quiescent_KernelInprojIdeal_pre_inputs_finite [hKernelInprojIdeal : Cert.KernelInprojIdeal.Facts] [hPre_inputs_finite : Cert.Pre_inputs_finite.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal_inputs_finite m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
      ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
      ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
      ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
      ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5)
      ∧ r.2.mem ((c.tc : Thread Cert.KernelInprojIdeal.nD Cert.KernelInprojIdeal.τ).loc Cert.KernelInprojIdeal.main_arg6) = m ((c.tc : Thread Cert.KernelInprojIdeal.nD Cert.KernelInprojIdeal.τ).loc Cert.KernelInprojIdeal.main_arg6))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4)
      ∧ r.2.mem ((c.tc : Thread Cert.ReferenceInprojIdeal.nD Cert.ReferenceInprojIdeal.τ).loc Cert.ReferenceInprojIdeal.main_arg5) = m ((c.tc : Thread Cert.ReferenceInprojIdeal.nD Cert.ReferenceInprojIdeal.τ).loc Cert.ReferenceInprojIdeal.main_arg5)
      ∧ r.2.mem ((c.tc : Thread Cert.ReferenceInprojIdeal.nD Cert.ReferenceInprojIdeal.τ).loc Cert.ReferenceInprojIdeal.main_arg6) = m ((c.tc : Thread Cert.ReferenceInprojIdeal.nD Cert.ReferenceInprojIdeal.τ).loc Cert.ReferenceInprojIdeal.main_arg6))
      ∧ r.2.sem = fun _ => 0)

def quiescent_ReferenceInprojIdeal_pre_inputs_finite [hReferenceInprojIdeal : Cert.ReferenceInprojIdeal.Facts] [hPre_inputs_finite : Cert.Pre_inputs_finite.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal_inputs_finite m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1)
      ∧ r.2.mem ((c.tc : Thread Cert.ReferenceInprojIdeal.nD Cert.ReferenceInprojIdeal.τ).loc Cert.ReferenceInprojIdeal.main_arg2) = m ((c.tc : Thread Cert.ReferenceInprojIdeal.nD Cert.ReferenceInprojIdeal.τ).loc Cert.ReferenceInprojIdeal.main_arg2)
      ∧ r.2.mem ((c.tc : Thread Cert.ReferenceInprojIdeal.nD Cert.ReferenceInprojIdeal.τ).loc Cert.ReferenceInprojIdeal.main_arg3) = m ((c.tc : Thread Cert.ReferenceInprojIdeal.nD Cert.ReferenceInprojIdeal.τ).loc Cert.ReferenceInprojIdeal.main_arg3)
      ∧ r.2.mem ((c.tc : Thread Cert.ReferenceInprojIdeal.nD Cert.ReferenceInprojIdeal.τ).loc Cert.ReferenceInprojIdeal.main_arg4) = m ((c.tc : Thread Cert.ReferenceInprojIdeal.nD Cert.ReferenceInprojIdeal.τ).loc Cert.ReferenceInprojIdeal.main_arg4)
      ∧ r.2.mem ((c.tc : Thread Cert.ReferenceInprojIdeal.nD Cert.ReferenceInprojIdeal.τ).loc Cert.ReferenceInprojIdeal.main_arg5) = m ((c.tc : Thread Cert.ReferenceInprojIdeal.nD Cert.ReferenceInprojIdeal.τ).loc Cert.ReferenceInprojIdeal.main_arg5)
      ∧ r.2.mem ((c.tc : Thread Cert.ReferenceInprojIdeal.nD Cert.ReferenceInprojIdeal.τ).loc Cert.ReferenceInprojIdeal.main_arg6) = m ((c.tc : Thread Cert.ReferenceInprojIdeal.nD Cert.ReferenceInprojIdeal.τ).loc Cert.ReferenceInprojIdeal.main_arg6))
      ∧ r.2.sem = fun _ => 0)

def quiescent_KernelInprojSample [hKernelInprojSample : Cert.KernelInprojSample.Facts] : Prop :=
  ∀ (m : (ℓ : Loc Cert.KernelInprojSample.nD Cert.KernelInprojSample.τ Cert.KernelInprojSample.sig) → Buf (Elt Bits) ℓ) (g : Dev Cert.KernelInprojSample.nD → PrngReg), Pre_KernelInprojSample m →
    θ_run (Cert.KernelInprojSample.defs (F := Bits)) (onTc (τ := Cert.KernelInprojSample.τ) (Cert.KernelInprojSample.main (F := Bits))) ⟨m, fun _ => 0, g⟩ (fun r => (∀ c : Dev Cert.KernelInprojSample.nD,
      r.2.mem ((c.tc : Thread Cert.KernelInprojSample.nD Cert.KernelInprojSample.τ).loc Cert.KernelInprojSample.main_arg0) = m ((c.tc : Thread Cert.KernelInprojSample.nD Cert.KernelInprojSample.τ).loc Cert.KernelInprojSample.main_arg0)
      ∧ r.2.mem ((c.tc : Thread Cert.KernelInprojSample.nD Cert.KernelInprojSample.τ).loc Cert.KernelInprojSample.main_arg1) = m ((c.tc : Thread Cert.KernelInprojSample.nD Cert.KernelInprojSample.τ).loc Cert.KernelInprojSample.main_arg1)
      ∧ r.2.mem ((c.tc : Thread Cert.KernelInprojSample.nD Cert.KernelInprojSample.τ).loc Cert.KernelInprojSample.main_arg2) = m ((c.tc : Thread Cert.KernelInprojSample.nD Cert.KernelInprojSample.τ).loc Cert.KernelInprojSample.main_arg2)
      ∧ r.2.mem ((c.tc : Thread Cert.KernelInprojSample.nD Cert.KernelInprojSample.τ).loc Cert.KernelInprojSample.main_arg3) = m ((c.tc : Thread Cert.KernelInprojSample.nD Cert.KernelInprojSample.τ).loc Cert.KernelInprojSample.main_arg3)
      ∧ r.2.mem ((c.tc : Thread Cert.KernelInprojSample.nD Cert.KernelInprojSample.τ).loc Cert.KernelInprojSample.main_arg4) = m ((c.tc : Thread Cert.KernelInprojSample.nD Cert.KernelInprojSample.τ).loc Cert.KernelInprojSample.main_arg4)
      ∧ r.2.mem ((c.tc : Thread Cert.KernelInprojSample.nD Cert.KernelInprojSample.τ).loc Cert.KernelInprojSample.main_arg5) = m ((c.tc : Thread Cert.KernelInprojSample.nD Cert.KernelInprojSample.τ).loc Cert.KernelInprojSample.main_arg5)
      ∧ r.2.mem ((c.tc : Thread Cert.KernelInprojSample.nD Cert.KernelInprojSample.τ).loc Cert.KernelInprojSample.main_arg6) = m ((c.tc : Thread Cert.KernelInprojSample.nD Cert.KernelInprojSample.τ).loc Cert.KernelInprojSample.main_arg6))
      ∧ r.2.sem = fun _ => 0)

def quiescent_KernelInprojSampleIdeal [hKernelInprojSampleIdeal : Cert.KernelInprojSampleIdeal.Facts] : Prop :=
  ∀ (m : (ℓ : Loc Cert.KernelInprojSampleIdeal.nD Cert.KernelInprojSampleIdeal.τ Cert.KernelInprojSampleIdeal.sig) → Buf (Elt Ideal) ℓ) (g : Dev Cert.KernelInprojSampleIdeal.nD → PrngReg), Pre_KernelInprojSampleIdeal m →
    θ_run (Cert.KernelInprojSampleIdeal.defs (F := Ideal)) (onTc (τ := Cert.KernelInprojSampleIdeal.τ) (Cert.KernelInprojSampleIdeal.main (F := Ideal))) ⟨m, fun _ => 0, g⟩ (fun r => (∀ c : Dev Cert.KernelInprojSampleIdeal.nD,
      r.2.mem ((c.tc : Thread Cert.KernelInprojSampleIdeal.nD Cert.KernelInprojSampleIdeal.τ).loc Cert.KernelInprojSampleIdeal.main_arg0) = m ((c.tc : Thread Cert.KernelInprojSampleIdeal.nD Cert.KernelInprojSampleIdeal.τ).loc Cert.KernelInprojSampleIdeal.main_arg0)
      ∧ r.2.mem ((c.tc : Thread Cert.KernelInprojSampleIdeal.nD Cert.KernelInprojSampleIdeal.τ).loc Cert.KernelInprojSampleIdeal.main_arg1) = m ((c.tc : Thread Cert.KernelInprojSampleIdeal.nD Cert.KernelInprojSampleIdeal.τ).loc Cert.KernelInprojSampleIdeal.main_arg1)
      ∧ r.2.mem ((c.tc : Thread Cert.KernelInprojSampleIdeal.nD Cert.KernelInprojSampleIdeal.τ).loc Cert.KernelInprojSampleIdeal.main_arg2) = m ((c.tc : Thread Cert.KernelInprojSampleIdeal.nD Cert.KernelInprojSampleIdeal.τ).loc Cert.KernelInprojSampleIdeal.main_arg2)
      ∧ r.2.mem ((c.tc : Thread Cert.KernelInprojSampleIdeal.nD Cert.KernelInprojSampleIdeal.τ).loc Cert.KernelInprojSampleIdeal.main_arg3) = m ((c.tc : Thread Cert.KernelInprojSampleIdeal.nD Cert.KernelInprojSampleIdeal.τ).loc Cert.KernelInprojSampleIdeal.main_arg3)
      ∧ r.2.mem ((c.tc : Thread Cert.KernelInprojSampleIdeal.nD Cert.KernelInprojSampleIdeal.τ).loc Cert.KernelInprojSampleIdeal.main_arg4) = m ((c.tc : Thread Cert.KernelInprojSampleIdeal.nD Cert.KernelInprojSampleIdeal.τ).loc Cert.KernelInprojSampleIdeal.main_arg4)
      ∧ r.2.mem ((c.tc : Thread Cert.KernelInprojSampleIdeal.nD Cert.KernelInprojSampleIdeal.τ).loc Cert.KernelInprojSampleIdeal.main_arg5) = m ((c.tc : Thread Cert.KernelInprojSampleIdeal.nD Cert.KernelInprojSampleIdeal.τ).loc Cert.KernelInprojSampleIdeal.main_arg5)
      ∧ r.2.mem ((c.tc : Thread Cert.KernelInprojSampleIdeal.nD Cert.KernelInprojSampleIdeal.τ).loc Cert.KernelInprojSampleIdeal.main_arg6) = m ((c.tc : Thread Cert.KernelInprojSampleIdeal.nD Cert.KernelInprojSampleIdeal.τ).loc Cert.KernelInprojSampleIdeal.main_arg6))
      ∧ r.2.sem = fun _ => 0)

def quiescent_KernelInprojSampleIdeal_pre_sample_finite [hKernelInprojSampleIdeal : Cert.KernelInprojSampleIdeal.Facts] [hPre_sample_finite : Cert.Pre_sample_finite.Facts] : Prop :=
  ∀ (m : (ℓ : Loc Cert.KernelInprojSampleIdeal.nD Cert.KernelInprojSampleIdeal.τ Cert.KernelInprojSampleIdeal.sig) → Buf (Elt Ideal) ℓ) (g : Dev Cert.KernelInprojSampleIdeal.nD → PrngReg), Pre_KernelInprojSampleIdeal_sample_finite m →
    θ_run (Cert.KernelInprojSampleIdeal.defs (F := Ideal)) (onTc (τ := Cert.KernelInprojSampleIdeal.τ) (Cert.KernelInprojSampleIdeal.main (F := Ideal))) ⟨m, fun _ => 0, g⟩ (fun r => (∀ c : Dev Cert.KernelInprojSampleIdeal.nD,
      r.2.mem ((c.tc : Thread Cert.KernelInprojSampleIdeal.nD Cert.KernelInprojSampleIdeal.τ).loc Cert.KernelInprojSampleIdeal.main_arg0) = m ((c.tc : Thread Cert.KernelInprojSampleIdeal.nD Cert.KernelInprojSampleIdeal.τ).loc Cert.KernelInprojSampleIdeal.main_arg0)
      ∧ r.2.mem ((c.tc : Thread Cert.KernelInprojSampleIdeal.nD Cert.KernelInprojSampleIdeal.τ).loc Cert.KernelInprojSampleIdeal.main_arg1) = m ((c.tc : Thread Cert.KernelInprojSampleIdeal.nD Cert.KernelInprojSampleIdeal.τ).loc Cert.KernelInprojSampleIdeal.main_arg1)
      ∧ r.2.mem ((c.tc : Thread Cert.KernelInprojSampleIdeal.nD Cert.KernelInprojSampleIdeal.τ).loc Cert.KernelInprojSampleIdeal.main_arg2) = m ((c.tc : Thread Cert.KernelInprojSampleIdeal.nD Cert.KernelInprojSampleIdeal.τ).loc Cert.KernelInprojSampleIdeal.main_arg2)
      ∧ r.2.mem ((c.tc : Thread Cert.KernelInprojSampleIdeal.nD Cert.KernelInprojSampleIdeal.τ).loc Cert.KernelInprojSampleIdeal.main_arg3) = m ((c.tc : Thread Cert.KernelInprojSampleIdeal.nD Cert.KernelInprojSampleIdeal.τ).loc Cert.KernelInprojSampleIdeal.main_arg3)
      ∧ r.2.mem ((c.tc : Thread Cert.KernelInprojSampleIdeal.nD Cert.KernelInprojSampleIdeal.τ).loc Cert.KernelInprojSampleIdeal.main_arg4) = m ((c.tc : Thread Cert.KernelInprojSampleIdeal.nD Cert.KernelInprojSampleIdeal.τ).loc Cert.KernelInprojSampleIdeal.main_arg4)
      ∧ r.2.mem ((c.tc : Thread Cert.KernelInprojSampleIdeal.nD Cert.KernelInprojSampleIdeal.τ).loc Cert.KernelInprojSampleIdeal.main_arg5) = m ((c.tc : Thread Cert.KernelInprojSampleIdeal.nD Cert.KernelInprojSampleIdeal.τ).loc Cert.KernelInprojSampleIdeal.main_arg5)
      ∧ r.2.mem ((c.tc : Thread Cert.KernelInprojSampleIdeal.nD Cert.KernelInprojSampleIdeal.τ).loc Cert.KernelInprojSampleIdeal.main_arg6) = m ((c.tc : Thread Cert.KernelInprojSampleIdeal.nD Cert.KernelInprojSampleIdeal.τ).loc Cert.KernelInprojSampleIdeal.main_arg6))
      ∧ r.2.sem = fun _ => 0)

def quiescent_ReferenceInprojSampleIdeal [hReferenceInprojSampleIdeal : Cert.ReferenceInprojSampleIdeal.Facts] : Prop :=
  ∀ (m : (ℓ : Loc Cert.ReferenceInprojSampleIdeal.nD Cert.ReferenceInprojSampleIdeal.τ Cert.ReferenceInprojSampleIdeal.sig) → Buf (Elt Ideal) ℓ) (g : Dev Cert.ReferenceInprojSampleIdeal.nD → PrngReg), Pre_ReferenceInprojSampleIdeal m →
    θ_run (Cert.ReferenceInprojSampleIdeal.defs (F := Ideal)) (onTc (τ := Cert.ReferenceInprojSampleIdeal.τ) (Cert.ReferenceInprojSampleIdeal.main (F := Ideal))) ⟨m, fun _ => 0, g⟩ (fun r => (∀ c : Dev Cert.ReferenceInprojSampleIdeal.nD,
      r.2.mem ((c.tc : Thread Cert.ReferenceInprojSampleIdeal.nD Cert.ReferenceInprojSampleIdeal.τ).loc Cert.ReferenceInprojSampleIdeal.main_arg0) = m ((c.tc : Thread Cert.ReferenceInprojSampleIdeal.nD Cert.ReferenceInprojSampleIdeal.τ).loc Cert.ReferenceInprojSampleIdeal.main_arg0)
      ∧ r.2.mem ((c.tc : Thread Cert.ReferenceInprojSampleIdeal.nD Cert.ReferenceInprojSampleIdeal.τ).loc Cert.ReferenceInprojSampleIdeal.main_arg1) = m ((c.tc : Thread Cert.ReferenceInprojSampleIdeal.nD Cert.ReferenceInprojSampleIdeal.τ).loc Cert.ReferenceInprojSampleIdeal.main_arg1)
      ∧ r.2.mem ((c.tc : Thread Cert.ReferenceInprojSampleIdeal.nD Cert.ReferenceInprojSampleIdeal.τ).loc Cert.ReferenceInprojSampleIdeal.main_arg2) = m ((c.tc : Thread Cert.ReferenceInprojSampleIdeal.nD Cert.ReferenceInprojSampleIdeal.τ).loc Cert.ReferenceInprojSampleIdeal.main_arg2)
      ∧ r.2.mem ((c.tc : Thread Cert.ReferenceInprojSampleIdeal.nD Cert.ReferenceInprojSampleIdeal.τ).loc Cert.ReferenceInprojSampleIdeal.main_arg3) = m ((c.tc : Thread Cert.ReferenceInprojSampleIdeal.nD Cert.ReferenceInprojSampleIdeal.τ).loc Cert.ReferenceInprojSampleIdeal.main_arg3)
      ∧ r.2.mem ((c.tc : Thread Cert.ReferenceInprojSampleIdeal.nD Cert.ReferenceInprojSampleIdeal.τ).loc Cert.ReferenceInprojSampleIdeal.main_arg4) = m ((c.tc : Thread Cert.ReferenceInprojSampleIdeal.nD Cert.ReferenceInprojSampleIdeal.τ).loc Cert.ReferenceInprojSampleIdeal.main_arg4)
      ∧ r.2.mem ((c.tc : Thread Cert.ReferenceInprojSampleIdeal.nD Cert.ReferenceInprojSampleIdeal.τ).loc Cert.ReferenceInprojSampleIdeal.main_arg5) = m ((c.tc : Thread Cert.ReferenceInprojSampleIdeal.nD Cert.ReferenceInprojSampleIdeal.τ).loc Cert.ReferenceInprojSampleIdeal.main_arg5)
      ∧ r.2.mem ((c.tc : Thread Cert.ReferenceInprojSampleIdeal.nD Cert.ReferenceInprojSampleIdeal.τ).loc Cert.ReferenceInprojSampleIdeal.main_arg6) = m ((c.tc : Thread Cert.ReferenceInprojSampleIdeal.nD Cert.ReferenceInprojSampleIdeal.τ).loc Cert.ReferenceInprojSampleIdeal.main_arg6))
      ∧ r.2.sem = fun _ => 0)

def quiescent_ReferenceInprojSampleIdeal_pre_sample_finite [hReferenceInprojSampleIdeal : Cert.ReferenceInprojSampleIdeal.Facts] [hPre_sample_finite : Cert.Pre_sample_finite.Facts] : Prop :=
  ∀ (m : (ℓ : Loc Cert.ReferenceInprojSampleIdeal.nD Cert.ReferenceInprojSampleIdeal.τ Cert.ReferenceInprojSampleIdeal.sig) → Buf (Elt Ideal) ℓ) (g : Dev Cert.ReferenceInprojSampleIdeal.nD → PrngReg), Pre_ReferenceInprojSampleIdeal_sample_finite m →
    θ_run (Cert.ReferenceInprojSampleIdeal.defs (F := Ideal)) (onTc (τ := Cert.ReferenceInprojSampleIdeal.τ) (Cert.ReferenceInprojSampleIdeal.main (F := Ideal))) ⟨m, fun _ => 0, g⟩ (fun r => (∀ c : Dev Cert.ReferenceInprojSampleIdeal.nD,
      r.2.mem ((c.tc : Thread Cert.ReferenceInprojSampleIdeal.nD Cert.ReferenceInprojSampleIdeal.τ).loc Cert.ReferenceInprojSampleIdeal.main_arg0) = m ((c.tc : Thread Cert.ReferenceInprojSampleIdeal.nD Cert.ReferenceInprojSampleIdeal.τ).loc Cert.ReferenceInprojSampleIdeal.main_arg0)
      ∧ r.2.mem ((c.tc : Thread Cert.ReferenceInprojSampleIdeal.nD Cert.ReferenceInprojSampleIdeal.τ).loc Cert.ReferenceInprojSampleIdeal.main_arg1) = m ((c.tc : Thread Cert.ReferenceInprojSampleIdeal.nD Cert.ReferenceInprojSampleIdeal.τ).loc Cert.ReferenceInprojSampleIdeal.main_arg1)
      ∧ r.2.mem ((c.tc : Thread Cert.ReferenceInprojSampleIdeal.nD Cert.ReferenceInprojSampleIdeal.τ).loc Cert.ReferenceInprojSampleIdeal.main_arg2) = m ((c.tc : Thread Cert.ReferenceInprojSampleIdeal.nD Cert.ReferenceInprojSampleIdeal.τ).loc Cert.ReferenceInprojSampleIdeal.main_arg2)
      ∧ r.2.mem ((c.tc : Thread Cert.ReferenceInprojSampleIdeal.nD Cert.ReferenceInprojSampleIdeal.τ).loc Cert.ReferenceInprojSampleIdeal.main_arg3) = m ((c.tc : Thread Cert.ReferenceInprojSampleIdeal.nD Cert.ReferenceInprojSampleIdeal.τ).loc Cert.ReferenceInprojSampleIdeal.main_arg3)
      ∧ r.2.mem ((c.tc : Thread Cert.ReferenceInprojSampleIdeal.nD Cert.ReferenceInprojSampleIdeal.τ).loc Cert.ReferenceInprojSampleIdeal.main_arg4) = m ((c.tc : Thread Cert.ReferenceInprojSampleIdeal.nD Cert.ReferenceInprojSampleIdeal.τ).loc Cert.ReferenceInprojSampleIdeal.main_arg4)
      ∧ r.2.mem ((c.tc : Thread Cert.ReferenceInprojSampleIdeal.nD Cert.ReferenceInprojSampleIdeal.τ).loc Cert.ReferenceInprojSampleIdeal.main_arg5) = m ((c.tc : Thread Cert.ReferenceInprojSampleIdeal.nD Cert.ReferenceInprojSampleIdeal.τ).loc Cert.ReferenceInprojSampleIdeal.main_arg5)
      ∧ r.2.mem ((c.tc : Thread Cert.ReferenceInprojSampleIdeal.nD Cert.ReferenceInprojSampleIdeal.τ).loc Cert.ReferenceInprojSampleIdeal.main_arg6) = m ((c.tc : Thread Cert.ReferenceInprojSampleIdeal.nD Cert.ReferenceInprojSampleIdeal.τ).loc Cert.ReferenceInprojSampleIdeal.main_arg6))
      ∧ r.2.sem = fun _ => 0)

def quiescent_KernelGla [hKernelGla : Cert.KernelGla.Facts] : Prop :=
  ∀ (m : (ℓ : Loc Cert.KernelGla.nD Cert.KernelGla.τ Cert.KernelGla.sig) → Buf (Elt Bits) ℓ) (g : Dev Cert.KernelGla.nD → PrngReg), Pre_KernelGla m →
    θ_run (Cert.KernelGla.defs (F := Bits)) (onTc (τ := Cert.KernelGla.τ) (Cert.KernelGla.main (F := Bits))) ⟨m, fun _ => 0, g⟩ (fun r => (∀ c : Dev Cert.KernelGla.nD,
      r.2.mem ((c.tc : Thread Cert.KernelGla.nD Cert.KernelGla.τ).loc Cert.KernelGla.main_arg0) = m ((c.tc : Thread Cert.KernelGla.nD Cert.KernelGla.τ).loc Cert.KernelGla.main_arg0)
      ∧ r.2.mem ((c.tc : Thread Cert.KernelGla.nD Cert.KernelGla.τ).loc Cert.KernelGla.main_arg1) = m ((c.tc : Thread Cert.KernelGla.nD Cert.KernelGla.τ).loc Cert.KernelGla.main_arg1)
      ∧ r.2.mem ((c.tc : Thread Cert.KernelGla.nD Cert.KernelGla.τ).loc Cert.KernelGla.main_arg2) = m ((c.tc : Thread Cert.KernelGla.nD Cert.KernelGla.τ).loc Cert.KernelGla.main_arg2)
      ∧ r.2.mem ((c.tc : Thread Cert.KernelGla.nD Cert.KernelGla.τ).loc Cert.KernelGla.main_arg3) = m ((c.tc : Thread Cert.KernelGla.nD Cert.KernelGla.τ).loc Cert.KernelGla.main_arg3))
      ∧ r.2.sem = fun _ => 0)

def quiescent_KernelGlaIdeal [hKernelGlaIdeal : Cert.KernelGlaIdeal.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
      ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
      ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3))
      ∧ r.2.sem = fun _ => 0)

def quiescent_KernelGlaIdeal_pre_prompt_decay_below_top [hKernelGlaIdeal : Cert.KernelGlaIdeal.Facts] [hPre_prompt_decay_below_top : Cert.Pre_prompt_decay_below_top.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg), Pre_KernelGlaIdeal_prompt_decay_below_top m →
    θ_run (Cert.KernelGlaIdeal.defs (F := Ideal)) (onTc (τ := Cert.KernelGlaIdeal.τ) (Cert.KernelGlaIdeal.main (F := Ideal))) ⟨m, fun _ => 0, g⟩ (fun r => (∀ c : Dev Cert.KernelGlaIdeal.nD,
      r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
      ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
      ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
      ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3))
      ∧ r.2.sem = fun _ => 0)

def quiescent_ReferenceGlaIdeal [hReferenceGlaIdeal : Cert.ReferenceGlaIdeal.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1)
      ∧ r.2.mem ((c.tc : Thread Cert.ReferenceGlaIdeal.nD Cert.ReferenceGlaIdeal.τ).loc Cert.ReferenceGlaIdeal.main_arg2) = m ((c.tc : Thread Cert.ReferenceGlaIdeal.nD Cert.ReferenceGlaIdeal.τ).loc Cert.ReferenceGlaIdeal.main_arg2)
      ∧ r.2.mem ((c.tc : Thread Cert.ReferenceGlaIdeal.nD Cert.ReferenceGlaIdeal.τ).loc Cert.ReferenceGlaIdeal.main_arg3) = m ((c.tc : Thread Cert.ReferenceGlaIdeal.nD Cert.ReferenceGlaIdeal.τ).loc Cert.ReferenceGlaIdeal.main_arg3))
      ∧ r.2.sem = fun _ => 0)

def quiescent_ReferenceGlaIdeal_pre_prompt_decay_below_top [hReferenceGlaIdeal : Cert.ReferenceGlaIdeal.Facts] [hPre_prompt_decay_below_top : Cert.Pre_prompt_decay_below_top.Facts] : Prop :=
  ∀ (m : (ℓ : Loc Cert.ReferenceGlaIdeal.nD Cert.ReferenceGlaIdeal.τ Cert.ReferenceGlaIdeal.sig) → Buf (Elt Ideal) ℓ) (g : Dev Cert.ReferenceGlaIdeal.nD → PrngReg), Pre_ReferenceGlaIdeal_prompt_decay_below_top m →
    θ_run (Cert.ReferenceGlaIdeal.defs (F := Ideal)) (onTc (τ := Cert.ReferenceGlaIdeal.τ) (Cert.ReferenceGlaIdeal.main (F := Ideal))) ⟨m, fun _ => 0, g⟩ (fun r => (∀ c : Dev Cert.ReferenceGlaIdeal.nD,
      r.2.mem ((c.tc : Thread Cert.ReferenceGlaIdeal.nD Cert.ReferenceGlaIdeal.τ).loc Cert.ReferenceGlaIdeal.main_arg0) = m ((c.tc : Thread Cert.ReferenceGlaIdeal.nD Cert.ReferenceGlaIdeal.τ).loc Cert.ReferenceGlaIdeal.main_arg0)
      ∧ r.2.mem ((c.tc : Thread Cert.ReferenceGlaIdeal.nD Cert.ReferenceGlaIdeal.τ).loc Cert.ReferenceGlaIdeal.main_arg1) = m ((c.tc : Thread Cert.ReferenceGlaIdeal.nD Cert.ReferenceGlaIdeal.τ).loc Cert.ReferenceGlaIdeal.main_arg1)
      ∧ r.2.mem ((c.tc : Thread Cert.ReferenceGlaIdeal.nD Cert.ReferenceGlaIdeal.τ).loc Cert.ReferenceGlaIdeal.main_arg2) = m ((c.tc : Thread Cert.ReferenceGlaIdeal.nD Cert.ReferenceGlaIdeal.τ).loc Cert.ReferenceGlaIdeal.main_arg2)
      ∧ r.2.mem ((c.tc : Thread Cert.ReferenceGlaIdeal.nD Cert.ReferenceGlaIdeal.τ).loc Cert.ReferenceGlaIdeal.main_arg3) = m ((c.tc : Thread Cert.ReferenceGlaIdeal.nD Cert.ReferenceGlaIdeal.τ).loc Cert.ReferenceGlaIdeal.main_arg3))
      ∧ r.2.sem = fun _ => 0)

def preserves_Kernel_KernelIdeal : Prop :=
  True

def algebraic_KernelIdeal_ReferenceIdeal_pre_decay_below_top [hKernelIdeal : Cert.KernelIdeal.Facts] [hReferenceIdeal : Cert.ReferenceIdeal.Facts] [hPre_decay_below_top : Cert.Pre_decay_below_top.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_below_top m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v12)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v12) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v46) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def preserves_KernelInproj_KernelInprojIdeal : Prop :=
  True

def algebraic_KernelInprojIdeal_ReferenceInprojIdeal_pre_inputs_finite [hKernelInprojIdeal : Cert.KernelInprojIdeal.Facts] [hReferenceInprojIdeal : Cert.ReferenceInprojIdeal.Facts] [hPre_inputs_finite : Cert.Pre_inputs_finite.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal_inputs_finite m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)
      ∧ m' ((c.tc : Thread Cert.ReferenceInprojIdeal.nD Cert.ReferenceInprojIdeal.τ).loc Cert.ReferenceInprojIdeal.main_arg2) = m ((c.tc : Thread Cert.KernelInprojIdeal.nD Cert.KernelInprojIdeal.τ).loc Cert.KernelInprojIdeal.main_arg2)
      ∧ m' ((c.tc : Thread Cert.ReferenceInprojIdeal.nD Cert.ReferenceInprojIdeal.τ).loc Cert.ReferenceInprojIdeal.main_arg3) = m ((c.tc : Thread Cert.KernelInprojIdeal.nD Cert.KernelInprojIdeal.τ).loc Cert.KernelInprojIdeal.main_arg3)
      ∧ m' ((c.tc : Thread Cert.ReferenceInprojIdeal.nD Cert.ReferenceInprojIdeal.τ).loc Cert.ReferenceInprojIdeal.main_arg4) = m ((c.tc : Thread Cert.KernelInprojIdeal.nD Cert.KernelInprojIdeal.τ).loc Cert.KernelInprojIdeal.main_arg4)
      ∧ m' ((c.tc : Thread Cert.ReferenceInprojIdeal.nD Cert.ReferenceInprojIdeal.τ).loc Cert.ReferenceInprojIdeal.main_arg5) = m ((c.tc : Thread Cert.KernelInprojIdeal.nD Cert.KernelInprojIdeal.τ).loc Cert.KernelInprojIdeal.main_arg5)
      ∧ m' ((c.tc : Thread Cert.ReferenceInprojIdeal.nD Cert.ReferenceInprojIdeal.τ).loc Cert.ReferenceInprojIdeal.main_arg6) = m ((c.tc : Thread Cert.KernelInprojIdeal.nD Cert.KernelInprojIdeal.τ).loc Cert.KernelInprojIdeal.main_arg6)) →
    ∃ (v0 : (c : Dev Cert.KernelInprojIdeal.nD) → Buf (Elt Ideal) ((c.tc : Thread Cert.KernelInprojIdeal.nD Cert.KernelInprojIdeal.τ).loc Cert.KernelInprojIdeal.main_v54_0)) (v1 : (c : Dev Cert.KernelInprojIdeal.nD) → Buf (Elt Ideal) ((c.tc : Thread Cert.KernelInprojIdeal.nD Cert.KernelInprojIdeal.τ).loc Cert.KernelInprojIdeal.main_v54_1)) (v2 : (c : Dev Cert.KernelInprojIdeal.nD) → Buf (Elt Ideal) ((c.tc : Thread Cert.KernelInprojIdeal.nD Cert.KernelInprojIdeal.τ).loc Cert.KernelInprojIdeal.main_v54_2)) (v3 : (c : Dev Cert.KernelInprojIdeal.nD) → Buf (Elt Ideal) ((c.tc : Thread Cert.KernelInprojIdeal.nD Cert.KernelInprojIdeal.τ).loc Cert.KernelInprojIdeal.main_v54_3)) (v4 : (c : Dev Cert.KernelInprojIdeal.nD) → Buf (Elt Ideal) ((c.tc : Thread Cert.KernelInprojIdeal.nD Cert.KernelInprojIdeal.τ).loc Cert.KernelInprojIdeal.main_v54_4)) (v5 : (c : Dev Cert.KernelInprojIdeal.nD) → Buf (Elt Ideal) ((c.tc : Thread Cert.KernelInprojIdeal.nD Cert.KernelInprojIdeal.τ).loc Cert.KernelInprojIdeal.main_v54_5)) (v6 : (c : Dev Cert.KernelInprojIdeal.nD) → Buf (Elt Ideal) ((c.tc : Thread Cert.KernelInprojIdeal.nD Cert.KernelInprojIdeal.τ).loc Cert.KernelInprojIdeal.main_v54_6)) (v7 : (c : Dev Cert.KernelInprojIdeal.nD) → Buf (Elt Ideal) ((c.tc : Thread Cert.KernelInprojIdeal.nD Cert.KernelInprojIdeal.τ).loc Cert.KernelInprojIdeal.main_v54_7)) (v8 : (c : Dev Cert.KernelInprojIdeal.nD) → Buf (Elt Ideal) ((c.tc : Thread Cert.KernelInprojIdeal.nD Cert.KernelInprojIdeal.τ).loc Cert.KernelInprojIdeal.main_v54_8)) (v9 : (c : Dev Cert.KernelInprojIdeal.nD) → Buf (Elt Ideal) ((c.tc : Thread Cert.KernelInprojIdeal.nD Cert.KernelInprojIdeal.τ).loc Cert.KernelInprojIdeal.main_v54_9)) (v10 : (c : Dev Cert.KernelInprojIdeal.nD) → Buf (Elt Ideal) ((c.tc : Thread Cert.KernelInprojIdeal.nD Cert.KernelInprojIdeal.τ).loc Cert.KernelInprojIdeal.main_v54_10)) (v11 : (c : Dev Cert.KernelInprojIdeal.nD) → Buf (Elt Ideal) ((c.tc : Thread Cert.KernelInprojIdeal.nD Cert.KernelInprojIdeal.τ).loc Cert.KernelInprojIdeal.main_v54_11)) (v12 : (c : Dev Cert.KernelInprojIdeal.nD) → Buf (Elt Ideal) ((c.tc : Thread Cert.KernelInprojIdeal.nD Cert.KernelInprojIdeal.τ).loc Cert.KernelInprojIdeal.main_v54_12)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v54_0) = v0 c
          ∧ r.2.mem ((c.tc : Thread Cert.KernelInprojIdeal.nD Cert.KernelInprojIdeal.τ).loc Cert.KernelInprojIdeal.main_v54_1) = v1 c
          ∧ r.2.mem ((c.tc : Thread Cert.KernelInprojIdeal.nD Cert.KernelInprojIdeal.τ).loc Cert.KernelInprojIdeal.main_v54_2) = v2 c
          ∧ r.2.mem ((c.tc : Thread Cert.KernelInprojIdeal.nD Cert.KernelInprojIdeal.τ).loc Cert.KernelInprojIdeal.main_v54_3) = v3 c
          ∧ r.2.mem ((c.tc : Thread Cert.KernelInprojIdeal.nD Cert.KernelInprojIdeal.τ).loc Cert.KernelInprojIdeal.main_v54_4) = v4 c
          ∧ r.2.mem ((c.tc : Thread Cert.KernelInprojIdeal.nD Cert.KernelInprojIdeal.τ).loc Cert.KernelInprojIdeal.main_v54_5) = v5 c
          ∧ r.2.mem ((c.tc : Thread Cert.KernelInprojIdeal.nD Cert.KernelInprojIdeal.τ).loc Cert.KernelInprojIdeal.main_v54_6) = v6 c
          ∧ r.2.mem ((c.tc : Thread Cert.KernelInprojIdeal.nD Cert.KernelInprojIdeal.τ).loc Cert.KernelInprojIdeal.main_v54_7) = v7 c
          ∧ r.2.mem ((c.tc : Thread Cert.KernelInprojIdeal.nD Cert.KernelInprojIdeal.τ).loc Cert.KernelInprojIdeal.main_v54_8) = v8 c
          ∧ r.2.mem ((c.tc : Thread Cert.KernelInprojIdeal.nD Cert.KernelInprojIdeal.τ).loc Cert.KernelInprojIdeal.main_v54_9) = v9 c
          ∧ r.2.mem ((c.tc : Thread Cert.KernelInprojIdeal.nD Cert.KernelInprojIdeal.τ).loc Cert.KernelInprojIdeal.main_v54_10) = v10 c
          ∧ r.2.mem ((c.tc : Thread Cert.KernelInprojIdeal.nD Cert.KernelInprojIdeal.τ).loc Cert.KernelInprojIdeal.main_v54_11) = v11 c
          ∧ r.2.mem ((c.tc : Thread Cert.KernelInprojIdeal.nD Cert.KernelInprojIdeal.τ).loc Cert.KernelInprojIdeal.main_v54_12) = v12 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1)
          ∧ r.2.mem ((c.tc : Thread Cert.KernelInprojIdeal.nD Cert.KernelInprojIdeal.τ).loc Cert.KernelInprojIdeal.main_arg2) = m ((c.tc : Thread Cert.KernelInprojIdeal.nD Cert.KernelInprojIdeal.τ).loc Cert.KernelInprojIdeal.main_arg2)
          ∧ r.2.mem ((c.tc : Thread Cert.KernelInprojIdeal.nD Cert.KernelInprojIdeal.τ).loc Cert.KernelInprojIdeal.main_arg3) = m ((c.tc : Thread Cert.KernelInprojIdeal.nD Cert.KernelInprojIdeal.τ).loc Cert.KernelInprojIdeal.main_arg3)
          ∧ r.2.mem ((c.tc : Thread Cert.KernelInprojIdeal.nD Cert.KernelInprojIdeal.τ).loc Cert.KernelInprojIdeal.main_arg4) = m ((c.tc : Thread Cert.KernelInprojIdeal.nD Cert.KernelInprojIdeal.τ).loc Cert.KernelInprojIdeal.main_arg4)
          ∧ r.2.mem ((c.tc : Thread Cert.KernelInprojIdeal.nD Cert.KernelInprojIdeal.τ).loc Cert.KernelInprojIdeal.main_arg5) = m ((c.tc : Thread Cert.KernelInprojIdeal.nD Cert.KernelInprojIdeal.τ).loc Cert.KernelInprojIdeal.main_arg5)
          ∧ r.2.mem ((c.tc : Thread Cert.KernelInprojIdeal.nD Cert.KernelInprojIdeal.τ).loc Cert.KernelInprojIdeal.main_arg6) = m ((c.tc : Thread Cert.KernelInprojIdeal.nD Cert.KernelInprojIdeal.τ).loc Cert.KernelInprojIdeal.main_arg6))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v130) = v0 c
          ∧ r.2.mem ((c.tc : Thread Cert.ReferenceInprojIdeal.nD Cert.ReferenceInprojIdeal.τ).loc Cert.ReferenceInprojIdeal.main_v131) = v1 c
          ∧ r.2.mem ((c.tc : Thread Cert.ReferenceInprojIdeal.nD Cert.ReferenceInprojIdeal.τ).loc Cert.ReferenceInprojIdeal.main_v132) = v2 c
          ∧ r.2.mem ((c.tc : Thread Cert.ReferenceInprojIdeal.nD Cert.ReferenceInprojIdeal.τ).loc Cert.ReferenceInprojIdeal.main_v133) = v3 c
          ∧ r.2.mem ((c.tc : Thread Cert.ReferenceInprojIdeal.nD Cert.ReferenceInprojIdeal.τ).loc Cert.ReferenceInprojIdeal.main_v134) = v4 c
          ∧ r.2.mem ((c.tc : Thread Cert.ReferenceInprojIdeal.nD Cert.ReferenceInprojIdeal.τ).loc Cert.ReferenceInprojIdeal.main_v135) = v5 c
          ∧ r.2.mem ((c.tc : Thread Cert.ReferenceInprojIdeal.nD Cert.ReferenceInprojIdeal.τ).loc Cert.ReferenceInprojIdeal.main_v136) = v6 c
          ∧ r.2.mem ((c.tc : Thread Cert.ReferenceInprojIdeal.nD Cert.ReferenceInprojIdeal.τ).loc Cert.ReferenceInprojIdeal.main_v137) = v7 c
          ∧ r.2.mem ((c.tc : Thread Cert.ReferenceInprojIdeal.nD Cert.ReferenceInprojIdeal.τ).loc Cert.ReferenceInprojIdeal.main_v138) = v8 c
          ∧ r.2.mem ((c.tc : Thread Cert.ReferenceInprojIdeal.nD Cert.ReferenceInprojIdeal.τ).loc Cert.ReferenceInprojIdeal.main_v139) = v9 c
          ∧ r.2.mem ((c.tc : Thread Cert.ReferenceInprojIdeal.nD Cert.ReferenceInprojIdeal.τ).loc Cert.ReferenceInprojIdeal.main_v140) = v10 c
          ∧ r.2.mem ((c.tc : Thread Cert.ReferenceInprojIdeal.nD Cert.ReferenceInprojIdeal.τ).loc Cert.ReferenceInprojIdeal.main_v142) = v11 c
          ∧ r.2.mem ((c.tc : Thread Cert.ReferenceInprojIdeal.nD Cert.ReferenceInprojIdeal.τ).loc Cert.ReferenceInprojIdeal.main_v143) = v12 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1)
          ∧ r.2.mem ((c.tc : Thread Cert.ReferenceInprojIdeal.nD Cert.ReferenceInprojIdeal.τ).loc Cert.ReferenceInprojIdeal.main_arg2) = m' ((c.tc : Thread Cert.ReferenceInprojIdeal.nD Cert.ReferenceInprojIdeal.τ).loc Cert.ReferenceInprojIdeal.main_arg2)
          ∧ r.2.mem ((c.tc : Thread Cert.ReferenceInprojIdeal.nD Cert.ReferenceInprojIdeal.τ).loc Cert.ReferenceInprojIdeal.main_arg3) = m' ((c.tc : Thread Cert.ReferenceInprojIdeal.nD Cert.ReferenceInprojIdeal.τ).loc Cert.ReferenceInprojIdeal.main_arg3)
          ∧ r.2.mem ((c.tc : Thread Cert.ReferenceInprojIdeal.nD Cert.ReferenceInprojIdeal.τ).loc Cert.ReferenceInprojIdeal.main_arg4) = m' ((c.tc : Thread Cert.ReferenceInprojIdeal.nD Cert.ReferenceInprojIdeal.τ).loc Cert.ReferenceInprojIdeal.main_arg4)
          ∧ r.2.mem ((c.tc : Thread Cert.ReferenceInprojIdeal.nD Cert.ReferenceInprojIdeal.τ).loc Cert.ReferenceInprojIdeal.main_arg5) = m' ((c.tc : Thread Cert.ReferenceInprojIdeal.nD Cert.ReferenceInprojIdeal.τ).loc Cert.ReferenceInprojIdeal.main_arg5)
          ∧ r.2.mem ((c.tc : Thread Cert.ReferenceInprojIdeal.nD Cert.ReferenceInprojIdeal.τ).loc Cert.ReferenceInprojIdeal.main_arg6) = m' ((c.tc : Thread Cert.ReferenceInprojIdeal.nD Cert.ReferenceInprojIdeal.τ).loc Cert.ReferenceInprojIdeal.main_arg6))

def preserves_KernelInprojSample_KernelInprojSampleIdeal : Prop :=
  True

def algebraic_KernelInprojSampleIdeal_ReferenceInprojSampleIdeal_pre_sample_finite [hKernelInprojSampleIdeal : Cert.KernelInprojSampleIdeal.Facts] [hReferenceInprojSampleIdeal : Cert.ReferenceInprojSampleIdeal.Facts] [hPre_sample_finite : Cert.Pre_sample_finite.Facts] : Prop :=
  ∀ (m : (ℓ : Loc Cert.KernelInprojSampleIdeal.nD Cert.KernelInprojSampleIdeal.τ Cert.KernelInprojSampleIdeal.sig) → Buf (Elt Ideal) ℓ) (g : Dev Cert.KernelInprojSampleIdeal.nD → PrngReg)
    (m' : (ℓ : Loc Cert.ReferenceInprojSampleIdeal.nD Cert.ReferenceInprojSampleIdeal.τ Cert.ReferenceInprojSampleIdeal.sig) → Buf (Elt Ideal) ℓ) (g' : Dev Cert.ReferenceInprojSampleIdeal.nD → PrngReg), Pre_KernelInprojSampleIdeal_sample_finite m →
    (∀ c : Dev Cert.KernelInprojSampleIdeal.nD,
      m' ((c.tc : Thread Cert.ReferenceInprojSampleIdeal.nD Cert.ReferenceInprojSampleIdeal.τ).loc Cert.ReferenceInprojSampleIdeal.main_arg0) = m ((c.tc : Thread Cert.KernelInprojSampleIdeal.nD Cert.KernelInprojSampleIdeal.τ).loc Cert.KernelInprojSampleIdeal.main_arg0)
      ∧ m' ((c.tc : Thread Cert.ReferenceInprojSampleIdeal.nD Cert.ReferenceInprojSampleIdeal.τ).loc Cert.ReferenceInprojSampleIdeal.main_arg1) = m ((c.tc : Thread Cert.KernelInprojSampleIdeal.nD Cert.KernelInprojSampleIdeal.τ).loc Cert.KernelInprojSampleIdeal.main_arg1)
      ∧ m' ((c.tc : Thread Cert.ReferenceInprojSampleIdeal.nD Cert.ReferenceInprojSampleIdeal.τ).loc Cert.ReferenceInprojSampleIdeal.main_arg2) = m ((c.tc : Thread Cert.KernelInprojSampleIdeal.nD Cert.KernelInprojSampleIdeal.τ).loc Cert.KernelInprojSampleIdeal.main_arg2)
      ∧ m' ((c.tc : Thread Cert.ReferenceInprojSampleIdeal.nD Cert.ReferenceInprojSampleIdeal.τ).loc Cert.ReferenceInprojSampleIdeal.main_arg3) = m ((c.tc : Thread Cert.KernelInprojSampleIdeal.nD Cert.KernelInprojSampleIdeal.τ).loc Cert.KernelInprojSampleIdeal.main_arg3)
      ∧ m' ((c.tc : Thread Cert.ReferenceInprojSampleIdeal.nD Cert.ReferenceInprojSampleIdeal.τ).loc Cert.ReferenceInprojSampleIdeal.main_arg4) = m ((c.tc : Thread Cert.KernelInprojSampleIdeal.nD Cert.KernelInprojSampleIdeal.τ).loc Cert.KernelInprojSampleIdeal.main_arg4)
      ∧ m' ((c.tc : Thread Cert.ReferenceInprojSampleIdeal.nD Cert.ReferenceInprojSampleIdeal.τ).loc Cert.ReferenceInprojSampleIdeal.main_arg5) = m ((c.tc : Thread Cert.KernelInprojSampleIdeal.nD Cert.KernelInprojSampleIdeal.τ).loc Cert.KernelInprojSampleIdeal.main_arg5)
      ∧ m' ((c.tc : Thread Cert.ReferenceInprojSampleIdeal.nD Cert.ReferenceInprojSampleIdeal.τ).loc Cert.ReferenceInprojSampleIdeal.main_arg6) = m ((c.tc : Thread Cert.KernelInprojSampleIdeal.nD Cert.KernelInprojSampleIdeal.τ).loc Cert.KernelInprojSampleIdeal.main_arg6)) →
    ∃ (v0 : (c : Dev Cert.KernelInprojSampleIdeal.nD) → Buf (Elt Ideal) ((c.tc : Thread Cert.KernelInprojSampleIdeal.nD Cert.KernelInprojSampleIdeal.τ).loc Cert.KernelInprojSampleIdeal.main_v57_0)) (v1 : (c : Dev Cert.KernelInprojSampleIdeal.nD) → Buf (Elt Ideal) ((c.tc : Thread Cert.KernelInprojSampleIdeal.nD Cert.KernelInprojSampleIdeal.τ).loc Cert.KernelInprojSampleIdeal.main_v57_1)) (v2 : (c : Dev Cert.KernelInprojSampleIdeal.nD) → Buf (Elt Ideal) ((c.tc : Thread Cert.KernelInprojSampleIdeal.nD Cert.KernelInprojSampleIdeal.τ).loc Cert.KernelInprojSampleIdeal.main_v57_2)) (v3 : (c : Dev Cert.KernelInprojSampleIdeal.nD) → Buf (Elt Ideal) ((c.tc : Thread Cert.KernelInprojSampleIdeal.nD Cert.KernelInprojSampleIdeal.τ).loc Cert.KernelInprojSampleIdeal.main_v57_3)) (v4 : (c : Dev Cert.KernelInprojSampleIdeal.nD) → Buf (Elt Ideal) ((c.tc : Thread Cert.KernelInprojSampleIdeal.nD Cert.KernelInprojSampleIdeal.τ).loc Cert.KernelInprojSampleIdeal.main_v57_4)) (v5 : (c : Dev Cert.KernelInprojSampleIdeal.nD) → Buf (Elt Ideal) ((c.tc : Thread Cert.KernelInprojSampleIdeal.nD Cert.KernelInprojSampleIdeal.τ).loc Cert.KernelInprojSampleIdeal.main_v57_5)) (v6 : (c : Dev Cert.KernelInprojSampleIdeal.nD) → Buf (Elt Ideal) ((c.tc : Thread Cert.KernelInprojSampleIdeal.nD Cert.KernelInprojSampleIdeal.τ).loc Cert.KernelInprojSampleIdeal.main_v57_6)) (v7 : (c : Dev Cert.KernelInprojSampleIdeal.nD) → Buf (Elt Ideal) ((c.tc : Thread Cert.KernelInprojSampleIdeal.nD Cert.KernelInprojSampleIdeal.τ).loc Cert.KernelInprojSampleIdeal.main_v57_7)) (v8 : (c : Dev Cert.KernelInprojSampleIdeal.nD) → Buf (Elt Ideal) ((c.tc : Thread Cert.KernelInprojSampleIdeal.nD Cert.KernelInprojSampleIdeal.τ).loc Cert.KernelInprojSampleIdeal.main_v57_8)) (v9 : (c : Dev Cert.KernelInprojSampleIdeal.nD) → Buf (Elt Ideal) ((c.tc : Thread Cert.KernelInprojSampleIdeal.nD Cert.KernelInprojSampleIdeal.τ).loc Cert.KernelInprojSampleIdeal.main_v57_9)),
      θ_run (Cert.KernelInprojSampleIdeal.defs (F := Ideal)) (onTc (τ := Cert.KernelInprojSampleIdeal.τ) (Cert.KernelInprojSampleIdeal.main (F := Ideal))) ⟨m, fun _ => 0, g⟩ (fun r => ∀ c : Dev Cert.KernelInprojSampleIdeal.nD,
          r.2.mem ((c.tc : Thread Cert.KernelInprojSampleIdeal.nD Cert.KernelInprojSampleIdeal.τ).loc Cert.KernelInprojSampleIdeal.main_v57_0) = v0 c
          ∧ r.2.mem ((c.tc : Thread Cert.KernelInprojSampleIdeal.nD Cert.KernelInprojSampleIdeal.τ).loc Cert.KernelInprojSampleIdeal.main_v57_1) = v1 c
          ∧ r.2.mem ((c.tc : Thread Cert.KernelInprojSampleIdeal.nD Cert.KernelInprojSampleIdeal.τ).loc Cert.KernelInprojSampleIdeal.main_v57_2) = v2 c
          ∧ r.2.mem ((c.tc : Thread Cert.KernelInprojSampleIdeal.nD Cert.KernelInprojSampleIdeal.τ).loc Cert.KernelInprojSampleIdeal.main_v57_3) = v3 c
          ∧ r.2.mem ((c.tc : Thread Cert.KernelInprojSampleIdeal.nD Cert.KernelInprojSampleIdeal.τ).loc Cert.KernelInprojSampleIdeal.main_v57_4) = v4 c
          ∧ r.2.mem ((c.tc : Thread Cert.KernelInprojSampleIdeal.nD Cert.KernelInprojSampleIdeal.τ).loc Cert.KernelInprojSampleIdeal.main_v57_5) = v5 c
          ∧ r.2.mem ((c.tc : Thread Cert.KernelInprojSampleIdeal.nD Cert.KernelInprojSampleIdeal.τ).loc Cert.KernelInprojSampleIdeal.main_v57_6) = v6 c
          ∧ r.2.mem ((c.tc : Thread Cert.KernelInprojSampleIdeal.nD Cert.KernelInprojSampleIdeal.τ).loc Cert.KernelInprojSampleIdeal.main_v57_7) = v7 c
          ∧ r.2.mem ((c.tc : Thread Cert.KernelInprojSampleIdeal.nD Cert.KernelInprojSampleIdeal.τ).loc Cert.KernelInprojSampleIdeal.main_v57_8) = v8 c
          ∧ r.2.mem ((c.tc : Thread Cert.KernelInprojSampleIdeal.nD Cert.KernelInprojSampleIdeal.τ).loc Cert.KernelInprojSampleIdeal.main_v57_9) = v9 c
          ∧ r.2.mem ((c.tc : Thread Cert.KernelInprojSampleIdeal.nD Cert.KernelInprojSampleIdeal.τ).loc Cert.KernelInprojSampleIdeal.main_arg0) = m ((c.tc : Thread Cert.KernelInprojSampleIdeal.nD Cert.KernelInprojSampleIdeal.τ).loc Cert.KernelInprojSampleIdeal.main_arg0)
          ∧ r.2.mem ((c.tc : Thread Cert.KernelInprojSampleIdeal.nD Cert.KernelInprojSampleIdeal.τ).loc Cert.KernelInprojSampleIdeal.main_arg1) = m ((c.tc : Thread Cert.KernelInprojSampleIdeal.nD Cert.KernelInprojSampleIdeal.τ).loc Cert.KernelInprojSampleIdeal.main_arg1)
          ∧ r.2.mem ((c.tc : Thread Cert.KernelInprojSampleIdeal.nD Cert.KernelInprojSampleIdeal.τ).loc Cert.KernelInprojSampleIdeal.main_arg2) = m ((c.tc : Thread Cert.KernelInprojSampleIdeal.nD Cert.KernelInprojSampleIdeal.τ).loc Cert.KernelInprojSampleIdeal.main_arg2)
          ∧ r.2.mem ((c.tc : Thread Cert.KernelInprojSampleIdeal.nD Cert.KernelInprojSampleIdeal.τ).loc Cert.KernelInprojSampleIdeal.main_arg3) = m ((c.tc : Thread Cert.KernelInprojSampleIdeal.nD Cert.KernelInprojSampleIdeal.τ).loc Cert.KernelInprojSampleIdeal.main_arg3)
          ∧ r.2.mem ((c.tc : Thread Cert.KernelInprojSampleIdeal.nD Cert.KernelInprojSampleIdeal.τ).loc Cert.KernelInprojSampleIdeal.main_arg4) = m ((c.tc : Thread Cert.KernelInprojSampleIdeal.nD Cert.KernelInprojSampleIdeal.τ).loc Cert.KernelInprojSampleIdeal.main_arg4)
          ∧ r.2.mem ((c.tc : Thread Cert.KernelInprojSampleIdeal.nD Cert.KernelInprojSampleIdeal.τ).loc Cert.KernelInprojSampleIdeal.main_arg5) = m ((c.tc : Thread Cert.KernelInprojSampleIdeal.nD Cert.KernelInprojSampleIdeal.τ).loc Cert.KernelInprojSampleIdeal.main_arg5)
          ∧ r.2.mem ((c.tc : Thread Cert.KernelInprojSampleIdeal.nD Cert.KernelInprojSampleIdeal.τ).loc Cert.KernelInprojSampleIdeal.main_arg6) = m ((c.tc : Thread Cert.KernelInprojSampleIdeal.nD Cert.KernelInprojSampleIdeal.τ).loc Cert.KernelInprojSampleIdeal.main_arg6))
      ∧ θ_run (Cert.ReferenceInprojSampleIdeal.defs (F := Ideal)) (onTc (τ := Cert.ReferenceInprojSampleIdeal.τ) (Cert.ReferenceInprojSampleIdeal.main (F := Ideal))) ⟨m', fun _ => 0, g'⟩ (fun r => ∀ c : Dev Cert.ReferenceInprojSampleIdeal.nD,
          r.2.mem ((c.tc : Thread Cert.ReferenceInprojSampleIdeal.nD Cert.ReferenceInprojSampleIdeal.τ).loc Cert.ReferenceInprojSampleIdeal.main_v128) = v0 c
          ∧ r.2.mem ((c.tc : Thread Cert.ReferenceInprojSampleIdeal.nD Cert.ReferenceInprojSampleIdeal.τ).loc Cert.ReferenceInprojSampleIdeal.main_v129) = v1 c
          ∧ r.2.mem ((c.tc : Thread Cert.ReferenceInprojSampleIdeal.nD Cert.ReferenceInprojSampleIdeal.τ).loc Cert.ReferenceInprojSampleIdeal.main_v130) = v2 c
          ∧ r.2.mem ((c.tc : Thread Cert.ReferenceInprojSampleIdeal.nD Cert.ReferenceInprojSampleIdeal.τ).loc Cert.ReferenceInprojSampleIdeal.main_v131) = v3 c
          ∧ r.2.mem ((c.tc : Thread Cert.ReferenceInprojSampleIdeal.nD Cert.ReferenceInprojSampleIdeal.τ).loc Cert.ReferenceInprojSampleIdeal.main_v132) = v4 c
          ∧ r.2.mem ((c.tc : Thread Cert.ReferenceInprojSampleIdeal.nD Cert.ReferenceInprojSampleIdeal.τ).loc Cert.ReferenceInprojSampleIdeal.main_v133) = v5 c
          ∧ r.2.mem ((c.tc : Thread Cert.ReferenceInprojSampleIdeal.nD Cert.ReferenceInprojSampleIdeal.τ).loc Cert.ReferenceInprojSampleIdeal.main_v134) = v6 c
          ∧ r.2.mem ((c.tc : Thread Cert.ReferenceInprojSampleIdeal.nD Cert.ReferenceInprojSampleIdeal.τ).loc Cert.ReferenceInprojSampleIdeal.main_v135) = v7 c
          ∧ r.2.mem ((c.tc : Thread Cert.ReferenceInprojSampleIdeal.nD Cert.ReferenceInprojSampleIdeal.τ).loc Cert.ReferenceInprojSampleIdeal.main_v136) = v8 c
          ∧ r.2.mem ((c.tc : Thread Cert.ReferenceInprojSampleIdeal.nD Cert.ReferenceInprojSampleIdeal.τ).loc Cert.ReferenceInprojSampleIdeal.main_v137) = v9 c
          ∧ r.2.mem ((c.tc : Thread Cert.ReferenceInprojSampleIdeal.nD Cert.ReferenceInprojSampleIdeal.τ).loc Cert.ReferenceInprojSampleIdeal.main_arg0) = m' ((c.tc : Thread Cert.ReferenceInprojSampleIdeal.nD Cert.ReferenceInprojSampleIdeal.τ).loc Cert.ReferenceInprojSampleIdeal.main_arg0)
          ∧ r.2.mem ((c.tc : Thread Cert.ReferenceInprojSampleIdeal.nD Cert.ReferenceInprojSampleIdeal.τ).loc Cert.ReferenceInprojSampleIdeal.main_arg1) = m' ((c.tc : Thread Cert.ReferenceInprojSampleIdeal.nD Cert.ReferenceInprojSampleIdeal.τ).loc Cert.ReferenceInprojSampleIdeal.main_arg1)
          ∧ r.2.mem ((c.tc : Thread Cert.ReferenceInprojSampleIdeal.nD Cert.ReferenceInprojSampleIdeal.τ).loc Cert.ReferenceInprojSampleIdeal.main_arg2) = m' ((c.tc : Thread Cert.ReferenceInprojSampleIdeal.nD Cert.ReferenceInprojSampleIdeal.τ).loc Cert.ReferenceInprojSampleIdeal.main_arg2)
          ∧ r.2.mem ((c.tc : Thread Cert.ReferenceInprojSampleIdeal.nD Cert.ReferenceInprojSampleIdeal.τ).loc Cert.ReferenceInprojSampleIdeal.main_arg3) = m' ((c.tc : Thread Cert.ReferenceInprojSampleIdeal.nD Cert.ReferenceInprojSampleIdeal.τ).loc Cert.ReferenceInprojSampleIdeal.main_arg3)
          ∧ r.2.mem ((c.tc : Thread Cert.ReferenceInprojSampleIdeal.nD Cert.ReferenceInprojSampleIdeal.τ).loc Cert.ReferenceInprojSampleIdeal.main_arg4) = m' ((c.tc : Thread Cert.ReferenceInprojSampleIdeal.nD Cert.ReferenceInprojSampleIdeal.τ).loc Cert.ReferenceInprojSampleIdeal.main_arg4)
          ∧ r.2.mem ((c.tc : Thread Cert.ReferenceInprojSampleIdeal.nD Cert.ReferenceInprojSampleIdeal.τ).loc Cert.ReferenceInprojSampleIdeal.main_arg5) = m' ((c.tc : Thread Cert.ReferenceInprojSampleIdeal.nD Cert.ReferenceInprojSampleIdeal.τ).loc Cert.ReferenceInprojSampleIdeal.main_arg5)
          ∧ r.2.mem ((c.tc : Thread Cert.ReferenceInprojSampleIdeal.nD Cert.ReferenceInprojSampleIdeal.τ).loc Cert.ReferenceInprojSampleIdeal.main_arg6) = m' ((c.tc : Thread Cert.ReferenceInprojSampleIdeal.nD Cert.ReferenceInprojSampleIdeal.τ).loc Cert.ReferenceInprojSampleIdeal.main_arg6))

def preserves_KernelGla_KernelGlaIdeal : Prop :=
  True

def algebraic_KernelGlaIdeal_ReferenceGlaIdeal_pre_prompt_decay_below_top [hKernelGlaIdeal : Cert.KernelGlaIdeal.Facts] [hReferenceGlaIdeal : Cert.ReferenceGlaIdeal.Facts] [hPre_prompt_decay_below_top : Cert.Pre_prompt_decay_below_top.Facts] : Prop :=
  ∀ (m : (ℓ : Loc Cert.KernelGlaIdeal.nD Cert.KernelGlaIdeal.τ Cert.KernelGlaIdeal.sig) → Buf (Elt Ideal) ℓ) (g : Dev Cert.KernelGlaIdeal.nD → PrngReg)
    (m' : (ℓ : Loc Cert.ReferenceGlaIdeal.nD Cert.ReferenceGlaIdeal.τ Cert.ReferenceGlaIdeal.sig) → Buf (Elt Ideal) ℓ) (g' : Dev Cert.ReferenceGlaIdeal.nD → PrngReg), Pre_KernelGlaIdeal_prompt_decay_below_top m →
    (∀ c : Dev Cert.KernelGlaIdeal.nD,
      m' ((c.tc : Thread Cert.ReferenceGlaIdeal.nD Cert.ReferenceGlaIdeal.τ).loc Cert.ReferenceGlaIdeal.main_arg0) = m ((c.tc : Thread Cert.KernelGlaIdeal.nD Cert.KernelGlaIdeal.τ).loc Cert.KernelGlaIdeal.main_arg0)
      ∧ m' ((c.tc : Thread Cert.ReferenceGlaIdeal.nD Cert.ReferenceGlaIdeal.τ).loc Cert.ReferenceGlaIdeal.main_arg1) = m ((c.tc : Thread Cert.KernelGlaIdeal.nD Cert.KernelGlaIdeal.τ).loc Cert.KernelGlaIdeal.main_arg1)
      ∧ m' ((c.tc : Thread Cert.ReferenceGlaIdeal.nD Cert.ReferenceGlaIdeal.τ).loc Cert.ReferenceGlaIdeal.main_arg2) = m ((c.tc : Thread Cert.KernelGlaIdeal.nD Cert.KernelGlaIdeal.τ).loc Cert.KernelGlaIdeal.main_arg2)
      ∧ m' ((c.tc : Thread Cert.ReferenceGlaIdeal.nD Cert.ReferenceGlaIdeal.τ).loc Cert.ReferenceGlaIdeal.main_arg3) = m ((c.tc : Thread Cert.KernelGlaIdeal.nD Cert.KernelGlaIdeal.τ).loc Cert.KernelGlaIdeal.main_arg3)) →
    ∃ (v0 : (c : Dev Cert.KernelGlaIdeal.nD) → Buf (Elt Ideal) ((c.tc : Thread Cert.KernelGlaIdeal.nD Cert.KernelGlaIdeal.τ).loc Cert.KernelGlaIdeal.main_v7_1)),
      θ_run (Cert.KernelGlaIdeal.defs (F := Ideal)) (onTc (τ := Cert.KernelGlaIdeal.τ) (Cert.KernelGlaIdeal.main (F := Ideal))) ⟨m, fun _ => 0, g⟩ (fun r => ∀ c : Dev Cert.KernelGlaIdeal.nD,
          r.2.mem ((c.tc : Thread Cert.KernelGlaIdeal.nD Cert.KernelGlaIdeal.τ).loc Cert.KernelGlaIdeal.main_v7_1) = v0 c
          ∧ r.2.mem ((c.tc : Thread Cert.KernelGlaIdeal.nD Cert.KernelGlaIdeal.τ).loc Cert.KernelGlaIdeal.main_arg0) = m ((c.tc : Thread Cert.KernelGlaIdeal.nD Cert.KernelGlaIdeal.τ).loc Cert.KernelGlaIdeal.main_arg0)
          ∧ r.2.mem ((c.tc : Thread Cert.KernelGlaIdeal.nD Cert.KernelGlaIdeal.τ).loc Cert.KernelGlaIdeal.main_arg1) = m ((c.tc : Thread Cert.KernelGlaIdeal.nD Cert.KernelGlaIdeal.τ).loc Cert.KernelGlaIdeal.main_arg1)
          ∧ r.2.mem ((c.tc : Thread Cert.KernelGlaIdeal.nD Cert.KernelGlaIdeal.τ).loc Cert.KernelGlaIdeal.main_arg2) = m ((c.tc : Thread Cert.KernelGlaIdeal.nD Cert.KernelGlaIdeal.τ).loc Cert.KernelGlaIdeal.main_arg2)
          ∧ r.2.mem ((c.tc : Thread Cert.KernelGlaIdeal.nD Cert.KernelGlaIdeal.τ).loc Cert.KernelGlaIdeal.main_arg3) = m ((c.tc : Thread Cert.KernelGlaIdeal.nD Cert.KernelGlaIdeal.τ).loc Cert.KernelGlaIdeal.main_arg3))
      ∧ θ_run (Cert.ReferenceGlaIdeal.defs (F := Ideal)) (onTc (τ := Cert.ReferenceGlaIdeal.τ) (Cert.ReferenceGlaIdeal.main (F := Ideal))) ⟨m', fun _ => 0, g'⟩ (fun r => ∀ c : Dev Cert.ReferenceGlaIdeal.nD,
          r.2.mem ((c.tc : Thread Cert.ReferenceGlaIdeal.nD Cert.ReferenceGlaIdeal.τ).loc Cert.ReferenceGlaIdeal.main_v7_4) = v0 c
          ∧ r.2.mem ((c.tc : Thread Cert.ReferenceGlaIdeal.nD Cert.ReferenceGlaIdeal.τ).loc Cert.ReferenceGlaIdeal.main_arg0) = m' ((c.tc : Thread Cert.ReferenceGlaIdeal.nD Cert.ReferenceGlaIdeal.τ).loc Cert.ReferenceGlaIdeal.main_arg0)
          ∧ r.2.mem ((c.tc : Thread Cert.ReferenceGlaIdeal.nD Cert.ReferenceGlaIdeal.τ).loc Cert.ReferenceGlaIdeal.main_arg1) = m' ((c.tc : Thread Cert.ReferenceGlaIdeal.nD Cert.ReferenceGlaIdeal.τ).loc Cert.ReferenceGlaIdeal.main_arg1)
          ∧ r.2.mem ((c.tc : Thread Cert.ReferenceGlaIdeal.nD Cert.ReferenceGlaIdeal.τ).loc Cert.ReferenceGlaIdeal.main_arg2) = m' ((c.tc : Thread Cert.ReferenceGlaIdeal.nD Cert.ReferenceGlaIdeal.τ).loc Cert.ReferenceGlaIdeal.main_arg2)
          ∧ r.2.mem ((c.tc : Thread Cert.ReferenceGlaIdeal.nD Cert.ReferenceGlaIdeal.τ).loc Cert.ReferenceGlaIdeal.main_arg3) = m' ((c.tc : Thread Cert.ReferenceGlaIdeal.nD Cert.ReferenceGlaIdeal.τ).loc Cert.ReferenceGlaIdeal.main_arg3))

def Claim : Prop :=
  ∃ (hKernel : Cert.Kernel.Facts) (hKernelIdeal : Cert.KernelIdeal.Facts) (hReferenceIdeal : Cert.ReferenceIdeal.Facts) (hKernelMerge : Cert.KernelMerge.Facts) (hKernelMergeIdeal : Cert.KernelMergeIdeal.Facts) (hReferenceMergeIdeal : Cert.ReferenceMergeIdeal.Facts) (hKernelInproj : Cert.KernelInproj.Facts) (hKernelInprojIdeal : Cert.KernelInprojIdeal.Facts) (hReferenceInprojIdeal : Cert.ReferenceInprojIdeal.Facts) (hKernelInprojSample : Cert.KernelInprojSample.Facts) (hKernelInprojSampleIdeal : Cert.KernelInprojSampleIdeal.Facts) (hReferenceInprojSampleIdeal : Cert.ReferenceInprojSampleIdeal.Facts) (hKernelGla : Cert.KernelGla.Facts) (hKernelGlaIdeal : Cert.KernelGlaIdeal.Facts) (hReferenceGlaIdeal : Cert.ReferenceGlaIdeal.Facts) (hPre_decay_below_top : Cert.Pre_decay_below_top.Facts) (hPre_inputs_finite : Cert.Pre_inputs_finite.Facts) (hPre_sample_finite : Cert.Pre_sample_finite.Facts) (hPre_prompt_decay_below_top : Cert.Pre_prompt_decay_below_top.Facts),
    quiescent_Kernel (hKernel := hKernel)
    ∧ quiescent_KernelIdeal (hKernelIdeal := hKernelIdeal)
    ∧ quiescent_KernelIdeal_pre_decay_below_top (hKernelIdeal := hKernelIdeal) (hPre_decay_below_top := hPre_decay_below_top)
    ∧ quiescent_ReferenceIdeal (hReferenceIdeal := hReferenceIdeal)
    ∧ quiescent_ReferenceIdeal_pre_decay_below_top (hReferenceIdeal := hReferenceIdeal) (hPre_decay_below_top := hPre_decay_below_top)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelInproj (hKernelInproj := hKernelInproj)
    ∧ quiescent_KernelInprojIdeal (hKernelInprojIdeal := hKernelInprojIdeal)
    ∧ quiescent_KernelInprojIdeal_pre_inputs_finite (hKernelInprojIdeal := hKernelInprojIdeal) (hPre_inputs_finite := hPre_inputs_finite)
    ∧ quiescent_ReferenceInprojIdeal (hReferenceInprojIdeal := hReferenceInprojIdeal)
    ∧ quiescent_ReferenceInprojIdeal_pre_inputs_finite (hReferenceInprojIdeal := hReferenceInprojIdeal) (hPre_inputs_finite := hPre_inputs_finite)
    ∧ quiescent_KernelInprojSample (hKernelInprojSample := hKernelInprojSample)
    ∧ quiescent_KernelInprojSampleIdeal (hKernelInprojSampleIdeal := hKernelInprojSampleIdeal)
    ∧ quiescent_KernelInprojSampleIdeal_pre_sample_finite (hKernelInprojSampleIdeal := hKernelInprojSampleIdeal) (hPre_sample_finite := hPre_sample_finite)
    ∧ quiescent_ReferenceInprojSampleIdeal (hReferenceInprojSampleIdeal := hReferenceInprojSampleIdeal)
    ∧ quiescent_ReferenceInprojSampleIdeal_pre_sample_finite (hReferenceInprojSampleIdeal := hReferenceInprojSampleIdeal) (hPre_sample_finite := hPre_sample_finite)
    ∧ quiescent_KernelGla (hKernelGla := hKernelGla)
    ∧ quiescent_KernelGlaIdeal (hKernelGlaIdeal := hKernelGlaIdeal)
    ∧ quiescent_KernelGlaIdeal_pre_prompt_decay_below_top (hKernelGlaIdeal := hKernelGlaIdeal) (hPre_prompt_decay_below_top := hPre_prompt_decay_below_top)
    ∧ quiescent_ReferenceGlaIdeal (hReferenceGlaIdeal := hReferenceGlaIdeal)
    ∧ quiescent_ReferenceGlaIdeal_pre_prompt_decay_below_top (hReferenceGlaIdeal := hReferenceGlaIdeal) (hPre_prompt_decay_below_top := hPre_prompt_decay_below_top)
    ∧ preserves_Kernel_KernelIdeal
    ∧ algebraic_KernelIdeal_ReferenceIdeal_pre_decay_below_top (hKernelIdeal := hKernelIdeal) (hReferenceIdeal := hReferenceIdeal) (hPre_decay_below_top := hPre_decay_below_top)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelInproj_KernelInprojIdeal
    ∧ algebraic_KernelInprojIdeal_ReferenceInprojIdeal_pre_inputs_finite (hKernelInprojIdeal := hKernelInprojIdeal) (hReferenceInprojIdeal := hReferenceInprojIdeal) (hPre_inputs_finite := hPre_inputs_finite)
    ∧ preserves_KernelInprojSample_KernelInprojSampleIdeal
    ∧ algebraic_KernelInprojSampleIdeal_ReferenceInprojSampleIdeal_pre_sample_finite (hKernelInprojSampleIdeal := hKernelInprojSampleIdeal) (hReferenceInprojSampleIdeal := hReferenceInprojSampleIdeal) (hPre_sample_finite := hPre_sample_finite)
    ∧ preserves_KernelGla_KernelGlaIdeal
    ∧ algebraic_KernelGlaIdeal_ReferenceGlaIdeal_pre_prompt_decay_below_top (hKernelGlaIdeal := hKernelGlaIdeal) (hReferenceGlaIdeal := hReferenceGlaIdeal) (hPre_prompt_decay_below_top := hPre_prompt_decay_below_top)
-- ==== Pre_decay_below_top.lean ====
abbrev S1024x256 : Shape := ⟨2, ![1024, 256]⟩
abbrev S1024x512 : Shape := ⟨2, ![1024, 512]⟩
abbrev S1x128x4x64x128 : Shape := ⟨5, ![1, 128, 4, 64, 128]⟩
abbrev S_ : Shape := ⟨0, ![]⟩

class Facts : Prop where
  bcast_S_S1024x256 : S_.BroadcastsInDim S1024x256 (![] : Fin 0 → Fin S1024x256.rank)

variable [Facts]

def fn {F : FTy → Type} [FloatOps F] (main_arg0 : FVec F S1024x256 .f32) (main_arg1 : FVec F S1024x256 .f32) (main_arg2 : FVec F S1024x512 .f32) (main_arg3 : FVec F S1024x256 .f32) (main_arg4 : FVec F S1x128x4x64x128 .f32) : IVec S1024x256 1 :=
  let main_cst : FVec F S_ .f32 := constant S_ .f32 0x7F800000#32
  let main_v0 : FVec F S1024x256 .f32 := broadcastInDim S1024x256 ![] bcast_S_S1024x256 main_cst
  let main_v1 : IVec S1024x256 1 := cmpf .olt main_arg3 main_v0
  main_v1
-- ==== Pre_inputs_finite.lean ====
abbrev S4x4096x1024 : Shape := ⟨3, ![4, 4096, 1024]⟩
abbrev S1x1024 : Shape := ⟨2, ![1, 1024]⟩
abbrev S1x1024x5136 : Shape := ⟨3, ![1, 1024, 5136]⟩
abbrev S1x64 : Shape := ⟨2, ![1, 64]⟩
abbrev S1x16x256 : Shape := ⟨3, ![1, 16, 256]⟩
abbrev S1x256 : Shape := ⟨2, ![1, 256]⟩
abbrev S_ : Shape := ⟨0, ![]⟩

class Facts : Prop where
  bcast_S_S4x4096x1024 : S_.BroadcastsInDim S4x4096x1024 (![] : Fin 0 → Fin S4x4096x1024.rank)
  bcast_S_S1x1024 : S_.BroadcastsInDim S1x1024 (![] : Fin 0 → Fin S1x1024.rank)
  bcast_S_S1x1024x5136 : S_.BroadcastsInDim S1x1024x5136 (![] : Fin 0 → Fin S1x1024x5136.rank)

variable [Facts]

def fn {F : FTy → Type} [FloatOps F] (main_arg0 : FVec F S4x4096x1024 .f32) (main_arg1 : FVec F S1x1024 .f32) (main_arg2 : FVec F S1x1024x5136 .f32) (main_arg3 : FVec F S1x64 .f32) (main_arg4 : FVec F S1x64 .f32) (main_arg5 : FVec F S1x16x256 .f32) (main_arg6 : FVec F S1x256 .f32) : IVec S4x4096x1024 1 × IVec S1x1024 1 × IVec S1x1024x5136 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5136 .f32 := Host.absf main_arg2
  let main_cst_1 : FVec F S_ .f32 := constant S_ .f32 0x7F800000#32
  let main_v7 : FVec F S1x1024x5136 .f32 := broadcastInDim S1x1024x5136 ![] bcast_S_S1x1024x5136 main_cst_1
  let main_v8 : IVec S1x1024x5136 1 := cmpf .olt main_v6 main_v7
  (main_v2, main_v5, main_v8)
-- ==== Pre_prompt_decay_below_top.lean ====
abbrev S16384x256 : Shape := ⟨2, ![16384, 256]⟩
abbrev S16384x512 : Shape := ⟨2, ![16384, 512]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x256 .f32) (main_arg1 : FVec F S16384x256 .f32) (main_arg2 : FVec F S16384x512 .f32) (main_arg3 : FVec F S16384x256 .f32) : IVec S16384x256 1 :=
  let main_cst : FVec F S_ .f32 := constant S_ .f32 0x7F800000#32
  let main_v0 : FVec F S16384x256 .f32 := broadcastInDim S16384x256 ![] bcast_S_S16384x256 main_cst
  let main_v1 : IVec S16384x256 1 := cmpf .olt main_arg3 main_v0
  main_v1
-- ==== Pre_sample_finite.lean ====
abbrev S128x8x1024 : Shape := ⟨3, ![128, 8, 1024]⟩
abbrev S1x1024 : Shape := ⟨2, ![1, 1024]⟩
abbrev S1x1024x5136 : Shape := ⟨3, ![1, 1024, 5136]⟩
abbrev S1x64 : Shape := ⟨2, ![1, 64]⟩
abbrev S1x16x256 : Shape := ⟨3, ![1, 16, 256]⟩
abbrev S1x256 : Shape := ⟨2, ![1, 256]⟩
abbrev S_ : Shape := ⟨0, ![]⟩

class Facts : Prop where
  bcast_S_S128x8x1024 : S_.BroadcastsInDim S128x8x1024 (![] : Fin 0 → Fin S128x8x1024.rank)
  bcast_S_S1x1024 : S_.BroadcastsInDim S1x1024 (![] : Fin 0 → Fin S1x1024.rank)
  bcast_S_S1x1024x5136 : S_.BroadcastsInDim S1x1024x5136 (![] : Fin 0 → Fin S1x1024x5136.rank)

variable [Facts]

def fn {F : FTy → Type} [FloatOps F] (main_arg0 : FVec F S128x8x1024 .f32) (main_arg1 : FVec F S1x1024 .f32) (main_arg2 : FVec F S1x1024x5136 .f32) (main_arg3 : FVec F S1x64 .f32) (main_arg4 : FVec F S1x64 .f32) (main_arg5 : FVec F S1x16x256 .f32) (main_arg6 : FVec F S1x256 .f32) : IVec S128x8x1024 1 × IVec S1x1024 1 × IVec S1x1024x5136 1 :=
  let main_v0 : FVec F S128x8x1024 .f32 := Host.absf main_arg0
  let main_cst : FVec F S_ .f32 := constant S_ .f32 0x7F800000#32
  let main_v1 : FVec F S128x8x1024 .f32 := broadcastInDim S128x8x1024 ![] bcast_S_S128x8x1024 main_cst
  let main_v2 : IVec S128x8x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x5136 .f32 := Host.absf main_arg2
  let main_cst_1 : FVec F S_ .f32 := constant S_ .f32 0x7F800000#32
  let main_v7 : FVec F S1x1024x5136 .f32 := broadcastInDim S1x1024x5136 ![] bcast_S_S1x1024x5136 main_cst_1
  let main_v8 : IVec S1x1024x5136 1 := cmpf .olt main_v6 main_v7
  (main_v2, main_v5, main_v8)
-- ==== Kernel.lean ====
abbrev S1024x256 : Shape := ⟨2, ![1024, 256]⟩
abbrev S1024x512 : Shape := ⟨2, ![1024, 512]⟩
abbrev S1x128x4x64x128 : Shape := ⟨5, ![1, 128, 4, 64, 128]⟩
abbrev S128x4x64x128 : Shape := ⟨4, ![128, 4, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x256 : Shape := ⟨2, ![64, 256]⟩
abbrev S64x512 : Shape := ⟨2, ![64, 512]⟩
abbrev S8x4x64x128 : Shape := ⟨4, ![8, 4, 64, 128]⟩
abbrev S8x8 : Shape := ⟨2, ![8, 8]⟩
abbrev S1x256 : Shape := ⟨2, ![1, 256]⟩
abbrev S8x256 : Shape := ⟨2, ![8, 256]⟩
abbrev S1x1x64x128 : Shape := ⟨4, ![1, 1, 64, 128]⟩
abbrev S64x128 : Shape := ⟨2, ![64, 128]⟩
abbrev S8x64 : Shape := ⟨2, ![8, 64]⟩
abbrev S8x128 : Shape := ⟨2, ![8, 128]⟩
abbrev S8x512 : Shape := ⟨2, ![8, 512]⟩

abbrev nBuf : Space → Nat
  | .hbm => 57
  | .vmem => 15
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x512, .f32⟩
  | .hbm, ⟨3, _⟩ => ⟨S1024x256, .f32⟩
  | .hbm, ⟨4, _⟩ => ⟨S1x128x4x64x128, .f32⟩
  | .hbm, ⟨5, _⟩ => ⟨S128x4x64x128, .f32⟩
  | .hbm, ⟨6, _⟩ => ⟨S64, .i32⟩
  | .hbm, ⟨7, _⟩ => ⟨S64x1, .i32⟩
  | .hbm, ⟨8, _⟩ => ⟨S1x64, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S64x1, .i32⟩
  | .hbm, ⟨13, _⟩ => ⟨S_, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S64x1, .i32⟩
  | .hbm, ⟨18, _⟩ => ⟨S_, .i32⟩
  | .hbm, ⟨19, _⟩ => ⟨S64x1, .i32⟩
  | .hbm, ⟨20, _⟩ => ⟨S64x1, .i1⟩
  | .hbm, ⟨21, _⟩ => ⟨S64x1, .i32⟩
  | .hbm, ⟨22, _⟩ => ⟨S64x1, .i32⟩
  | .hbm, ⟨23, _⟩ => ⟨S_, .i32⟩
  | .hbm, ⟨24, _⟩ => ⟨S64x1, .i32⟩
  | .hbm, ⟨25, _⟩ => ⟨S64x1, .i1⟩
  | .hbm, ⟨26, _⟩ => ⟨S64x1, .i1⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S64x1, .i32⟩
  | .hbm, ⟨31, _⟩ => ⟨S1x64, .i32⟩
  | .hbm, ⟨32, _⟩ => ⟨S_, .i32⟩
  | .hbm, ⟨33, _⟩ => ⟨S_, .i32⟩
  | .hbm, ⟨34, _⟩ => ⟨S1x64, .i32⟩
  | .hbm, ⟨35, _⟩ => ⟨S1x64, .i32⟩
  | .hbm, ⟨36, _⟩ => ⟨S1x64, .i32⟩
  | .hbm, ⟨37, _⟩ => ⟨S_, .i32⟩
  | .hbm, ⟨38, _⟩ => ⟨S1x64, .i32⟩
  | .hbm, ⟨39, _⟩ => ⟨S1x64, .i1⟩
  | .hbm, ⟨40, _⟩ => ⟨S1x64, .i32⟩
  | .hbm, ⟨41, _⟩ => ⟨S1x64, .i32⟩
  | .hbm, ⟨42, _⟩ => ⟨S_, .i32⟩
  | .hbm, ⟨43, _⟩ => ⟨S1x64, .i32⟩
  | .hbm, ⟨44, _⟩ => ⟨S1x64, .i1⟩
  | .hbm, ⟨45, _⟩ => ⟨S1x64, .i1⟩
  | .hbm, ⟨46, _⟩ => ⟨S_, .i32⟩
  | .hbm, ⟨47, _⟩ => ⟨S1x64, .i32⟩
  | .hbm, ⟨48, _⟩ => ⟨S1x64, .i32⟩
  | .hbm, ⟨49, _⟩ => ⟨S1x64, .i32⟩
  | .hbm, ⟨50, _⟩ => ⟨S64x64, .i32⟩
  | .hbm, ⟨51, _⟩ => ⟨S64x64, .i32⟩
  | .hbm, ⟨52, _⟩ => ⟨S64x64, .i1⟩
  | .hbm, ⟨53, _⟩ => ⟨S64x64, .i1⟩
  | .hbm, ⟨54, _⟩ => ⟨S64x64, .bf16⟩
  | .hbm, ⟨55, _⟩ => ⟨S1024x512, .f32⟩
  | .hbm, ⟨56, _⟩ => ⟨S128x4x64x128, .f32⟩
  | .local _ .vmem, ⟨0, _⟩ => ⟨S64x256, .f32⟩
  | .local _ .vmem, ⟨1, _⟩ => ⟨S64x256, .f32⟩
  | .local _ .vmem, ⟨2, _⟩ => ⟨S64x256, .f32⟩
  | .local _ .vmem, ⟨3, _⟩ => ⟨S64x256, .f32⟩
  | .local _ .vmem, ⟨4, _⟩ => ⟨S64x512, .f32⟩
  | .local _ .vmem, ⟨5, _⟩ => ⟨S64x512, .f32⟩
  | .local _ .vmem, ⟨6, _⟩ => ⟨S64x256, .f32⟩
  | .local _ .vmem, ⟨7, _⟩ => ⟨S64x256, .f32⟩
  | .local _ .vmem, ⟨8, _⟩ => ⟨S64x64, .bf16⟩
  | .local _ .vmem, ⟨9, _⟩ => ⟨S8x4x64x128, .f32⟩
  | .local _ .vmem, ⟨10, _⟩ => ⟨S8x4x64x128, .f32⟩
  | .local _ .vmem, ⟨11, _⟩ => ⟨S64x512, .f32⟩
  | .local _ .vmem, ⟨12, _⟩ => ⟨S64x512, .f32⟩
  | .local _ .vmem, ⟨13, _⟩ => ⟨S8x4x64x128, .f32⟩
  | .local _ .vmem, ⟨14, _⟩ => ⟨S8x4x64x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16_0 : Ref sig .tc := ⟨.hbm, 55, rfl⟩
abbrev main_v16_1 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x4x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1024x256 : Shape := ⟨2, ![1024, 256]⟩
abbrev S1024x512 : Shape := ⟨2, ![1024, 512]⟩
abbrev S1x128x4x64x128 : Shape := ⟨5, ![1, 128, 4, 64, 128]⟩
abbrev S128x4x64x128 : Shape := ⟨4, ![128, 4, 64, 128]⟩
abbrev S128x8x4x64 : Shape := ⟨4, ![128, 8, 4, 64]⟩
abbrev S128x4x8x64 : Shape := ⟨4, ![128, 4, 8, 64]⟩
abbrev S128x8x4x128 : Shape := ⟨4, ![128, 8, 4, 128]⟩
abbrev S128x4x8x128 : Shape := ⟨4, ![128, 4, 8, 128]⟩
abbrev S_ : Shape := ⟨0, ![]⟩
abbrev S8x8 : Shape := ⟨2, ![8, 8]⟩
abbrev S1x1x8x8x1 : Shape := ⟨5, ![1, 1, 8, 8, 1]⟩
abbrev S128x4x8x1x64 : Shape := ⟨5, ![128, 4, 8, 1, 64]⟩
abbrev S128x4x1x8x64 : Shape := ⟨5, ![128, 4, 1, 8, 64]⟩
abbrev S128x4x8x8x64 : Shape := ⟨5, ![128, 4, 8, 8, 64]⟩
abbrev S128x4x8x8 : Shape := ⟨4, ![128, 4, 8, 8]⟩
abbrev S128x4x1x64 : Shape := ⟨4, ![128, 4, 1, 64]⟩
abbrev S128x4x64 : Shape := ⟨3, ![128, 4, 64]⟩
abbrev S128x4x64x1 : Shape := ⟨4, ![128, 4, 64, 1]⟩

abbrev nBuf : Space → Nat
  | .hbm => 68
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024x512, .f32⟩
  | .hbm, ⟨3, _⟩ => ⟨S1024x256, .f32⟩
  | .hbm, ⟨4, _⟩ => ⟨S1x128x4x64x128, .f32⟩
  | .hbm, ⟨5, _⟩ => ⟨S128x4x64x128, .f32⟩
  | .hbm, ⟨6, _⟩ => ⟨S128x8x4x64, .f32⟩
  | .hbm, ⟨7, _⟩ => ⟨S128x4x8x64, .f32⟩
  | .hbm, ⟨8, _⟩ => ⟨S128x8x4x64, .f32⟩
  | .hbm, ⟨9, _⟩ => ⟨S128x4x8x64, .f32⟩
  | .hbm, ⟨10, _⟩ => ⟨S128x8x4x128, .f32⟩
  | .hbm, ⟨11, _⟩ => ⟨S128x4x8x128, .f32⟩
  | .hbm, ⟨12, _⟩ => ⟨S128x8x4x64, .f32⟩
  | .hbm, ⟨13, _⟩ => ⟨S128x4x8x64, .f32⟩
  | .hbm, ⟨14, _⟩ => ⟨S_, .i1⟩
  | .hbm, ⟨15, _⟩ => ⟨S8x8, .i1⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i32⟩
  | .hbm, ⟨21, _⟩ => ⟨S8x8, .i1⟩
  | .hbm, ⟨22, _⟩ => ⟨S_, .i1⟩
  | .hbm, ⟨23, _⟩ => ⟨S8x8, .i1⟩
  | .hbm, ⟨24, _⟩ => ⟨S8x8, .i1⟩
  | .hbm, ⟨25, _⟩ => ⟨S1x1x8x8x1, .i1⟩
  | .hbm, ⟨26, _⟩ => ⟨S_, .f32⟩
  | .hbm, ⟨27, _⟩ => ⟨S_, .f32⟩
  | .hbm, ⟨28, _⟩ => ⟨S128x4x8x64, .f32⟩
  | .hbm, ⟨29, _⟩ => ⟨S128x4x8x64, .f32⟩
  | .hbm, ⟨30, _⟩ => ⟨S128x4x8x64, .f32⟩
  | .hbm, ⟨31, _⟩ => ⟨S128x4x8x128, .f32⟩
  | .hbm, ⟨32, _⟩ => ⟨S128x4x8x1x64, .f32⟩
  | .hbm, ⟨33, _⟩ => ⟨S128x4x1x8x64, .f32⟩
  | .hbm, ⟨34, _⟩ => ⟨S128x4x8x8x64, .f32⟩
  | .hbm, ⟨35, _⟩ => ⟨S128x4x8x8x64, .f32⟩
  | .hbm, ⟨36, _⟩ => ⟨S128x4x8x8x64, .f32⟩
  | .hbm, ⟨37, _⟩ => ⟨S_, .f32⟩
  | .hbm, ⟨38, _⟩ => ⟨S_, .f32⟩
  | .hbm, ⟨39, _⟩ => ⟨S128x4x8x8x64, .i1⟩
  | .hbm, ⟨40, _⟩ => ⟨S128x4x8x8x64, .f32⟩
  | .hbm, ⟨41, _⟩ => ⟨S128x4x8x8x64, .f32⟩
  | .hbm, ⟨42, _⟩ => ⟨S128x4x8x1x64, .f32⟩
  | .hbm, ⟨43, _⟩ => ⟨S128x4x8x8x64, .f32⟩
  | .hbm, ⟨44, _⟩ => ⟨S128x4x8x8x64, .f32⟩
  | .hbm, ⟨45, _⟩ => ⟨S128x4x8x8x64, .f32⟩
  | .hbm, ⟨46, _⟩ => ⟨S128x4x1x8x64, .f32⟩
  | .hbm, ⟨47, _⟩ => ⟨S128x4x8x8x64, .f32⟩
  | .hbm, ⟨48, _⟩ => ⟨S128x4x8x8x64, .f32⟩
  | .hbm, ⟨49, _⟩ => ⟨S_, .f32⟩
  | .hbm, ⟨50, _⟩ => ⟨S128x4x8x8, .f32⟩
  | .hbm, ⟨51, _⟩ => ⟨S128x4x8x128, .f32⟩
  | .hbm, ⟨52, _⟩ => ⟨S128x4x8x128, .f32⟩
  | .hbm, ⟨53, _⟩ => ⟨S128x4x1x64, .f32⟩
  | .hbm, ⟨54, _⟩ => ⟨S128x4x64, .f32⟩
  | .hbm, ⟨55, _⟩ => ⟨S128x4x64, .f32⟩
  | .hbm, ⟨56, _⟩ => ⟨S128x4x64x1, .f32⟩
  | .hbm, ⟨57, _⟩ => ⟨S128x4x64x128, .f32⟩
  | .hbm, ⟨58, _⟩ => ⟨S128x4x64x128, .f32⟩
  | .hbm, ⟨59, _⟩ => ⟨S128x4x1x64, .f32⟩
  | .hbm, ⟨60, _⟩ => ⟨S128x4x8x64, .f32⟩
  | .hbm, ⟨61, _⟩ => ⟨S128x4x8x64, .f32⟩
  | .hbm, ⟨62, _⟩ => ⟨S128x4x8x64, .f32⟩
  | .hbm, ⟨63, _⟩ => ⟨S128x4x8x64, .f32⟩
  | .hbm, ⟨64, _⟩ => ⟨S128x4x64x128, .f32⟩
  | .hbm, ⟨65, _⟩ => ⟨S128x4x64x128, .f32⟩
  | .hbm, ⟨66, _⟩ => ⟨S128x8x4x128, .f32⟩
  | .hbm, ⟨67, _⟩ => ⟨S1024x512, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_call1_call0_cst : Ref sig .tc := ⟨.hbm, 26, rfl⟩
abbrev main_call1_call0_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== KernelMerge.lean ====
abbrev S4x4096x1024 : Shape := ⟨3, ![4, 4096, 1024]⟩
abbrev S16384x512 : Shape := ⟨2, ![16384, 512]⟩
abbrev S16384x1024 : Shape := ⟨2, ![16384, 1024]⟩
abbrev S1x128 : Shape := ⟨2, ![1, 128]⟩
abbrev S1x512x1024 : Shape := ⟨3, ![1, 512, 1024]⟩
abbrev S1x1024x1024 : Shape := ⟨3, ![1, 1024, 1024]⟩
abbrev S128 : Shape := ⟨1, ![128]⟩
abbrev S4x128 : Shape := ⟨2, ![4, 128]⟩
abbrev S512 : Shape := ⟨1, ![512]⟩
abbrev S1x512 : Shape := ⟨2, ![1, 512]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S1x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S128, .f32⟩
  | .hbm, ⟨11, _⟩ => ⟨S1x128, .f32⟩
  | .hbm, ⟨12, _⟩ => ⟨S4x128, .f32⟩
  | .hbm, ⟨13, _⟩ => ⟨S512, .f32⟩
  | .hbm, ⟨14, _⟩ => ⟨S1x512, .f32⟩
  | .hbm, ⟨15, _⟩ => ⟨S512x1024, .f32⟩
  | .hbm, ⟨16, _⟩ => ⟨S512x1024, .bf16⟩
  | .hbm, ⟨17, _⟩ => ⟨S512x1024, .f32⟩
  | .hbm, ⟨18, _⟩ => ⟨S512x1024, .bf16⟩
  | .hbm, ⟨19, _⟩ => ⟨S1024x1024, .f32⟩
  | .hbm, ⟨20, _⟩ => ⟨S1024x1024, .bf16⟩
  | .hbm, ⟨21, _⟩ => ⟨S16384x1024, .f32⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1x512, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceMergeIdeal.lean ====
abbrev S4x4096x1024 : Shape := ⟨3, ![4, 4096, 1024]⟩
abbrev S16384x512 : Shape := ⟨2, ![16384, 512]⟩
abbrev S16384x1024 : Shape := ⟨2, ![16384, 1024]⟩
abbrev S1x128 : Shape := ⟨2, ![1, 128]⟩
abbrev S1x512x1024 : Shape := ⟨3, ![1, 512, 1024]⟩
abbrev S1x1024x1024 : Shape := ⟨3, ![1, 1024, 1024]⟩
abbrev S4x4096x512 : Shape := ⟨3, ![4, 4096, 512]⟩
abbrev S512x1024 : Shape := ⟨2, ![512, 1024]⟩
abbrev S4x4096x4x128 : Shape := ⟨4, ![4, 4096, 4, 128]⟩
abbrev S128 : Shape := ⟨1, ![128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S1024x1024 : Shape := ⟨2, ![1024, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S16384x1024, .f32⟩
  | .hbm, ⟨6, _⟩ => ⟨S1x128, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S4x4096x512, .f32⟩
  | .hbm, ⟨11, _⟩ => ⟨S512x1024, .f32⟩
  | .hbm, ⟨12, _⟩ => ⟨S4x4096x1024, .f32⟩
  | .hbm, ⟨13, _⟩ => ⟨S4x4096x512, .f32⟩
  | .hbm, ⟨14, _⟩ => ⟨S4x4096x4x128, .f32⟩
  | .hbm, ⟨15, _⟩ => ⟨S128, .f32⟩
  | .hbm, ⟨16, _⟩ => ⟨S4x4096x4x128, .f32⟩
  | .hbm, ⟨17, _⟩ => ⟨S_, .f32⟩
  | .hbm, ⟨18, _⟩ => ⟨S4x4096x4, .f32⟩
  | .hbm, ⟨19, _⟩ => ⟨S4x4096x4x1, .f32⟩
  | .hbm, ⟨20, _⟩ => ⟨S_, .f32⟩
  | .hbm, ⟨21, _⟩ => ⟨S4x4096x4x1, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x1, .f32⟩
  | .hbm, ⟨27, _⟩ => ⟨S4x4096x4x128, .f32⟩
  | .hbm, ⟨28, _⟩ => ⟨S4x4096x4x128, .f32⟩
  | .hbm, ⟨29, _⟩ => ⟨S1x1x1x128, .f32⟩
  | .hbm, ⟨30, _⟩ => ⟨S4x4096x4x128, .f32⟩
  | .hbm, ⟨31, _⟩ => ⟨S4x4096x4x128, .f32⟩
  | .hbm, ⟨32, _⟩ => ⟨S4x4096x512, .f32⟩
  | .hbm, ⟨33, _⟩ => ⟨S4x4096x4x128, .f32⟩
  | .hbm, ⟨34, _⟩ => ⟨S4x4096x4x128, .f32⟩
  | .hbm, ⟨35, _⟩ => ⟨S4x4096x4x128, .f32⟩
  | .hbm, ⟨36, _⟩ => ⟨S_, .f32⟩
  | .hbm, ⟨37, _⟩ => ⟨S4x4096x4x128, .f32⟩
  | .hbm, ⟨38, _⟩ => ⟨S4x4096x4x128, .f32⟩
  | .hbm, ⟨39, _⟩ => ⟨S_, .f32⟩
  | .hbm, ⟨40, _⟩ => ⟨S4x4096x4x128, .f32⟩
  | .hbm, ⟨41, _⟩ => ⟨S4x4096x4x128, .f32⟩
  | .hbm, ⟨42, _⟩ => ⟨S4x4096x4x128, .f32⟩
  | .hbm, ⟨43, _⟩ => ⟨S4x4096x4x128, .f32⟩
  | .hbm, ⟨44, _⟩ => ⟨S4x4096x512, .f32⟩
  | .hbm, ⟨45, _⟩ => ⟨S512x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096x1024, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S4x4096x1024, .f32⟩
  | .hbm, ⟨68, _⟩ => ⟨S1024x1024, .f32⟩
  | .hbm, ⟨69, _⟩ => ⟨S4x4096x1024, .f32⟩
  | .hbm, ⟨70, _⟩ => ⟨S4x4096x1024, .f32⟩
  | .hbm, ⟨71, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_2 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩

abbrev nD : Nat := 1
abbrev τ : Topo := Topo.v7x

variable {F : FTy → Type} [FloatOps F]
-- ==== KernelInproj.lean ====
abbrev S4x4096x1024 : Shape := ⟨3, ![4, 4096, 1024]⟩
abbrev S1x1024 : Shape := ⟨2, ![1, 1024]⟩
abbrev S1x1024x5136 : Shape := ⟨3, ![1, 1024, 5136]⟩
abbrev S1x64 : Shape := ⟨2, ![1, 64]⟩
abbrev S1x16x256 : Shape := ⟨3, ![1, 16, 256]⟩
abbrev S1x256 : Shape := ⟨2, ![1, 256]⟩
abbrev S1024 : Shape := ⟨1, ![1024]⟩
abbrev S1024x5136 : Shape := ⟨2, ![1024, 5136]⟩
abbrev S64 : Shape := ⟨1, ![64]⟩
abbrev S16x256 : Shape := ⟨2, ![16, 256]⟩
abbrev S256 : Shape := ⟨1, ![256]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S1024x5248 : Shape := ⟨2, ![1024, 5248]⟩
abbrev S512 : Shape := ⟨1, ![512]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S128x256 : Shape := ⟨2, ![128, 256]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x16x32 : Shape := ⟨4, ![1, 4096, 16, 32]⟩
abbrev S4096x512 : Shape := ⟨2, ![4096, 512]⟩
abbrev S16384x1024 : Shape := ⟨2, ![16384, 1024]⟩
abbrev S16384x512 : Shape := ⟨2, ![16384, 512]⟩
abbrev S16384x256 : Shape := ⟨2, ![16384, 256]⟩
abbrev S64x1x512 : Shape := ⟨3, ![64, 1, 512]⟩
abbrev S4x512x4096 : Shape := ⟨3, ![4, 512, 4096]⟩
abbrev S256x1024 : Shape := ⟨2, ![256, 1024]⟩
abbrev S256x512 : Shape := ⟨2, ![256, 512]⟩
abbrev S256x256 : Shape := ⟨2, ![256, 256]⟩
abbrev S1x1x512 : Shape := ⟨3, ![1, 1, 512]⟩
abbrev S1x512x256 : Shape := ⟨3, ![1, 512, 256]⟩
abbrev S256x1 : Shape := ⟨2, ![256, 1]⟩
abbrev S1024x512 : Shape := ⟨2, ![1024, 512]⟩
abbrev S512x256 : Shape := ⟨2, ![512, 256]⟩
abbrev S1024x256 : Shape := ⟨2, ![1024, 256]⟩
abbrev S256x128 : Shape := ⟨2, ![256, 128]⟩
abbrev S1024x1024 : Shape := ⟨2, ![1024, 1024]⟩

abbrev nBuf : Space → Nat
  | .hbm => 97
  | .vmem => 39
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5136, .f32⟩
  | .hbm, ⟨3, _⟩ => ⟨S1x64, .f32⟩
  | .hbm, ⟨4, _⟩ => ⟨S1x64, .f32⟩
  | .hbm, ⟨5, _⟩ => ⟨S1x16x256, .f32⟩
  | .hbm, ⟨6, _⟩ => ⟨S1x256, .f32⟩
  | .hbm, ⟨7, _⟩ => ⟨S1024, .f32⟩
  | .hbm, ⟨8, _⟩ => ⟨S1024x5136, .f32⟩
  | .hbm, ⟨9, _⟩ => ⟨S64, .f32⟩
  | .hbm, ⟨10, _⟩ => ⟨S64, .f32⟩
  | .hbm, ⟨11, _⟩ => ⟨S16x256, .f32⟩
  | .hbm, ⟨12, _⟩ => ⟨S256, .f32⟩
  | .hbm, ⟨13, _⟩ => ⟨S1024x2560, .f32⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x2560, .f32⟩
  | .hbm, ⟨19, _⟩ => ⟨S1024x5248, .f32⟩
  | .hbm, ⟨20, _⟩ => ⟨S1024x5248, .bf16⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S1x1024, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S1x512, .f32⟩
  | .hbm, ⟨49, _⟩ => ⟨S512x1, .i32⟩
  | .hbm, ⟨50, _⟩ => ⟨S1x512, .i32⟩
  | .hbm, ⟨51, _⟩ => ⟨S512x512, .i32⟩
  | .hbm, ⟨52, _⟩ => ⟨S512x512, .i32⟩
  | .hbm, ⟨53, _⟩ => ⟨S512x512, .i1⟩
  | .hbm, ⟨54, _⟩ => ⟨S512x512, .bf16⟩
  | .hbm, ⟨55, _⟩ => ⟨S_, .i32⟩
  | .hbm, ⟨56, _⟩ => ⟨S_, .f32⟩
  | .hbm, ⟨57, _⟩ => ⟨S128x256, .f32⟩
  | .hbm, ⟨58, _⟩ => ⟨S128x256, .bf16⟩
  | .hbm, ⟨59, _⟩ => ⟨S1x256, .f32⟩
  | .hbm, ⟨60, _⟩ => ⟨S4096, .i32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S4096, .f32⟩
  | .hbm, ⟨70, _⟩ => ⟨S4096x1, .f32⟩
  | .hbm, ⟨71, _⟩ => ⟨S1x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S1x4096x1x32, .f32⟩
  | .hbm, ⟨77, _⟩ => ⟨S1x4096x16x32, .f32⟩
  | .hbm, ⟨78, _⟩ => ⟨S4096x512, .f32⟩
  | .hbm, ⟨79, _⟩ => ⟨S4096x32, .f32⟩
  | .hbm, ⟨80, _⟩ => ⟨S1x4096x1x32, .f32⟩
  | .hbm, ⟨81, _⟩ => ⟨S1x4096x16x32, .f32⟩
  | .hbm, ⟨82, _⟩ => ⟨S4096x512, .f32⟩
  | .hbm, ⟨83, _⟩ => ⟨S16384x1024, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S16384x256, .f32⟩
  | .hbm, ⟨88, _⟩ => ⟨S16384x256, .f32⟩
  | .hbm, ⟨89, _⟩ => ⟨S16384x512, .f32⟩
  | .hbm, ⟨90, _⟩ => ⟨S16384x256, .f32⟩
  | .hbm, ⟨91, _⟩ => ⟨S16384x512, .f32⟩
  | .hbm, ⟨92, _⟩ => ⟨S16384x1024, .f32⟩
  | .hbm, ⟨93, _⟩ => ⟨S16384x1024, .f32⟩
  | .hbm, ⟨94, _⟩ => ⟨S64x1x512, .f32⟩
  | .hbm, ⟨95, _⟩ => ⟨S4x512x4096, .f32⟩
  | .hbm, ⟨96, _⟩ => ⟨S4x512x4096, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5248, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S512x512, .bf16⟩
  | .local _ .vmem, ⟨11, _⟩ => ⟨S128x256, .bf16⟩
  | .local _ .vmem, ⟨12, _⟩ => ⟨S1x256, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x512, .f32⟩
  | .local _ .vmem, ⟨24, _⟩ => ⟨S256x512, .f32⟩
  | .local _ .vmem, ⟨25, _⟩ => ⟨S256x256, .f32⟩
  | .local _ .vmem, ⟨26, _⟩ => ⟨S256x256, .f32⟩
  | .local _ .vmem, ⟨27, _⟩ => ⟨S256x512, .f32⟩
  | .local _ .vmem, ⟨28, _⟩ => ⟨S256x512, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S1x1x512, .f32⟩
  | .local _ .vmem, ⟨34, _⟩ => ⟨S1x1x512, .f32⟩
  | .local _ .vmem, ⟨35, _⟩ => ⟨S1x512x256, .f32⟩
  | .local _ .vmem, ⟨36, _⟩ => ⟨S1x512x256, .f32⟩
  | .local _ .vmem, ⟨37, _⟩ => ⟨S1x512x256, .f32⟩
  | .local _ .vmem, ⟨38, _⟩ => ⟨S1x512x256, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_1 : Ref sig .tc := ⟨.hbm, 55, rfl⟩
abbrev main_call2_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst : Ref sig .tc := ⟨.hbm, 63, rfl⟩
abbrev main_v35 : Ref sig .tc := ⟨.hbm, 64, rfl⟩
abbrev main_v36 : Ref sig .tc := ⟨.hbm, 65, rfl⟩
abbrev main_cst_2 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54_0 : Ref sig .tc := ⟨.hbm, 84, rfl⟩
abbrev main_v54_1 : Ref sig .tc := ⟨.hbm, 85, rfl⟩
abbrev main_v54_2 : Ref sig .tc := ⟨.hbm, 86, rfl⟩
abbrev main_v54_3 : Ref sig .tc := ⟨.hbm, 87, rfl⟩
abbrev main_v54_4 : Ref sig .tc := ⟨.hbm, 88, rfl⟩
abbrev main_v54_5 : Ref sig .tc := ⟨.hbm, 89, rfl⟩
abbrev main_v54_6 : Ref sig .tc := ⟨.hbm, 90, rfl⟩
abbrev main_v54_7 : Ref sig .tc := ⟨.hbm, 91, rfl⟩
abbrev main_v54_8 : Ref sig .tc := ⟨.hbm, 92, rfl⟩
abbrev main_v54_9 : Ref sig .tc := ⟨.hbm, 93, rfl⟩
abbrev main_v54_10 : Ref sig .tc := ⟨.hbm, 94, rfl⟩
abbrev main_v54_11 : Ref sig .tc := ⟨.hbm, 95, rfl⟩
abbrev main_v54_12 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_22 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== ReferenceInprojIdeal.lean ====
abbrev S4x4096x1024 : Shape := ⟨3, ![4, 4096, 1024]⟩
abbrev S1x1024 : Shape := ⟨2, ![1, 1024]⟩
abbrev S1x1024x5136 : Shape := ⟨3, ![1, 1024, 5136]⟩
abbrev S1x64 : Shape := ⟨2, ![1, 64]⟩
abbrev S1x16x256 : Shape := ⟨3, ![1, 16, 256]⟩
abbrev S1x256 : Shape := ⟨2, ![1, 256]⟩
abbrev S4096 : Shape := ⟨1, ![4096]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5136 : Shape := ⟨2, ![1024, 5136]⟩
abbrev S4x4096x5136 : Shape := ⟨3, ![4, 4096, 5136]⟩
abbrev S4x4096x512 : Shape := ⟨3, ![4, 4096, 512]⟩
abbrev S4x4096x256 : Shape := ⟨3, ![4, 4096, 256]⟩
abbrev S4x4096x16 : Shape := ⟨3, ![4, 4096, 16]⟩
abbrev S4x4096x8x64 : Shape := ⟨4, ![4, 4096, 8, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x8x32 : Shape := ⟨4, ![4, 4096, 8, 32]⟩
abbrev S16x256 : Shape := ⟨2, ![16, 256]⟩
abbrev S256 : Shape := ⟨1, ![256]⟩
abbrev S1x1x256 : Shape := ⟨3, ![1, 1, 256]⟩
abbrev S4x16x256x8x64 : Shape := ⟨5, ![4, 16, 256, 8, 64]⟩
abbrev S4x16x8x64 : Shape := ⟨4, ![4, 16, 8, 64]⟩
abbrev S16384x512 : Shape := ⟨2, ![16384, 512]⟩
abbrev S16384x256 : Shape := ⟨2, ![16384, 256]⟩
abbrev S16384x1024 : Shape := ⟨2, ![16384, 1024]⟩
abbrev S64x1x512 : Shape := ⟨3, ![64, 1, 512]⟩
abbrev S4x512x4096 : Shape := ⟨3, ![4, 512, 4096]⟩

abbrev nBuf : Space → Nat
  | .hbm => 183
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x5136, .f32⟩
  | 3 => ⟨S1x64, .f32⟩
  | 4 => ⟨S1x64, .f32⟩
  | 5 => ⟨S1x16x256, .f32⟩
  | 6 => ⟨S1x256, .f32⟩
  | 7 => ⟨S4096, .i32⟩
  | 8 => ⟨S1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S1024x5136, .f32⟩
  | 26 => ⟨S4x4096x5136, .f32⟩
  | 27 => ⟨S4x4096x512, .f32⟩
  | 28 => ⟨S4x4096x512, .f32⟩
  | 29 => ⟨S4x4096x512, .f32⟩
  | 30 => ⟨S4x4096x256, .f32⟩
  | 31 => ⟨S4x4096x256, .f32⟩
  | 32 => ⟨S4x4096x512, .f32⟩
  | 33 => ⟨S4x4096x16, .f32⟩
  | 34 => ⟨S4x4096x512, .f32⟩
  | 35 => ⟨S4x4096x1024, .f32⟩
  | 36 => ⟨S4x4096x1024, .f32⟩
  | 37 => ⟨S4x4096x8x64, .f32⟩
  | 38 => ⟨S64, .f32⟩
  | 39 => ⟨S4x4096x8x64, .f32⟩
  | 40 => ⟨S_, .f32⟩
  | 41 => ⟨S4x4096x8, .f32⟩
  | 42 => ⟨S4x4096x8x1, .f32⟩
  | 43 => ⟨S_, .f32⟩
  | 44 => ⟨S4x4096x8x1, .f32⟩
  | 45 => ⟨S4x4096x8x1, .f32⟩
  | 46 => ⟨S_, .f32⟩
  | 47 => ⟨S4x4096x8x1, .f32⟩
  | 48 => ⟨S4x4096x8x1, .f32⟩
  | 49 => ⟨S4x4096x8x1, .f32⟩
  | 50 => ⟨S4x4096x8x64, .f32⟩
  | 51 => ⟨S4x4096x8x64, .f32⟩
  | 52 => ⟨S1x1x1x64, .f32⟩
  | 53 => ⟨S4x4096x8x64, .f32⟩
  | 54 => ⟨S4x4096x8x64, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S4096, .f32⟩
  | 64 => ⟨S4096x1, .f32⟩
  | 65 => ⟨S1x32, .f32⟩
  | 66 => ⟨S4096x32, .f32⟩
  | 67 => ⟨S4096x32, .f32⟩
  | 68 => ⟨S4096x32, .f32⟩
  | 69 => ⟨S4096x32, .f32⟩
  | 70 => ⟨S1x4096x1x32, .f32⟩
  | 71 => ⟨S4096x32, .f32⟩
  | 72 => ⟨S1x4096x1x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x32, .f32⟩
  | 78 => ⟨S4x4096x8x32, .f32⟩
  | 79 => ⟨S4x4096x8x32, .f32⟩
  | 80 => ⟨S4x4096x8x32, .f32⟩
  | 81 => ⟨S4x4096x8x32, .f32⟩
  | 82 => ⟨S4x4096x8x32, .f32⟩
  | 83 => ⟨S4x4096x8x32, .f32⟩
  | 84 => ⟨S4x4096x8x32, .f32⟩
  | 85 => ⟨S4x4096x8x64, .f32⟩
  | 86 => ⟨S4x4096x8x64, .f32⟩
  | 87 => ⟨S64, .f32⟩
  | 88 => ⟨S4x4096x8x64, .f32⟩
  | 89 => ⟨S_, .f32⟩
  | 90 => ⟨S4x4096x8, .f32⟩
  | 91 => ⟨S4x4096x8x1, .f32⟩
  | 92 => ⟨S_, .f32⟩
  | 93 => ⟨S4x4096x8x1, .f32⟩
  | 94 => ⟨S4x4096x8x1, .f32⟩
  | 95 => ⟨S_, .f32⟩
  | 96 => ⟨S4x4096x8x1, .f32⟩
  | 97 => ⟨S4x4096x8x1, .f32⟩
  | 98 => ⟨S4x4096x8x1, .f32⟩
  | 99 => ⟨S4x4096x8x64, .f32⟩
  | 100 => ⟨S4x4096x8x64, .f32⟩
  | 101 => ⟨S1x1x1x64, .f32⟩
  | 102 => ⟨S4x4096x8x64, .f32⟩
  | 103 => ⟨S4x4096x8x64, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S4096, .f32⟩
  | 113 => ⟨S4096x1, .f32⟩
  | 114 => ⟨S1x32, .f32⟩
  | 115 => ⟨S4096x32, .f32⟩
  | 116 => ⟨S4096x32, .f32⟩
  | 117 => ⟨S4096x32, .f32⟩
  | 118 => ⟨S4096x32, .f32⟩
  | 119 => ⟨S1x4096x1x32, .f32⟩
  | 120 => ⟨S4096x32, .f32⟩
  | 121 => ⟨S1x4096x1x32, .f32⟩
  | 122 => ⟨S4x4096x8x32, .f32⟩
  | 123 => ⟨S4x4096x8x32, .f32⟩
  | 124 => ⟨S4x4096x8x32, .f32⟩
  | 125 => ⟨S4x4096x8x32, .f32⟩
  | 126 => ⟨S4x4096x8x32, .f32⟩
  | 127 => ⟨S4x4096x8x32, .f32⟩
  | _ => ⟨S4x4096x1024, .f32⟩

abbrev hbmTy0_1 (i : Nat) : BufTy := match i % 128 with
  | 0 => ⟨S4x4096x8x32, .f32⟩
  | 1 => ⟨S4x4096x8x32, .f32⟩
  | 2 => ⟨S4x4096x8x32, .f32⟩
  | 3 => ⟨S4x4096x8x32, .f32⟩
  | 4 => ⟨S4x4096x8x32, .f32⟩
  | 5 => ⟨S4x4096x8x32, .f32⟩
  | 6 => ⟨S4x4096x8x64, .f32⟩
  | 7 => ⟨S_, .f32⟩
  | 8 => ⟨S4x4096x256, .f32⟩
  | 9 => ⟨S4x4096x256, .f32⟩
  | 10 => ⟨S16x256, .f32⟩
  | 11 => ⟨S4x4096x256, .f32⟩
  | 12 => ⟨S256, .f32⟩
  | 13 => ⟨S1x1x256, .f32⟩
  | 14 => ⟨S4x4096x256, .f32⟩
  | 15 => ⟨S4x4096x256, .f32⟩
  | 16 => ⟨S4x4096x256, .f32⟩
  | 17 => ⟨S_, .f32⟩
  | 18 => ⟨S4x4096x256, .f32⟩
  | 19 => ⟨S4x4096x256, .f32⟩
  | 20 => ⟨S4x4096x256, .f32⟩
  | 21 => ⟨S4x4096x256, .f32⟩
  | 22 => ⟨S4x4096x256, .i1⟩
  | 23 => ⟨S4x4096x256, .f32⟩
  | 24 => ⟨S4x4096x256, .f32⟩
  | 25 => ⟨S4x4096x256, .f32⟩
  | 26 => ⟨S4x4096x256, .f32⟩
  | 27 => ⟨S4x4096x256, .f32⟩
  | 28 => ⟨S4x4096x256, .f32⟩
  | 29 => ⟨S4x4096x256, .f32⟩
  | 30 => ⟨S4x4096x256, .f32⟩
  | 31 => ⟨S4x4096x256, .f32⟩
  | 32 => ⟨S_, .f32⟩
  | 33 => ⟨S4x4096x256, .f32⟩
  | 34 => ⟨S4x4096x256, .f32⟩
  | 35 => ⟨S4x16x256x8x64, .f32⟩
  | 36 => ⟨S_, .f32⟩
  | 37 => ⟨S4x16x8x64, .f32⟩
  | 38 => ⟨S_, .f32⟩
  | 39 => ⟨S4x16x8x64, .f32⟩
  | 40 => ⟨S4x16x8x64, .f32⟩
  | 41 => ⟨S16384x512, .f32⟩
  | 42 => ⟨S16384x512, .f32⟩
  | 43 => ⟨S16384x512, .f32⟩
  | 44 => ⟨S16384x256, .f32⟩
  | 45 => ⟨S16384x256, .f32⟩
  | 46 => ⟨S16384x512, .f32⟩
  | 47 => ⟨S16384x256, .f32⟩
  | 48 => ⟨S16384x512, .f32⟩
  | 49 => ⟨S16384x1024, .f32⟩
  | 50 => ⟨S16384x1024, .f32⟩
  | 51 => ⟨S64x1x512, .f32⟩
  | 52 => ⟨S4x4096x512, .f32⟩
  | 53 => ⟨S4x512x4096, .f32⟩
  | 54 => ⟨S4x512x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_10 : Ref sig .tc := ⟨.hbm, 106, rfl⟩
abbrev main_v88 : Ref sig .tc := ⟨.hbm, 107, rfl⟩
abbrev main_v89 : Ref sig .tc := ⟨.hbm, 108, rfl⟩
abbrev main_cst_11 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_cst_12 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_call0_v0 : Ref sig .tc := ⟨.hbm, 144, rfl⟩
abbrev main_call0_call0_cst : Ref sig .tc := ⟨.hbm, 145, rfl⟩
abbrev main_call0_call0_v0 : Ref sig .tc := ⟨.hbm, 146, rfl⟩
abbrev main_call0_call0_v1 : Ref sig .tc := ⟨.hbm, 147, rfl⟩
abbrev main_call0_call0_v2 : Ref sig .tc := ⟨.hbm, 148, rfl⟩
abbrev main_call0_call0_v3 : Ref sig .tc := ⟨.hbm, 149, rfl⟩
abbrev main_call0_call0_v4 : Ref sig .tc := ⟨.hbm, 150, rfl⟩
abbrev main_call0_call0_v5 : Ref sig .tc := ⟨.hbm, 151, rfl⟩
abbrev main_call0_call0_v6 : Ref sig .tc := ⟨.hbm, 152, rfl⟩
abbrev main_call0_call0_v7 : Ref sig .tc := ⟨.hbm, 153, rfl⟩
abbrev main_call0_call0_v8 : Ref sig .tc := ⟨.hbm, 154, rfl⟩
abbrev main_call0_call0_v9 : Ref sig .tc := ⟨.hbm, 155, rfl⟩
abbrev main_call0_call0_v10 : Ref sig .tc := ⟨.hbm, 156, rfl⟩
abbrev main_call0_call0_v11 : Ref sig .tc := ⟨.hbm, 157, rfl⟩
abbrev main_call0_v1 : Ref sig .tc := ⟨.hbm, 158, rfl⟩
abbrev main_v123 : Ref sig .tc := ⟨.hbm, 159, rfl⟩
abbrev main_cst_13 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_14 : Ref sig .tc := ⟨.hbm, 164, rfl⟩
abbrev main_v127 : Ref sig .tc := ⟨.hbm, 165, rfl⟩
abbrev main_cst_15 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩

abbrev nD : Nat := 1
abbrev τ : Topo := Topo.v7x

variable {F : FTy → Type} [FloatOps F]
-- ==== KernelInprojSample.lean ====
abbrev S128x8x1024 : Shape := ⟨3, ![128, 8, 1024]⟩
abbrev S1x1024 : Shape := ⟨2, ![1, 1024]⟩
abbrev S1x1024x5136 : Shape := ⟨3, ![1, 1024, 5136]⟩
abbrev S1x64 : Shape := ⟨2, ![1, 64]⟩
abbrev S1x16x256 : Shape := ⟨3, ![1, 16, 256]⟩
abbrev S1x256 : Shape := ⟨2, ![1, 256]⟩
abbrev S1024 : Shape := ⟨1, ![1024]⟩
abbrev S1024x5136 : Shape := ⟨2, ![1024, 5136]⟩
abbrev S64 : Shape := ⟨1, ![64]⟩
abbrev S16x256 : Shape := ⟨2, ![16, 256]⟩
abbrev S256 : Shape := ⟨1, ![256]⟩
abbrev S1024x2560 : Shape := ⟨2, ![1024, 2560]⟩
abbrev S1024x16 : Shape := ⟨2, ![1024, 16]⟩
abbrev S_ : Shape := ⟨0, ![]⟩
abbrev S1024x128 : Shape := ⟨2, ![1024, 128]⟩
abbrev S1024x5248 : Shape := ⟨2, ![1024, 5248]⟩
abbrev S512 : Shape := ⟨1, ![512]⟩
abbrev S8x64 : Shape := ⟨2, ![8, 64]⟩
abbrev S1x512 : Shape := ⟨2, ![1, 512]⟩
abbrev S512x1 : Shape := ⟨2, ![512, 1]⟩
abbrev S512x512 : Shape := ⟨2, ![512, 512]⟩
abbrev S128x256 : Shape := ⟨2, ![128, 256]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S1x256x1x32 : Shape := ⟨4, ![1, 256, 1, 32]⟩
abbrev S1x256x16x32 : Shape := ⟨4, ![1, 256, 16, 32]⟩
abbrev S256x512 : Shape := ⟨2, ![256, 512]⟩
abbrev S1024x1024 : Shape := ⟨2, ![1024, 1024]⟩
abbrev S1024x512 : Shape := ⟨2, ![1024, 512]⟩
abbrev S1024x256 : Shape := ⟨2, ![1024, 256]⟩
abbrev S4x1x512 : Shape := ⟨3, ![4, 1, 512]⟩
abbrev S256x1024 : Shape := ⟨2, ![256, 1024]⟩
abbrev S256x256 : Shape := ⟨2, ![256, 256]⟩
abbrev S1x1x512 : Shape := ⟨3, ![1, 1, 512]⟩
abbrev S256x128 : Shape := ⟨2, ![256, 128]⟩

abbrev nBuf : Space → Nat
  | .hbm => 120
  | .vmem => 33
  | .smem => 0
  | _ => 0

abbrev bufTy : (tb : Table) → Fin (tcTables nBuf tb) → BufTy
  | .hbm, ⟨0, _⟩ => ⟨S128x8x1024, .f32⟩
  | .hbm, ⟨1, _⟩ => ⟨S1x1024, .f32⟩
  | .hbm, ⟨2, _⟩ => ⟨S1x1024x5136, .f32⟩
  | .hbm, ⟨3, _⟩ => ⟨S1x64, .f32⟩
  | .hbm, ⟨4, _⟩ => ⟨S1x64, .f32⟩
  | .hbm, ⟨5, _⟩ => ⟨S1x16x256, .f32⟩
  | .hbm, ⟨6, _⟩ => ⟨S1x256, .f32⟩
  | .hbm, ⟨7, _⟩ => ⟨S1024, .f32⟩
  | .hbm, ⟨8, _⟩ => ⟨S1024x5136, .f32⟩
  | .hbm, ⟨9, _⟩ => ⟨S64, .f32⟩
  | .hbm, ⟨10, _⟩ => ⟨S64, .f32⟩
  | .hbm, ⟨11, _⟩ => ⟨S16x256, .f32⟩
  | .hbm, ⟨12, _⟩ => ⟨S256, .f32⟩
  | .hbm, ⟨13, _⟩ => ⟨S1024x2560, .f32⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x2560, .f32⟩
  | .hbm, ⟨19, _⟩ => ⟨S1024x5248, .f32⟩
  | .hbm, ⟨20, _⟩ => ⟨S1024x5248, .bf16⟩
  | .hbm, ⟨21, _⟩ => ⟨S512, .i32⟩
  | .hbm, ⟨22, _⟩ => ⟨S_, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S_, .i32⟩
  | .hbm, ⟨28, _⟩ => ⟨S512, .i32⟩
  | .hbm, ⟨29, _⟩ => ⟨S512, .i1⟩
  | .hbm, ⟨30, _⟩ => ⟨S512, .i32⟩
  | .hbm, ⟨31, _⟩ => ⟨S512, .i32⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S512, .i1⟩
  | .hbm, ⟨36, _⟩ => ⟨S_, .i32⟩
  | .hbm, ⟨37, _⟩ => ⟨S512, .i32⟩
  | .hbm, ⟨38, _⟩ => ⟨S512, .i32⟩
  | .hbm, ⟨39, _⟩ => ⟨S512, .i32⟩
  | .hbm, ⟨40, _⟩ => ⟨S1x1024, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S1x64, .f32⟩
  | .hbm, ⟨46, _⟩ => ⟨S8x64, .f32⟩
  | .hbm, ⟨47, _⟩ => ⟨S512, .f32⟩
  | .hbm, ⟨48, _⟩ => ⟨S1x512, .f32⟩
  | .hbm, ⟨49, _⟩ => ⟨S512x1, .i32⟩
  | .hbm, ⟨50, _⟩ => ⟨S1x512, .i32⟩
  | .hbm, ⟨51, _⟩ => ⟨S512x512, .i32⟩
  | .hbm, ⟨52, _⟩ => ⟨S512x512, .i32⟩
  | .hbm, ⟨53, _⟩ => ⟨S512x512, .i1⟩
  | .hbm, ⟨54, _⟩ => ⟨S512x512, .bf16⟩
  | .hbm, ⟨55, _⟩ => ⟨S_, .i32⟩
  | .hbm, ⟨56, _⟩ => ⟨S_, .f32⟩
  | .hbm, ⟨57, _⟩ => ⟨S128x256, .f32⟩
  | .hbm, ⟨58, _⟩ => ⟨S128x256, .bf16⟩
  | .hbm, ⟨59, _⟩ => ⟨S1x256, .f32⟩
  | .hbm, ⟨60, _⟩ => ⟨S256, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S256, .i32⟩
  | .hbm, ⟨68, _⟩ => ⟨S256, .i32⟩
  | .hbm, ⟨69, _⟩ => ⟨S_, .i32⟩
  | .hbm, ⟨70, _⟩ => ⟨S256, .i32⟩
  | .hbm, ⟨71, _⟩ => ⟨S256, .i1⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S_, .i32⟩
  | .hbm, ⟨76, _⟩ => ⟨S_, .i1⟩
  | .hbm, ⟨77, _⟩ => ⟨S256, .i1⟩
  | .hbm, ⟨78, _⟩ => ⟨S256, .i1⟩
  | .hbm, ⟨79, _⟩ => ⟨S256, .i1⟩
  | .hbm, ⟨80, _⟩ => ⟨S256, .i32⟩
  | .hbm, ⟨81, _⟩ => ⟨S256, .i32⟩
  | .hbm, ⟨82, _⟩ => ⟨S256, .i32⟩
  | .hbm, ⟨83, _⟩ => ⟨S_, .i32⟩
  | .hbm, ⟨84, _⟩ => ⟨S256, .i32⟩
  | .hbm, ⟨85, _⟩ => ⟨S256, .i32⟩
  | .hbm, ⟨86, _⟩ => ⟨S32, .f32⟩
  | .hbm, ⟨87, _⟩ => ⟨S32, .f32⟩
  | .hbm, ⟨88, _⟩ => ⟨S_, .f32⟩
  | .hbm, ⟨89, _⟩ => ⟨S32, .f32⟩
  | .hbm, ⟨90, _⟩ => ⟨S32, .f32⟩
  | .hbm, ⟨91, _⟩ => ⟨S_, .f32⟩
  | .hbm, ⟨92, _⟩ => ⟨S32, .f32⟩
  | .hbm, ⟨93, _⟩ => ⟨S32, .f32⟩
  | .hbm, ⟨94, _⟩ => ⟨S256, .f32⟩
  | .hbm, ⟨95, _⟩ => ⟨S256x1, .f32⟩
  | .hbm, ⟨96, _⟩ => ⟨S1x32, .f32⟩
  | .hbm, ⟨97, _⟩ => ⟨S256x32, .f32⟩
  | .hbm, ⟨98, _⟩ => ⟨S256x32, .f32⟩
  | .hbm, ⟨99, _⟩ => ⟨S256x32, .f32⟩
  | .hbm, ⟨100, _⟩ => ⟨S256x32, .f32⟩
  | .hbm, ⟨101, _⟩ => ⟨S1x256x1x32, .f32⟩
  | .hbm, ⟨102, _⟩ => ⟨S1x256x16x32, .f32⟩
  | .hbm, ⟨103, _⟩ => ⟨S256x512, .f32⟩
  | .hbm, ⟨104, _⟩ => ⟨S256x32, .f32⟩
  | .hbm, ⟨105, _⟩ => ⟨S1x256x1x32, .f32⟩
  | .hbm, ⟨106, _⟩ => ⟨S1x256x16x32, .f32⟩
  | .hbm, ⟨107, _⟩ => ⟨S256x512, .f32⟩
  | .hbm, ⟨108, _⟩ => ⟨S1024x1024, .f32⟩
  | .hbm, ⟨109, _⟩ => ⟨S1024x512, .f32⟩
  | .hbm, ⟨110, _⟩ => ⟨S1024x512, .f32⟩
  | .hbm, ⟨111, _⟩ => ⟨S1024x512, .f32⟩
  | .hbm, ⟨112, _⟩ => ⟨S1024x256, .f32⟩
  | .hbm, ⟨113, _⟩ => ⟨S1024x256, .f32⟩
  | .hbm, ⟨114, _⟩ => ⟨S1024x512, .f32⟩
  | .hbm, ⟨115, _⟩ => ⟨S1024x256, .f32⟩
  | .hbm, ⟨116, _⟩ => ⟨S1024x512, .f32⟩
  | .hbm, ⟨117, _⟩ => ⟨S1024x1024, .f32⟩
  | .hbm, ⟨118, _⟩ => ⟨S1024x1024, .f32⟩
  | .hbm, ⟨119, _⟩ => ⟨S4x1x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5248, .bf16⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S1x512, .f32⟩
  | .local _ .vmem, ⟨8, _⟩ => ⟨S512x512, .bf16⟩
  | .local _ .vmem, ⟨9, _⟩ => ⟨S128x256, .bf16⟩
  | .local _ .vmem, ⟨10, _⟩ => ⟨S1x256, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x512, .f32⟩
  | .local _ .vmem, ⟨22, _⟩ => ⟨S256x512, .f32⟩
  | .local _ .vmem, ⟨23, _⟩ => ⟨S256x256, .f32⟩
  | .local _ .vmem, ⟨24, _⟩ => ⟨S256x256, .f32⟩
  | .local _ .vmem, ⟨25, _⟩ => ⟨S256x512, .f32⟩
  | .local _ .vmem, ⟨26, _⟩ => ⟨S256x512, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S1x1x512, .f32⟩
  | .local _ .vmem, ⟨32, _⟩ => ⟨S1x1x512, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_c : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_0 : Ref sig .tc := ⟨.hbm, 36, rfl⟩
abbrev main_call1_v12 : Ref sig .tc := ⟨.hbm, 37, rfl⟩
abbrev main_call1_v13 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_1 : Ref sig .tc := ⟨.hbm, 55, rfl⟩
abbrev main_call2_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_2 : Ref sig .tc := ⟨.hbm, 61, rfl⟩
abbrev main_call3_v0 : Ref sig .tc := ⟨.hbm, 62, rfl⟩
abbrev main_call3_c : Ref sig .tc := ⟨.hbm, 63, rfl⟩
abbrev main_call3_v1 : Ref sig .tc := ⟨.hbm, 64, rfl⟩
abbrev main_call3_c_0 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_c_1 : Ref sig .tc := ⟨.hbm, 69, rfl⟩
abbrev main_call3_v5 : Ref sig .tc := ⟨.hbm, 70, rfl⟩
abbrev main_call3_v6 : Ref sig .tc := ⟨.hbm, 71, rfl⟩
abbrev main_call3_c_2 : Ref sig .tc := ⟨.hbm, 72, rfl⟩
abbrev main_call3_v7 : Ref sig .tc := ⟨.hbm, 73, rfl⟩
abbrev main_call3_v8 : Ref sig .tc := ⟨.hbm, 74, rfl⟩
abbrev main_call3_c_3 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_v12 : Ref sig .tc := ⟨.hbm, 79, rfl⟩
abbrev main_call3_v13 : Ref sig .tc := ⟨.hbm, 80, rfl⟩
abbrev main_call3_v14 : Ref sig .tc := ⟨.hbm, 81, rfl⟩
abbrev main_v33 : Ref sig .tc := ⟨.hbm, 82, rfl⟩
abbrev main_c_3 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_cst : Ref sig .tc := ⟨.hbm, 88, rfl⟩
abbrev main_v38 : Ref sig .tc := ⟨.hbm, 89, rfl⟩
abbrev main_v39 : Ref sig .tc := ⟨.hbm, 90, rfl⟩
abbrev main_cst_4 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57_0 : Ref sig .tc := ⟨.hbm, 109, rfl⟩
abbrev main_v57_1 : Ref sig .tc := ⟨.hbm, 110, rfl⟩
abbrev main_v57_2 : Ref sig .tc := ⟨.hbm, 111, rfl⟩
abbrev main_v57_3 : Ref sig .tc := ⟨.hbm, 112, rfl⟩
abbrev main_v57_4 : Ref sig .tc := ⟨.hbm, 113, rfl⟩
abbrev main_v57_5 : Ref sig .tc := ⟨.hbm, 114, rfl⟩
abbrev main_v57_6 : Ref sig .tc := ⟨.hbm, 115, rfl⟩
abbrev main_v57_7 : Ref sig .tc := ⟨.hbm, 116, rfl⟩
abbrev main_v57_8 : Ref sig .tc := ⟨.hbm, 117, rfl⟩
abbrev main_v57_9 : Ref sig .tc := ⟨.hbm, 118, rfl⟩
abbrev main_v57_10 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5248 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceInprojSampleIdeal.lean ====
abbrev S128x8x1024 : Shape := ⟨3, ![128, 8, 1024]⟩
abbrev S1x1024 : Shape := ⟨2, ![1, 1024]⟩
abbrev S1x1024x5136 : Shape := ⟨3, ![1, 1024, 5136]⟩
abbrev S1x64 : Shape := ⟨2, ![1, 64]⟩
abbrev S1x16x256 : Shape := ⟨3, ![1, 16, 256]⟩
abbrev S1x256 : Shape := ⟨2, ![1, 256]⟩
abbrev S8 : Shape := ⟨1, ![8]⟩
abbrev S_ : Shape := ⟨0, ![]⟩
abbrev S1024 : Shape := ⟨1, ![1024]⟩
abbrev S128x8 : Shape := ⟨2, ![128, 8]⟩
abbrev S128x8x1 : Shape := ⟨3, ![128, 8, 1]⟩
abbrev S1x1x1024 : Shape := ⟨3, ![1, 1, 1024]⟩
abbrev S1024x5136 : Shape := ⟨2, ![1024, 5136]⟩
abbrev S128x8x5136 : Shape := ⟨3, ![128, 8, 5136]⟩
abbrev S128x8x512 : Shape := ⟨3, ![128, 8, 512]⟩
abbrev S128x8x256 : Shape := ⟨3, ![128, 8, 256]⟩
abbrev S128x8x16 : Shape := ⟨3, ![128, 8, 16]⟩
abbrev S128x8x8x64 : Shape := ⟨4, ![128, 8, 8, 64]⟩
abbrev S64 : Shape := ⟨1, ![64]⟩
abbrev S128x8x8 : Shape := ⟨3, ![128, 8, 8]⟩
abbrev S128x8x8x1 : Shape := ⟨4, ![128, 8, 8, 1]⟩
abbrev S1x1x1x64 : Shape := ⟨4, ![1, 1, 1, 64]⟩
abbrev S32 : Shape := ⟨1, ![32]⟩
abbrev S8x1 : Shape := ⟨2, ![8, 1]⟩
abbrev S1x32 : Shape := ⟨2, ![1, 32]⟩
abbrev S8x32 : Shape := ⟨2, ![8, 32]⟩
abbrev S1x8x1x32 : Shape := ⟨4, ![1, 8, 1, 32]⟩
abbrev S128x8x8x32 : Shape := ⟨4, ![128, 8, 8, 32]⟩
abbrev S16x256 : Shape := ⟨2, ![16, 256]⟩
abbrev S256 : Shape := ⟨1, ![256]⟩
abbrev S1x1x256 : Shape := ⟨3, ![1, 1, 256]⟩
abbrev S1024x512 : Shape := ⟨2, ![1024, 512]⟩
abbrev S1024x256 : Shape := ⟨2, ![1024, 256]⟩
abbrev S1024x1024 : Shape := ⟨2, ![1024, 1024]⟩

abbrev nBuf : Space → Nat
  | .hbm => 176
  | .vmem => 0
  | .smem => 0
  | _ => 0

abbrev hbmTy0_0 (i : Nat) : BufTy := match i % 128 with
  | 0 => ⟨S128x8x1024, .f32⟩
  | 1 => ⟨S1x1024, .f32⟩
  | 2 => ⟨S1x1024x5136, .f32⟩
  | 3 => ⟨S1x64, .f32⟩
  | 4 => ⟨S1x64, .f32⟩
  | 5 => ⟨S1x16x256, .f32⟩
  | 6 => ⟨S1x256, .f32⟩
  | 7 => ⟨S8, .i32⟩
  | 8 => ⟨S_, .i32⟩
  | 9 => ⟨S8, .i32⟩
  | 10 => ⟨S8, .i32⟩
  | 11 => ⟨S1024, .f32⟩
  | 12 => ⟨S128x8x1024, .f32⟩
  | 13 => ⟨S_, .f32⟩
  | 14 => ⟨S128x8, .f32⟩
  | 15 => ⟨S128x8x1, .f32⟩
  | 16 => ⟨S_, .f32⟩
  | 17 => ⟨S128x8x1, .f32⟩
  | 18 => ⟨S128x8x1, .f32⟩
  | 19 => ⟨S_, .f32⟩
  | 20 => ⟨S128x8x1, .f32⟩
  | 21 => ⟨S128x8x1, .f32⟩
  | 22 => ⟨S128x8x1, .f32⟩
  | 23 => ⟨S128x8x1024, .f32⟩
  | 24 => ⟨S128x8x1024, .f32⟩
  | 25 => ⟨S1x1x1024, .f32⟩
  | 26 => ⟨S128x8x1024, .f32⟩
  | 27 => ⟨S128x8x1024, .f32⟩
  | 28 => ⟨S1024x5136, .f32⟩
  | 29 => ⟨S128x8x5136, .f32⟩
  | 30 => ⟨S128x8x512, .f32⟩
  | 31 => ⟨S128x8x512, .f32⟩
  | 32 => ⟨S128x8x512, .f32⟩
  | 33 => ⟨S128x8x256, .f32⟩
  | 34 => ⟨S128x8x256, .f32⟩
  | 35 => ⟨S128x8x512, .f32⟩
  | 36 => ⟨S128x8x16, .f32⟩
  | 37 => ⟨S128x8x512, .f32⟩
  | 38 => ⟨S128x8x1024, .f32⟩
  | 39 => ⟨S128x8x1024, .f32⟩
  | 40 => ⟨S128x8x8x64, .f32⟩
  | 41 => ⟨S64, .f32⟩
  | 42 => ⟨S128x8x8x64, .f32⟩
  | 43 => ⟨S_, .f32⟩
  | 44 => ⟨S128x8x8, .f32⟩
  | 45 => ⟨S128x8x8x1, .f32⟩
  | 46 => ⟨S_, .f32⟩
  | 47 => ⟨S128x8x8x1, .f32⟩
  | 48 => ⟨S128x8x8x1, .f32⟩
  | 49 => ⟨S_, .f32⟩
  | 50 => ⟨S128x8x8x1, .f32⟩
  | 51 => ⟨S128x8x8x1, .f32⟩
  | 52 => ⟨S128x8x8x1, .f32⟩
  | 53 => ⟨S128x8x8x64, .f32⟩
  | 54 => ⟨S128x8x8x64, .f32⟩
  | 55 => ⟨S1x1x1x64, .f32⟩
  | 56 => ⟨S128x8x8x64, .f32⟩
  | 57 => ⟨S128x8x8x64, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S8, .f32⟩
  | 67 => ⟨S8x1, .f32⟩
  | 68 => ⟨S1x32, .f32⟩
  | 69 => ⟨S8x32, .f32⟩
  | 70 => ⟨S8x32, .f32⟩
  | 71 => ⟨S8x32, .f32⟩
  | 72 => ⟨S8x32, .f32⟩
  | 73 => ⟨S1x8x1x32, .f32⟩
  | 74 => ⟨S8x32, .f32⟩
  | 75 => ⟨S1x8x1x32, .f32⟩
  | 76 => ⟨S128x8x8x32, .f32⟩
  | 77 => ⟨S128x8x8x32, .f32⟩
  | 78 => ⟨S128x8x8x32, .f32⟩
  | 79 => ⟨S128x8x8x32, .f32⟩
  | 80 => ⟨S128x8x8x32, .f32⟩
  | 81 => ⟨S128x8x8x32, .f32⟩
  | 82 => ⟨S128x8x8x32, .f32⟩
  | 83 => ⟨S128x8x8x32, .f32⟩
  | 84 => ⟨S128x8x8x32, .f32⟩
  | 85 => ⟨S128x8x8x32, .f32⟩
  | 86 => ⟨S128x8x8x32, .f32⟩
  | 87 => ⟨S128x8x8x32, .f32⟩
  | 88 => ⟨S128x8x8x64, .f32⟩
  | 89 => ⟨S128x8x8x64, .f32⟩
  | 90 => ⟨S64, .f32⟩
  | 91 => ⟨S128x8x8x64, .f32⟩
  | 92 => ⟨S_, .f32⟩
  | 93 => ⟨S128x8x8, .f32⟩
  | 94 => ⟨S128x8x8x1, .f32⟩
  | 95 => ⟨S_, .f32⟩
  | 96 => ⟨S128x8x8x1, .f32⟩
  | 97 => ⟨S128x8x8x1, .f32⟩
  | 98 => ⟨S_, .f32⟩
  | 99 => ⟨S128x8x8x1, .f32⟩
  | 100 => ⟨S128x8x8x1, .f32⟩
  | 101 => ⟨S128x8x8x1, .f32⟩
  | 102 => ⟨S128x8x8x64, .f32⟩
  | 103 => ⟨S128x8x8x64, .f32⟩
  | 104 => ⟨S1x1x1x64, .f32⟩
  | 105 => ⟨S128x8x8x64, .f32⟩
  | 106 => ⟨S128x8x8x64, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S8, .f32⟩
  | 116 => ⟨S8x1, .f32⟩
  | 117 => ⟨S1x32, .f32⟩
  | 118 => ⟨S8x32, .f32⟩
  | 119 => ⟨S8x32, .f32⟩
  | 120 => ⟨S8x32, .f32⟩
  | 121 => ⟨S8x32, .f32⟩
  | 122 => ⟨S1x8x1x32, .f32⟩
  | 123 => ⟨S8x32, .f32⟩
  | 124 => ⟨S1x8x1x32, .f32⟩
  | 125 => ⟨S128x8x8x32, .f32⟩
  | 126 => ⟨S128x8x8x32, .f32⟩
  | 127 => ⟨S128x8x8x32, .f32⟩
  | _ => ⟨S128x8x1024, .f32⟩

abbrev hbmTy0_1 (i : Nat) : BufTy := match i % 128 with
  | 0 => ⟨S128x8x8x32, .f32⟩
  | 1 => ⟨S128x8x8x32, .f32⟩
  | 2 => ⟨S128x8x8x32, .f32⟩
  | 3 => ⟨S128x8x8x32, .f32⟩
  | 4 => ⟨S128x8x8x32, .f32⟩
  | 5 => ⟨S128x8x8x32, .f32⟩
  | 6 => ⟨S128x8x8x32, .f32⟩
  | 7 => ⟨S128x8x8x32, .f32⟩
  | 8 => ⟨S128x8x8x32, .f32⟩
  | 9 => ⟨S128x8x8x64, .f32⟩
  | 10 => ⟨S_, .f32⟩
  | 11 => ⟨S128x8x256, .f32⟩
  | 12 => ⟨S128x8x256, .f32⟩
  | 13 => ⟨S16x256, .f32⟩
  | 14 => ⟨S128x8x256, .f32⟩
  | 15 => ⟨S256, .f32⟩
  | 16 => ⟨S1x1x256, .f32⟩
  | 17 => ⟨S128x8x256, .f32⟩
  | 18 => ⟨S128x8x256, .f32⟩
  | 19 => ⟨S128x8x256, .f32⟩
  | 20 => ⟨S_, .f32⟩
  | 21 => ⟨S128x8x256, .f32⟩
  | 22 => ⟨S128x8x256, .f32⟩
  | 23 => ⟨S128x8x256, .f32⟩
  | 24 => ⟨S128x8x256, .f32⟩
  | 25 => ⟨S128x8x256, .i1⟩
  | 26 => ⟨S128x8x256, .f32⟩
  | 27 => ⟨S128x8x256, .f32⟩
  | 28 => ⟨S128x8x256, .f32⟩
  | 29 => ⟨S128x8x256, .f32⟩
  | 30 => ⟨S128x8x256, .f32⟩
  | 31 => ⟨S128x8x256, .f32⟩
  | 32 => ⟨S128x8x256, .f32⟩
  | 33 => ⟨S128x8x256, .f32⟩
  | 34 => ⟨S128x8x256, .f32⟩
  | 35 => ⟨S_, .f32⟩
  | 36 => ⟨S128x8x256, .f32⟩
  | 37 => ⟨S128x8x256, .f32⟩
  | 38 => ⟨S1024x512, .f32⟩
  | 39 => ⟨S1024x512, .f32⟩
  | 40 => ⟨S1024x512, .f32⟩
  | 41 => ⟨S1024x256, .f32⟩
  | 42 => ⟨S1024x256, .f32⟩
  | 43 => ⟨S1024x512, .f32⟩
  | 44 => ⟨S1024x256, .f32⟩
  | 45 => ⟨S1024x512, .f32⟩
  | 46 => ⟨S1024x1024, .f32⟩
  | 47 => ⟨S1024x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_5 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_cst_9 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩
abbrev main_cst_11 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_12 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_call0_v0 : Ref sig .tc := ⟨.hbm, 147, rfl⟩
abbrev main_call0_call0_cst : Ref sig .tc := ⟨.hbm, 148, rfl⟩
abbrev main_call0_call0_v0 : Ref sig .tc := ⟨.hbm, 149, rfl⟩
abbrev main_call0_call0_v1 : Ref sig .tc := ⟨.hbm, 150, rfl⟩
abbrev main_call0_call0_v2 : Ref sig .tc := ⟨.hbm, 151, rfl⟩
abbrev main_call0_call0_v3 : Ref sig .tc := ⟨.hbm, 152, rfl⟩
abbrev main_call0_call0_v4 : Ref sig .tc := ⟨.hbm, 153, rfl⟩
abbrev main_call0_call0_v5 : Ref sig .tc := ⟨.hbm, 154, rfl⟩
abbrev main_call0_call0_v6 : Ref sig .tc := ⟨.hbm, 155, rfl⟩
abbrev main_call0_call0_v7 : Ref sig .tc := ⟨.hbm, 156, rfl⟩
abbrev main_call0_call0_v8 : Ref sig .tc := ⟨.hbm, 157, rfl⟩
abbrev main_call0_call0_v9 : Ref sig .tc := ⟨.hbm, 158, rfl⟩
abbrev main_call0_call0_v10 : Ref sig .tc := ⟨.hbm, 159, rfl⟩
abbrev main_call0_call0_v11 : Ref sig .tc := ⟨.hbm, 160, rfl⟩
abbrev main_call0_v1 : Ref sig .tc := ⟨.hbm, 161, rfl⟩
abbrev main_v125 : Ref sig .tc := ⟨.hbm, 162, rfl⟩
abbrev main_cst_13 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩

abbrev nD : Nat := 1
abbrev τ : Topo := Topo.v7x

variable {F : FTy → Type} [FloatOps F]
-- ==== KernelGla.lean ====
abbrev S16384x256 : Shape := ⟨2, ![16384, 256]⟩
abbrev S16384x512 : Shape := ⟨2, ![16384, 512]⟩
abbrev S_ : Shape := ⟨0, ![]⟩
abbrev S64x64 : Shape := ⟨2, ![64, 64]⟩
abbrev S4x4096x256 : Shape := ⟨3, ![4, 4096, 256]⟩
abbrev S4x4096x512 : Shape := ⟨3, ![4, 4096, 512]⟩
abbrev S4x4x64x128 : Shape := ⟨4, ![4, 4, 64, 128]⟩
abbrev S4x128x256 : Shape := ⟨3, ![4, 128, 256]⟩
abbrev S4x128x512 : Shape := ⟨3, ![4, 128, 512]⟩
abbrev S4x512x256 : Shape := ⟨3, ![4, 512, 256]⟩
abbrev S1x256 : Shape := ⟨2, ![1, 256]⟩
abbrev S512x256 : Shape := ⟨2, ![512, 256]⟩
abbrev S1x64x256 : Shape := ⟨3, ![1, 64, 256]⟩
abbrev S64x256 : Shape := ⟨2, ![64, 256]⟩
abbrev S1x64x512 : Shape := ⟨3, ![1, 64, 512]⟩
abbrev S64x512 : Shape := ⟨2, ![64, 512]⟩
abbrev S1x512x256 : Shape := ⟨3, ![1, 512, 256]⟩
abbrev S16x256 : Shape := ⟨2, ![16, 256]⟩
abbrev S64x16 : Shape := ⟨2, ![64, 16]⟩
abbrev S16x512 : Shape := ⟨2, ![16, 512]⟩
abbrev S16x128 : Shape := ⟨2, ![16, 128]⟩
abbrev S32x256 : Shape := ⟨2, ![32, 256]⟩
abbrev S64x32 : Shape := ⟨2, ![64, 32]⟩
abbrev S32x512 : Shape := ⟨2, ![32, 512]⟩
abbrev S48x256 : Shape := ⟨2, ![48, 256]⟩
abbrev S64x48 : Shape := ⟨2, ![64, 48]⟩
abbrev S48x512 : Shape := ⟨2, ![48, 512]⟩
abbrev S1x128x64 : Shape := ⟨3, ![1, 128, 64]⟩
abbrev S128x64 : Shape := ⟨2, ![128, 64]⟩
abbrev S64x128 : Shape := ⟨2, ![64, 128]⟩
abbrev S1x1x64x128 : Shape := ⟨4, ![1, 1, 64, 128]⟩

abbrev nBuf : Space → Nat
  | .hbm => 22
  | .vmem => 13
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S_, .f32⟩
  | .hbm, ⟨5, _⟩ => ⟨S64x64, .f32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S64x64, .i1⟩
  | .hbm, ⟨12, _⟩ => ⟨S_, .f32⟩
  | .hbm, ⟨13, _⟩ => ⟨S64x64, .f32⟩
  | .hbm, ⟨14, _⟩ => ⟨S64x64, .f32⟩
  | .hbm, ⟨15, _⟩ => ⟨S64x64, .bf16⟩
  | .hbm, ⟨16, _⟩ => ⟨S4x4096x256, .f32⟩
  | .hbm, ⟨17, _⟩ => ⟨S4x4096x256, .f32⟩
  | .hbm, ⟨18, _⟩ => ⟨S4x4096x512, .f32⟩
  | .hbm, ⟨19, _⟩ => ⟨S4x4096x256, .f32⟩
  | .hbm, ⟨20, _⟩ => ⟨S4x4096x512, .f32⟩
  | .hbm, ⟨21, _⟩ => ⟨S4x4x64x128, .f32⟩
  | .local _ .vmem, ⟨0, _⟩ => ⟨S4x128x256, .f32⟩
  | .local _ .vmem, ⟨1, _⟩ => ⟨S4x128x256, .f32⟩
  | .local _ .vmem, ⟨2, _⟩ => ⟨S4x128x256, .f32⟩
  | .local _ .vmem, ⟨3, _⟩ => ⟨S4x128x256, .f32⟩
  | .local _ .vmem, ⟨4, _⟩ => ⟨S4x128x512, .f32⟩
  | .local _ .vmem, ⟨5, _⟩ => ⟨S4x128x512, .f32⟩
  | .local _ .vmem, ⟨6, _⟩ => ⟨S4x128x256, .f32⟩
  | .local _ .vmem, ⟨7, _⟩ => ⟨S4x128x256, .f32⟩
  | .local _ .vmem, ⟨8, _⟩ => ⟨S64x64, .bf16⟩
  | .local _ .vmem, ⟨9, _⟩ => ⟨S4x128x512, .f32⟩
  | .local _ .vmem, ⟨10, _⟩ => ⟨S4x128x512, .f32⟩
  | .local _ .vmem, ⟨11, _⟩ => ⟨S4x4x64x128, .f32⟩
  | .local _ .vmem, ⟨12, _⟩ => ⟨S4x512x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_cst : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7_0 : Ref sig .tc := ⟨.hbm, 20, rfl⟩
abbrev main_v7_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v2753 : BitVec 1 := Scalar.cmpi .eq arg0 c31_i32
  let v2754 : BitVec 32 := Scalar.extui v2753
  let c0_i32_810 : BitVec 32 := 0#32
  let v2755 : BitVec 1 := Scalar.cmpi .ne v2754 c0_i32_810
  v2755

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S4x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x4x64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceGlaIdeal.lean ====
abbrev S16384x256 : Shape := ⟨2, ![16384, 256]⟩
abbrev S16384x512 : Shape := ⟨2, ![16384, 512]⟩
abbrev S_ : Shape := ⟨0, ![]⟩
abbrev S4x4x64x128 : Shape := ⟨4, ![4, 4, 64, 128]⟩
abbrev S4x64x64x4x64 : Shape := ⟨5, ![4, 64, 64, 4, 64]⟩
abbrev S64x4x4x64x64 : Shape := ⟨5, ![64, 4, 4, 64, 64]⟩
abbrev S4x64x64x4x128 : Shape := ⟨5, ![4, 64, 64, 4, 128]⟩
abbrev S64x4x4x64x128 : Shape := ⟨5, ![64, 4, 4, 64, 128]⟩
abbrev S1x4x4x64x64 : Shape := ⟨5, ![1, 4, 4, 64, 64]⟩
abbrev S4x4x64x64 : Shape := ⟨4, ![4, 4, 64, 64]⟩
abbrev S1x4x4x64x128 : Shape := ⟨5, ![1, 4, 4, 64, 128]⟩
abbrev S4x4x1x64 : Shape := ⟨4, ![4, 4, 1, 64]⟩
abbrev S4x4x64 : Shape := ⟨3, ![4, 4, 64]⟩
abbrev S4x4x64x1 : Shape := ⟨4, ![4, 4, 64, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S_, .f32⟩
  | .hbm, ⟨5, _⟩ => ⟨S4x4x64x128, .f32⟩
  | .hbm, ⟨6, _⟩ => ⟨S4x64x64x4x64, .f32⟩
  | .hbm, ⟨7, _⟩ => ⟨S64x4x4x64x64, .f32⟩
  | .hbm, ⟨8, _⟩ => ⟨S4x64x64x4x128, .f32⟩
  | .hbm, ⟨9, _⟩ => ⟨S64x4x4x64x128, .f32⟩
  | .hbm, ⟨10, _⟩ => ⟨S4x64x64x4x64, .f32⟩
  | .hbm, ⟨11, _⟩ => ⟨S64x4x4x64x64, .f32⟩
  | .hbm, ⟨12, _⟩ => ⟨S_, .i32⟩
  | .hbm, ⟨13, _⟩ => ⟨S64x4x4x64x64, .f32⟩
  | .hbm, ⟨14, _⟩ => ⟨S64x4x4x64x128, .f32⟩
  | .hbm, ⟨15, _⟩ => ⟨S64x4x4x64x64, .f32⟩
  | .hbm, ⟨16, _⟩ => ⟨S_, .i32⟩
  | .hbm, ⟨17, _⟩ => ⟨S4x4x64x128, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x4x4x64x64, .f32⟩
  | .hbm, ⟨25, _⟩ => ⟨S4x4x64x64, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S1x4x4x64x128, .f32⟩
  | .hbm, ⟨31, _⟩ => ⟨S4x4x64x128, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S1x4x4x64x64, .f32⟩
  | .hbm, ⟨37, _⟩ => ⟨S4x4x64x64, .f32⟩
  | .hbm, ⟨38, _⟩ => ⟨S_, .f32⟩
  | .hbm, ⟨39, _⟩ => ⟨S_, .f32⟩
  | .hbm, ⟨40, _⟩ => ⟨S4x4x64x64, .f32⟩
  | .hbm, ⟨41, _⟩ => ⟨S4x4x1x64, .f32⟩
  | .hbm, ⟨42, _⟩ => ⟨S4x4x64, .f32⟩
  | .hbm, ⟨43, _⟩ => ⟨S4x4x64, .f32⟩
  | .hbm, ⟨44, _⟩ => ⟨S4x4x64x1, .f32⟩
  | .hbm, ⟨45, _⟩ => ⟨S4x4x64x128, .f32⟩
  | .hbm, ⟨46, _⟩ => ⟨S4x4x64x128, .f32⟩
  | .hbm, ⟨47, _⟩ => ⟨S4x4x1x64, .f32⟩
  | .hbm, ⟨48, _⟩ => ⟨S4x4x64x64, .f32⟩
  | .hbm, ⟨49, _⟩ => ⟨S4x4x64x64, .f32⟩
  | .hbm, ⟨50, _⟩ => ⟨S4x4x64x64, .f32⟩
  | .hbm, ⟨51, _⟩ => ⟨S4x4x64x64, .f32⟩
  | .hbm, ⟨52, _⟩ => ⟨S4x4x64x128, .f32⟩
  | .hbm, ⟨53, _⟩ => ⟨S4x4x64x128, .f32⟩
  | .hbm, ⟨54, _⟩ => ⟨S_, .i32⟩
  | .hbm, ⟨55, _⟩ => ⟨S_, .i32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_while0c_c_4 : Ref sig .tc := ⟨.hbm, 18, rfl⟩
abbrev main_while0c_v8 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_c_1 : Ref sig .tc := ⟨.hbm, 22, rfl⟩
abbrev main_while0b_call0_c_2 : Ref sig .tc := ⟨.hbm, 23, rfl⟩
abbrev main_while0b_call0_v0 : Ref sig .tc := ⟨.hbm, 24, rfl⟩
abbrev main_while0b_v8 : Ref sig .tc := ⟨.hbm, 25, rfl⟩
abbrev main_while0b_call1_c : Ref sig .tc := ⟨.hbm, 26, rfl⟩
abbrev main_while0b_call1_c_0 : Ref sig .tc := ⟨.hbm, 27, rfl⟩
abbrev main_while0b_call1_c_1 : Ref sig .tc := ⟨.hbm, 28, rfl⟩
abbrev main_while0b_call1_c_2 : Ref sig .tc := ⟨.hbm, 29, rfl⟩
abbrev main_while0b_call1_v0 : Ref sig .tc := ⟨.hbm, 30, rfl⟩
abbrev main_while0b_v9 : Ref sig .tc := ⟨.hbm, 31, rfl⟩
abbrev main_while0b_call2_c : Ref sig .tc := ⟨.hbm, 32, rfl⟩
abbrev main_while0b_call2_c_0 : Ref sig .tc := ⟨.hbm, 33, rfl⟩
abbrev main_while0b_call2_c_1 : Ref sig .tc := ⟨.hbm, 34, rfl⟩
abbrev main_while0b_call2_c_2 : Ref sig .tc := ⟨.hbm, 35, rfl⟩
abbrev main_while0b_call2_v0 : Ref sig .tc := ⟨.hbm, 36, rfl⟩
abbrev main_while0b_v10 : Ref sig .tc := ⟨.hbm, 37, rfl⟩
abbrev main_while0b_call3_call0_cst : Ref sig .tc := ⟨.hbm, 38, rfl⟩
abbrev main_while0b_call3_call0_v0 : Ref sig .tc := ⟨.hbm, 39, rfl⟩
abbrev main_while0b_v11 : Ref sig .tc := ⟨.hbm, 40, rfl⟩
abbrev main_while0b_v12 : Ref sig .tc := ⟨.hbm, 41, rfl⟩
abbrev main_while0b_v13 : Ref sig .tc := ⟨.hbm, 42, rfl⟩
abbrev main_while0b_v14 : Ref sig .tc := ⟨.hbm, 43, rfl⟩
abbrev main_while0b_v15 : Ref sig .tc := ⟨.hbm, 44, rfl⟩
abbrev main_while0b_v16 : Ref sig .tc := ⟨.hbm, 45, rfl⟩
abbrev main_while0b_v17 : Ref sig .tc := ⟨.hbm, 46, rfl⟩
abbrev main_while0b_v18 : Ref sig .tc := ⟨.hbm, 47, rfl⟩
abbrev main_while0b_v19 : Ref sig .tc := ⟨.hbm, 48, rfl⟩
abbrev main_while0b_v20 : Ref sig .tc := ⟨.hbm, 49, rfl⟩
abbrev main_while0b_v21 : Ref sig .tc := ⟨.hbm, 50, rfl⟩
abbrev main_while0b_v22 : Ref sig .tc := ⟨.hbm, 51, rfl⟩
abbrev main_while0b_v23 : Ref sig .tc := ⟨.hbm, 52, rfl⟩
abbrev main_while0b_v24 : Ref sig .tc := ⟨.hbm, 53, rfl⟩
abbrev main_while0b_c_4 : Ref sig .tc := ⟨.hbm, 54, rfl⟩
abbrev main_while0b_v25 : Ref sig .tc := ⟨.hbm, 55, rfl⟩

abbrev nD : Nat := 1
abbrev τ : Topo := Topo.v7x

variable {F : FTy → Type} [FloatOps F]

abbrev main_while0_count : Scf.Loop 32 := ⟨0#32, 64#32, 1#32⟩
-- ==== Proof.Scan.lean ====
module
public import Idealize.ShloMosaic.Init
public import Idealize.ShloMosaic.Lib.Pointwise

/-! Facts about extended reals and running sums used for the recurrence. -/

@[expose] public section

set_option maxRecDepth 16384

noncomputable section

open Idealize.ShloMosaic

namespace Cert.Scan

/-- The exponential of a difference is the product of the exponentials, at every pair of extended reals. -/
theorem exp_sub (x y : EReal) : Ideal.exp (x - y) = Ideal.exp x * Ideal.exp (-y) := by
  induction x using EReal.rec with
  | bot => simp [sub_eq_add_neg]
  | top =>
    induction y using EReal.rec with
    | bot => simp
    | top => simp
    | coe y =>
      rw [EReal.top_sub_coe, ← EReal.coe_neg, Ideal.exp_coe, Ideal.exp_top, EReal.top_mul_coe_of_pos (Real.exp_pos _)]
  | coe x =>
    induction y using EReal.rec with
    | bot => simp [EReal.coe_mul_top_of_pos (Real.exp_pos _)]
    | top => simp
    | coe y =>
      rw [← EReal.coe_sub, ← EReal.coe_neg, Ideal.exp_coe, Ideal.exp_coe, Ideal.exp_coe, ← EReal.coe_mul, ← Real.exp_add,
        sub_eq_add_neg]

/-- A value below `⊤` is the sum of itself and of the two remainders of its splitting. -/
theorem split3 {g : EReal} (h : g ≠ ⊤) : g + (g - g) + ((g - g) - (g - g)) = g := by
  induction g using EReal.rec with
  | bot => simp
  | top => exact absurd rfl h
  | coe g => norm_cast; simp

/-- A left fold of additions of a function's values is the start plus the values' sum. -/
theorem foldl_add {N : Nat} (f : Fin N → EReal) (v : EReal) :
    (List.finRange N).foldl (fun r n => r + f n) v = v + ∑ n, f n := by
  have key : ∀ (l : List (Fin N)) (v : EReal), l.foldl (fun r n => r + f n) v = v + (l.map f).sum := by
    intro l
    induction l with
    | nil => intro v; simp
    | cons a l ih => intro v; rw [List.foldl_cons, ih, List.map_cons, List.sum_cons, add_assoc]
  rw [key, Fin.sum_univ_def]

/-- The running sum along the third axis: the sum of the entries not after the place. -/
def run {A H T C : Nat} (X : (⟨4, ![A, H, T, C]⟩ : Shape).Idx → EReal) (b : Fin A) (h : Fin H) (t : Fin T) (d : Fin C) : EReal :=
  ∑ s : Fin T, if s.val ≤ t.val then X (ix4 b h s d) else 0

/-- The host's padded window sum along the third axis is the running sum. -/
theorem window_eq {A H T C : Nat} (P : Nat) (hP : P + 1 = T) (X : FVec Ideal ⟨4, ![A, H, T, C]⟩ .f32)
    (init : FVec Ideal ⟨0, ![]⟩ .f32) (h0 : ∀ i, init i = 0)
    (hw : Shape.ReduceWindows (s := ⟨4, ![A, H, T, C]⟩) ![1, 1, T, 1] ![1, 1, 1, 1] ![0, 0, P, 0] ![0, 0, 0, 0] ⟨4, ![A, H, T, C]⟩)
    (hu : 0 < (⟨0, ![]⟩ : Shape).numel) (b : Fin A) (h : Fin H) (t : Fin T) (d : Fin C) :
    Host.reduceWindowAdd (s := ⟨4, ![A, H, T, C]⟩) (t := ⟨4, ![A, H, T, C]⟩) (u := ⟨0, ![]⟩)
      ![1, 1, T, 1] ![1, 1, 1, 1] ![0, 0, P, 0] ![0, 0, 0, 0] X init hw hu (ix4 b h t d)
      = run (fun i => X i) b h t d := by
  unfold Host.reduceWindowAdd
  rw [Ideal.hostReduceWindowAdd_def]
  unfold Ideal.hostReduceWindowAdd Host.reduceWindow
  refine (foldl_add _ _).trans ?_
  rw [h0, zero_add]
  let F : (⟨4, ![1, 1, T, 1]⟩ : Shape).Idx → EReal := fun w =>
    if hin : ∀ a : Fin 4, (![0, 0, P, 0] : Fin 4 → Nat) a ≤ (ix4 b h t d a).val * (![1, 1, 1, 1] : Fin 4 → Nat) a + (w a).val ∧
        (ix4 b h t d a).val * (![1, 1, 1, 1] : Fin 4 → Nat) a + (w a).val - (![0, 0, P, 0] : Fin 4 → Nat) a < (![A, H, T, C] : Fin 4 → Nat) a then
      X (fun a => ⟨(ix4 b h t d a).val * (![1, 1, 1, 1] : Fin 4 → Nat) a + (w a).val - (![0, 0, P, 0] : Fin 4 → Nat) a, (hin a).2⟩) else 0
  refine ((Finset.sum_congr rfl fun n _ => ?_).trans (Equiv.sum_comp (⟨4, ![1, 1, T, 1]⟩ : Shape).rowMajor.symm F)).trans ?_
  · simp only [F]
    rfl
  rw [sum_idx4]
  simp only [Fin.sum_univ_one]
  have hF : ∀ w : Fin T, F (ix4 0 0 w 0) = if hp : P ≤ t.val + w.val then X (ix4 b h ⟨t.val + w.val - P, by omega⟩ d) else 0 := by
    intro w
    by_cases hp : P ≤ t.val + w.val
    · have hin : ∀ a : Fin 4, (![0, 0, P, 0] : Fin 4 → Nat) a ≤ (ix4 b h t d a).val * (![1, 1, 1, 1] : Fin 4 → Nat) a + ((ix4 (0 : Fin 1) (0 : Fin 1) w (0 : Fin 1)) a).val ∧
        (ix4 b h t d a).val * (![1, 1, 1, 1] : Fin 4 → Nat) a + ((ix4 (0 : Fin 1) (0 : Fin 1) w (0 : Fin 1)) a).val - (![0, 0, P, 0] : Fin 4 → Nat) a < (![A, H, T, C] : Fin 4 → Nat) a := by
        intro a
        fin_cases a <;> simp <;> omega
      simp only [F]
      rw [dif_pos hin, dif_pos hp]
      refine congrArg X (funext fun a => Fin.ext ?_)
      fin_cases a <;> simp
    · simp only [F]
      rw [dif_neg hp, dif_neg]
      intro hin
      have := (hin 2).1
      simp at this
      omega
  simp only [hF]
  unfold run
  refine Finset.sum_bij_ne_zero (fun w hw hne => if hp : P ≤ t.val + w.val then (⟨t.val + w.val - P, by omega⟩ : Fin T) else w) ?_ ?_ ?_ ?_
  · intro w _ _; exact Finset.mem_univ _
  · intro w _ hne w' _ hne' he
    have hp : P ≤ t.val + w.val := by by_contra hp; exact hne (dif_neg hp)
    have hp' : P ≤ t.val + w'.val := by by_contra hp; exact hne' (dif_neg hp)
    simp only [dif_pos hp, dif_pos hp', Fin.mk.injEq] at he
    exact Fin.ext (by omega)
  · intro s _ hne
    have hs : s.val ≤ t.val := by by_contra hs; exact hne (if_neg hs)
    have hp : P ≤ t.val + (s.val + P - t.val) := by omega
    have e : (⟨t.val + (s.val + P - t.val) - P, by omega⟩ : Fin T) = s := Fin.ext (by simp; omega)
    refine ⟨⟨s.val + P - t.val, by omega⟩, Finset.mem_univ _, ?_, ?_⟩
    · rw [dif_pos hp]
      rw [if_pos hs] at hne
      rw [e]; exact hne
    · rw [dif_pos hp]; exact e
  · intro w _ hne
    have hp : P ≤ t.val + w.val := by by_contra hp; exact hne (dif_neg hp)
    simp only [dif_pos hp]
    rw [if_pos (by show t.val + w.val - P ≤ t.val; omega)]

end Cert.Scan
-- ==== Proof.GlaBlock.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.KernelIdeal.Frame
public import proofs.«01_k».proof.Proof.Scan

/-! What the step kernel of the recurrence leaves in its two blocks, as sums over the block's tokens. -/

@[expose] public section

set_option maxRecDepth 16384

noncomputable section

open Idealize.ShloMosaic Idealize.ShloMosaic.TcCoe Idealize.SL.Sem
open Idealize.ShloMosaic.Pipeline (Dat)

namespace Cert.GlaStep
open Cert.KernelIdeal Cert.KernelIdeal.Gen

variable (m : (ℓ : Loc nD τ sig) → Buf (Elt Ideal) ℓ)

/-- A sum whose terms are kept on the diagonal only is the diagonal's term. -/
theorem diag_sum (c : Fin 64) (f : Fin 64 → EReal) :
    ∑ j : Fin 64, Scalar.select (IntOp.cmpi .eq (BitVec.ofNat 32 c.val) (BitVec.ofNat 32 j.val)) (f j) 0 = f c := by
  rw [Finset.sum_eq_single c]
  · simp [Scalar.select, IntOp.cmpi]
  · intro j _ hj
    have hne : BitVec.ofNat 32 c.val ≠ BitVec.ofNat 32 j.val := by
      intro e
      have := congrArg BitVec.toNat e
      simp only [BitVec.toNat_ofNat] at this
      omega
    have hb : (BitVec.ofNat 32 c.val == BitVec.ofNat 32 j.val) = false := by simpa using hne
    simp [Scalar.select, IntOp.cmpi, hb]
  · intro h; exact absurd (Finset.mem_univ _) h

/-- The state block the kernel stores, over the summed log decays `B`. -/
def stateOf (B : FVec Ideal S64x256 .f32) (K : FVec Ideal S64x256 .f32) (W : FVec Ideal S64x512 .f32)
    (S : FVec Ideal S8x4x64x128 .f32) (s : Fin 8) (h : Fin 4) (d : Fin 64) (e : Fin 128) : EReal :=
  Ideal.exp (B (ix2 ⟨8 * s.val + 7, by omega⟩ ⟨64 * h.val + d.val, by omega⟩)) * S (ix4 s h d e)
    + ∑ t : Fin 8, (K (ix2 ⟨8 * s.val + t.val, by omega⟩ ⟨64 * h.val + d.val, by omega⟩)
        * Ideal.exp (B (ix2 ⟨8 * s.val + 7, by omega⟩ ⟨64 * h.val + d.val, by omega⟩)
            - B (ix2 ⟨8 * s.val + t.val, by omega⟩ ⟨64 * h.val + d.val, by omega⟩)))
        * W (ix2 ⟨8 * s.val + t.val, by omega⟩ ⟨128 * h.val + e.val, by omega⟩)

/-- Each store of the state block is the state's formula at its place. -/
theorem state_block (x0 x1 : FVec Ideal S64x256 .f32) (x2 : FVec Ideal S64x512 .f32) (x3 : FVec Ideal S64x256 .f32)
    (x4 : FVec Ideal S64x64 .bf16) (x5 : FVec Ideal S8x4x64x128 .f32) (y : S8x4x64x128.Idx) :
    out0_7 (F := Ideal) x0 x1 x2 x3 x4 x5 y = stateOf (k0_pay2 (F := Ideal) x3 x4) x1 x2 x5 (y 0) (y 1) (y 2) (y 3) := by
  canon_tiles x h
  all_goals
    open_payloads
    pointwise [stateOf]
    refine Ideal.add_congr (Ideal.mul_congr ((diag_sum _ _).trans ?_) ?_) ?_
    all_goals blk_point []

end Cert.GlaStep
-- ==== Proof.GlaRows.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.KernelIdeal.Frame
public import proofs.«01_k».proof.Proof.Scan

/-! What the step kernel of the recurrence leaves in its block of outputs, as sums over the block's tokens. -/

@[expose] public section

set_option maxRecDepth 16384

noncomputable section

open Idealize.ShloMosaic Idealize.ShloMosaic.TcCoe Idealize.SL.Sem
open Idealize.ShloMosaic.Pipeline (Dat)

namespace Cert.GlaStep
open Cert.KernelIdeal Cert.KernelIdeal.Gen

/-- The output rows the kernel stores, over the summed log decays `B`. -/
def rowOf (B : FVec Ideal S64x256 .f32) (Q K : FVec Ideal S64x256 .f32) (W : FVec Ideal S64x512 .f32)
    (S : FVec Ideal S8x4x64x128 .f32) (s : Fin 8) (t : Fin 8) (h : Fin 4) (e : Fin 128) : EReal :=
  (∑ d : Fin 64, (Q (ix2 ⟨8 * s.val + t.val, by omega⟩ ⟨64 * h.val + d.val, by omega⟩)
        * Ideal.exp (B (ix2 ⟨8 * s.val + t.val, by omega⟩ ⟨64 * h.val + d.val, by omega⟩))) * S (ix4 s h d e))
    + ∑ u : Fin 8, Scalar.select (IntOp.cmpi .sle (BitVec.ofNat 32 u.val) (BitVec.ofNat 32 t.val))
        (∑ d : Fin 64, (Q (ix2 ⟨8 * s.val + t.val, by omega⟩ ⟨64 * h.val + d.val, by omega⟩)
            * Ideal.exp (B (ix2 ⟨8 * s.val + t.val, by omega⟩ ⟨64 * h.val + d.val, by omega⟩)))
          * (K (ix2 ⟨8 * s.val + u.val, by omega⟩ ⟨64 * h.val + d.val, by omega⟩)
            * Ideal.exp (0 - B (ix2 ⟨8 * s.val + u.val, by omega⟩ ⟨64 * h.val + d.val, by omega⟩)))) 0
        * W (ix2 ⟨8 * s.val + u.val, by omega⟩ ⟨128 * h.val + e.val, by omega⟩)

set_option maxHeartbeats 4000000 in
/-- The output block is the output's formula at each place. -/
theorem row_block (x0 x1 : FVec Ideal S64x256 .f32) (x2 : FVec Ideal S64x512 .f32) (x3 : FVec Ideal S64x256 .f32)
    (x4 : FVec Ideal S64x64 .bf16) (x5 : FVec Ideal S8x4x64x128 .f32) (s t : Fin 8) (h : Fin 4) (e : Fin 128) :
    out0_6 (F := Ideal) x0 x1 x2 x3 x4 x5 (ix2 ⟨8 * s.val + t.val, by omega⟩ ⟨128 * h.val + e.val, by omega⟩)
      = rowOf (k0_pay2 (F := Ideal) x3 x4) x0 x1 x2 x5 s t h e := by
  frame_out
  pointwise [k0_pay1]
  fin_vals s with hs
  all_goals simp (disch := omega) only [↓dif_pos, ↓dif_neg]
  all_goals try pointwise [k0_pay27, k0_pay47, k0_pay62, k0_pay82, k0_pay100, k0_pay119, k0_pay138]
  all_goals fin_vals h with hh
  all_goals
    simp (disch := omega) only [↓dif_pos, ↓dif_neg]
    open_payloads
    pointwise [rowOf, k0_pay157, k0_pay158]
    blk_point []
  all_goals exact congrArg (BitVec.ofNat 32) (by omega)

end Cert.GlaStep
-- ==== Proof.GlaValue.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.KernelIdeal.Frame
public import proofs.«01_k».proof.Proof.GlaBlock
public import proofs.«01_k».proof.Proof.GlaRows
public import proofs.«01_k».proof.Proof.Gen.ReferenceIdeal
public import proofs.«01_k».proof.Proof.Gen.Pre_decay_below_top

/-! The step of the recurrence: the two result arrays are the reference's. -/

@[expose] public section

set_option maxRecDepth 16384

noncomputable section

open Idealize.ShloMosaic Idealize.ShloMosaic.TcCoe Idealize.SL.Sem
open Idealize.ShloMosaic.Pipeline (Dat)

namespace Cert.GlaStep
open Cert.KernelIdeal Cert.KernelIdeal.Gen

variable (m : (ℓ : Loc nD τ sig) → Buf (Elt Ideal) ℓ)

/-- The reference's summed log decays. -/
def CUM (a3 : FVec Ideal Cert.ReferenceIdeal.S1024x256 .f32) : FVec Ideal Cert.ReferenceIdeal.S128x4x8x64 .f32 :=
  Host.reduceWindowAdd ![1, 1, 8, 1] ![1, 1, 1, 1] ![0, 0, 7, 0] ![0, 0, 0, 0] (transpose Cert.ReferenceIdeal.S128x4x8x64 [0, 2, 1, 3] (shapeCast _ a3 Cert.ReferenceIdeal.Gen.shapeCasts_S1024x256_S128x8x4x64) Cert.ReferenceIdeal.Gen.transposes_S128x8x4x64_S128x4x8x64_0_2_1_3) (broadcastInDim Cert.ReferenceIdeal.S_ ![] Cert.ReferenceIdeal.Gen.bcast_S_S_ (constant Cert.ReferenceIdeal.S_ .f32 0x00000000#32)) Cert.ReferenceIdeal.Gen.reduceWindows_S128x4x8x64_S128x4x8x64_w1s1p0_0_w1s1p0_0_w8s1p7_0_w1s1p0_0 Cert.ReferenceIdeal.Gen.h_S_

/-- The reference's output array over the arguments. -/
def REFO (a0 : FVec Ideal Cert.ReferenceIdeal.S1024x256 .f32) (a1 : FVec Ideal Cert.ReferenceIdeal.S1024x256 .f32) (a2 : FVec Ideal Cert.ReferenceIdeal.S1024x512 .f32) (a3 : FVec Ideal Cert.ReferenceIdeal.S1024x256 .f32) (a4 : FVec Ideal Cert.ReferenceIdeal.S1x128x4x64x128 .f32) : FVec Ideal Cert.ReferenceIdeal.S1024x512 .f32 :=
  shapeCast _ (transpose Cert.ReferenceIdeal.S128x8x4x128 [0, 2, 1, 3] (addf (Host.dotGeneral Cert.ReferenceIdeal.dot_S128x4x8x64_S128x4x64x128_S128x4x8x128_3_2_2_3_01_01 none (mulf (transpose Cert.ReferenceIdeal.S128x4x8x64 [0, 2, 1, 3] (shapeCast _ a0 Cert.ReferenceIdeal.Gen.shapeCasts_S1024x256_S128x8x4x64) Cert.ReferenceIdeal.Gen.transposes_S128x8x4x64_S128x4x8x64_0_2_1_3) (Host.exp (CUM a3))) (shapeCast _ a4 Cert.ReferenceIdeal.Gen.shapeCasts_S1x128x4x64x128_S128x4x64x128)) (Host.dotGeneral Cert.ReferenceIdeal.dot_S128x4x8x8_S128x4x8x128_S128x4x8x128_3_2_2_3_01_01 none (Host.reduceAdd (mulf (mulf (broadcastInDim Cert.ReferenceIdeal.S128x4x8x8x64 ![0, 1, 2, 3, 4] Cert.ReferenceIdeal.Gen.bcast_S128x4x8x1x64_S128x4x8x8x64_0_1_2_3_4 (broadcastInDim Cert.ReferenceIdeal.S128x4x8x1x64 ![0, 1, 2, 4] Cert.ReferenceIdeal.Gen.bcast_S128x4x8x64_S128x4x8x1x64_0_1_2_4 (transpose Cert.ReferenceIdeal.S128x4x8x64 [0, 2, 1, 3] (shapeCast _ a0 Cert.ReferenceIdeal.Gen.shapeCasts_S1024x256_S128x8x4x64) Cert.ReferenceIdeal.Gen.transposes_S128x8x4x64_S128x4x8x64_0_2_1_3))) (Host.exp (select (broadcastInDim Cert.ReferenceIdeal.S128x4x8x8x64 ![0, 1, 2, 3, 4] Cert.ReferenceIdeal.Gen.bcast_S1x1x8x8x1_S128x4x8x8x64_0_1_2_3_4 (broadcastInDim Cert.ReferenceIdeal.S1x1x8x8x1 ![2, 3] Cert.ReferenceIdeal.Gen.bcast_S8x8_S1x1x8x8x1_2_3 (select (cmpi .sge (addi (iotaInDim Cert.ReferenceIdeal.S8x8 32 0) (broadcastInDim Cert.ReferenceIdeal.S8x8 ![] Cert.ReferenceIdeal.Gen.bcast_S_S8x8 (constantI Cert.ReferenceIdeal.S_ 32 0#32))) (iotaInDim Cert.ReferenceIdeal.S8x8 32 1)) (broadcastInDim Cert.ReferenceIdeal.S8x8 ![] Cert.ReferenceIdeal.Gen.bcast_S_S8x8 (constantI Cert.ReferenceIdeal.S_ 1 1#1)) (broadcastInDim Cert.ReferenceIdeal.S8x8 ![] Cert.ReferenceIdeal.Gen.bcast_S_S8x8 (constantI Cert.ReferenceIdeal.S_ 1 0#1))))) (subf (broadcastInDim Cert.ReferenceIdeal.S128x4x8x8x64 ![0, 1, 2, 3, 4] Cert.ReferenceIdeal.Gen.bcast_S128x4x8x1x64_S128x4x8x8x64_0_1_2_3_4 (broadcastInDim Cert.ReferenceIdeal.S128x4x8x1x64 ![0, 1, 2, 4] Cert.ReferenceIdeal.Gen.bcast_S128x4x8x64_S128x4x8x1x64_0_1_2_4 (CUM a3))) (broadcastInDim Cert.ReferenceIdeal.S128x4x8x8x64 ![0, 1, 2, 3, 4] Cert.ReferenceIdeal.Gen.bcast_S128x4x1x8x64_S128x4x8x8x64_0_1_2_3_4 (broadcastInDim Cert.ReferenceIdeal.S128x4x1x8x64 ![0, 1, 3, 4] Cert.ReferenceIdeal.Gen.bcast_S128x4x8x64_S128x4x1x8x64_0_1_3_4 (CUM a3)))) (broadcastInDim Cert.ReferenceIdeal.S128x4x8x8x64 ![] Cert.ReferenceIdeal.Gen.bcast_S_S128x4x8x8x64 (id (constant Cert.ReferenceIdeal.S_ .f32 0xFF800000#32)))))) (broadcastInDim Cert.ReferenceIdeal.S128x4x8x8x64 ![0, 1, 2, 3, 4] Cert.ReferenceIdeal.Gen.bcast_S128x4x1x8x64_S128x4x8x8x64_0_1_2_3_4 (broadcastInDim Cert.ReferenceIdeal.S128x4x1x8x64 ![0, 1, 3, 4] Cert.ReferenceIdeal.Gen.bcast_S128x4x8x64_S128x4x1x8x64_0_1_3_4 (transpose Cert.ReferenceIdeal.S128x4x8x64 [0, 2, 1, 3] (shapeCast _ a1 Cert.ReferenceIdeal.Gen.shapeCasts_S1024x256_S128x8x4x64) Cert.ReferenceIdeal.Gen.transposes_S128x8x4x64_S128x4x8x64_0_2_1_3)))) (constant Cert.ReferenceIdeal.S_ .f32 0x00000000#32) Cert.ReferenceIdeal.Gen.reducesTo_S128x4x8x8x64_S128x4x8x8_d4 Cert.ReferenceIdeal.Gen.h_S_) (transpose Cert.ReferenceIdeal.S128x4x8x128 [0, 2, 1, 3] (shapeCast _ a2 Cert.ReferenceIdeal.Gen.shapeCasts_S1024x512_S128x8x4x128) Cert.ReferenceIdeal.Gen.transposes_S128x8x4x128_S128x4x8x128_0_2_1_3))) Cert.ReferenceIdeal.Gen.transposes_S128x4x8x128_S128x8x4x128_0_2_1_3) Cert.ReferenceIdeal.Gen.shapeCasts_S128x8x4x128_S1024x512

/-- The reference's state array over the arguments. -/
def REFS (a0 : FVec Ideal Cert.ReferenceIdeal.S1024x256 .f32) (a1 : FVec Ideal Cert.ReferenceIdeal.S1024x256 .f32) (a2 : FVec Ideal Cert.ReferenceIdeal.S1024x512 .f32) (a3 : FVec Ideal Cert.ReferenceIdeal.S1024x256 .f32) (a4 : FVec Ideal Cert.ReferenceIdeal.S1x128x4x64x128 .f32) : FVec Ideal Cert.ReferenceIdeal.S128x4x64x128 .f32 :=
  addf (mulf (broadcastInDim Cert.ReferenceIdeal.S128x4x64x128 ![0, 1, 2, 3] Cert.ReferenceIdeal.Gen.bcast_S128x4x64x1_S128x4x64x128_0_1_2_3 (broadcastInDim Cert.ReferenceIdeal.S128x4x64x1 ![0, 1, 2] Cert.ReferenceIdeal.Gen.bcast_S128x4x64_S128x4x64x1_0_1_2 (Host.exp (shapeCast _ (extractStridedSlice Cert.ReferenceIdeal.S128x4x1x64 ![0, 0, 7, 0] (CUM a3) Cert.ReferenceIdeal.Gen.slices_S128x4x8x64_S128x4x1x64_0_0_7_0) Cert.ReferenceIdeal.Gen.shapeCasts_S128x4x1x64_S128x4x64)))) (shapeCast _ a4 Cert.ReferenceIdeal.Gen.shapeCasts_S1x128x4x64x128_S128x4x64x128)) (Host.dotGeneral Cert.ReferenceIdeal.dot_S128x4x8x64_S128x4x8x128_S128x4x64x128_2_2_3_3_01_01 none (mulf (transpose Cert.ReferenceIdeal.S128x4x8x64 [0, 2, 1, 3] (shapeCast _ a1 Cert.ReferenceIdeal.Gen.shapeCasts_S1024x256_S128x8x4x64) Cert.ReferenceIdeal.Gen.transposes_S128x8x4x64_S128x4x8x64_0_2_1_3) (Host.exp (subf (broadcastInDim Cert.ReferenceIdeal.S128x4x8x64 ![0, 1, 2, 3] Cert.ReferenceIdeal.Gen.bcast_S128x4x1x64_S128x4x8x64_0_1_2_3 (broadcastInDim Cert.ReferenceIdeal.S128x4x1x64 ![0, 1, 3] Cert.ReferenceIdeal.Gen.bcast_S128x4x64_S128x4x1x64_0_1_3 (shapeCast _ (extractStridedSlice Cert.ReferenceIdeal.S128x4x1x64 ![0, 0, 7, 0] (CUM a3) Cert.ReferenceIdeal.Gen.slices_S128x4x8x64_S128x4x1x64_0_0_7_0) Cert.ReferenceIdeal.Gen.shapeCasts_S128x4x1x64_S128x4x64))) (CUM a3)))) (transpose Cert.ReferenceIdeal.S128x4x8x128 [0, 2, 1, 3] (shapeCast _ a2 Cert.ReferenceIdeal.Gen.shapeCasts_S1024x512_S128x8x4x128) Cert.ReferenceIdeal.Gen.transposes_S128x8x4x128_S128x4x8x128_0_2_1_3))

/-- The prefix sum of the log decays of sequence `b`, head `h`, at token `t` and lane `d`. -/
def pre (a3 : FVec Ideal Cert.ReferenceIdeal.S1024x256 .f32) (b : Fin 128) (h : Fin 4) (t : Fin 8) (d : Fin 64) : EReal :=
  ∑ u : Fin 8, if u.val ≤ t.val then a3 (ix2 ⟨8 * b.val + u.val, by omega⟩ ⟨64 * h.val + d.val, by omega⟩) else 0

/-- One output of the step over the prefix sums `P`: the state's part and the causal part of the eight tokens. -/
def outAt (q k : Fin 8 → Fin 64 → EReal) (v : Fin 8 → EReal) (P : Fin 8 → Fin 64 → EReal) (S : Fin 64 → EReal) (t : Fin 8) : EReal :=
  (∑ d : Fin 64, (q t d * Ideal.exp (P t d)) * S d)
    + ∑ u : Fin 8, (if u.val ≤ t.val then ∑ d : Fin 64, q t d * Ideal.exp (P t d - P u d) * k u d else 0) * v u

/-- One entry of the new state over the prefix sums `P` of its lane. -/
def stAt (k v : Fin 8 → EReal) (P : Fin 8 → EReal) (S : EReal) : EReal :=
  Ideal.exp (P 7) * S + ∑ t : Fin 8, (k t * Ideal.exp (P 7 - P t)) * v t

/-- The causal mask of the kernel. -/
theorem mask_le : ∀ t u : Fin 8, IntOp.cmpi .sle (BitVec.ofNat 32 u.val) (BitVec.ofNat 32 t.val) = if u.val ≤ t.val then 1#1 else 0#1 := by
  decide +kernel

/-- The causal mask of the reference. -/
theorem mask_ge : ∀ t u : Fin 8, Scalar.select (IntOp.cmpi .sge (IntOp.addi (BitVec.ofNat 32 t.val) 0#32) (BitVec.ofNat 32 u.val)) 1#1 0#1
    = if u.val ≤ t.val then 1#1 else 0#1 := by
  decide +kernel

/-- A value kept where a condition's bit is set. -/
theorem sel_if (p : Prop) [Decidable p] (a : EReal) : Scalar.select (if p then 1#1 else 0#1) a 0 = if p then a else 0 := by
  by_cases h : p
  · rw [if_pos h, if_pos h]; rfl
  · rw [if_neg h, if_neg h]; rfl

/-- The two decays of a product brought together. -/
theorem regroup (q a k b : EReal) : q * a * (k * b) = q * (a * b) * k := by
  rw [mul_assoc, mul_assoc, mul_assoc, mul_comm k b]

/-- The kernel's output row over the prefix sums. -/
theorem rowOf_eq (B Q K : FVec Ideal S64x256 .f32) (W : FVec Ideal S64x512 .f32)
    (S : FVec Ideal S8x4x64x128 .f32) (s t : Fin 8) (h : Fin 4) (e : Fin 128) (P : Fin 8 → Fin 64 → EReal)
    (hB : ∀ (t : Fin 8) (d : Fin 64), B (ix2 ⟨8 * s.val + t.val, by omega⟩ ⟨64 * h.val + d.val, by omega⟩) = P t d) :
    rowOf B Q K W S s t h e
      = outAt (fun t d => Q (ix2 ⟨8 * s.val + t.val, by omega⟩ ⟨64 * h.val + d.val, by omega⟩))
          (fun t d => K (ix2 ⟨8 * s.val + t.val, by omega⟩ ⟨64 * h.val + d.val, by omega⟩))
          (fun t => W (ix2 ⟨8 * s.val + t.val, by omega⟩ ⟨128 * h.val + e.val, by omega⟩)) P (fun d => S (ix4 s h d e)) t := by
  unfold rowOf outAt
  simp only [hB, mask_le, sel_if, zero_sub, Cert.Scan.exp_sub, regroup]

/-- The kernel's state entry over the prefix sums. -/
theorem stateOf_eq (B K : FVec Ideal S64x256 .f32) (W : FVec Ideal S64x512 .f32)
    (S : FVec Ideal S8x4x64x128 .f32) (s : Fin 8) (h : Fin 4) (d : Fin 64) (e : Fin 128) (P : Fin 8 → EReal)
    (hB : ∀ t : Fin 8, B (ix2 ⟨8 * s.val + t.val, by omega⟩ ⟨64 * h.val + d.val, by omega⟩) = P t) :
    stateOf B K W S s h d e
      = stAt (fun t => K (ix2 ⟨8 * s.val + t.val, by omega⟩ ⟨64 * h.val + d.val, by omega⟩))
          (fun t => W (ix2 ⟨8 * s.val + t.val, by omega⟩ ⟨128 * h.val + e.val, by omega⟩)) P (S (ix4 s h d e)) := by
  unfold stateOf stAt
  have h7 := hB 7
  simp only [hB]
  exact congrArg₂ (· + ·) (congrArg (Ideal.exp · * _) h7) (Finset.sum_congr (M := EReal) rfl fun t _ => congrArg (fun z : EReal => _ * Ideal.exp (z - _) * _) h7)

/-- The reference's summed log decays at an index. -/
theorem cum_at (a3 : FVec Ideal Cert.ReferenceIdeal.S1024x256 .f32) (b : Fin 128) (h : Fin 4) (t : Fin 8) (d : Fin 64) :
    CUM a3 (ix4 b h t d) = pre a3 b h t d := by
  unfold CUM
  refine (Cert.Scan.window_eq 7 rfl _ _ ?_ _ _ b h t d).trans ?_
  · intro i; pointwise
  · unfold Cert.Scan.run pre
    refine Finset.sum_congr rfl fun s _ => ?_
    split_ifs
    · pointwise
      blk_point []
    · rfl

/-- The kernel's summed log decays. -/
theorem kernel_cum (x3 : FVec Ideal S64x256 .f32) (x4 : FVec Ideal S64x64 .bf16)
    (h3 : ∀ i, x3 i ≠ ⊤) (h4 : ∀ r k : Fin 64, x4 (ix2 r k) = if k.val ≤ r.val ∧ r.val / 8 = k.val / 8 then 1 else 0)
    (s t : Fin 8) (c : Fin 256) :
    k0_pay2 (F := Ideal) x3 x4 (ix2 ⟨8 * s.val + t.val, by omega⟩ c)
      = ∑ u : Fin 8, if u.val ≤ t.val then x3 (ix2 ⟨8 * s.val + u.val, by omega⟩ c) else 0 := by
  pointwise [k0_pay2]
  simp only [h4]
  have hx : ∀ x : Fin 64, (if x.val ≤ 8 * s.val + t.val ∧ (8 * s.val + t.val) / 8 = x.val / 8 then (1 : EReal) else 0) * x3 (ix2 x c)
      + (if x.val ≤ 8 * s.val + t.val ∧ (8 * s.val + t.val) / 8 = x.val / 8 then (1 : EReal) else 0) * (x3 (ix2 x c) - x3 (ix2 x c))
      + (if x.val ≤ 8 * s.val + t.val ∧ (8 * s.val + t.val) / 8 = x.val / 8 then (1 : EReal) else 0) * (x3 (ix2 x c) - x3 (ix2 x c) - (x3 (ix2 x c) - x3 (ix2 x c)))
      = if x.val ≤ 8 * s.val + t.val ∧ (8 * s.val + t.val) / 8 = x.val / 8 then x3 (ix2 x c) else 0 := by
    intro x
    split_ifs
    · simp only [one_mul]; exact Cert.Scan.split3 (h3 _)
    · simp only [zero_mul, add_zero]
  rw [← Finset.sum_add_distrib, ← Finset.sum_add_distrib]
  refine (Finset.sum_congr rfl fun x _ => hx x).trans ?_
  rw [Fin.sum_univ_tiles 8 8 rfl, Finset.sum_eq_single s]
  · refine Finset.sum_congr rfl fun u _ => ?_
    have hq : ((⟨s.val * 8 + u.val, by omega⟩ : Fin 64).val ≤ 8 * s.val + t.val ∧ (8 * s.val + t.val) / 8 = (⟨s.val * 8 + u.val, by omega⟩ : Fin 64).val / 8) ↔ u.val ≤ t.val := by
      constructor
      · rintro ⟨h, -⟩; dsimp only at h; omega
      · intro h; constructor <;> dsimp only <;> omega
    refine (if_congr hq ?_ rfl)
    blk_ext
  · intro j _ hj
    refine Finset.sum_eq_zero fun u _ => if_neg ?_
    rintro ⟨-, h⟩
    dsimp only at h
    exact hj (Fin.ext (by omega))
  · intro h; exact absurd (Finset.mem_univ _) h

/-- A block's number as the host computes it: the rounded quotient by eight of a token's row. -/
theorem quot_bits : ∀ r : Fin 64, Scalar.select
      (IntOp.andi (IntOp.cmpi .ne (if BitVec.ofNat 32 r.val = 0 then 0 else if (BitVec.ofNat 32 r.val).msb = true then -1 else 1)
          (if (8#32 : BitVec 32) = 0 then (0 : BitVec 32) else if BitVec.msb (8#32 : BitVec 32) = true then -1 else 1))
        (IntOp.cmpi .ne (IntOp.remsi ArithUnit.host (BitVec.ofNat 32 r.val) 8#32) 0#32))
      (IntOp.subi (IntOp.divsi ArithUnit.host (BitVec.ofNat 32 r.val) 8#32) 1#32)
      (IntOp.divsi ArithUnit.host (BitVec.ofNat 32 r.val) 8#32) = BitVec.ofNat 32 (r.val / 8) := by
  decide +kernel

/-- The bit of the host's block matrix. -/
theorem tri_bits : ∀ r k : Fin 64, IntOp.andi (IntOp.cmpi .sge (BitVec.ofNat 32 r.val) (BitVec.ofNat 32 k.val))
      (IntOp.cmpi .eq (BitVec.ofNat 32 (r.val / 8)) (BitVec.ofNat 32 (k.val / 8))) = if k.val ≤ r.val ∧ r.val / 8 = k.val / 8 then 1#1 else 0#1 := by
  decide +kernel

/-- The block matrix the host prepares. -/
theorem tri_at (c : Dev nD) (r k : Fin 64) :
    (show FVec Ideal S64x64 .bf16 from V m c main_v15) (ix2 r k) = if k.val ≤ r.val ∧ r.val / 8 = k.val / 8 then (1 : EReal) else 0 := by
  refine (congrFun (?e : V m c main_v15 = ?X) (ix2 r k)).trans ?_
  rotate_left
  · unfold V hostOps0 hostOps0_1 hostOps0_2 hostOps0_3 hostOps0_4
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise
    refine (congrArg _ ((congrArg₂ (fun a b => IntOp.andi _ (IntOp.cmpi .eq a b)) (quot_bits r) (quot_bits k)).trans (tri_bits r k))).trans ?_
    split_ifs
    · show (((1#1 : BitVec 1).toNat : ℝ) : EReal) = 1
      simp
    · show (((0#1 : BitVec 1).toNat : ℝ) : EReal) = 0
      simp

/-- Keeping the first on a set bit. -/
theorem sel_one (a b : EReal) : Scalar.select 1#1 a b = a := rfl

/-- Keeping the second on a clear bit. -/
theorem sel_zero (a b : EReal) : Scalar.select 0#1 a b = b := rfl

/-- The constant of the mask is minus infinity. -/
theorem neg_inf : (id (constant (F := Ideal) Cert.ReferenceIdeal.S_ .f32 0xFF800000#32) ix0 : EReal) = ⊥ := by
  show Ideal.ofBits .f32 0xFF800000#32 = ⊥
  simp [Ideal.ofBits, Ideal.ieee]

/-- The reference's state at an index. -/
theorem refs_at (a0 : FVec Ideal Cert.ReferenceIdeal.S1024x256 .f32) (a1 : FVec Ideal Cert.ReferenceIdeal.S1024x256 .f32) (a2 : FVec Ideal Cert.ReferenceIdeal.S1024x512 .f32) (a3 : FVec Ideal Cert.ReferenceIdeal.S1024x256 .f32) (a4 : FVec Ideal Cert.ReferenceIdeal.S1x128x4x64x128 .f32) (b : Fin 128) (h : Fin 4) (d : Fin 64) (e : Fin 128) :
    REFS a0 a1 a2 a3 a4 (ix4 b h d e)
      = stAt (fun t => a1 (ix2 ⟨8 * b.val + t.val, by omega⟩ ⟨64 * h.val + d.val, by omega⟩))
          (fun t => a2 (ix2 ⟨8 * b.val + t.val, by omega⟩ ⟨128 * h.val + e.val, by omega⟩)) (fun t => pre a3 b h t d) (a4 (ix5 0 b h d e)) := by
  pointwise [REFS, stAt]
  simp only [cum_at]
  blk_point []

/-- The reference's output at an index. -/
theorem refo_at (a0 : FVec Ideal Cert.ReferenceIdeal.S1024x256 .f32) (a1 : FVec Ideal Cert.ReferenceIdeal.S1024x256 .f32) (a2 : FVec Ideal Cert.ReferenceIdeal.S1024x512 .f32) (a3 : FVec Ideal Cert.ReferenceIdeal.S1024x256 .f32) (a4 : FVec Ideal Cert.ReferenceIdeal.S1x128x4x64x128 .f32) (b : Fin 128) (h : Fin 4) (t : Fin 8) (e : Fin 128) :
    REFO a0 a1 a2 a3 a4 (ix2 ⟨8 * b.val + t.val, by omega⟩ ⟨128 * h.val + e.val, by omega⟩)
      = outAt (fun t d => a0 (ix2 ⟨8 * b.val + t.val, by omega⟩ ⟨64 * h.val + d.val, by omega⟩))
          (fun t d => a1 (ix2 ⟨8 * b.val + t.val, by omega⟩ ⟨64 * h.val + d.val, by omega⟩))
          (fun t => a2 (ix2 ⟨8 * b.val + t.val, by omega⟩ ⟨128 * h.val + e.val, by omega⟩)) (fun t d => pre a3 b h t d) (fun d => a4 (ix5 0 b h d e)) t := by
  pointwise [REFO, outAt]
  simp only [cum_at, mask_ge]
  refine Ideal.add_congr ?_ (Finset.sum_congr rfl fun u _ => Ideal.mul_congr ?_ ?_)
  · blk_point []
  · split_ifs
    · simp only [sel_one]
      blk_point []
    · refine Finset.sum_eq_zero fun d _ => ?_
      rw [sel_zero, neg_inf, Ideal.exp_bot, mul_zero, zero_mul]
  · blk_point []

/-- The state entering, as the host reshapes it. -/
theorem state_at (c : Dev nD) (b : Fin 128) (h : Fin 4) (d : Fin 64) (e : Fin 128) :
    (show FVec Ideal S128x4x64x128 .f32 from V m c main_v0) (ix4 b h d e)
      = (show FVec Ideal S1x128x4x64x128 .f32 from m ((c : Thread nD τ).loc main_arg4)) (ix5 0 b h d e) := by
  refine (congrFun (?e : V m c main_v0 = ?X) (ix4 b h d e)).trans ?_
  rotate_left
  · unfold V hostOps0 hostOps0_1 hostOps0_2 hostOps0_3 hostOps0_4
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise

/-- The windows' index maps. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0, 0, 0] ∧ win0_6.index t = ![t.val, 0] ∧ win0_7.index t = ![t.val, 0, 0, 0] :=
  (by decide +kernel : ∀ t : Fin grid0.N, _)

/-- The state entering at a place of a grid point's block. -/
theorem state_blk (c : Dev nD) (t : Fin cfg0.N) (s : Fin 8) (h : Fin 4) (d : Fin 64) (e : Fin 128) :
    (show FVec Ideal S128x4x64x128 .f32 from V m c main_v0) ((win0_5.blk t).view.emb (ix4 s h d e))
      = (show FVec Ideal S1x128x4x64x128 .f32 from m ((c : Thread nD τ).loc main_arg4))
          (ix5 0 ⟨8 * t.val + s.val, by have := lt_of_lt_of_eq t.isLt N_0; omega⟩ h d e) := by
  have ht : t.val < 16 := lt_of_lt_of_eq t.isLt N_0
  have he : (win0_5.blk t).view.emb (ix4 s h d e) = ix4 (⟨8 * t.val + s.val, by omega⟩ : Fin 128) h d e := by
    blk_ext [idx t]
  exact (congrArg _ he).trans (state_at m c _ h d e)

/-- The block's summed log decays are the reference's prefix sums, where no log decay is the top. -/
theorem block_cum (c : Dev nD) (hd : ∀ i, (show FVec Ideal S1024x256 .f32 from m ((c : Thread nD τ).loc main_arg3)) i ≠ ⊤)
    (t : Fin cfg0.N) (s : Fin 8) (h : Fin 4) (b : Fin 128) (hb : b.val = 8 * t.val + s.val) (u : Fin 8) (d : Fin 64) :
    k0_pay2 (F := Ideal) (iblk m c 3 t) (iblk m c 4 t) (ix2 ⟨8 * s.val + u.val, by omega⟩ ⟨64 * h.val + d.val, by omega⟩)
      = pre (m ((c : Thread nD τ).loc main_arg3)) b h u d := by
  have ht : t.val < 16 := lt_of_lt_of_eq t.isLt N_0
  refine (kernel_cum _ _ (fun i => ?_) (fun r k => ?_) s u ⟨64 * h.val + d.val, by omega⟩).trans ?_
  · blk_simp [iblk, V]
    exact hd _
  · refine Eq.trans ?_ (tri_at m c r k)
    blk_simp [iblk]
    blk_ext [idx t]
  · unfold pre
    refine Finset.sum_congr rfl fun v _ => if_congr Iff.rfl ?_ rfl
    blk_ext [iblk, V, idx t]

/-- The state the body stores is the reference's where the block sits. -/
theorem points (c : Dev nD) (hd : ∀ i, (show FVec Ideal S1024x256 .f32 from m ((c : Thread nD τ).loc main_arg3)) i ≠ ⊤)
    (t : Fin cfg0.N) (y : S8x4x64x128.Idx) :
    out0_7 (F := Ideal) (iblk m c 0 t) (iblk m c 1 t) (iblk m c 2 t) (iblk m c 3 t) (iblk m c 4 t) (iblk m c 5 t) y
      = REFS (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  obtain ⟨s, h, d, e, rfl⟩ : ∃ (s : Fin 8) (h : Fin 4) (d : Fin 64) (e : Fin 128), y = ix4 s h d e := ⟨y 0, y 1, y 2, y 3, by blk_ext⟩
  have ht : t.val < 16 := lt_of_lt_of_eq t.isLt N_0
  have he : ((cfg0.win 7).blk t).view.emb (ix4 s h d e) = ix4 (⟨8 * t.val + s.val, by omega⟩ : Fin 128) h d e := by
    blk_ext [idx t]
  refine (state_block _ _ _ _ _ _ _).trans ((stateOf_eq _ _ _ _ s h d e _ fun u => block_cum m c hd t s h ⟨8 * t.val + s.val, by omega⟩ rfl u d).trans
    (Eq.trans ?_ ((congrArg _ he).trans (refs_at _ _ _ _ _ _ _ _ _)).symm))
  pointwise [stAt]
  blk_point [iblk, V, idx t]
  exact state_blk m c t s h d e

/-- The output the body stores is the reference's where the block sits. -/
theorem pointo (c : Dev nD) (hd : ∀ i, (show FVec Ideal S1024x256 .f32 from m ((c : Thread nD τ).loc main_arg3)) i ≠ ⊤)
    (t : Fin cfg0.N) (y : S64x512.Idx) :
    out0_6 (F := Ideal) (iblk m c 0 t) (iblk m c 1 t) (iblk m c 2 t) (iblk m c 3 t) (iblk m c 4 t) (iblk m c 5 t) y
      = REFO (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨s, u, h, e, rfl⟩ : ∃ (s u : Fin 8) (h : Fin 4) (e : Fin 128), y = ix2 (⟨8 * s.val + u.val, by omega⟩ : Fin 64) (⟨128 * h.val + e.val, by omega⟩ : Fin 512) := by
    have h0 : (y 0).val < 64 := (y 0).isLt
    have h1 : (y 1).val < 512 := (y 1).isLt
    refine ⟨⟨(y 0).val / 8, by omega⟩, ⟨(y 0).val % 8, by omega⟩, ⟨(y 1).val / 128, by omega⟩, ⟨(y 1).val % 128, by omega⟩, ?_⟩
    blk_ext
  have ht : t.val < 16 := lt_of_lt_of_eq t.isLt N_0
  have he : ((cfg0.win 6).blk t).view.emb (ix2 (⟨8 * s.val + u.val, by omega⟩ : Fin 64) (⟨128 * h.val + e.val, by omega⟩ : Fin 512))
      = ix2 (⟨8 * (⟨8 * t.val + s.val, by omega⟩ : Fin 128).val + u.val, by omega⟩ : Fin 1024) (⟨128 * h.val + e.val, by omega⟩ : Fin 512) := by
    blk_ext [idx t]
  refine (row_block _ _ _ _ _ _ s u h e).trans ((rowOf_eq _ _ _ _ _ s u h e _ fun u d => block_cum m c hd t s h ⟨8 * t.val + s.val, by omega⟩ rfl u d).trans
    (Eq.trans ?_ ((congrArg _ he).trans (refo_at _ _ _ _ _ _ _ _ _)).symm))
  pointwise [outAt]
  blk_point [iblk, V, idx t]
  exact state_blk m c t s h _ e

/-- The output array after the run. -/
theorem finalo (c : Dev nD) (hd : ∀ i, (show FVec Ideal S1024x256 .f32 from m ((c : Thread nD τ).loc main_arg3)) i ≠ ⊤) :
    (dats m 0 c).arrAt 6 (cfgs 0).N = REFO (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact pointo m c hd t y

/-- The state array after the run. -/
theorem finals (c : Dev nD) (hd : ∀ i, (show FVec Ideal S1024x256 .f32 from m ((c : Thread nD τ).loc main_arg3)) i ≠ ⊤) :
    (dats m 0 c).arrAt 7 (cfgs 0).N = REFS (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  exact points m c hd t y

/-- The precondition read: no log decay is the top. -/
theorem below_top (a0 a1 : FVec Ideal Cert.Pre_decay_below_top.S1024x256 .f32) (a2 : FVec Ideal Cert.Pre_decay_below_top.S1024x512 .f32)
    (a3 : FVec Ideal Cert.Pre_decay_below_top.S1024x256 .f32) (a4 : FVec Ideal Cert.Pre_decay_below_top.S1x128x4x64x128 .f32)
    (h : Cert.Pre_decay_below_top.fn (F := Ideal) a0 a1 a2 a3 a4 = fun _ => 1#1) (i : Cert.Pre_decay_below_top.S1024x256.Idx) : a3 i ≠ ⊤ := by
  intro e
  have := congrFun h i
  revert this
  pointwise [Cert.Pre_decay_below_top.fn]
  rw [e]
  simp

end Cert.GlaStep
-- ==== Proof.GlaState.lean ====
module
public import Idealize.ShloMosaic.Init
public import Idealize.ShloMosaic.Lib.Claim
public import Idealize.ShloMosaic.Lib.Pointwise
public import proofs.«01_k».proof.Proof.Scan

/-! The state of the prompt's recurrence after each chunk of 64 tokens, over the arguments. -/

@[expose] public section

noncomputable section

open Idealize.ShloMosaic

namespace Cert.Prompt

/-- One entry of the state after a chunk, over the summed log decays of its lane. -/
def chunk (k v B : Fin 64 → EReal) (S : EReal) : EReal :=
  S * Ideal.exp (B 63) + ∑ t : Fin 64, v t * (k t * Ideal.exp (B 63 - B t))

/-- The summed log decays of chunk `n` of sequence `b`, head `h`, lane `d`, up to token `t`. -/
def decay (a3 : FVec Ideal ⟨2, ![16384, 256]⟩ .f32) (b h : Fin 4) (n d t : Fin 64) : EReal :=
  ∑ u : Fin 64, if u.val ≤ t.val then a3 (ix2 ⟨4096 * b.val + 64 * n.val + u.val, by omega⟩ ⟨64 * h.val + d.val, by omega⟩) else 0

/-- One entry of the state after chunk `n` of a sequence. -/
def chunkAt (a1 : FVec Ideal ⟨2, ![16384, 256]⟩ .f32) (a2 : FVec Ideal ⟨2, ![16384, 512]⟩ .f32) (a3 : FVec Ideal ⟨2, ![16384, 256]⟩ .f32)
    (b h : Fin 4) (d : Fin 64) (e : Fin 128) (n : Fin 64) (S : EReal) : EReal :=
  chunk (fun t => a1 (ix2 ⟨4096 * b.val + 64 * n.val + t.val, by omega⟩ ⟨64 * h.val + d.val, by omega⟩))
    (fun t => a2 (ix2 ⟨4096 * b.val + 64 * n.val + t.val, by omega⟩ ⟨128 * h.val + e.val, by omega⟩))
    (decay a3 b h n d) S

/-- One entry of the state after the first `n` chunks. -/
def state (a1 : FVec Ideal ⟨2, ![16384, 256]⟩ .f32) (a2 : FVec Ideal ⟨2, ![16384, 512]⟩ .f32) (a3 : FVec Ideal ⟨2, ![16384, 256]⟩ .f32)
    (b h : Fin 4) (d : Fin 64) (e : Fin 128) : Nat → EReal
  | 0 => 0
  | n + 1 => if hn : n < 64 then chunkAt a1 a2 a3 b h d e ⟨n, hn⟩ (state a1 a2 a3 b h d e n) else 0

/-- The state after one chunk more. -/
theorem state_succ (a1 : FVec Ideal ⟨2, ![16384, 256]⟩ .f32) (a2 : FVec Ideal ⟨2, ![16384, 512]⟩ .f32) (a3 : FVec Ideal ⟨2, ![16384, 256]⟩ .f32)
    (b h : Fin 4) (d : Fin 64) (e : Fin 128) (n : Nat) (hn : n < 64) :
    state a1 a2 a3 b h d e (n + 1) = chunkAt a1 a2 a3 b h d e ⟨n, hn⟩ (state a1 a2 a3 b h d e n) := by
  rw [state, dif_pos hn]

/-- The state after the prompt's 64 chunks. -/
def final (a1 : FVec Ideal ⟨2, ![16384, 256]⟩ .f32) (a2 : FVec Ideal ⟨2, ![16384, 512]⟩ .f32) (a3 : FVec Ideal ⟨2, ![16384, 256]⟩ .f32) :
    FVec Ideal ⟨4, ![4, 4, 64, 128]⟩ .f32 := fun i => state a1 a2 a3 (i 0) (i 1) (i 2) (i 3) 64

end Cert.Prompt
-- ==== Proof.GlaScratch.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.KernelGlaIdeal.Value
public import Idealize.ShloMosaic.Lib.Pipeline.ReadBack
public import proofs.«01_k».proof.Proof.GlaState

/-! What a tile of the prompt's recurrence leaves in the carried state. -/

@[expose] public section

set_option maxRecDepth 16384

noncomputable section

open Idealize.ShloMosaic Idealize.ShloMosaic.TcCoe Idealize.SL.Sem
open Idealize.ShloMosaic.Pipeline (Dat)

namespace Cert.Prompt
open Cert.KernelGlaIdeal Cert.KernelGlaIdeal.Gen

variable (m : (ℓ : Loc nD τ sig) → Buf (Elt Ideal) ℓ)

/-- The summed log decays of a chunk, as the kernel forms them from the three parts of the log decays. -/
def cumOf (G : FVec Ideal S4x128x256 .f32) (T : FVec Ideal S64x64 .bf16) (b : Fin 4) (p : Fin 2) (k : Fin 256) (t : Fin 64) : EReal :=
  (∑ s : Fin 64, T (ix2 t s) * G (ix3 b ⟨64 * p.val + s.val, by omega⟩ k))
    + (∑ s : Fin 64, T (ix2 t s) * (G (ix3 b ⟨64 * p.val + s.val, by omega⟩ k) - G (ix3 b ⟨64 * p.val + s.val, by omega⟩ k)))
    + ∑ s : Fin 64, T (ix2 t s) * ((G (ix3 b ⟨64 * p.val + s.val, by omega⟩ k) - G (ix3 b ⟨64 * p.val + s.val, by omega⟩ k))
        - (G (ix3 b ⟨64 * p.val + s.val, by omega⟩ k) - G (ix3 b ⟨64 * p.val + s.val, by omega⟩ k)))

/-- One entry of the state after chunk `p` of a tile. -/
def chunkOf (x1 : FVec Ideal S4x128x256 .f32) (x2 : FVec Ideal S4x128x512 .f32) (x3 : FVec Ideal S4x128x256 .f32) (x4 : FVec Ideal S64x64 .bf16)
    (b h : Fin 4) (d : Fin 64) (e : Fin 128) (p : Fin 2) (S : EReal) : EReal :=
  chunk (fun t => x1 (ix3 b ⟨64 * p.val + t.val, by omega⟩ ⟨64 * h.val + d.val, by omega⟩))
    (fun t => x2 (ix3 b ⟨64 * p.val + t.val, by omega⟩ ⟨128 * h.val + e.val, by omega⟩))
    (cumOf x3 x4 b p ⟨64 * h.val + d.val, by omega⟩) S

/-- A store of one sequence's state read at that sequence. -/
theorem hit (o : Nat) (ho : o < 4) (inb : ∀ a, (![o, 0, 0] : Fin 3 → Nat) a + (![1, 512, 256] : Fin 3 → Nat) a ≤ S4x512x256.size a)
    (w : S1x512x256.Idx → EReal) (L : List (View.Piece (Elt Ideal) S4x512x256 .f32)) (r : Fin 512) (k : Fin 256) (b : Fin 4) (hb : b.val = o) :
    View.canon (Val := Elt Ideal) (e := .f32) (⟨Rect.unit ![o, 0, 0] ![1, 512, 256] inb, w⟩ :: L) (ix3 b r k) = w (ix3 0 r k) := by
  have he : (ix3 b r k : S4x512x256.Idx) = (Rect.unit (s := S4x512x256) ![o, 0, 0] ![1, 512, 256] inb).emb (ix3 (0 : Fin 1) r k) := by
    funext a
    apply Fin.ext
    match a with
    | ⟨0, _⟩ => show b.val = o + 1 * 0; omega
    | ⟨1, _⟩ => show r.val = 0 + 1 * r.val; omega
    | ⟨2, _⟩ => show k.val = 0 + 1 * k.val; omega
  rw [he]
  exact View.canon_cons_emb _ _ _ _

/-- A store of another sequence's state passed over. -/
theorem miss (o : Nat) (inb : ∀ a, (![o, 0, 0] : Fin 3 → Nat) a + (![1, 512, 256] : Fin 3 → Nat) a ≤ S4x512x256.size a)
    (w : S1x512x256.Idx → EReal) (L : List (View.Piece (Elt Ideal) S4x512x256 .f32)) (r : Fin 512) (k : Fin 256) (b : Fin 4) (hb : b.val ≠ o) :
    View.canon (Val := Elt Ideal) (e := .f32) (⟨Rect.unit ![o, 0, 0] ![1, 512, 256] inb, w⟩ :: L) (ix3 b r k) = View.canon L (ix3 b r k) := by
  refine View.canon_cons_of_not_mem _ _ ?_
  rw [Rect.mem_set_unit]
  intro h
  have h0 : o ≤ b.val ∧ b.val < o + 1 := h 0
  omega

/-- A store of one head's state read at that head. -/
theorem hit4 (o p : Nat) (inb : ∀ a, (![o, p, 0, 0] : Fin 4 → Nat) a + (![1, 1, 64, 128] : Fin 4 → Nat) a ≤ S4x4x64x128.size a)
    (w : S1x1x64x128.Idx → EReal) (L : List (View.Piece (Elt Ideal) S4x4x64x128 .f32)) (b h : Fin 4) (d : Fin 64) (e : Fin 128) (hb : b.val = o) (hh : h.val = p) :
    View.canon (Val := Elt Ideal) (e := .f32) (⟨Rect.unit ![o, p, 0, 0] ![1, 1, 64, 128] inb, w⟩ :: L) (ix4 b h d e) = w (ix4 0 0 d e) := by
  have he : (ix4 b h d e : S4x4x64x128.Idx) = (Rect.unit (s := S4x4x64x128) ![o, p, 0, 0] ![1, 1, 64, 128] inb).emb (ix4 (0 : Fin 1) (0 : Fin 1) d e) := by
    funext a
    apply Fin.ext
    match a with
    | ⟨0, _⟩ => show b.val = o + 1 * 0; omega
    | ⟨1, _⟩ => show h.val = p + 1 * 0; omega
    | ⟨2, _⟩ => show d.val = 0 + 1 * d.val; omega
    | ⟨3, _⟩ => show e.val = 0 + 1 * e.val; omega
  rw [he]
  exact View.canon_cons_emb _ _ _ _

/-- A store of another head's state passed over. -/
theorem miss4 (o p : Nat) (inb : ∀ a, (![o, p, 0, 0] : Fin 4 → Nat) a + (![1, 1, 64, 128] : Fin 4 → Nat) a ≤ S4x4x64x128.size a)
    (w : S1x1x64x128.Idx → EReal) (L : List (View.Piece (Elt Ideal) S4x4x64x128 .f32)) (b h : Fin 4) (d : Fin 64) (e : Fin 128) (hb : b.val ≠ o ∨ h.val ≠ p) :
    View.canon (Val := Elt Ideal) (e := .f32) (⟨Rect.unit ![o, p, 0, 0] ![1, 1, 64, 128] inb, w⟩ :: L) (ix4 b h d e) = View.canon L (ix4 b h d e) := by
  refine View.canon_cons_of_not_mem _ _ ?_
  rw [Rect.mem_set_unit]
  intro hm
  have h0 : o ≤ b.val ∧ b.val < o + 1 := hm 0
  have h1 : p ≤ h.val ∧ h.val < p + 1 := hm 1
  omega

/-- A head's block of the scratch, read back, turned and stored: the scratch's entry at the turned index. -/
theorem turned (v : View sig .tc .vmem S4x512x256 .f32) (L : List (View.Piece (Elt Ideal) S4x512x256 .f32)) (o p q : Nat)
    (inb : ∀ a, (![o, p, q] : Fin 3 → Nat) a + (![1, 128, 64] : Fin 3 → Nat) a ≤ S4x512x256.size a)
    (b h : Fin 4) (d : Fin 64) (e : Fin 128) (hb : b.val = o) (hp : 128 * h.val = p) (hq : 64 * h.val = q) :
    k0_pay4 (F := Ideal) (v.readCov (Val := Elt Ideal) L (Rect.unit (s := S4x512x256) ![o, p, q] S1x128x64.size inb).toLoadRect) (ix4 0 0 d e)
      = View.canon (Val := Elt Ideal) (e := .f32) L (ix3 b ⟨128 * h.val + e.val, by omega⟩ ⟨64 * h.val + d.val, by omega⟩) := by
  rw [View.readCov_eq_canon']
  open_payloads
  pointwise []
  subst hb hp hq
  rfl

/-- A row's head as the kernel computes it: the rounded quotient by 128. -/
theorem row_bits : ∀ r : Fin 512, Scalar.select
      (IntOp.andi (IntOp.cmpi .ne (IntOp.subi (BitVec.setWidth 32 (IntOp.cmpi .sgt (BitVec.ofNat 32 r.val) 0#32))
          (BitVec.setWidth 32 (IntOp.cmpi .slt (BitVec.ofNat 32 r.val) 0#32))) 1#32)
        (IntOp.cmpi .ne (IntOp.remsi .vector (BitVec.ofNat 32 r.val) 128#32) 0#32))
      (IntOp.subi (IntOp.divsi .vector (BitVec.ofNat 32 r.val) 128#32) 1#32)
      (IntOp.divsi .vector (BitVec.ofNat 32 r.val) 128#32) = BitVec.ofNat 32 (r.val / 128) := by
  decide +kernel

/-- A lane's head as the kernel computes it: the rounded quotient by 64. -/
theorem lane_bits : ∀ k : Fin 256, Scalar.select
      (IntOp.andi (IntOp.cmpi .ne (IntOp.subi (BitVec.setWidth 32 (IntOp.cmpi .sgt (BitVec.ofNat 32 k.val) 0#32))
          (BitVec.setWidth 32 (IntOp.cmpi .slt (BitVec.ofNat 32 k.val) 0#32))) 1#32)
        (IntOp.cmpi .ne (IntOp.remsi .vector (BitVec.ofNat 32 k.val) 64#32) 0#32))
      (IntOp.subi (IntOp.divsi .vector (BitVec.ofNat 32 k.val) 64#32) 1#32)
      (IntOp.divsi .vector (BitVec.ofNat 32 k.val) 64#32) = BitVec.ofNat 32 (k.val / 64) := by
  decide +kernel

/-- On a head's own block the kernel's mask keeps the value. -/
theorem mask_on (h : Fin 4) (e : Fin 128) (d : Fin 64) (x : EReal) : Scalar.select (IntOp.cmpi .eq
      (Scalar.select
        (IntOp.andi (IntOp.cmpi .ne (IntOp.subi (BitVec.setWidth 32 (IntOp.cmpi .sgt (BitVec.ofNat 32 (128 * h.val + e.val)) 0#32))
            (BitVec.setWidth 32 (IntOp.cmpi .slt (BitVec.ofNat 32 (128 * h.val + e.val)) 0#32))) 1#32)
          (IntOp.cmpi .ne (IntOp.remsi .vector (BitVec.ofNat 32 (128 * h.val + e.val)) 128#32) 0#32))
        (IntOp.subi (IntOp.divsi .vector (BitVec.ofNat 32 (128 * h.val + e.val)) 128#32) 1#32)
        (IntOp.divsi .vector (BitVec.ofNat 32 (128 * h.val + e.val)) 128#32))
      (Scalar.select
        (IntOp.andi (IntOp.cmpi .ne (IntOp.subi (BitVec.setWidth 32 (IntOp.cmpi .sgt (BitVec.ofNat 32 (64 * h.val + d.val)) 0#32))
            (BitVec.setWidth 32 (IntOp.cmpi .slt (BitVec.ofNat 32 (64 * h.val + d.val)) 0#32))) 1#32)
          (IntOp.cmpi .ne (IntOp.remsi .vector (BitVec.ofNat 32 (64 * h.val + d.val)) 64#32) 0#32))
        (IntOp.subi (IntOp.divsi .vector (BitVec.ofNat 32 (64 * h.val + d.val)) 64#32) 1#32)
        (IntOp.divsi .vector (BitVec.ofNat 32 (64 * h.val + d.val)) 64#32))) x 0 = x := by
  have hr := row_bits ⟨128 * h.val + e.val, by omega⟩
  have hk := lane_bits ⟨64 * h.val + d.val, by omega⟩
  dsimp only at hr hk
  rw [hr, hk, show (128 * h.val + e.val) / 128 = h.val by omega, show (64 * h.val + d.val) / 64 = h.val by omega]
  simp [Scalar.select, IntOp.cmpi]

set_option maxHeartbeats 4000000 in
/-- A later tile's entry of the carried state: its two chunks after what the tile before left. -/
theorem stepB (c : Dev nD) (i : grid0.Coords) (arg1 : Memref sig .tc .vmem S4x128x256 .f32) (harg1 : arg1.IsWhole) (arg2 : Memref sig .tc .vmem S4x128x256 .f32) (harg2 : arg2.IsWhole) (arg3 : Memref sig .tc .vmem S4x128x512 .f32) (harg3 : arg3.IsWhole) (arg4 : Memref sig .tc .vmem S4x128x256 .f32) (harg4 : arg4.IsWhole) (arg5 : Memref sig .tc .vmem S64x64 .bf16) (harg5 : arg5.IsWhole) (arg6 : Memref sig .tc .vmem S4x128x512 .f32) (harg6 : arg6.IsWhole) (arg7 : Memref sig .tc .vmem S4x4x64x128 .f32) (harg7 : arg7.IsWhole) (arg8 : Memref sig .tc .vmem S4x512x256 .f32) (harg8 : arg8.IsWhole) (hc0 : ¬cond0_0 i) (hc1 : ¬cond0_1 i)
    (x0 x1 : FVec Ideal S4x128x256 .f32) (x2 : FVec Ideal S4x128x512 .f32) (x3 : FVec Ideal S4x128x256 .f32) (x4 : FVec Ideal S64x64 .bf16) (xs0 : FVec Ideal S4x512x256 .f32) (b h : Fin 4) (d : Fin 64) (e : Fin 128) :
    sout0_B_0 (F := Ideal) c i arg1 harg1 arg2 harg2 arg3 harg3 arg4 harg4 arg5 harg5 arg6 harg6 arg7 harg7 arg8 harg8 hc0 hc1 x0 x1 x2 x3 x4 xs0 (ix3 b ⟨128 * h.val + e.val, by omega⟩ ⟨64 * h.val + d.val, by omega⟩)
      = chunkOf x1 x2 x3 x4 b h d e 1 (chunkOf x1 x2 x3 x4 b h d e 0 (xs0 (ix3 b ⟨128 * h.val + e.val, by omega⟩ ⟨64 * h.val + d.val, by omega⟩))) := by
  frame_open
  simp (disch := decide) only [↓ View.readCov_skip, ↓ View.readCov_cons_toLoadRect, ↓ View.readCov_fill]
  frame_out
  fin_vals b with hb
  all_goals simp (disch := omega) only [miss, hit]
  all_goals clear hc0 hc1
  all_goals clear harg1 harg2 harg3 harg4 harg5 harg6 harg7 harg8
  all_goals clear arg1 arg2 arg3 arg4 arg5 arg6 arg7 arg8
  all_goals open_payloads
  all_goals pointwise [chunkOf, chunk, cumOf]
  all_goals simp only [mask_on]
  all_goals blk_point []

set_option maxHeartbeats 4000000 in
/-- The first tile's entry of the carried state: its two chunks from the zero state. -/
theorem stepA (c : Dev nD) (i : grid0.Coords) (arg1 : Memref sig .tc .vmem S4x128x256 .f32) (harg1 : arg1.IsWhole) (arg2 : Memref sig .tc .vmem S4x128x256 .f32) (harg2 : arg2.IsWhole) (arg3 : Memref sig .tc .vmem S4x128x512 .f32) (harg3 : arg3.IsWhole) (arg4 : Memref sig .tc .vmem S4x128x256 .f32) (harg4 : arg4.IsWhole) (arg5 : Memref sig .tc .vmem S64x64 .bf16) (harg5 : arg5.IsWhole) (arg6 : Memref sig .tc .vmem S4x128x512 .f32) (harg6 : arg6.IsWhole) (arg7 : Memref sig .tc .vmem S4x4x64x128 .f32) (harg7 : arg7.IsWhole) (arg8 : Memref sig .tc .vmem S4x512x256 .f32) (harg8 : arg8.IsWhole) (hc0 : cond0_0 i) (hc1 : ¬cond0_1 i)
    (x0 x1 : FVec Ideal S4x128x256 .f32) (x2 : FVec Ideal S4x128x512 .f32) (x3 : FVec Ideal S4x128x256 .f32) (x4 : FVec Ideal S64x64 .bf16) (b h : Fin 4) (d : Fin 64) (e : Fin 128) :
    sout0_A_0 (F := Ideal) c i arg1 harg1 arg2 harg2 arg3 harg3 arg4 harg4 arg5 harg5 arg6 harg6 arg7 harg7 arg8 harg8 hc0 hc1 x0 x1 x2 x3 x4 (ix3 b ⟨128 * h.val + e.val, by omega⟩ ⟨64 * h.val + d.val, by omega⟩)
      = chunkOf x1 x2 x3 x4 b h d e 1 (chunkOf x1 x2 x3 x4 b h d e 0 0) := by
  frame_open
  simp (disch := decide) only [↓ View.readCov_skip, ↓ View.readCov_cons_toLoadRect, ↓ View.readCov_fill]
  frame_out
  fin_vals b with hb
  all_goals simp (disch := omega) only [miss, hit]
  all_goals clear hc0 hc1
  all_goals clear harg1 harg2 harg3 harg4 harg5 harg6 harg7 harg8
  all_goals clear arg1 arg2 arg3 arg4 arg5 arg6 arg7 arg8
  all_goals open_payloads
  all_goals pointwise [chunkOf, chunk, cumOf]
  all_goals simp only [mask_on]
  all_goals blk_point []

set_option maxHeartbeats 4000000 in
/-- The last tile's entry of the state written back: its two chunks after what the tile before left. -/
theorem stepC (c : Dev nD) (i : grid0.Coords) (arg1 : Memref sig .tc .vmem S4x128x256 .f32) (harg1 : arg1.IsWhole) (arg2 : Memref sig .tc .vmem S4x128x256 .f32) (harg2 : arg2.IsWhole) (arg3 : Memref sig .tc .vmem S4x128x512 .f32) (harg3 : arg3.IsWhole) (arg4 : Memref sig .tc .vmem S4x128x256 .f32) (harg4 : arg4.IsWhole) (arg5 : Memref sig .tc .vmem S64x64 .bf16) (harg5 : arg5.IsWhole) (arg6 : Memref sig .tc .vmem S4x128x512 .f32) (harg6 : arg6.IsWhole) (arg7 : Memref sig .tc .vmem S4x4x64x128 .f32) (harg7 : arg7.IsWhole) (arg8 : Memref sig .tc .vmem S4x512x256 .f32) (harg8 : arg8.IsWhole) (hc0 : ¬cond0_0 i) (hc1 : cond0_1 i)
    (x0 x1 : FVec Ideal S4x128x256 .f32) (x2 : FVec Ideal S4x128x512 .f32) (x3 : FVec Ideal S4x128x256 .f32) (x4 : FVec Ideal S64x64 .bf16) (xs0 : FVec Ideal S4x512x256 .f32) (b h : Fin 4) (d : Fin 64) (e : Fin 128) :
    out0_C_6 (F := Ideal) c i arg1 harg1 arg2 harg2 arg3 harg3 arg4 harg4 arg5 harg5 arg6 harg6 arg7 harg7 arg8 harg8 hc0 hc1 x0 x1 x2 x3 x4 xs0 (ix4 b h d e)
      = chunkOf x1 x2 x3 x4 b h d e 1 (chunkOf x1 x2 x3 x4 b h d e 0 (xs0 (ix3 b ⟨128 * h.val + e.val, by omega⟩ ⟨64 * h.val + d.val, by omega⟩))) := by
  frame_open
  simp (disch := decide) only [↓ View.readCov_skip, ↓ View.readCov_cons_toLoadRect, ↓ View.readCov_fill]
  frame_out
  clear hc0 hc1
  clear harg1 harg2 harg3 harg4 harg5 harg6 harg7 harg8
  fin_vals b with hb
  all_goals fin_vals h with hh
  all_goals simp (disch := omega) only [↓miss4, ↓hit4]
  all_goals refine (turned _ _ _ _ _ _ b h d e hb (by rw [hh]) (by rw [hh])).trans ?_
  all_goals simp (disch := omega) only [miss, hit]
  clear arg1 arg2 arg3 arg4 arg5 arg6 arg7 arg8
  all_goals open_payloads
  all_goals pointwise [chunkOf, chunk, cumOf]
  all_goals simp only [mask_on]
  all_goals blk_point []

end Cert.Prompt
-- ==== Proof.GlaFold.lean ====
module
public import Idealize.ShloMosaic.Init
public import Idealize.ShloMosaic.Lib.Claim
public import Idealize.ShloMosaic.Lib.Pointwise
public import Idealize.ShloMosaic.Lib.Pipeline.ValueKit
public import proofs.«01_k».proof.Proof.GlaScratch
public import proofs.«01_k».proof.Proof.Gen.Pre_prompt_decay_below_top

/-! The kernel's tiles over the prompt leave the state named in `GlaState`. -/

@[expose] public section

set_option maxRecDepth 16384

noncomputable section

open Idealize.ShloMosaic Idealize.ShloMosaic.TcCoe Idealize.SL.Sem
open Idealize.ShloMosaic.Pipeline (Dat)

namespace Cert.Prompt
open Cert.KernelGlaIdeal Cert.KernelGlaIdeal.Gen Cert.KernelGlaIdeal.Value

variable (m : (ℓ : Loc nD τ sig) → Buf (Elt Ideal) ℓ)

/-- The bit of the host's triangle. -/
theorem tri_bits : ∀ r k : Fin 64, IntOp.cmpi .sge (IntOp.addi (BitVec.ofNat 32 r.val) 0#32) (BitVec.ofNat 32 k.val) = if k.val ≤ r.val then 1#1 else 0#1 := by
  decide +kernel

/-- The triangle of ones the host prepares. -/
theorem tri_at (c : Dev nD) (r k : Fin 64) :
    (show FVec Ideal S64x64 .bf16 from V m c main_v2) (ix2 r k) = if k.val ≤ r.val then (1 : EReal) else 0 := by
  refine (congrFun (?e : V m c main_v2 = ?X) (ix2 r k)).trans ?_
  rotate_left
  · unfold V hostOps0 hostOps0_1 hostOps0_2
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise
    simp only [tri_bits]
    split_ifs <;> rfl

/-- The keys as the host reshapes them. -/
theorem keys_at (c : Dev nD) (b : Fin 4) (r : Fin 4096) (k : Fin 256) :
    (show FVec Ideal S4x4096x256 .f32 from V m c main_v4) (ix3 b r k)
      = (show FVec Ideal S16384x256 .f32 from m ((c : Thread nD τ).loc main_arg1)) (ix2 ⟨4096 * b.val + r.val, by omega⟩ k) := by
  refine (congrFun (?e : V m c main_v4 = ?X) (ix3 b r k)).trans ?_
  rotate_left
  · unfold V hostOps0 hostOps0_1 hostOps0_2
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise
    blk_ext

/-- The values as the host reshapes them. -/
theorem vals_at (c : Dev nD) (b : Fin 4) (r : Fin 4096) (k : Fin 512) :
    (show FVec Ideal S4x4096x512 .f32 from V m c main_v5) (ix3 b r k)
      = (show FVec Ideal S16384x512 .f32 from m ((c : Thread nD τ).loc main_arg2)) (ix2 ⟨4096 * b.val + r.val, by omega⟩ k) := by
  refine (congrFun (?e : V m c main_v5 = ?X) (ix3 b r k)).trans ?_
  rotate_left
  · unfold V hostOps0 hostOps0_1 hostOps0_2
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise
    blk_ext

/-- The log decays as the host reshapes them. -/
theorem logs_at (c : Dev nD) (b : Fin 4) (r : Fin 4096) (k : Fin 256) :
    (show FVec Ideal S4x4096x256 .f32 from V m c main_v6) (ix3 b r k)
      = (show FVec Ideal S16384x256 .f32 from m ((c : Thread nD τ).loc main_arg3)) (ix2 ⟨4096 * b.val + r.val, by omega⟩ k) := by
  refine (congrFun (?e : V m c main_v6 = ?X) (ix3 b r k)).trans ?_
  rotate_left
  · unfold V hostOps0 hostOps0_1 hostOps0_2
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise
    blk_ext

/-- The windows' index maps. -/
theorem idx : ∀ t : Fin cfg0.N, win0_1.index t = ![0, t.val, 0] ∧ win0_2.index t = ![0, t.val, 0] ∧ win0_3.index t = ![0, t.val, 0] ∧ win0_4.index t = ![0, 0] :=
  (by decide +kernel : ∀ t : Fin grid0.N, _)

/-- A tile's keys. -/
theorem keys_blk (c : Dev nD) (t : Fin cfg0.N) (b : Fin 4) (r : Fin 128) (k : Fin 256) :
    (show FVec Ideal S4x128x256 .f32 from iblk m c 1 t) (ix3 b r k)
      = (show FVec Ideal S16384x256 .f32 from m ((c : Thread nD τ).loc main_arg1)) (ix2 ⟨4096 * b.val + 128 * t.val + r.val, by have := lt_of_lt_of_eq t.isLt N_0; omega⟩ k) := by
  have ht : t.val < 32 := lt_of_lt_of_eq t.isLt N_0
  have he : (win0_1.blk t).view.emb (ix3 b r k) = ix3 b (⟨128 * t.val + r.val, by omega⟩ : Fin 4096) k := by
    blk_ext [idx t]
  refine Eq.trans ?_ ((congrArg (show FVec Ideal S4x4096x256 .f32 from V m c main_v4) he).trans ((keys_at m c _ _ _).trans ?_))
  · rfl
  · blk_ext

/-- A tile's values. -/
theorem vals_blk (c : Dev nD) (t : Fin cfg0.N) (b : Fin 4) (r : Fin 128) (k : Fin 512) :
    (show FVec Ideal S4x128x512 .f32 from iblk m c 2 t) (ix3 b r k)
      = (show FVec Ideal S16384x512 .f32 from m ((c : Thread nD τ).loc main_arg2)) (ix2 ⟨4096 * b.val + 128 * t.val + r.val, by have := lt_of_lt_of_eq t.isLt N_0; omega⟩ k) := by
  have ht : t.val < 32 := lt_of_lt_of_eq t.isLt N_0
  have he : (win0_2.blk t).view.emb (ix3 b r k) = ix3 b (⟨128 * t.val + r.val, by omega⟩ : Fin 4096) k := by
    blk_ext [idx t]
  refine Eq.trans ?_ ((congrArg (show FVec Ideal S4x4096x512 .f32 from V m c main_v5) he).trans ((vals_at m c _ _ _).trans ?_))
  · rfl
  · blk_ext

/-- A tile's log decays. -/
theorem logs_blk (c : Dev nD) (t : Fin cfg0.N) (b : Fin 4) (r : Fin 128) (k : Fin 256) :
    (show FVec Ideal S4x128x256 .f32 from iblk m c 3 t) (ix3 b r k)
      = (show FVec Ideal S16384x256 .f32 from m ((c : Thread nD τ).loc main_arg3)) (ix2 ⟨4096 * b.val + 128 * t.val + r.val, by have := lt_of_lt_of_eq t.isLt N_0; omega⟩ k) := by
  have ht : t.val < 32 := lt_of_lt_of_eq t.isLt N_0
  have he : (win0_3.blk t).view.emb (ix3 b r k) = ix3 b (⟨128 * t.val + r.val, by omega⟩ : Fin 4096) k := by
    blk_ext [idx t]
  refine Eq.trans ?_ ((congrArg (show FVec Ideal S4x4096x256 .f32 from V m c main_v6) he).trans ((logs_at m c _ _ _).trans ?_))
  · rfl
  · blk_ext

/-- The triangle at every tile. -/
theorem tri_blk (c : Dev nD) (t : Fin cfg0.N) (r k : Fin 64) :
    (show FVec Ideal S64x64 .bf16 from iblk m c 4 t) (ix2 r k) = if k.val ≤ r.val then (1 : EReal) else 0 := by
  have he : (win0_4.blk t).view.emb (ix2 r k) = ix2 r k := by
    blk_ext [idx t]
  exact (congrArg (show FVec Ideal S64x64 .bf16 from V m c main_v2) he).trans (tri_at m c r k)

/-- The three parts of a log decay, each under its weight of one or none, sum to the log decay or to nothing. -/
theorem parts (g w : EReal) (hg : g ≠ ⊤) (p : Prop) [Decidable p] (hw : w = if p then 1 else 0) :
    w * g + w * (g - g) + w * ((g - g) - (g - g)) = if p then g else 0 := by
  rw [hw]
  split_ifs
  · simp only [one_mul]; exact Cert.Scan.split3 hg
  · simp only [zero_mul, add_zero]

/-- A tile's summed log decays, where no log decay is the top. -/
theorem cum_blk (c : Dev nD) (hd : ∀ i, (show FVec Ideal S16384x256 .f32 from m ((c : Thread nD τ).loc main_arg3)) i ≠ ⊤)
    (t : Fin cfg0.N) (b h : Fin 4) (p : Fin 2) (n : Fin 64) (hn : n.val = 2 * t.val + p.val) (d u : Fin 64) :
    cumOf (iblk m c 3 t) (iblk m c 4 t) b p ⟨64 * h.val + d.val, by omega⟩ u = decay (m ((c : Thread nD τ).loc main_arg3)) b h n d u := by
  have ht : t.val < 32 := lt_of_lt_of_eq t.isLt N_0
  have hg : ∀ s : Fin 64, (show FVec Ideal S4x128x256 .f32 from iblk m c 3 t) (ix3 b ⟨64 * p.val + s.val, by omega⟩ ⟨64 * h.val + d.val, by omega⟩)
      = (show FVec Ideal S16384x256 .f32 from m ((c : Thread nD τ).loc main_arg3)) (ix2 ⟨4096 * b.val + 64 * n.val + s.val, by omega⟩ ⟨64 * h.val + d.val, by omega⟩) := fun s => by
    refine (logs_blk m c t b _ _).trans ?_
    blk_ext
  have htri := fun s => tri_blk m c t u s
  unfold cumOf decay
  rw [← Finset.sum_add_distrib, ← Finset.sum_add_distrib]
  refine Finset.sum_congr rfl fun s _ => ?_
  exact (parts _ _ (fun e => hd _ ((hg s).symm.trans e)) _ (htri s)).trans (if_congr Iff.rfl (hg s) rfl)

/-- A chunk of a tile is the chunk of the sequence. -/
theorem chunk_blk (c : Dev nD) (hd : ∀ i, (show FVec Ideal S16384x256 .f32 from m ((c : Thread nD τ).loc main_arg3)) i ≠ ⊤)
    (t : Fin cfg0.N) (b h : Fin 4) (d : Fin 64) (e : Fin 128) (p : Fin 2) (n : Fin 64) (hn : n.val = 2 * t.val + p.val) (S : EReal) :
    chunkOf (iblk m c 1 t) (iblk m c 2 t) (iblk m c 3 t) (iblk m c 4 t) b h d e p S
      = chunkAt (m ((c : Thread nD τ).loc main_arg1)) (m ((c : Thread nD τ).loc main_arg2)) (m ((c : Thread nD τ).loc main_arg3)) b h d e n S := by
  have ht : t.val < 32 := lt_of_lt_of_eq t.isLt N_0
  unfold chunkOf chunkAt
  congr 1
  · funext u
    refine (keys_blk m c t b _ _).trans ?_
    blk_ext
  · funext u
    refine (vals_blk m c t b _ _).trans ?_
    blk_ext
  · funext u
    exact cum_blk m c hd t b h p n hn d u

/-- Both chunks of a tile. -/
theorem tile_blk (c : Dev nD) (hd : ∀ i, (show FVec Ideal S16384x256 .f32 from m ((c : Thread nD τ).loc main_arg3)) i ≠ ⊤)
    (t : Fin cfg0.N) (b h : Fin 4) (d : Fin 64) (e : Fin 128) :
    chunkOf (iblk m c 1 t) (iblk m c 2 t) (iblk m c 3 t) (iblk m c 4 t) b h d e 1
        (chunkOf (iblk m c 1 t) (iblk m c 2 t) (iblk m c 3 t) (iblk m c 4 t) b h d e 0
          (state (m ((c : Thread nD τ).loc main_arg1)) (m ((c : Thread nD τ).loc main_arg2)) (m ((c : Thread nD τ).loc main_arg3)) b h d e (2 * t.val)))
      = state (m ((c : Thread nD τ).loc main_arg1)) (m ((c : Thread nD τ).loc main_arg2)) (m ((c : Thread nD τ).loc main_arg3)) b h d e (2 * t.val + 2) := by
  have ht : t.val < 32 := lt_of_lt_of_eq t.isLt N_0
  rw [state_succ _ _ _ _ _ _ _ (2 * t.val + 1) (by omega), state_succ _ _ _ _ _ _ _ (2 * t.val) (by omega)]
  exact (chunk_blk m c hd t b h d e 1 ⟨2 * t.val + 1, by omega⟩ rfl _).trans (congrArg _ (chunk_blk m c hd t b h d e 0 ⟨2 * t.val, by omega⟩ rfl _))

/-- What the first tile carries on. -/
theorem carriedA (c : Dev nD) (t : Fin cfg0.N) (h0 : t.val % 32 = 0) (h1 : ¬t.val % 32 = 31) (b h : Fin 4) (d : Fin 64) (e : Fin 128) :
    (outsAt0 m c t.val t.isLt).2.2 (ix3 b ⟨128 * h.val + e.val, by omega⟩ ⟨64 * h.val + d.val, by omega⟩)
      = chunkOf (iblk m c 1 t) (iblk m c 2 t) (iblk m c 3 t) (iblk m c 4 t) b h d e 1
        (chunkOf (iblk m c 1 t) (iblk m c 2 t) (iblk m c 3 t) (iblk m c 4 t) b h d e 0 0) := by
  rw [outsAt0_A m c t h0 h1]
  dsimp only
  exact stepA ..

/-- What a later tile carries on. -/
theorem carriedB (c : Dev nD) (t : Fin cfg0.N) (h0 : ¬t.val % 32 = 0) (h1 : ¬t.val % 32 = 31) (b h : Fin 4) (d : Fin 64) (e : Fin 128) :
    (outsAt0 m c t.val t.isLt).2.2 (ix3 b ⟨128 * h.val + e.val, by omega⟩ ⟨64 * h.val + d.val, by omega⟩)
      = chunkOf (iblk m c 1 t) (iblk m c 2 t) (iblk m c 3 t) (iblk m c 4 t) b h d e 1
        (chunkOf (iblk m c 1 t) (iblk m c 2 t) (iblk m c 3 t) (iblk m c 4 t) b h d e 0
          ((outsAt0 m c (t.val - 1) (Nat.lt_of_le_of_lt (Nat.sub_le _ _) t.isLt)).2.2 (ix3 b ⟨128 * h.val + e.val, by omega⟩ ⟨64 * h.val + d.val, by omega⟩))) := by
  rw [outsAt0_B m c t h0 h1]
  dsimp only
  exact stepB ..

/-- What the last tile writes out. -/
theorem writtenC (c : Dev nD) (t : Fin cfg0.N) (h0 : ¬t.val % 32 = 0) (h1 : t.val % 32 = 31) (b h : Fin 4) (d : Fin 64) (e : Fin 128) :
    (outsAt0 m c t.val t.isLt).2.1 (ix4 b h d e)
      = chunkOf (iblk m c 1 t) (iblk m c 2 t) (iblk m c 3 t) (iblk m c 4 t) b h d e 1
        (chunkOf (iblk m c 1 t) (iblk m c 2 t) (iblk m c 3 t) (iblk m c 4 t) b h d e 0
          ((outsAt0 m c (t.val - 1) (Nat.lt_of_le_of_lt (Nat.sub_le _ _) t.isLt)).2.2 (ix3 b ⟨128 * h.val + e.val, by omega⟩ ⟨64 * h.val + d.val, by omega⟩))) := by
  rw [outsAt0_C m c t h0 h1]
  dsimp only
  exact stepC ..

/-- The carried state after each tile before the last. -/
theorem carried (c : Dev nD) (hd : ∀ i, (show FVec Ideal S16384x256 .f32 from m ((c : Thread nD τ).loc main_arg3)) i ≠ ⊤)
    (b h : Fin 4) (d : Fin 64) (e : Fin 128) : ∀ (n : Nat) (hn : n < cfg0.N), n < 31 →
    (outsAt0 m c n hn).2.2 (ix3 b ⟨128 * h.val + e.val, by omega⟩ ⟨64 * h.val + d.val, by omega⟩)
      = state (m ((c : Thread nD τ).loc main_arg1)) (m ((c : Thread nD τ).loc main_arg2)) (m ((c : Thread nD τ).loc main_arg3)) b h d e (2 * n + 2)
  | 0, hn, _ => (carriedA m c ⟨0, hn⟩ rfl (by dsimp only; omega) b h d e).trans (tile_blk m c hd ⟨0, hn⟩ b h d e)
  | n + 1, hn, h31 =>
    (carriedB m c ⟨n + 1, hn⟩ (by dsimp only; omega) (by dsimp only; omega) b h d e).trans
      ((congrArg _ (congrArg _ (carried c hd b h d e n (by omega) (by omega)))).trans (tile_blk m c hd ⟨n + 1, hn⟩ b h d e))

/-- What the tile after `n`, the last one, writes out. -/
theorem written (c : Dev nD) (hd : ∀ i, (show FVec Ideal S16384x256 .f32 from m ((c : Thread nD τ).loc main_arg3)) i ≠ ⊤)
    (n : Nat) (hn : n + 1 < cfg0.N) (h31 : n + 1 = 31) (b h : Fin 4) (d : Fin 64) (e : Fin 128) :
    (outsAt0 m c (n + 1) hn).2.1 (ix4 b h d e)
      = state (m ((c : Thread nD τ).loc main_arg1)) (m ((c : Thread nD τ).loc main_arg2)) (m ((c : Thread nD τ).loc main_arg3)) b h d e (2 * (n + 1) + 2) :=
  (writtenC m c ⟨n + 1, hn⟩ (by dsimp only; omega) (by dsimp only; omega) b h d e).trans
    ((congrArg _ (congrArg _ (carried m c hd b h d e n (by omega) (by omega)))).trans (tile_blk m c hd ⟨n + 1, hn⟩ b h d e))

/-- The same of the tiles' results folded. -/
theorem folded (c : Dev nD) (hd : ∀ i, (show FVec Ideal S16384x256 .f32 from m ((c : Thread nD τ).loc main_arg3)) i ≠ ⊤) :
    ∀ (n : Nat) (hn : 0 + n < cfg0.N), n = 31 → (Pipeline.accAt (fun n h => stAt0 m c n h junk0) (stAt0 m c) 0 n hn).2.1
      = final (m ((c : Thread nD τ).loc main_arg1)) (m ((c : Thread nD τ).loc main_arg2)) (m ((c : Thread nD τ).loc main_arg3))
  | 0, _, e => by omega
  | n + 1, hn, h31 => by
    have hn' : n + 1 < cfg0.N := by omega
    rw [← outsAt0_sweep m c (n + 1) hn']
    funext i
    obtain ⟨b, h, d, e, rfl⟩ : ∃ (b h : Fin 4) (d : Fin 64) (e : Fin 128), i = ix4 b h d e := ⟨i 0, i 1, i 2, i 3, by blk_ext⟩
    rw [written m c hd n hn' h31 b h d e, h31]
    rfl

/-- The state array after the run. -/
theorem result (c : Dev nD) (hd : ∀ i, (show FVec Ideal S16384x256 .f32 from m ((c : Thread nD τ).loc main_arg3)) i ≠ ⊤) :
    G6 m c = final (m ((c : Thread nD τ).loc main_arg1)) (m ((c : Thread nD τ).loc main_arg2)) (m ((c : Thread nD τ).loc main_arg3)) :=
  (G6_last m c).trans (folded m c hd 31 _ rfl)

/-- The precondition read: no log decay is the top. -/
theorem below_top (a0 a1 : FVec Ideal Cert.Pre_prompt_decay_below_top.S16384x256 .f32) (a2 : FVec Ideal Cert.Pre_prompt_decay_below_top.S16384x512 .f32)
    (a3 : FVec Ideal Cert.Pre_prompt_decay_below_top.S16384x256 .f32)
    (h : Cert.Pre_prompt_decay_below_top.fn (F := Ideal) a0 a1 a2 a3 = fun _ => 1#1) (i : Cert.Pre_prompt_decay_below_top.S16384x256.Idx) : a3 i ≠ ⊤ := by
  intro e
  have := congrFun h i
  revert this
  pointwise [Cert.Pre_prompt_decay_below_top.fn]
  rw [e]
  simp

end Cert.Prompt
-- ==== Proof.GlaScan.lean ====
module
public import Idealize.ShloMosaic.Init
public import Idealize.ShloMosaic.Lib.Claim
public import Idealize.ShloMosaic.Lib.Pointwise
public import Idealize.ShloMosaic.Lib.DynamicIndex
public import Idealize.ShloMosaic.Lib.Pipeline.ValueKit
public import proofs.«01_k».proof.Proof.Gen.ReferenceGlaIdeal.Run
public import proofs.«01_k».proof.Proof.GlaState

/-! The reference's loop over the prompt's chunks leaves the state named in `GlaState`. -/

@[expose] public section

set_option maxRecDepth 16384

noncomputable section

open Idealize.ShloMosaic Idealize.ShloMosaic.TcCoe Idealize.SL.Sem

namespace Cert.PromptRef
open Cert.ReferenceGlaIdeal Cert.ReferenceGlaIdeal.Gen Cert.ReferenceGlaIdeal.Value Cert.Prompt
open Idealize.ShloMosaic.StableHlo

variable (m : (ℓ : Loc nD τ sig) → Buf (Elt Ideal) ℓ)

/-- A chunk sliced out at the counter. -/
theorem slice_at {C : Nat} (X : (⟨5, ![64, 4, 4, 64, C]⟩ : Shape).Idx → EReal) (n : Fin 64) (w : IVec S_ 32) (hw : w = fun _ => BitVec.ofNat 32 n.val)
    (hf : (⟨5, ![64, 4, 4, 64, C]⟩ : Shape).Slices (fun _ => 0) ⟨5, ![1, 4, 4, 64, C]⟩) (b h : Fin 4) (t : Fin 64) (d : Fin C) :
    Host.dynamicSlice ⟨5, ![1, 4, 4, 64, C]⟩ X (fun k => ((![w, constantI S_ 32 0#32, constantI S_ 32 0#32, constantI S_ 32 0#32, constantI S_ 32 0#32] : Fin 5 → IVec S_ 32) k (Shape.Idx.first h_S_)).toInt) hf (ix5 0 b h t d)
      = X (ix5 n b h t d) := by
  subst hw
  have hoff : (⟨5, ![64, 4, 4, 64, C]⟩ : Shape).Slices ![n.val, 0, 0, 0, 0] ⟨5, ![1, 4, 4, 64, C]⟩ := ⟨rfl, fun a => by
    match a with
    | ⟨0, _⟩ => show n.val + 1 ≤ 64; omega
    | ⟨1, _⟩ => show 0 + 4 ≤ 4; omega
    | ⟨2, _⟩ => show 0 + 4 ≤ 4; omega
    | ⟨3, _⟩ => show 0 + 64 ≤ 64; omega
    | ⟨4, _⟩ => show 0 + C ≤ C; omega⟩
  rw [Host.dynamicSlice_eq_extractStridedSlice _ X _ ![n.val, 0, 0, 0, 0] hf hoff (fun a => by
    match a with
    | ⟨0, _⟩ => exact toInt_ofNat_of_lt (by omega)
    | ⟨1, _⟩ => rfl
    | ⟨2, _⟩ => rfl
    | ⟨3, _⟩ => rfl
    | ⟨4, _⟩ => rfl)]
  refine congrArg X ?_
  funext a
  apply Fin.ext
  match a with
  | ⟨0, _⟩ => show n.val + 0 = n.val; omega
  | ⟨1, _⟩ => show 0 + b.val = b.val; omega
  | ⟨2, _⟩ => show 0 + h.val = h.val; omega
  | ⟨3, _⟩ => show 0 + t.val = t.val; omega
  | ⟨4, _⟩ => show 0 + d.val = d.val; omega

/-- A chunk with its leading one dropped. -/
theorem drop64 (Y : S1x4x4x64x64.Idx → EReal) (hs : S1x4x4x64x64.ShapeCasts S4x4x64x64) (b h : Fin 4) (t d : Fin 64) :
    shapeCast S4x4x64x64 Y hs (ix4 b h t d) = Y (ix5 0 b h t d) := by
  pointwise

/-- A chunk of values with its leading one dropped. -/
theorem drop128 (Y : S1x4x4x64x128.Idx → EReal) (hs : S1x4x4x64x128.ShapeCasts S4x4x64x128) (b h : Fin 4) (t : Fin 64) (d : Fin 128) :
    shapeCast S4x4x64x128 Y hs (ix4 b h t d) = Y (ix5 0 b h t d) := by
  pointwise

/-- The keys' chunks. -/
theorem keys_at (c : Dev nD) (n : Fin 64) (b h : Fin 4) (t d : Fin 64) :
    (show FVec Ideal S64x4x4x64x64 .f32 from entryContents preI m c (Proc.devRef .tc main_v7_0)) (ix5 n b h t d)
      = (show FVec Ideal S16384x256 .f32 from m ((c.tc : Thread nD τ).loc main_arg1)) (ix2 ⟨4096 * b.val + 64 * n.val + t.val, by omega⟩ ⟨64 * h.val + d.val, by omega⟩) := by
  refine (congrFun (?e : entryContents preI m c (Proc.devRef .tc main_v7_0) = ?X) (ix5 n b h t d)).trans ?_
  rotate_left
  · simp only [entryContents, afterL_cons, afterL_nil]
    after_reads_simp
    exact rfl
  · rw [id_eq]
    pointwise
    blk_ext

/-- The values' chunks. -/
theorem vals_at (c : Dev nD) (n : Fin 64) (b h : Fin 4) (t : Fin 64) (e : Fin 128) :
    (show FVec Ideal S64x4x4x64x128 .f32 from entryContents preI m c (Proc.devRef .tc main_v7_1)) (ix5 n b h t e)
      = (show FVec Ideal S16384x512 .f32 from m ((c.tc : Thread nD τ).loc main_arg2)) (ix2 ⟨4096 * b.val + 64 * n.val + t.val, by omega⟩ ⟨128 * h.val + e.val, by omega⟩) := by
  refine (congrFun (?e : entryContents preI m c (Proc.devRef .tc main_v7_1) = ?X) (ix5 n b h t e)).trans ?_
  rotate_left
  · simp only [entryContents, afterL_cons, afterL_nil]
    after_reads_simp
    exact rfl
  · rw [id_eq]
    pointwise
    blk_ext

/-- The log decays' chunks. -/
theorem logs_at (c : Dev nD) (n : Fin 64) (b h : Fin 4) (t d : Fin 64) :
    (show FVec Ideal S64x4x4x64x64 .f32 from entryContents preI m c (Proc.devRef .tc main_v7_2)) (ix5 n b h t d)
      = (show FVec Ideal S16384x256 .f32 from m ((c.tc : Thread nD τ).loc main_arg3)) (ix2 ⟨4096 * b.val + 64 * n.val + t.val, by omega⟩ ⟨64 * h.val + d.val, by omega⟩) := by
  refine (congrFun (?e : entryContents preI m c (Proc.devRef .tc main_v7_2) = ?X) (ix5 n b h t d)).trans ?_
  rotate_left
  · simp only [entryContents, afterL_cons, afterL_nil]
    after_reads_simp
    exact rfl
  · rw [id_eq]
    pointwise
    blk_ext

/-- The state the loop starts from. -/
theorem zero_at (c : Dev nD) (b h : Fin 4) (d : Fin 64) (e : Fin 128) :
    (show FVec Ideal S4x4x64x128 .f32 from entryContents preI m c (Proc.devRef .tc main_v7_4)) (ix4 b h d e) = 0 := by
  refine (congrFun (?e : entryContents preI m c (Proc.devRef .tc main_v7_4) = ?X) (ix4 b h d e)).trans ?_
  rotate_left
  · simp only [entryContents, afterL_cons, afterL_nil]
    after_reads_simp
    exact rfl
  · rw [id_eq]
    pointwise

/-- The loop's contents before trip `n`: the counter, the chunks and the state. -/
structure At (c : Dev nD) (V : Valuation τ sig (Elt Ideal)) (n : Nat) : Prop where
  ctr : V (Proc.devRef .tc main_v7_3) = fun _ => BitVec.ofNat 32 n
  keys : V (Proc.devRef .tc main_v7_0) = entryContents preI m c (Proc.devRef .tc main_v7_0)
  vals : V (Proc.devRef .tc main_v7_1) = entryContents preI m c (Proc.devRef .tc main_v7_1)
  logs : V (Proc.devRef .tc main_v7_2) = entryContents preI m c (Proc.devRef .tc main_v7_2)
  st : ∀ (b h : Fin 4) (d : Fin 64) (e : Fin 128), (show FVec Ideal S4x4x64x128 .f32 from V (Proc.devRef .tc main_v7_4)) (ix4 b h d e)
    = state (m ((c.tc : Thread nD τ).loc main_arg1)) (m ((c.tc : Thread nD τ).loc main_arg2)) (m ((c.tc : Thread nD τ).loc main_arg3)) b h d e n

/-- The summed log decays of a trip. -/
theorem cum_at (c : Dev nD) (V : Valuation τ sig (Elt Ideal)) (n : Fin 64) (hV : At m c V n.val) (b h : Fin 4) (t d : Fin 64) :
    (show FVec Ideal S4x4x64x64 .f32 from res_main_while0b_v11 V) (ix4 b h t d) = decay (m ((c.tc : Thread nD τ).loc main_arg3)) b h n d t := by
  unfold res_main_while0b_v11
  refine (Cert.Scan.window_eq 63 rfl _ _ ?_ _ _ b h t d).trans ?_
  · intro i; pointwise
  · unfold Cert.Scan.run decay
    refine Finset.sum_congr rfl fun s _ => ?_
    split_ifs
    · exact (drop64 _ _ b h s d).trans ((slice_at _ n _ hV.ctr sliceFits_S64x4x4x64x64_S1x4x4x64x64 b h s d).trans ((congrFun hV.logs _).trans (logs_at m c n b h s d)))
    · rfl

/-- The state after a trip. -/
theorem state_at (c : Dev nD) (V : Valuation τ sig (Elt Ideal)) (n : Fin 64) (hV : At m c V n.val) (b h : Fin 4) (d : Fin 64) (e : Fin 128) :
    (show FVec Ideal S4x4x64x128 .f32 from step_main_v7_4 V) (ix4 b h d e)
      = state (m ((c.tc : Thread nD τ).loc main_arg1)) (m ((c.tc : Thread nD τ).loc main_arg2)) (m ((c.tc : Thread nD τ).loc main_arg3)) b h d e (n.val + 1) := by
  rw [state_succ _ _ _ _ _ _ _ _ n.isLt]
  unfold step_main_v7_4 res_main_while0b_v13
  have hB : ∀ t d, (show FVec Ideal S4x4x64x64 .f32 from res_main_while0b_v11 V) (ix4 b h t d) = _ := fun t d => cum_at m c V n hV b h t d
  have hK : ∀ t d, shapeCast S4x4x64x64 _ shapeCasts_S1x4x4x64x64_S4x4x64x64 (ix4 b h t d) = _ := fun t d => (drop64 _ _ b h t d).trans ((slice_at _ n _ hV.ctr sliceFits_S64x4x4x64x64_S1x4x4x64x64 b h t d).trans ((congrFun hV.keys _).trans (keys_at m c n b h t d)))
  have hW : ∀ t e, shapeCast S4x4x64x128 _ shapeCasts_S1x4x4x64x128_S4x4x64x128 (ix4 b h t e) = _ := fun t e => (drop128 _ _ b h t e).trans ((slice_at _ n _ hV.ctr sliceFits_S64x4x4x64x128_S1x4x4x64x128 b h t e).trans ((congrFun hV.vals _).trans (vals_at m c n b h t e)))
  have hS := hV.st b h d e
  revert hB hK hW hS
  generalize res_main_while0b_v11 V = B
  generalize shapeCast S4x4x64x64 _ shapeCasts_S1x4x4x64x64_S4x4x64x64 = K
  generalize shapeCast S4x4x64x128 _ shapeCasts_S1x4x4x64x128_S4x4x64x128 = W
  generalize V (Proc.devRef .tc main_v7_4) = S
  intro hB hK hW hS
  rw [id_eq]
  pointwise [chunkAt, chunk]
  simp only [hB, hK, hW, hS]
  exact Ideal.add_congr (mul_comm (G := EReal) _ _) (Finset.sum_congr (M := EReal) rfl fun t _ => mul_comm (G := EReal) _ _)

/-- Before trip `n` the loop's contents are the state after `n` chunks. -/
theorem at_trip (c : Dev nD) : ∀ n, n ≤ 64 → At m c (STEP^[n] (entryContents preI m c)) n
  | 0, _ => ⟨ctr_entry m c, rfl, rfl, rfl, fun b h d e => zero_at m c b h d e⟩
  | n + 1, hn => by
    have hV := at_trip c n (by omega)
    rw [Function.iterate_succ_apply']
    refine ⟨?_, (STEP_main_v7_0 _).trans hV.keys, (STEP_main_v7_1 _).trans hV.vals, (STEP_main_v7_2 _).trans hV.logs, fun b h d e => ?_⟩
    · rw [STEP_main_v7_3]
      unfold step_main_v7_3
      rw [hV.ctr]
      funext i
      show BitVec.ofNat 32 n + 1#32 = BitVec.ofNat 32 (n + 1)
      rw [BitVec.ofNat_add]
    · exact (congrFun (STEP_main_v7_4 _) _).trans (state_at m c _ ⟨n, by omega⟩ hV b h d e)

/-- The reference's result. -/
theorem result (c : Dev nD) : (STEP^[64] (entryContents preI m c)) (Proc.devRef .tc main_v7_4)
    = final (m ((c.tc : Thread nD τ).loc main_arg1)) (m ((c.tc : Thread nD τ).loc main_arg2)) (m ((c.tc : Thread nD τ).loc main_arg3)) := by
  funext i
  obtain ⟨b, h, d, e, rfl⟩ : ∃ (b h : Fin 4) (d : Fin 64) (e : Fin 128), i = ix4 b h d e := ⟨i 0, i 1, i 2, i 3, by blk_ext⟩
  exact (at_trip m c 64 le_rfl).st b h d e

end Cert.PromptRef
-- ==== Proof.MergeValue.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.KernelMergeIdeal.Frame
public import proofs.«01_k».proof.Proof.Gen.ReferenceMergeIdeal

/-! The merge of the two branches: what the kernel stores is the reference's array. -/

@[expose] public section

set_option maxRecDepth 16384

noncomputable section

open Idealize.ShloMosaic Idealize.ShloMosaic.TcCoe Idealize.SL.Sem
open Idealize.ShloMosaic.Pipeline (Dat)

namespace Cert.Merge
open Cert.KernelMergeIdeal Cert.KernelMergeIdeal.Gen

variable (m : (ℓ : Loc nD τ sig) → Buf (Elt Ideal) ℓ)

/-- One row of the merge at one output column: the residual plus the output projection of the two gated branches. -/
def rowAt (x : EReal) (am z og w : Fin 512 → EReal) (gm gg : Fin 1024 → EReal) (Wm Wg : Fin 512 → Fin 1024 → EReal)
    (Wo : Fin 1024 → EReal) : EReal :=
  x + ∑ k : Fin 1024, (Ideal.logistic (gm k) * (∑ j : Fin 512, am j * Wm j k)
      + Ideal.logistic (gg k) * (∑ j : Fin 512, (z j * Ideal.rsqrt (Ideal.div (∑ e : Fin 128, z ⟨j.val / 128 * 128 + e.val, by omega⟩ * z ⟨j.val / 128 * 128 + e.val, by omega⟩)
          (Ideal.ofBits .f32 0x43000000#32) + Ideal.ofBits .f32 0x358637BD#32) * w j) * (og j * Ideal.logistic (og j)) * Wg j k)) * Wo k

/-- The stored block at a row and a column. -/
theorem block (x0 : FVec Ideal S256x1024 .f32) (x1 x2 x3 : FVec Ideal S256x512 .f32) (x4 x5 : FVec Ideal S256x1024 .f32)
    (x6 : FVec Ideal S1x512 .f32) (x7 x8 : FVec Ideal S512x1024 .bf16) (x9 : FVec Ideal S1024x1024 .bf16) (r : Fin 256) (n : Fin 1024) :
    out0_10 (F := Ideal) x0 x1 x2 x3 x4 x5 x6 x7 x8 x9 (ix2 r n)
      = rowAt (x0 (ix2 r n)) (fun j => x1 (ix2 r j)) (fun j => x2 (ix2 r j)) (fun j => x3 (ix2 r j)) (fun j => x6 (ix2 0 j))
          (fun k => x4 (ix2 r k)) (fun k => x5 (ix2 r k)) (fun j k => x7 (ix2 j k)) (fun j k => x8 (ix2 j k)) (fun k => x9 (ix2 k n)) := by
  frame_out
  pointwise [k0_pay1, k0_pay2, k0_pay3, k0_pay4, k0_pay5, k0_pay6, k0_pay7, rowAt]
  blk_point []
  refine Ideal.mul_congr ?_ rfl
  split_ifs <;> blk_point []

/-- The reference's array over the arguments. -/
def REF (a0 : FVec Ideal Cert.ReferenceMergeIdeal.S4x4096x1024 .f32) (a1 : FVec Ideal Cert.ReferenceMergeIdeal.S16384x512 .f32) (a2 : FVec Ideal Cert.ReferenceMergeIdeal.S16384x512 .f32) (a3 : FVec Ideal Cert.ReferenceMergeIdeal.S16384x512 .f32) (a4 : FVec Ideal Cert.ReferenceMergeIdeal.S16384x1024 .f32) (a5 : FVec Ideal Cert.ReferenceMergeIdeal.S16384x1024 .f32) (a6 : FVec Ideal Cert.ReferenceMergeIdeal.S1x128 .f32) (a7 : FVec Ideal Cert.ReferenceMergeIdeal.S1x512x1024 .f32) (a8 : FVec Ideal Cert.ReferenceMergeIdeal.S1x512x1024 .f32) (a9 : FVec Ideal Cert.ReferenceMergeIdeal.S1x1024x1024 .f32) : FVec Ideal Cert.ReferenceMergeIdeal.S16384x1024 .f32 :=
  shapeCast _ (addf a0 (Host.dotGeneral Cert.ReferenceMergeIdeal.dot_S4x4096x1024_S1024x1024_S4x4096x1024_2_0_01_1_n_n none (addf (mulf (Host.divf (broadcastInDim Cert.ReferenceMergeIdeal.S4x4096x1024 ![] Cert.ReferenceMergeIdeal.Gen.bcast_S_S4x4096x1024 (constant Cert.ReferenceMergeIdeal.S_ .f32 0x3F800000#32)) (addf (broadcastInDim Cert.ReferenceMergeIdeal.S4x4096x1024 ![] Cert.ReferenceMergeIdeal.Gen.bcast_S_S4x4096x1024 (constant Cert.ReferenceMergeIdeal.S_ .f32 0x3F800000#32)) (Host.exp (Host.negf (shapeCast _ a4 Cert.ReferenceMergeIdeal.Gen.shapeCasts_S16384x1024_S4x4096x1024))))) (Host.dotGeneral Cert.ReferenceMergeIdeal.dot_S4x4096x512_S512x1024_S4x4096x1024_2_0_01_1_n_n none (shapeCast _ a1 Cert.ReferenceMergeIdeal.Gen.shapeCasts_S16384x512_S4x4096x512) (shapeCast _ a7 Cert.ReferenceMergeIdeal.Gen.shapeCasts_S1x512x1024_S512x1024))) (mulf (Host.divf (broadcastInDim Cert.ReferenceMergeIdeal.S4x4096x1024 ![] Cert.ReferenceMergeIdeal.Gen.bcast_S_S4x4096x1024 (constant Cert.ReferenceMergeIdeal.S_ .f32 0x3F800000#32)) (addf (broadcastInDim Cert.ReferenceMergeIdeal.S4x4096x1024 ![] Cert.ReferenceMergeIdeal.Gen.bcast_S_S4x4096x1024 (constant Cert.ReferenceMergeIdeal.S_ .f32 0x3F800000#32)) (Host.exp (Host.negf (shapeCast _ a5 Cert.ReferenceMergeIdeal.Gen.shapeCasts_S16384x1024_S4x4096x1024))))) (Host.dotGeneral Cert.ReferenceMergeIdeal.dot_S4x4096x512_S512x1024_S4x4096x1024_2_0_01_1_n_n none (shapeCast _ (mulf (mulf (mulf (shapeCast _ (shapeCast _ a2 Cert.ReferenceMergeIdeal.Gen.shapeCasts_S16384x512_S4x4096x512) Cert.ReferenceMergeIdeal.Gen.shapeCasts_S4x4096x512_S4x4096x4x128) (broadcastInDim Cert.ReferenceMergeIdeal.S4x4096x4x128 ![0, 1, 2, 3] Cert.ReferenceMergeIdeal.Gen.bcast_S4x4096x4x1_S4x4096x4x128_0_1_2_3 (Host.rsqrt (addf (Host.divf (broadcastInDim Cert.ReferenceMergeIdeal.S4x4096x4x1 ![0, 1, 2] Cert.ReferenceMergeIdeal.Gen.bcast_S4x4096x4_S4x4096x4x1_0_1_2 (Host.reduceAdd (mulf (shapeCast _ (shapeCast _ a2 Cert.ReferenceMergeIdeal.Gen.shapeCasts_S16384x512_S4x4096x512) Cert.ReferenceMergeIdeal.Gen.shapeCasts_S4x4096x512_S4x4096x4x128) (shapeCast _ (shapeCast _ a2 Cert.ReferenceMergeIdeal.Gen.shapeCasts_S16384x512_S4x4096x512) Cert.ReferenceMergeIdeal.Gen.shapeCasts_S4x4096x512_S4x4096x4x128)) (constant Cert.ReferenceMergeIdeal.S_ .f32 0x00000000#32) Cert.ReferenceMergeIdeal.Gen.reducesTo_S4x4096x4x128_S4x4096x4_d3 Cert.ReferenceMergeIdeal.Gen.h_S_)) (broadcastInDim Cert.ReferenceMergeIdeal.S4x4096x4x1 ![] Cert.ReferenceMergeIdeal.Gen.bcast_S_S4x4096x4x1 (constant Cert.ReferenceMergeIdeal.S_ .f32 0x43000000#32))) (broadcastInDim Cert.ReferenceMergeIdeal.S4x4096x4x1 ![] Cert.ReferenceMergeIdeal.Gen.bcast_S_S4x4096x4x1 (constant Cert.ReferenceMergeIdeal.S_ .f32 0x358637BD#32)))))) (broadcastInDim Cert.ReferenceMergeIdeal.S4x4096x4x128 ![0, 1, 2, 3] Cert.ReferenceMergeIdeal.Gen.bcast_S1x1x1x128_S4x4096x4x128_0_1_2_3 (broadcastInDim Cert.ReferenceMergeIdeal.S1x1x1x128 ![3] Cert.ReferenceMergeIdeal.Gen.bcast_S128_S1x1x1x128_3 (shapeCast _ a6 Cert.ReferenceMergeIdeal.Gen.shapeCasts_S1x128_S128)))) (mulf (shapeCast _ (shapeCast _ a3 Cert.ReferenceMergeIdeal.Gen.shapeCasts_S16384x512_S4x4096x512) Cert.ReferenceMergeIdeal.Gen.shapeCasts_S4x4096x512_S4x4096x4x128) (Host.divf (broadcastInDim Cert.ReferenceMergeIdeal.S4x4096x4x128 ![] Cert.ReferenceMergeIdeal.Gen.bcast_S_S4x4096x4x128 (constant Cert.ReferenceMergeIdeal.S_ .f32 0x3F800000#32)) (addf (broadcastInDim Cert.ReferenceMergeIdeal.S4x4096x4x128 ![] Cert.ReferenceMergeIdeal.Gen.bcast_S_S4x4096x4x128 (constant Cert.ReferenceMergeIdeal.S_ .f32 0x3F800000#32)) (Host.exp (Host.negf (shapeCast _ (shapeCast _ a3 Cert.ReferenceMergeIdeal.Gen.shapeCasts_S16384x512_S4x4096x512) Cert.ReferenceMergeIdeal.Gen.shapeCasts_S4x4096x512_S4x4096x4x128))))))) Cert.ReferenceMergeIdeal.Gen.shapeCasts_S4x4096x4x128_S4x4096x512) (shapeCast _ a8 Cert.ReferenceMergeIdeal.Gen.shapeCasts_S1x512x1024_S512x1024)))) (shapeCast _ a9 Cert.ReferenceMergeIdeal.Gen.shapeCasts_S1x1024x1024_S1024x1024))) Cert.ReferenceMergeIdeal.Gen.shapeCasts_S4x4096x1024_S16384x1024

/-- The reference's array at an index. -/
theorem ref_at (a0 : FVec Ideal Cert.ReferenceMergeIdeal.S4x4096x1024 .f32) (a1 : FVec Ideal Cert.ReferenceMergeIdeal.S16384x512 .f32) (a2 : FVec Ideal Cert.ReferenceMergeIdeal.S16384x512 .f32) (a3 : FVec Ideal Cert.ReferenceMergeIdeal.S16384x512 .f32) (a4 : FVec Ideal Cert.ReferenceMergeIdeal.S16384x1024 .f32) (a5 : FVec Ideal Cert.ReferenceMergeIdeal.S16384x1024 .f32) (a6 : FVec Ideal Cert.ReferenceMergeIdeal.S1x128 .f32) (a7 : FVec Ideal Cert.ReferenceMergeIdeal.S1x512x1024 .f32) (a8 : FVec Ideal Cert.ReferenceMergeIdeal.S1x512x1024 .f32) (a9 : FVec Ideal Cert.ReferenceMergeIdeal.S1x1024x1024 .f32) (r : Fin 16384) (n : Fin 1024) :
    REF a0 a1 a2 a3 a4 a5 a6 a7 a8 a9 (ix2 r n)
      = rowAt (a0 (ix3 ⟨r.val / 4096, by omega⟩ ⟨r.val % 4096, by omega⟩ n)) (fun j => a1 (ix2 r j)) (fun j => a2 (ix2 r j)) (fun j => a3 (ix2 r j))
          (fun j => a6 (ix2 0 ⟨j.val % 128, by omega⟩)) (fun k => a4 (ix2 r k)) (fun k => a5 (ix2 r k)) (fun j k => a7 (ix3 0 j k)) (fun j k => a8 (ix3 0 j k)) (fun k => a9 (ix3 0 k n)) := by
  pointwise [REF, rowAt]
  rfl

/-- The windows' index maps. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![t.val, 0] :=
  (by decide +kernel : ∀ t : Fin grid0.N, _)

/-- What the body stores at a block index is the reference's array where the block sits. -/
theorem point (c : Dev nD) (t : Fin cfg0.N) (y : S256x1024.Idx) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) y
      = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (((cfg0.win 10).blk t).view.emb y) := by
  obtain ⟨r, n, rfl⟩ : ∃ (r : Fin 256) (n : Fin 1024), y = ix2 r n := ⟨y 0, y 1, by blk_ext⟩
  have ht : t.val < 64 := lt_of_lt_of_eq t.isLt N_0
  have he : ((cfg0.win 10).blk t).view.emb (ix2 r n) = ix2 (⟨t.val * 256 + r.val, by omega⟩ : Fin 16384) n := by
    blk_ext [idx t]
  refine (block _ _ _ _ _ _ _ _ _ _ r n).trans (Eq.trans ?_ ((congrArg _ he).trans (ref_at _ _ _ _ _ _ _ _ _ _ _ _)).symm)
  pointwise [rowAt]
  blk_point [iblk, V, idx t]

/-- The result array after the run. -/
theorem final (c : Dev nD) : (dats m 0 c).arrAt 10 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  blk_simp
  rw [after0_10]
  exact point m c t y

end Cert.Merge
-- ==== Proof.InprojFrame.lean ====
module

public import proofs.«01_k».proof.Proof.Gen.KernelInprojIdeal.Launch
public import proofs.«01_k».proof.Proof.Gen.KernelInprojIdeal.Skeleton
public import proofs.«01_k».proof.Proof.Gen.KernelInprojIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The run of the projection call, whatever the values are: it ends, its arguments unchanged and its counters at zero,
    and each result's array holds what the body leaves block by block. -/

@[expose] public section

set_option maxRecDepth 16384

noncomputable section

namespace Cert.Inproj

open Cert.KernelInprojIdeal Cert.KernelInprojIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations -/

/-- The arrays of core `c` where the call begins: what the host's operations leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- The program up to the call, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No operation of the host writes an argument. -/
theorem untouched : ∀ b ∈ [main_arg0, main_arg1, main_arg2, main_arg3, main_arg4, main_arg5, main_arg6],
    (List.flatten [hostOps0, hostOps0_1, hostOps0_2, hostOps0_3, hostOps0_4, hostOps0_5, hostOps0_6] : List (HloOp τ sig (Elt F))).Forall fun op => Proc.devRef .tc b ∉ op.writes := by
  simp only [List.forall_mem_cons, List.not_mem_nil, hostOps0, hostOps0_1, hostOps0_2, hostOps0_3, hostOps0_4, hostOps0_5, hostOps0_6, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first | exact StableHlo.devRef_ne_of_ne (by decide) | exact fun _ h => h.elim

/-- The call finds an argument as it was launched. -/
theorem V_arg (c : Dev nD) (b : Ref sig .tc) (hb : b ∈ [main_arg0, main_arg1, main_arg2, main_arg3, main_arg4, main_arg5, main_arg6]) :
    V m c b = m ((c : Thread nD τ).loc b) :=
  StableHlo.after_of_forall_not_mem (b := Proc.devRef .tc b) _ _ (List.forall_iff_forall_mem.mp (untouched b hb))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S256x512 := Rect.unit (s := S256x512) ![0, 0] S256x512.size inb_S256x512_S256x512_0_0
abbrev r0_3 : Rect S512x512 := Rect.unit (s := S512x512) ![0, 0] S512x512.size inb_S512x512_S512x512_0_0
abbrev r0_4 : Rect S1024x5248 := Rect.unit (s := S1024x5248) ![0, 0] S1024x512.size inb_S1024x5248_S1024x512_0_0
abbrev r0_5 : Rect S1x512 := Rect.unit (s := S1x512) ![0, 0] S1x512.size inb_S1x512_S1x512_0_0
abbrev r0_6 : Rect S1024x5248 := Rect.unit (s := S1024x5248) ![0, 512] S1024x512.size inb_S1024x5248_S1024x512_0_512
abbrev r0_7 : Rect S1x1x512 := Rect.unit (s := S1x1x512) ![0, 0, 0] S1x1x512.size inb_S1x1x512_S1x1x512_0_0_0
abbrev r0_8 : Rect S1024x5248 := Rect.unit (s := S1024x5248) ![0, 1024] S1024x512.size inb_S1024x5248_S1024x512_0_1024
abbrev r0_9 : Rect S1x512x256 := Rect.unit (s := S1x512x256) ![0, 0, 0] S1x512x256.size inb_S1x512x256_S1x512x256_0_0_0
abbrev r0_10 : Rect S1024x5248 := Rect.unit (s := S1024x5248) ![0, 1536] S1024x256.size inb_S1024x5248_S1024x256_0_1536
abbrev r0_11 : Rect S256x256 := Rect.unit (s := S256x256) ![0, 0] S256x256.size inb_S256x256_S256x256_0_0
abbrev r0_12 : Rect S1024x5248 := Rect.unit (s := S1024x5248) ![0, 1792] S1024x256.size inb_S1024x5248_S1024x256_0_1792
abbrev r0_13 : Rect S1024x5248 := Rect.unit (s := S1024x5248) ![0, 2048] S1024x512.size inb_S1024x5248_S1024x512_0_2048
abbrev r0_14 : Rect S1024x5248 := Rect.unit (s := S1024x5248) ![0, 2560] S1024x128.size inb_S1024x5248_S1024x128_0_2560
abbrev r0_15 : Rect S128x256 := Rect.unit (s := S128x256) ![0, 0] S128x256.size inb_S128x256_S128x256_0_0
abbrev r0_16 : Rect S1x256 := Rect.unit (s := S1x256) ![0, 0] S1x256.size inb_S1x256_S1x256_0_0
abbrev r0_17 : Rect S1024x5248 := Rect.unit (s := S1024x5248) ![0, 2688] S1024x512.size inb_S1024x5248_S1024x512_0_2688
abbrev r0_18 : Rect S1024x5248 := Rect.unit (s := S1024x5248) ![0, 3200] S1024x1024.size inb_S1024x5248_S1024x1024_0_3200
abbrev r0_19 : Rect S1024x5248 := Rect.unit (s := S1024x5248) ![0, 4224] S1024x1024.size inb_S1024x5248_S1024x1024_0_4224

/-! ## What the body leaves in each output window -/

section

variable (x0 : Vec F S256x1024 .f32) (x1 : Vec F S1x1024 .f32) (x2 : Vec F S1024x5248 .bf16) (x3 : Vec F S256x512 .f32) (x4 : Vec F S256x512 .f32) (x5 : Vec F S1x512 .f32) (x6 : Vec F S1x512 .f32) (x7 : Vec F S512x512 .bf16) (x8 : Vec F S128x256 .bf16) (x9 : Vec F S1x256 .f32)

/-- The normed rows the projections are taken of. -/
def normed : FVec F S256x1024 .bf16 := k0_pay5 (View.ld x0 r0_0) (View.ld x1 r0_1)

/-- The cosines of the block. -/
def cosRow : FVec F S256x512 .f32 := k0_pay6 (View.ld x3 r0_2)

/-- The sines of the block. -/
def sinRow : FVec F S256x512 .f32 := k0_pay7 (View.ld x4 r0_2)

/-- The lanes in the first half of their head. -/
def lower : IVec S1x512 1 := k0_pay8

/-- The block-diagonal ones that sum a head. -/
def ones : FVec F S512x512 .bf16 := k0_pay9 (View.ld x7 r0_3)

/-- The keys' projection. -/
def keyRow : FVec F S256x512 .f32 := k0_pay11 (normed x0 x1) (View.ld x2 r0_6)

/-- The gain of the keys' norm. -/
def keyGain : FVec F S1x512 .f32 := k0_pay12 (View.ld x6 r0_5)

/-- What the body leaves in window 10: the rotated queries. -/
def out0_10 : Vec F S256x512 .f32 := View.canon [⟨r0_2, k0_pay10 (normed x0 x1) (cosRow x3) (sinRow x4) lower (View.ld x7 r0_3) (View.ld x2 r0_4) (View.ld x5 r0_5)⟩]

/-- What the body leaves in window 11: the rotated keys. -/
def out0_11 : Vec F S256x512 .f32 := View.canon [⟨r0_2, k0_pay13 (cosRow x3) (sinRow x4) lower (ones x7) (keyRow x0 x1 x2) (keyGain x6)⟩]

/-- What the body leaves in window 12: the values. -/
def out0_12 : Vec F S256x512 .f32 := View.canon [⟨r0_2, k0_pay15 (normed x0 x1) (View.ld x2 r0_8)⟩]

/-- What the body leaves in window 13: the recurrence's scaled queries. -/
def out0_13 : Vec F S256x256 .f32 := View.canon [⟨r0_11, k0_pay18 (normed x0 x1) (View.ld x2 r0_10)⟩]

/-- What the body leaves in window 14: the recurrence's keys. -/
def out0_14 : Vec F S256x256 .f32 := View.canon [⟨r0_11, k0_pay19 (normed x0 x1) (View.ld x2 r0_12)⟩]

/-- What the body leaves in window 15: the recurrence's values. -/
def out0_15 : Vec F S256x512 .f32 := View.canon [⟨r0_2, k0_pay20 (normed x0 x1) (View.ld x2 r0_13)⟩]

/-- What the body leaves in window 16: the recurrence's log decays. -/
def out0_16 : Vec F S256x256 .f32 := View.canon [⟨r0_11, k0_pay1 (k0_pay21 (normed x0 x1) (View.ld x2 r0_14)) (k0_pay22 (View.ld x8 r0_15)) (View.ld x9 r0_16)⟩]

/-- What the body leaves in window 17: the recurrence's output gates. -/
def out0_17 : Vec F S256x512 .f32 := View.canon [⟨r0_2, k0_pay2 (normed x0 x1) (View.ld x2 r0_17)⟩]

/-- What the body leaves in window 18: the first branch's gates. -/
def out0_18 : Vec F S256x1024 .f32 := View.canon [⟨r0_0, k0_pay3 (normed x0 x1) (View.ld x2 r0_18)⟩]

/-- What the body leaves in window 19: the second branch's gates. -/
def out0_19 : Vec F S256x1024 .f32 := View.canon [⟨r0_0, k0_pay4 (normed x0 x1) (View.ld x2 r0_19)⟩]

/-- What the body leaves in window 20: the mean key of the block. -/
def out0_20 : Vec F S1x1x512 .f32 := View.canon [⟨r0_7, k0_pay14 (cosRow x3) (sinRow x4) lower (ones x7) (keyRow x0 x1 x2) (keyGain x6)⟩]

/-- What the body leaves in window 21: the keys turned. -/
def out0_21 : Vec F S1x512x256 .f32 := View.canon [⟨r0_9, k0_pay16 (k0_pay13 (cosRow x3) (sinRow x4) lower (ones x7) (keyRow x0 x1 x2) (keyGain x6))⟩]

/-- What the body leaves in window 22: the values turned. -/
def out0_22 : Vec F S1x512x256 .f32 := View.canon [⟨r0_9, k0_pay17 (k0_pay15 (normed x0 x1) (View.ld x2 r0_8))⟩]

end

/-- One store covers the window. -/
theorem cover_r0_0 (p : Vec F S256x1024 .f32) (y : S256x1024.Idx) :
    ∃ pc ∈ ([⟨r0_0, p⟩] : List (View.Piece (Elt F) S256x1024 .f32)), y ∈ pc.1.set :=
  View.cover_of_tiled [⟨r0_0, p⟩] S256x1024.size (by rfl) y

/-- One store covers the window. -/
theorem cover_r0_11 (p : Vec F S256x256 .f32) (y : S256x256.Idx) :
    ∃ pc ∈ ([⟨r0_11, p⟩] : List (View.Piece (Elt F) S256x256 .f32)), y ∈ pc.1.set :=
  View.cover_of_tiled [⟨r0_11, p⟩] S256x256.size (by rfl) y

/-- One store covers the window. -/
theorem cover_r0_2 (p : Vec F S256x512 .f32) (y : S256x512.Idx) :
    ∃ pc ∈ ([⟨r0_2, p⟩] : List (View.Piece (Elt F) S256x512 .f32)), y ∈ pc.1.set :=
  View.cover_of_tiled [⟨r0_2, p⟩] S256x512.size (by rfl) y

/-- One store covers the window. -/
theorem cover_r0_7 (p : Vec F S1x1x512 .f32) (y : S1x1x512.Idx) :
    ∃ pc ∈ ([⟨r0_7, p⟩] : List (View.Piece (Elt F) S1x1x512 .f32)), y ∈ pc.1.set :=
  View.cover_of_tiled [⟨r0_7, p⟩] S1x1x512.size (by rfl) y

/-- One store covers the window. -/
theorem cover_r0_9 (p : Vec F S1x512x256 .f32) (y : S1x512x256.Idx) :
    ∃ pc ∈ ([⟨r0_9, p⟩] : List (View.Piece (Elt F) S1x512x256 .f32)), y ∈ pc.1.set :=
  View.cover_of_tiled [⟨r0_9, p⟩] S1x512x256.size (by rfl) y

/-! ## The body -/

set_option maxHeartbeats 1000000 in
/-- The body run on whole buffers leaves the inputs' as they were and each output's at its value. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x5248 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S128x256 .bf16) (harg9 : arg9.IsWhole) (arg10 : Memref sig .tc .vmem S1x256 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x512 .f32) (harg16 : arg16.IsWhole) (arg17 : Memref sig .tc .vmem S256x256 .f32) (harg17 : arg17.IsWhole) (arg18 : Memref sig .tc .vmem S256x512 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S1x1x512 .f32) (harg21 : arg21.IsWhole) (arg22 : Memref sig .tc .vmem S1x512x256 .f32) (harg22 : arg22.IsWhole) (arg23 : Memref sig .tc .vmem S1x512x256 .f32) (harg23 : arg23.IsWhole)
    (x0 : Vec F S256x1024 .f32) (x1 : Vec F S1x1024 .f32) (x2 : Vec F S1024x5248 .bf16) (x3 : Vec F S256x512 .f32) (x4 : Vec F S256x512 .f32) (x5 : Vec F S1x512 .f32) (x6 : Vec F S1x512 .f32) (x7 : Vec F S512x512 .bf16) (x8 : Vec F S128x256 .bf16) (x9 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x7) ∗ owns (c : Thread nD τ) arg12 fullShare (out0_11 x0 x1 x2 x3 x4 x6 x7) ∗ owns (c : Thread nD τ) arg13 fullShare (out0_12 x0 x1 x2) ∗ owns (c : Thread nD τ) arg14 fullShare (out0_13 x0 x1 x2) ∗ owns (c : Thread nD τ) arg15 fullShare (out0_14 x0 x1 x2) ∗ owns (c : Thread nD τ) arg16 fullShare (out0_15 x0 x1 x2) ∗ owns (c : Thread nD τ) arg17 fullShare (out0_16 x0 x1 x2 x8 x9) ∗ owns (c : Thread nD τ) arg18 fullShare (out0_17 x0 x1 x2) ∗ owns (c : Thread nD τ) arg19 fullShare (out0_18 x0 x1 x2) ∗ owns (c : Thread nD τ) arg20 fullShare (out0_19 x0 x1 x2) ∗ owns (c : Thread nD τ) arg21 fullShare (out0_20 x0 x1 x2 x3 x4 x6 x7) ∗ owns (c : Thread nD τ) arg22 fullShare (out0_21 x0 x1 x2 x3 x4 x6 x7) ∗ owns (c : Thread nD τ) arg23 fullShare (out0_22 x0 x1 x2)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_inproj_eq_skeleton]; unfold cc0_inproj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact (View.read_writes_eq_canon _ _ _ (cover_r0_2 _)).trans rfl
  isplitl [H11]
  · iexists _; isplitr; swap; · iexact H11
    ipureintro; exact (View.read_writes_eq_canon _ _ _ (cover_r0_2 _)).trans rfl
  isplitl [H12]
  · iexists _; isplitr; swap; · iexact H12
    ipureintro; exact (View.read_writes_eq_canon _ _ _ (cover_r0_2 _)).trans rfl
  isplitl [H13]
  · iexists _; isplitr; swap; · iexact H13
    ipureintro; exact (View.read_writes_eq_canon _ _ _ (cover_r0_11 _)).trans rfl
  isplitl [H14]
  · iexists _; isplitr; swap; · iexact H14
    ipureintro; exact (View.read_writes_eq_canon _ _ _ (cover_r0_11 _)).trans rfl
  isplitl [H15]
  · iexists _; isplitr; swap; · iexact H15
    ipureintro; exact (View.read_writes_eq_canon _ _ _ (cover_r0_2 _)).trans rfl
  isplitl [H16]
  · iexists _; isplitr; swap; · iexact H16
    ipureintro; exact (View.read_writes_eq_canon _ _ _ (cover_r0_11 _)).trans rfl
  isplitl [H17]
  · iexists _; isplitr; swap; · iexact H17
    ipureintro; exact (View.read_writes_eq_canon _ _ _ (cover_r0_2 _)).trans rfl
  isplitl [H18]
  · iexists _; isplitr; swap; · iexact H18
    ipureintro; exact (View.read_writes_eq_canon _ _ _ (cover_r0_0 _)).trans rfl
  isplitl [H19]
  · iexists _; isplitr; swap; · iexact H19
    ipureintro; exact (View.read_writes_eq_canon _ _ _ (cover_r0_0 _)).trans rfl
  isplitl [H20]
  · iexists _; isplitr; swap; · iexact H20
    ipureintro; exact (View.read_writes_eq_canon _ _ _ (cover_r0_7 _)).trans rfl
  isplitl [H21]
  · iexists _; isplitr; swap; · iexact H21
    ipureintro; exact (View.read_writes_eq_canon _ _ _ (cover_r0_9 _)).trans rfl
  iexists _; isplitr; swap; · iexact H22
  ipureintro; exact (View.read_writes_eq_canon _ _ _ (cover_r0_9 _)).trans rfl

/-! ## The pipeline's data -/

/-- The arrays as the call finds them; after the body at a point each input's buffer holds its block and each output's the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 7 t)
    | ⟨11, _⟩ => out0_11 (iblk m c 0 t) (iblk m c 1 t) (iblk m c 2 t) (iblk m c 3 t) (iblk m c 4 t) (iblk m c 6 t) (iblk m c 7 t)
    | ⟨12, _⟩ => out0_12 (iblk m c 0 t) (iblk m c 1 t) (iblk m c 2 t)
    | ⟨13, _⟩ => out0_13 (iblk m c 0 t) (iblk m c 1 t) (iblk m c 2 t)
    | ⟨14, _⟩ => out0_14 (iblk m c 0 t) (iblk m c 1 t) (iblk m c 2 t)
    | ⟨15, _⟩ => out0_15 (iblk m c 0 t) (iblk m c 1 t) (iblk m c 2 t)
    | ⟨16, _⟩ => out0_16 (iblk m c 0 t) (iblk m c 1 t) (iblk m c 2 t) (iblk m c 8 t) (iblk m c 9 t)
    | ⟨17, _⟩ => out0_17 (iblk m c 0 t) (iblk m c 1 t) (iblk m c 2 t)
    | ⟨18, _⟩ => out0_18 (iblk m c 0 t) (iblk m c 1 t) (iblk m c 2 t)
    | ⟨19, _⟩ => out0_19 (iblk m c 0 t) (iblk m c 1 t) (iblk m c 2 t)
    | ⟨20, _⟩ => out0_20 (iblk m c 0 t) (iblk m c 1 t) (iblk m c 2 t) (iblk m c 3 t) (iblk m c 4 t) (iblk m c 6 t) (iblk m c 7 t)
    | ⟨21, _⟩ => out0_21 (iblk m c 0 t) (iblk m c 1 t) (iblk m c 2 t) (iblk m c 3 t) (iblk m c 4 t) (iblk m c 6 t) (iblk m c 7 t)
    | ⟨22, _⟩ => out0_22 (iblk m c 0 t) (iblk m c 1 t) (iblk m c 2 t)
    | ⟨_ + 23, h⟩ => absurd h (Nat.not_lt.2 (Nat.le_add_left _ _))
  Φ _ := Pipeline.ΦA spec0 c
  q _ := fullShare
  owed _ := 0

/-- The data's arrays are those the call finds. -/
theorem A_eq (c : Dev nD) (w : Fin cfg0.W) : (dats m 0 c).A w = V m c (Pipeline.arrRef spec0 w) := by
  dsimp only [dats]

theorem after0_10 (c : Dev nD) (t : Fin cfg0.N) : (dats m 0 c).after 10 t = out0_10 (iblk m c 0 t) (iblk m c 1 t) (iblk m c 2 t) (iblk m c 3 t) (iblk m c 4 t) (iblk m c 5 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 6 t) (iblk m c 7 t) := by dsimp only [dats]
theorem after0_12 (c : Dev nD) (t : Fin cfg0.N) : (dats m 0 c).after 12 t = out0_12 (iblk m c 0 t) (iblk m c 1 t) (iblk m c 2 t) := by dsimp only [dats]
theorem after0_13 (c : Dev nD) (t : Fin cfg0.N) : (dats m 0 c).after 13 t = out0_13 (iblk m c 0 t) (iblk m c 1 t) (iblk m c 2 t) := by dsimp only [dats]
theorem after0_14 (c : Dev nD) (t : Fin cfg0.N) : (dats m 0 c).after 14 t = out0_14 (iblk m c 0 t) (iblk m c 1 t) (iblk m c 2 t) := by dsimp only [dats]
theorem after0_15 (c : Dev nD) (t : Fin cfg0.N) : (dats m 0 c).after 15 t = out0_15 (iblk m c 0 t) (iblk m c 1 t) (iblk m c 2 t) := by dsimp only [dats]
theorem after0_16 (c : Dev nD) (t : Fin cfg0.N) : (dats m 0 c).after 16 t = out0_16 (iblk m c 0 t) (iblk m c 1 t) (iblk m c 2 t) (iblk m c 8 t) (iblk m c 9 t) := by dsimp only [dats]
theorem after0_17 (c : Dev nD) (t : Fin cfg0.N) : (dats m 0 c).after 17 t = out0_17 (iblk m c 0 t) (iblk m c 1 t) (iblk m c 2 t) := by dsimp only [dats]
theorem after0_18 (c : Dev nD) (t : Fin cfg0.N) : (dats m 0 c).after 18 t = out0_18 (iblk m c 0 t) (iblk m c 1 t) (iblk m c 2 t) := by dsimp only [dats]
theorem after0_19 (c : Dev nD) (t : Fin cfg0.N) : (dats m 0 c).after 19 t = out0_19 (iblk m c 0 t) (iblk m c 1 t) (iblk m c 2 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 6 t) (iblk m c 7 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 6 t) (iblk m c 7 t) := by dsimp only [dats]
theorem after0_22 (c : Dev nD) (t : Fin cfg0.N) : (dats m 0 c).after 22 t = out0_22 (iblk m c 0 t) (iblk m c 1 t) (iblk m c 2 t) := by dsimp only [dats]
/-! Each input's buffer holds its block at every point, fetched there or not. -/

theorem after0_0 (c : Dev nD) (t : Fin cfg0.N) : (dats m 0 c).after 0 t = iblk m c 0 t := by dsimp only [dats]
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_9 (c : Dev nD) (t : Fin cfg0.N) (d) : (dats m 0 c).before 9 t d = iblk m c 9 t :=
  before0_9_of m (dats m 0 c) (A_eq m c 9) (after0_9 m c) t d
/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body of the table is the body at the point's buffers. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends, each array of the pipeline at what its windows give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- An argument is among the arrays no window writes, and ends as it was launched. -/
theorem kept {r} (h : Pipeline.FramePost cfgs (dats (F := F) m) 0 (V m) r) (c : Dev nD) (b : Ref sig .tc)
    (hb : b ∈ [main_arg0, main_arg1, main_arg2, main_arg3, main_arg4, main_arg5, main_arg6]) (h1 : b.isScoped = false) (h2 : ∀ w, (spec0 w).arr.view.ref ≠ b) : r.2.mem ((c : Thread nD τ).loc b) = m ((c : Thread nD τ).loc b) :=
  ((h c).2 b (Pipeline.mem_restRefs_of b h1 h2)).trans (V_arg m c b hb)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨kept m h.1 c _ (by decide) (by decide) (by decide), kept m h.1 c _ (by decide) (by decide) (by decide), kept m h.1 c _ (by decide) (by decide) (by decide), kept m h.1 c _ (by decide) (by decide) (by decide), kept m h.1 c _ (by decide) (by decide) (by decide), kept m h.1 c _ (by decide) (by decide) (by decide), kept m h.1 c _ (by decide) (by decide) (by decide)⟩, h.2⟩) (run_main_quiescent m ρ)

end Cert.Inproj

end
-- ==== Proof.InprojTransport.lean ====
module
public import Idealize.ShloMosaic.Init
public import Idealize.ShloMosaic.Lib.Claim
public import proofs.«01_k».proof.Defs
public import proofs.«01_k».proof.Proof.Gen.KernelInproj
public import proofs.«01_k».proof.Proof.InprojFrame

/-! The projection's frame, carried over to the program on machine floats: the two programs are the same one. -/

@[expose] public section

set_option maxRecDepth 16384
set_option maxHeartbeats 20000000

noncomputable section

open Idealize.ShloMosaic Idealize.ShloMosaic.TcCoe Idealize.SL.Sem

namespace Cert.Inproj

theorem defs0_eq : Cert.KernelInproj.defs₀ (F := Bits) = Cert.KernelInprojIdeal.defs₀ (F := Bits) := by
  unfold Cert.KernelInproj.defs₀ Cert.KernelInprojIdeal.defs₀
  refine congrArg Defs.onTc (funext fun l => funext fun a => ?_)
  match l, a with
  | 0, (t, s) => rfl

theorem defs_eq : Cert.KernelInproj.defs (F := Bits) = Cert.KernelInprojIdeal.defs (F := Bits) := by
  unfold Cert.KernelInproj.defs Cert.KernelInprojIdeal.defs
  rw [defs0_eq]
  rfl

theorem frame_bits : Cert.quiescent_KernelInproj := fun m g _ => by
  rw [defs_eq]
  exact frame (F := Bits) m g

end Cert.Inproj
-- ==== Proof.InprojRow.lean ====
module
public import Idealize.ShloMosaic.Init
public import Idealize.ShloMosaic.Lib.Claim
public import Idealize.ShloMosaic.Lib.Pointwise
public import Idealize.ShloMosaic.Lib.Pipeline.ValueKit
public import proofs.«01_k».proof.Proof.InprojFrame

/-! The projection's rows: what a row of a block comes to, in the arrays the body reads. -/

@[expose] public section

set_option maxRecDepth 16384

noncomputable section

open Idealize.ShloMosaic Idealize.ShloMosaic.TcCoe Idealize.SL.Sem
open Idealize.ShloMosaic.Pipeline (Dat)

namespace Cert.Inproj
open Cert.KernelInprojIdeal Cert.KernelInprojIdeal.Gen

/-- The angles of the rotation: a position times ten thousand to the power of minus the frequency's index over thirty-two. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1 (Host.powf (broadcastInDim S32 ![] bcast_S_S32 (constant (F := Ideal) S_ .f32 0x461C4000#32))
      (Host.divf (Host.negf (sitofp .f32 (iotaInDim S32 32 0))) (broadcastInDim S32 ![] bcast_S_S32 (constant S_ .f32 0x42000000#32))))))

/-- A row normed by the root of its mean square, times a gain. -/
def normAt (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- A row of eight heads, each normed by the root of its own mean square, times a gain. -/
def headAt (z : Fin 512 → EReal) (g : Fin 512 → EReal) (j : Fin 512) : EReal :=
  z j * Ideal.rsqrt (Ideal.div (∑ e : Fin 64, z ⟨j.val / 64 * 64 + e.val, by omega⟩ * z ⟨j.val / 64 * 64 + e.val, by omega⟩)
      (Ideal.ofBits .f32 0x42800000#32) + Ideal.ofBits .f32 0x358637BD#32) * g j

/-- A row of eight heads, each rotated: the two halves of a head mixed by a cosine and a sine. -/
def ropeAt (y cs sn : Fin 512 → EReal) (j : Fin 512) : EReal :=
  if h : j.val % 64 < 32 then y j * cs j - y ⟨j.val + 32, by omega⟩ * sn j else y j * cs j + y ⟨j.val - 32, by omega⟩ * sn j

/-- The normed rows. -/
theorem normed_at (x0 : Vec Ideal S256x1024 .f32) (x1 : Vec Ideal S1x1024 .f32) (r : Fin 256) (k : Fin 1024) :
    normed (F := Ideal) x0 x1 (ix2 r k) = normAt (fun j => x0 (ix2 r j)) (fun j => x1 (ix2 0 j)) k := by
  pointwise [normed, k0_pay5, normAt]

/-- The lanes of the first half of a head. -/
theorem lower_at : ∀ j : Fin 512, lower (ix2 (0 : Fin 1) j) = if j.val % 64 < 32 then 1#1 else 0#1 := by
  decide +kernel

/-- The queries' epilogue is the keys'. -/
theorem pay10_eq (xn : FVec Ideal S256x1024 .bf16) (a b : FVec Ideal S256x512 .f32) (l : IVec S1x512 1) (bd : Vec Ideal S512x512 .bf16) (w : Vec Ideal S1024x512 .bf16) (g : Vec Ideal S1x512 .f32) :
    k0_pay10 xn a b l bd w g = k0_pay13 a b l (k0_pay9 bd) (k0_pay11 xn w) (k0_pay12 g) := rfl

/-- A head's sum, taken against the block-diagonal ones. -/
theorem sum_head (f : Fin 512 → EReal) (j : Fin 512) :
    ∑ i : Fin 512, f i * (if i.val / 64 = j.val / 64 then (1 : EReal) else 0) = ∑ e : Fin 64, f ⟨j.val / 64 * 64 + e.val, by omega⟩ := by
  rw [Fin.sum_univ_tiles 8 64 rfl]
  rw [Finset.sum_eq_single (⟨j.val / 64, by omega⟩ : Fin 8)]
  · refine Finset.sum_congr rfl fun e _ => ?_
    rw [if_pos (by simp only []; omega), mul_one]
  · intro t _ ht
    refine Finset.sum_eq_zero fun e _ => ?_
    rw [if_neg (fun h => ht (Fin.ext (by simp only [] at h ⊢; omega))), mul_zero]
  · intro h
    exact absurd (Finset.mem_univ _) h

/-- Dividing by sixty-four is multiplying by a sixty-fourth. -/
theorem div64 (a : EReal) : a * Ideal.ofBits .f32 0x3C800000#32 = Ideal.div a (Ideal.ofBits .f32 0x42800000#32) := by
  have h1 : Ideal.ofBits .f32 0x42800000#32 = ((64 : ℝ) : EReal) := by
    simp [Ideal.ofBits, Ideal.ieee]; rw [← EReal.coe_mul]; norm_num
  have h2 : Ideal.ofBits .f32 0x3C800000#32 = ((1 / 64 : ℝ) : EReal) := by
    simp [Ideal.ofBits, Ideal.ieee]; rw [← EReal.coe_mul]; norm_num
  rw [h1, h2, Ideal.div_coe (by norm_num)]

/-- The mean square of a head, as the kernel takes it: the square's remainder after rounding adds nothing where the row is finite. -/
theorem mean_head (z : Fin 512 → EReal) (bd : Fin 512 → Fin 512 → EReal) (hbd : ∀ i j : Fin 512, bd i j = if i.val / 64 = j.val / 64 then (1 : EReal) else 0)
    (hz : ∀ j, ∃ v : ℝ, z j = (v : EReal)) (j : Fin 512) :
    (∑ i : Fin 512, z i * z i * bd i j + ∑ i : Fin 512, (z i * z i - z i * z i) * bd i j) * Ideal.ofBits .f32 0x3C800000#32
      = Ideal.div (∑ e : Fin 64, z ⟨j.val / 64 * 64 + e.val, by omega⟩ * z ⟨j.val / 64 * 64 + e.val, by omega⟩) (Ideal.ofBits .f32 0x42800000#32) := by
  have h0 : ∑ i : Fin 512, (z i * z i - z i * z i) * bd i j = 0 := Finset.sum_eq_zero fun i _ => by
    obtain ⟨v, hv⟩ := hz i
    rw [hv, ← EReal.coe_mul, ← EReal.coe_sub, sub_self, EReal.coe_zero, zero_mul]
  rw [h0, add_zero, div64, ← sum_head (fun i => z i * z i) j]
  exact congrArg (fun s => Ideal.div s _) (Finset.sum_congr rfl fun i _ => by rw [hbd])

set_option maxHeartbeats 2000000 in
/-- The epilogue of queries and keys at a row and a lane, where the row is finite. -/
theorem epilogue (a b z : FVec Ideal S256x512 .f32) (bd : FVec Ideal S512x512 .bf16) (g : FVec Ideal S1x512 .f32)
    (hbd : ∀ i j : Fin 512, bd (ix2 i j) = if i.val / 64 = j.val / 64 then (1 : EReal) else 0)
    (hz : ∀ (r : Fin 256) (j : Fin 512), ∃ v : ℝ, z (ix2 r j) = (v : EReal)) (r : Fin 256) (j : Fin 512) :
    k0_pay13 (F := Ideal) a b lower bd z g (ix2 r j)
      = ropeAt (headAt (fun j => z (ix2 r j)) (fun j => g (ix2 0 j))) (fun j => a (ix2 r j)) (fun j => b (ix2 r j)) j := by
  pointwise [k0_pay13]
  have hY : ∀ j : Fin 512, z (ix2 r j) * Ideal.rsqrt ((∑ x : Fin 512, z (ix2 r x) * z (ix2 r x) * bd (ix2 x j)
      + ∑ x : Fin 512, (z (ix2 r x) * z (ix2 r x) - z (ix2 r x) * z (ix2 r x)) * bd (ix2 x j)) * Ideal.ofBits .f32 0x3C800000#32
        + Ideal.ofBits .f32 0x358637BD#32) * g (ix2 0 j) = headAt (fun j => z (ix2 r j)) (fun j => g (ix2 0 j)) j := fun j => by
    unfold headAt
    exact congrArg (fun s => z (ix2 r j) * Ideal.rsqrt (s + Ideal.ofBits .f32 0x358637BD#32) * g (ix2 0 j))
      (mean_head (fun i => z (ix2 r i)) (fun i j => bd (ix2 i j)) hbd (hz r) j)
  refine (Ideal.add_congr (Ideal.mul_congr (hY j) rfl) (Ideal.mul_congr (congrArg₂ (Scalar.select (lower (ix2 0 j)))
    (congrArg (fun s => 0 - s) (hY ⟨(j.val + 512 - 480) % 512, by omega⟩)) (hY ⟨(j.val + 512 - 32) % 512, by omega⟩)) rfl)).trans ?_
  rw [lower_at]
  unfold ropeAt
  by_cases h : j.val % 64 < 32
  · rw [if_pos h, dif_pos h, show ∀ a b : EReal, Scalar.select 1#1 a b = a from fun _ _ => rfl, zero_sub, EReal.neg_mul, ← sub_eq_add_neg]
    have e : (⟨(j.val + 512 - 480) % 512, by omega⟩ : Fin 512) = ⟨j.val + 32, by omega⟩ := Fin.ext (by simp only []; omega)
    rw [e]
  · rw [if_neg h, dif_neg h, show ∀ a b : EReal, Scalar.select 0#1 a b = b from fun _ _ => rfl]
    have e : (⟨(j.val + 512 - 32) % 512, by omega⟩ : Fin 512) = ⟨j.val - 32, by omega⟩ := Fin.ext (by simp only []; omega)
    rw [e]

section
variable (x0 : Vec Ideal S256x1024 .f32) (x1 : Vec Ideal S1x1024 .f32) (x2 : Vec Ideal S1024x5248 .bf16) (x3 x4 : Vec Ideal S256x512 .f32)
  (x5 x6 : Vec Ideal S1x512 .f32) (x7 : Vec Ideal S512x512 .bf16) (x8 : Vec Ideal S128x256 .bf16) (x9 : Vec Ideal S1x256 .f32)

/-- The log-sigmoid over sixteen, as the body takes it. -/
def decayAt (t : EReal) : EReal :=
  (min t 0 - Ideal.log1p (Ideal.exp (0 - FloatOps.absf (F := Ideal) (φ := .f32) t))) * Ideal.ofBits .f32 0x3D800000#32

/-- A row of the block times a column of the weights. -/
def prAt (r : Fin 256) (j : Fin 5248) : EReal :=
  ∑ k : Fin 1024, normAt (fun j => x0 (ix2 r j)) (fun j => x1 (ix2 0 j)) k * x2 (ix2 k j)

/-- The keys the body holds. -/
def keys : FVec Ideal S256x512 .f32 := k0_pay13 (cosRow x3) (sinRow x4) lower (ones x7) (keyRow x0 x1 x2) (keyGain x6)

/-- A row of the block times a column of the low-rank weights, taken on through the second weights. -/
def linAt (r n : Fin 256) : EReal :=
  (∑ e : Fin 128, prAt x0 x1 x2 r ⟨2560 + e.val, by omega⟩ * x8 (ix2 e n)) + x9 (ix2 0 n)

theorem zrow (w : Vec Ideal S1024x512 .bf16) (r : Fin 256) (j : Fin 512) : k0_pay11 (F := Ideal) (normed x0 x1) w (ix2 r j)
    = ∑ k : Fin 1024, normAt (fun j => x0 (ix2 r j)) (fun j => x1 (ix2 0 j)) k * w (ix2 k j) := by
  pointwise [k0_pay11, normed_at]

theorem out11 (r : Fin 256) (n : Fin 512) : out0_11 (F := Ideal) x0 x1 x2 x3 x4 x6 x7 (ix2 r n) = keys x0 x1 x2 x3 x4 x6 x7 (ix2 r n) := by
  frame_out
  rfl

theorem out12 (r : Fin 256) (n : Fin 512) : out0_12 (F := Ideal) x0 x1 x2 (ix2 r n) = prAt x0 x1 x2 r ⟨1024 + n.val, by omega⟩ := by
  frame_out
  pointwise [k0_pay15, prAt, normed_at]

theorem out13 (r : Fin 256) (n : Fin 256) : out0_13 (F := Ideal) x0 x1 x2 (ix2 r n) = prAt x0 x1 x2 r ⟨1536 + n.val, by omega⟩ * Ideal.ofBits .f32 0x3E000000#32 := by
  frame_out
  pointwise [k0_pay18, prAt, normed_at]

theorem out14 (r : Fin 256) (n : Fin 256) : out0_14 (F := Ideal) x0 x1 x2 (ix2 r n) = prAt x0 x1 x2 r ⟨1792 + n.val, by omega⟩ := by
  frame_out
  pointwise [k0_pay19, prAt, normed_at]

theorem out15 (r : Fin 256) (n : Fin 512) : out0_15 (F := Ideal) x0 x1 x2 (ix2 r n) = prAt x0 x1 x2 r ⟨2048 + n.val, by omega⟩ := by
  frame_out
  pointwise [k0_pay20, prAt, normed_at]

theorem out17 (r : Fin 256) (n : Fin 512) : out0_17 (F := Ideal) x0 x1 x2 (ix2 r n) = prAt x0 x1 x2 r ⟨2688 + n.val, by omega⟩ := by
  frame_out
  pointwise [k0_pay2, prAt, normed_at]

theorem out18 (r : Fin 256) (n : Fin 1024) : out0_18 (F := Ideal) x0 x1 x2 (ix2 r n) = prAt x0 x1 x2 r ⟨3200 + n.val, by omega⟩ := by
  frame_out
  pointwise [k0_pay3, prAt, normed_at]

theorem out19 (r : Fin 256) (n : Fin 1024) : out0_19 (F := Ideal) x0 x1 x2 (ix2 r n) = prAt x0 x1 x2 r ⟨4224 + n.val, by omega⟩ := by
  frame_out
  pointwise [k0_pay4, prAt, normed_at]

theorem out16 (r n : Fin 256) : out0_16 (F := Ideal) x0 x1 x2 x8 x9 (ix2 r n) = decayAt (linAt x0 x1 x2 x8 x9 r n) := by
  frame_out
  pointwise [k0_pay1, k0_pay21, k0_pay22, normed_at, linAt, prAt, decayAt]

theorem out20 (n : Fin 512) : out0_20 (F := Ideal) x0 x1 x2 x3 x4 x6 x7 (ix3 0 0 n)
    = Ideal.div (∑ r : Fin 256, keys x0 x1 x2 x3 x4 x6 x7 (ix2 r n)) (Ideal.ofBits .f32 0x43800000#32) := by
  frame_out
  pointwise [k0_pay14]
  rfl

theorem out21 (r : Fin 256) (n : Fin 512) : out0_21 (F := Ideal) x0 x1 x2 x3 x4 x6 x7 (ix3 0 n r) = keys x0 x1 x2 x3 x4 x6 x7 (ix2 r n) := by
  frame_out
  pointwise [k0_pay16]
  rfl

theorem out22 (r : Fin 256) (n : Fin 512) : out0_22 (F := Ideal) x0 x1 x2 (ix3 0 n r) = prAt x0 x1 x2 r ⟨1024 + n.val, by omega⟩ := by
  frame_out
  pointwise [k0_pay17, k0_pay15, prAt, normed_at]

/-- A normed and rotated projection at an element, when the products are finite. -/
theorem head_at (o : Nat) (ho : o + 512 ≤ 5248) (w : Vec Ideal S1024x512 .bf16) (hw : ∀ (k : Fin 1024) (j : Fin 512), w (ix2 k j) = x2 (ix2 k ⟨o + j.val, by omega⟩))
    (hbd : ∀ i j : Fin 512, x7 (ix2 i j) = if i.val / 64 = j.val / 64 then (1 : EReal) else 0)
    (hz : ∀ r j, ∃ v : ℝ, prAt x0 x1 x2 r j = v) (r : Fin 256) (j : Fin 512) :
    k0_pay13 (F := Ideal) (cosRow x3) (sinRow x4) lower (ones x7) (k0_pay11 (normed x0 x1) w) (k0_pay12 (View.ld x5 r0_5)) (ix2 r j)
      = ropeAt (headAt (fun j => prAt x0 x1 x2 r ⟨o + j.val, by omega⟩) (fun j => x5 (ix2 0 j)))
          (fun j => x3 (ix2 r j)) (fun j => x4 (ix2 r j)) j := by
  have hk : ∀ r j, k0_pay11 (F := Ideal) (normed x0 x1) w (ix2 r j) = prAt x0 x1 x2 r ⟨o + j.val, by omega⟩ := fun r j => by
    refine (zrow x0 x1 w r j).trans ?_
    simp only [hw]
    rfl
  have hc : ∀ j, cosRow x3 (ix2 r j) = x3 (ix2 r j) := fun j => by pointwise [cosRow, k0_pay6]
  have hs : ∀ j, sinRow x4 (ix2 r j) = x4 (ix2 r j) := fun j => by pointwise [sinRow, k0_pay7]
  have hg : ∀ j, k0_pay12 (View.ld x5 r0_5) (ix2 0 j) = x5 (ix2 0 j) := fun j => by pointwise [k0_pay12]
  refine (epilogue _ _ _ _ _ (fun i j => ?_) (fun r j => ?_) r j).trans ?_
  · refine Eq.trans ?_ (hbd i j)
    pointwise [ones, k0_pay9]
  · rw [hk]; exact hz _ _
  · simp only [hk, hc, hs, hg]

theorem out10 (hbd : ∀ i j : Fin 512, x7 (ix2 i j) = if i.val / 64 = j.val / 64 then (1 : EReal) else 0)
    (hz : ∀ r j, ∃ v : ℝ, prAt x0 x1 x2 r j = v) (r : Fin 256) (n : Fin 512) : out0_10 (F := Ideal) x0 x1 x2 x3 x4 x5 x7 (ix2 r n)
    = ropeAt (headAt (fun j => prAt x0 x1 x2 r ⟨0 + j.val, by omega⟩) (fun j => x5 (ix2 0 j)))
        (fun j => x3 (ix2 r j)) (fun j => x4 (ix2 r j)) n := by
  have h : out0_10 (F := Ideal) x0 x1 x2 x3 x4 x5 x7 = k0_pay10 (normed x0 x1) (cosRow x3) (sinRow x4) lower (View.ld x7 r0_3) (View.ld x2 r0_4) (View.ld x5 r0_5) := by
    unfold out0_10
    exact View.canon_cons_unit_lit (S := S256x512) _ _ [] (by decide)
  rw [h, pay10_eq]
  exact head_at x0 x1 x2 x3 x4 x5 x7 0 (by omega) (View.ld x2 r0_4) (fun k j => by pointwise []) hbd hz r n

theorem key_at (hbd : ∀ i j : Fin 512, x7 (ix2 i j) = if i.val / 64 = j.val / 64 then (1 : EReal) else 0)
    (hz : ∀ r j, ∃ v : ℝ, prAt x0 x1 x2 r j = v) (r : Fin 256) (n : Fin 512) : keys x0 x1 x2 x3 x4 x6 x7 (ix2 r n)
    = ropeAt (headAt (fun j => prAt x0 x1 x2 r ⟨512 + j.val, by omega⟩) (fun j => x6 (ix2 0 j)))
        (fun j => x3 (ix2 r j)) (fun j => x4 (ix2 r j)) n :=
  head_at x0 x1 x2 x3 x4 x6 x7 512 (by omega) (View.ld x2 r0_6) (fun k j => by pointwise []) hbd hz r n

end

end Cert.Inproj
-- ==== Proof.InprojRef.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.ReferenceInprojIdeal
public import proofs.«01_k».proof.Proof.InprojRow

/-! The reference's arrays of the projection, and their elements. -/

@[expose] public section

set_option maxRecDepth 16384

noncomputable section

open Idealize.ShloMosaic Idealize.ShloMosaic.TcCoe Idealize.SL.Sem

namespace Cert.Inproj

/-- The projection of every normed row. -/
def Z (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S4x4096x5136 .f32 :=
  Host.dotGeneral Cert.ReferenceInprojIdeal.dot_S4x4096x1024_S1024x5136_S4x4096x5136_2_0_01_1_n_n none (mulf (mulf a0 (broadcastInDim Cert.ReferenceInprojIdeal.S4x4096x1024 ![0, 1, 2] Cert.ReferenceInprojIdeal.Gen.bcast_S4x4096x1_S4x4096x1024_0_1_2 (Host.rsqrt (addf (Host.divf (broadcastInDim Cert.ReferenceInprojIdeal.S4x4096x1 ![0, 1] Cert.ReferenceInprojIdeal.Gen.bcast_S4x4096_S4x4096x1_0_1 (Host.reduceAdd (mulf a0 a0) (constant Cert.ReferenceInprojIdeal.S_ .f32 0x00000000#32) Cert.ReferenceInprojIdeal.Gen.reducesTo_S4x4096x1024_S4x4096_d2 Cert.ReferenceInprojIdeal.Gen.h_S_)) (broadcastInDim Cert.ReferenceInprojIdeal.S4x4096x1 ![] Cert.ReferenceInprojIdeal.Gen.bcast_S_S4x4096x1 (constant Cert.ReferenceInprojIdeal.S_ .f32 0x44800000#32))) (broadcastInDim Cert.ReferenceInprojIdeal.S4x4096x1 ![] Cert.ReferenceInprojIdeal.Gen.bcast_S_S4x4096x1 (constant Cert.ReferenceInprojIdeal.S_ .f32 0x358637BD#32)))))) (broadcastInDim Cert.ReferenceInprojIdeal.S4x4096x1024 ![0, 1, 2] Cert.ReferenceInprojIdeal.Gen.bcast_S1x1x1024_S4x4096x1024_0_1_2 (broadcastInDim Cert.ReferenceInprojIdeal.S1x1x1024 ![2] Cert.ReferenceInprojIdeal.Gen.bcast_S1024_S1x1x1024_2 (shapeCast _ a1 Cert.ReferenceInprojIdeal.Gen.shapeCasts_S1x1024_S1024)))) (shapeCast _ a2 Cert.ReferenceInprojIdeal.Gen.shapeCasts_S1x1024x5136_S1024x5136)

/-- The heads of a projection, each normed by the root of its mean square. -/
def N (h : FVec Ideal Cert.ReferenceInprojIdeal.S4x4096x512 .f32) (g : FVec Ideal Cert.ReferenceInprojIdeal.S1x64 .f32) : FVec Ideal Cert.ReferenceInprojIdeal.S4x4096x8x64 .f32 :=
  mulf (mulf (shapeCast _ h Cert.ReferenceInprojIdeal.Gen.shapeCasts_S4x4096x512_S4x4096x8x64) (broadcastInDim Cert.ReferenceInprojIdeal.S4x4096x8x64 ![0, 1, 2, 3] Cert.ReferenceInprojIdeal.Gen.bcast_S4x4096x8x1_S4x4096x8x64_0_1_2_3 (Host.rsqrt (addf (Host.divf (broadcastInDim Cert.ReferenceInprojIdeal.S4x4096x8x1 ![0, 1, 2] Cert.ReferenceInprojIdeal.Gen.bcast_S4x4096x8_S4x4096x8x1_0_1_2 (Host.reduceAdd (mulf (shapeCast _ h Cert.ReferenceInprojIdeal.Gen.shapeCasts_S4x4096x512_S4x4096x8x64) (shapeCast _ h Cert.ReferenceInprojIdeal.Gen.shapeCasts_S4x4096x512_S4x4096x8x64)) (constant Cert.ReferenceInprojIdeal.S_ .f32 0x00000000#32) Cert.ReferenceInprojIdeal.Gen.reducesTo_S4x4096x8x64_S4x4096x8_d3 Cert.ReferenceInprojIdeal.Gen.h_S_)) (broadcastInDim Cert.ReferenceInprojIdeal.S4x4096x8x1 ![] Cert.ReferenceInprojIdeal.Gen.bcast_S_S4x4096x8x1 (constant Cert.ReferenceInprojIdeal.S_ .f32 0x42800000#32))) (broadcastInDim Cert.ReferenceInprojIdeal.S4x4096x8x1 ![] Cert.ReferenceInprojIdeal.Gen.bcast_S_S4x4096x8x1 (constant Cert.ReferenceInprojIdeal.S_ .f32 0x358637BD#32)))))) (broadcastInDim Cert.ReferenceInprojIdeal.S4x4096x8x64 ![0, 1, 2, 3] Cert.ReferenceInprojIdeal.Gen.bcast_S1x1x1x64_S4x4096x8x64_0_1_2_3 (broadcastInDim Cert.ReferenceInprojIdeal.S1x1x1x64 ![3] Cert.ReferenceInprojIdeal.Gen.bcast_S64_S1x1x1x64_3 (shapeCast _ g Cert.ReferenceInprojIdeal.Gen.shapeCasts_S1x64_S64)))

/-- The normed heads, rotated. -/
def rot (h : FVec Ideal Cert.ReferenceInprojIdeal.S4x4096x512 .f32) (g : FVec Ideal Cert.ReferenceInprojIdeal.S1x64 .f32) : FVec Ideal Cert.ReferenceInprojIdeal.S4x4096x8x64 .f32 :=
  concatenate Cert.ReferenceInprojIdeal.S4x4096x8x64 3 [⟨Cert.ReferenceInprojIdeal.S4x4096x8x32, (subf (mulf (extractStridedSlice Cert.ReferenceInprojIdeal.S4x4096x8x32 ![0, 0, 0, 0] (N h g) Cert.ReferenceInprojIdeal.Gen.slices_S4x4096x8x64_S4x4096x8x32_0_0_0_0) (broadcastInDim Cert.ReferenceInprojIdeal.S4x4096x8x32 ![0, 1, 2, 3] Cert.ReferenceInprojIdeal.Gen.bcast_S1x4096x1x32_S4x4096x8x32_0_1_2_3 (broadcastInDim Cert.ReferenceInprojIdeal.S1x4096x1x32 ![1, 3] Cert.ReferenceInprojIdeal.Gen.bcast_S4096x32_S1x4096x1x32_1_3 (Host.cos angles)))) (mulf (extractStridedSlice Cert.ReferenceInprojIdeal.S4x4096x8x32 ![0, 0, 0, 32] (N h g) Cert.ReferenceInprojIdeal.Gen.slices_S4x4096x8x64_S4x4096x8x32_0_0_0_32) (broadcastInDim Cert.ReferenceInprojIdeal.S4x4096x8x32 ![0, 1, 2, 3] Cert.ReferenceInprojIdeal.Gen.bcast_S1x4096x1x32_S4x4096x8x32_0_1_2_3 (broadcastInDim Cert.ReferenceInprojIdeal.S1x4096x1x32 ![1, 3] Cert.ReferenceInprojIdeal.Gen.bcast_S4096x32_S1x4096x1x32_1_3 (Host.sin angles)))))⟩, ⟨Cert.ReferenceInprojIdeal.S4x4096x8x32, (addf (mulf (extractStridedSlice Cert.ReferenceInprojIdeal.S4x4096x8x32 ![0, 0, 0, 32] (N h g) Cert.ReferenceInprojIdeal.Gen.slices_S4x4096x8x64_S4x4096x8x32_0_0_0_32) (broadcastInDim Cert.ReferenceInprojIdeal.S4x4096x8x32 ![0, 1, 2, 3] Cert.ReferenceInprojIdeal.Gen.bcast_S1x4096x1x32_S4x4096x8x32_0_1_2_3 (broadcastInDim Cert.ReferenceInprojIdeal.S1x4096x1x32 ![1, 3] Cert.ReferenceInprojIdeal.Gen.bcast_S4096x32_S1x4096x1x32_1_3 (Host.cos angles)))) (mulf (extractStridedSlice Cert.ReferenceInprojIdeal.S4x4096x8x32 ![0, 0, 0, 0] (N h g) Cert.ReferenceInprojIdeal.Gen.slices_S4x4096x8x64_S4x4096x8x32_0_0_0_0) (broadcastInDim Cert.ReferenceInprojIdeal.S4x4096x8x32 ![0, 1, 2, 3] Cert.ReferenceInprojIdeal.Gen.bcast_S1x4096x1x32_S4x4096x8x32_0_1_2_3 (broadcastInDim Cert.ReferenceInprojIdeal.S1x4096x1x32 ![1, 3] Cert.ReferenceInprojIdeal.Gen.bcast_S4096x32_S1x4096x1x32_1_3 (Host.sin angles)))))⟩] Cert.ReferenceInprojIdeal.Gen.concatenates_S4x4096x8x32_S4x4096x8x32_S4x4096x8x64_d3

/-- What the gate's log-sigmoid is taken of. -/
def lin (a0 : FVec Ideal Cert.ReferenceInprojIdeal.S4x4096x1024 .f32) (a1 : FVec Ideal Cert.ReferenceInprojIdeal.S1x1024 .f32) (a2 : FVec Ideal Cert.ReferenceInprojIdeal.S1x1024x5136 .f32) (a5 : FVec Ideal Cert.ReferenceInprojIdeal.S1x16x256 .f32) (a6 : FVec Ideal Cert.ReferenceInprojIdeal.S1x256 .f32) : FVec Ideal Cert.ReferenceInprojIdeal.S4x4096x256 .f32 :=
  addf (Host.dotGeneral Cert.ReferenceInprojIdeal.dot_S4x4096x16_S16x256_S4x4096x256_2_0_01_1_n_n none (extractStridedSlice Cert.ReferenceInprojIdeal.S4x4096x16 ![0, 0, 2560] (Z a0 a1 a2) Cert.ReferenceInprojIdeal.Gen.slices_S4x4096x5136_S4x4096x16_0_0_2560) (shapeCast _ a5 Cert.ReferenceInprojIdeal.Gen.shapeCasts_S1x16x256_S16x256)) (broadcastInDim Cert.ReferenceInprojIdeal.S4x4096x256 ![0, 1, 2] Cert.ReferenceInprojIdeal.Gen.bcast_S1x1x256_S4x4096x256_0_1_2 (broadcastInDim Cert.ReferenceInprojIdeal.S1x1x256 ![2] Cert.ReferenceInprojIdeal.Gen.bcast_S256_S1x1x256_2 (shapeCast _ a6 Cert.ReferenceInprojIdeal.Gen.shapeCasts_S1x256_S256)))

/-- Result 0: the queries. -/
def R0 (a0 : FVec Ideal Cert.ReferenceInprojIdeal.S4x4096x1024 .f32) (a1 : FVec Ideal Cert.ReferenceInprojIdeal.S1x1024 .f32) (a2 : FVec Ideal Cert.ReferenceInprojIdeal.S1x1024x5136 .f32) (a3 : FVec Ideal Cert.ReferenceInprojIdeal.S1x64 .f32) : FVec Ideal Cert.ReferenceInprojIdeal.S16384x512 .f32 :=
  shapeCast _ (rot (extractStridedSlice Cert.ReferenceInprojIdeal.S4x4096x512 ![0, 0, 0] (Z a0 a1 a2) Cert.ReferenceInprojIdeal.Gen.slices_S4x4096x5136_S4x4096x512_0_0_0) a3) Cert.ReferenceInprojIdeal.Gen.shapeCasts_S4x4096x8x64_S16384x512

/-- Result 1: the keys. -/
def R1 (a0 : FVec Ideal Cert.ReferenceInprojIdeal.S4x4096x1024 .f32) (a1 : FVec Ideal Cert.ReferenceInprojIdeal.S1x1024 .f32) (a2 : FVec Ideal Cert.ReferenceInprojIdeal.S1x1024x5136 .f32) (a4 : FVec Ideal Cert.ReferenceInprojIdeal.S1x64 .f32) : FVec Ideal Cert.ReferenceInprojIdeal.S16384x512 .f32 :=
  shapeCast _ (rot (extractStridedSlice Cert.ReferenceInprojIdeal.S4x4096x512 ![0, 0, 512] (Z a0 a1 a2) Cert.ReferenceInprojIdeal.Gen.slices_S4x4096x5136_S4x4096x512_0_0_512) a4) Cert.ReferenceInprojIdeal.Gen.shapeCasts_S4x4096x8x64_S16384x512

/-- Result 2: the values. -/
def R2 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x512 .f32 :=
  shapeCast _ (extractStridedSlice Cert.ReferenceInprojIdeal.S4x4096x512 ![0, 0, 1024] (Z a0 a1 a2) Cert.ReferenceInprojIdeal.Gen.slices_S4x4096x5136_S4x4096x512_0_0_1024) Cert.ReferenceInprojIdeal.Gen.shapeCasts_S4x4096x512_S16384x512

/-- Result 3: the recurrence's scaled queries. -/
def R3 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x256 .f32 :=
  shapeCast _ (mulf (extractStridedSlice Cert.ReferenceInprojIdeal.S4x4096x256 ![0, 0, 1536] (Z a0 a1 a2) Cert.ReferenceInprojIdeal.Gen.slices_S4x4096x5136_S4x4096x256_0_0_1536) (broadcastInDim Cert.ReferenceInprojIdeal.S4x4096x256 ![] Cert.ReferenceInprojIdeal.Gen.bcast_S_S4x4096x256 (constant Cert.ReferenceInprojIdeal.S_ .f32 0x3E000000#32))) Cert.ReferenceInprojIdeal.Gen.shapeCasts_S4x4096x256_S16384x256

/-- Result 4: the recurrence's keys. -/
def R4 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x256 .f32 :=
  shapeCast _ (extractStridedSlice Cert.ReferenceInprojIdeal.S4x4096x256 ![0, 0, 1792] (Z a0 a1 a2) Cert.ReferenceInprojIdeal.Gen.slices_S4x4096x5136_S4x4096x256_0_0_1792) Cert.ReferenceInprojIdeal.Gen.shapeCasts_S4x4096x256_S16384x256

/-- Result 5: the recurrence's values. -/
def R5 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x512 .f32 :=
  shapeCast _ (extractStridedSlice Cert.ReferenceInprojIdeal.S4x4096x512 ![0, 0, 2048] (Z a0 a1 a2) Cert.ReferenceInprojIdeal.Gen.slices_S4x4096x5136_S4x4096x512_0_0_2048) Cert.ReferenceInprojIdeal.Gen.shapeCasts_S4x4096x512_S16384x512

/-- Result 6: the recurrence's log decays. -/
def R6 (a0 : FVec Ideal Cert.ReferenceInprojIdeal.S4x4096x1024 .f32) (a1 : FVec Ideal Cert.ReferenceInprojIdeal.S1x1024 .f32) (a2 : FVec Ideal Cert.ReferenceInprojIdeal.S1x1024x5136 .f32) (a5 : FVec Ideal Cert.ReferenceInprojIdeal.S1x16x256 .f32) (a6 : FVec Ideal Cert.ReferenceInprojIdeal.S1x256 .f32) : FVec Ideal Cert.ReferenceInprojIdeal.S16384x256 .f32 :=
  shapeCast _ (Host.divf (Host.negf (select (cmpf .une (subf (Host.negf (lin a0 a1 a2 a5 a6)) (broadcastInDim Cert.ReferenceInprojIdeal.S4x4096x256 ![] Cert.ReferenceInprojIdeal.Gen.bcast_S_S4x4096x256 (constant Cert.ReferenceInprojIdeal.S_ .f32 0x00000000#32))) (subf (Host.negf (lin a0 a1 a2 a5 a6)) (broadcastInDim Cert.ReferenceInprojIdeal.S4x4096x256 ![] Cert.ReferenceInprojIdeal.Gen.bcast_S_S4x4096x256 (constant Cert.ReferenceInprojIdeal.S_ .f32 0x00000000#32)))) (addf (Host.negf (lin a0 a1 a2 a5 a6)) (broadcastInDim Cert.ReferenceInprojIdeal.S4x4096x256 ![] Cert.ReferenceInprojIdeal.Gen.bcast_S_S4x4096x256 (constant Cert.ReferenceInprojIdeal.S_ .f32 0x00000000#32))) (addf (maximumf (Host.negf (lin a0 a1 a2 a5 a6)) (broadcastInDim Cert.ReferenceInprojIdeal.S4x4096x256 ![] Cert.ReferenceInprojIdeal.Gen.bcast_S_S4x4096x256 (constant Cert.ReferenceInprojIdeal.S_ .f32 0x00000000#32))) (Host.log1p (Host.exp (Host.negf (Host.absf (subf (Host.negf (lin a0 a1 a2 a5 a6)) (broadcastInDim Cert.ReferenceInprojIdeal.S4x4096x256 ![] Cert.ReferenceInprojIdeal.Gen.bcast_S_S4x4096x256 (constant Cert.ReferenceInprojIdeal.S_ .f32 0x00000000#32)))))))))) (broadcastInDim Cert.ReferenceInprojIdeal.S4x4096x256 ![] Cert.ReferenceInprojIdeal.Gen.bcast_S_S4x4096x256 (constant Cert.ReferenceInprojIdeal.S_ .f32 0x41800000#32))) Cert.ReferenceInprojIdeal.Gen.shapeCasts_S4x4096x256_S16384x256

/-- Result 7: the recurrence's output gates. -/
def R7 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x512 .f32 :=
  shapeCast _ (extractStridedSlice Cert.ReferenceInprojIdeal.S4x4096x512 ![0, 0, 2576] (Z a0 a1 a2) Cert.ReferenceInprojIdeal.Gen.slices_S4x4096x5136_S4x4096x512_0_0_2576) Cert.ReferenceInprojIdeal.Gen.shapeCasts_S4x4096x512_S16384x512

/-- Result 8: the first branch's gates. -/
def R8 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x1024 .f32 :=
  shapeCast _ (extractStridedSlice Cert.ReferenceInprojIdeal.S4x4096x1024 ![0, 0, 3088] (Z a0 a1 a2) Cert.ReferenceInprojIdeal.Gen.slices_S4x4096x5136_S4x4096x1024_0_0_3088) Cert.ReferenceInprojIdeal.Gen.shapeCasts_S4x4096x1024_S16384x1024

/-- Result 9: the second branch's gates. -/
def R9 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S16384x1024 .f32 :=
  shapeCast _ (extractStridedSlice Cert.ReferenceInprojIdeal.S4x4096x1024 ![0, 0, 4112] (Z a0 a1 a2) Cert.ReferenceInprojIdeal.Gen.slices_S4x4096x5136_S4x4096x1024_0_0_4112) Cert.ReferenceInprojIdeal.Gen.shapeCasts_S4x4096x1024_S16384x1024

/-- Result 10: the mean keys. -/
def R10 (a0 : FVec Ideal Cert.ReferenceInprojIdeal.S4x4096x1024 .f32) (a1 : FVec Ideal Cert.ReferenceInprojIdeal.S1x1024 .f32) (a2 : FVec Ideal Cert.ReferenceInprojIdeal.S1x1024x5136 .f32) (a4 : FVec Ideal Cert.ReferenceInprojIdeal.S1x64 .f32) : FVec Ideal Cert.ReferenceInprojIdeal.S64x1x512 .f32 :=
  shapeCast _ (Host.divf (Host.reduceAdd (shapeCast _ (rot (extractStridedSlice Cert.ReferenceInprojIdeal.S4x4096x512 ![0, 0, 512] (Z a0 a1 a2) Cert.ReferenceInprojIdeal.Gen.slices_S4x4096x5136_S4x4096x512_0_0_512) a4) Cert.ReferenceInprojIdeal.Gen.shapeCasts_S4x4096x8x64_S4x16x256x8x64) (constant Cert.ReferenceInprojIdeal.S_ .f32 0x00000000#32) Cert.ReferenceInprojIdeal.Gen.reducesTo_S4x16x256x8x64_S4x16x8x64_d2 Cert.ReferenceInprojIdeal.Gen.h_S_) (broadcastInDim Cert.ReferenceInprojIdeal.S4x16x8x64 ![] Cert.ReferenceInprojIdeal.Gen.bcast_S_S4x16x8x64 (constant Cert.ReferenceInprojIdeal.S_ .f32 0x43800000#32))) Cert.ReferenceInprojIdeal.Gen.shapeCasts_S4x16x8x64_S64x1x512

/-- Result 11: the keys turned. -/
def R11 (a0 : FVec Ideal Cert.ReferenceInprojIdeal.S4x4096x1024 .f32) (a1 : FVec Ideal Cert.ReferenceInprojIdeal.S1x1024 .f32) (a2 : FVec Ideal Cert.ReferenceInprojIdeal.S1x1024x5136 .f32) (a4 : FVec Ideal Cert.ReferenceInprojIdeal.S1x64 .f32) : FVec Ideal Cert.ReferenceInprojIdeal.S4x512x4096 .f32 :=
  transpose Cert.ReferenceInprojIdeal.S4x512x4096 [0, 2, 1] (shapeCast _ (rot (extractStridedSlice Cert.ReferenceInprojIdeal.S4x4096x512 ![0, 0, 512] (Z a0 a1 a2) Cert.ReferenceInprojIdeal.Gen.slices_S4x4096x5136_S4x4096x512_0_0_512) a4) Cert.ReferenceInprojIdeal.Gen.shapeCasts_S4x4096x8x64_S4x4096x512) Cert.ReferenceInprojIdeal.Gen.transposes_S4x4096x512_S4x512x4096_0_2_1

/-- Result 12: the values turned. -/
def R12 (a0 : FVec Ideal Cert.ReferenceInprojIdeal.S4x4096x1024 .f32) (a1 : FVec Ideal Cert.ReferenceInprojIdeal.S1x1024 .f32) (a2 : FVec Ideal Cert.ReferenceInprojIdeal.S1x1024x5136 .f32) : FVec Ideal Cert.ReferenceInprojIdeal.S4x512x4096 .f32 :=
  transpose Cert.ReferenceInprojIdeal.S4x512x4096 [0, 2, 1] (extractStridedSlice Cert.ReferenceInprojIdeal.S4x4096x512 ![0, 0, 1024] (Z a0 a1 a2) Cert.ReferenceInprojIdeal.Gen.slices_S4x4096x5136_S4x4096x512_0_0_1024) Cert.ReferenceInprojIdeal.Gen.transposes_S4x4096x512_S4x512x4096_0_2_1

/-- An element of the projection. -/
def zAt (a0 : FVec Ideal Cert.ReferenceInprojIdeal.S4x4096x1024 .f32) (a1 : FVec Ideal Cert.ReferenceInprojIdeal.S1x1024 .f32) (a2 : FVec Ideal Cert.ReferenceInprojIdeal.S1x1024x5136 .f32) (b : Fin 4) (t : Fin 4096) (j : Fin 5136) : EReal :=
  ∑ k : Fin 1024, normAt (fun k => a0 (ix3 b t k)) (fun k => a1 (ix2 0 k)) k * a2 (ix3 0 k j)

/-- An element of the queries or keys: the row of a projection, normed head by head and rotated. -/
def qkAt (h : Fin 512 → EReal) (g : FVec Ideal Cert.ReferenceInprojIdeal.S1x64 .f32) (t : Fin 4096) (j : Fin 512) : EReal :=
  ropeAt (headAt h (fun j => g (ix2 0 ⟨j.val % 64, by omega⟩))) (fun j => Ideal.cos (angles (ix2 t ⟨j.val % 32, by omega⟩)))
    (fun j => Ideal.sin (angles (ix2 t ⟨j.val % 32, by omega⟩))) j

section
variable (a0 : FVec Ideal Cert.ReferenceInprojIdeal.S4x4096x1024 .f32) (a1 : FVec Ideal Cert.ReferenceInprojIdeal.S1x1024 .f32) (a2 : FVec Ideal Cert.ReferenceInprojIdeal.S1x1024x5136 .f32) (g : FVec Ideal Cert.ReferenceInprojIdeal.S1x64 .f32)
  (a5 : FVec Ideal Cert.ReferenceInprojIdeal.S1x16x256 .f32) (a6 : FVec Ideal Cert.ReferenceInprojIdeal.S1x256 .f32)

theorem Z_at (b : Fin 4) (t : Fin 4096) (j : Fin 5136) : Z a0 a1 a2 (ix3 b t j) = zAt a0 a1 a2 b t j := by
  pointwise [Z, zAt, normAt]

theorem N_at (h : FVec Ideal Cert.ReferenceInprojIdeal.S4x4096x512 .f32) (b : Fin 4) (t : Fin 4096) (n : Fin 8) (d : Fin 64) :
    N h g (ix4 b t n d) = headAt (fun j => h (ix3 b t j)) (fun j => g (ix2 0 ⟨j.val % 64, by omega⟩)) ⟨n.val * 64 + d.val, by omega⟩ := by
  pointwise [N, headAt]
  have e : (n.val * 64 + d.val) / 64 = n.val := by omega
  have f : (n.val * 64 + d.val) % 64 = d.val := by omega
  simp only [e, f]

theorem rot_at (h : FVec Ideal Cert.ReferenceInprojIdeal.S4x4096x512 .f32) (b : Fin 4) (t : Fin 4096) (n : Fin 8) (d : Fin 64) :
    rot h g (ix4 b t n d) = qkAt (fun j => h (ix3 b t j)) g t ⟨n.val * 64 + d.val, by omega⟩ := by
  pointwise [rot, qkAt, ropeAt, N_at]
  have e : (n.val * 64 + d.val) % 64 = d.val := by omega
  by_cases hd : d.val < 32
  · have f : (n.val * 64 + d.val) % 32 = d.val := by omega
    have f' : n.val * 64 + (32 + d.val) = n.val * 64 + d.val + 32 := by omega
    refine Eq.trans (dif_pos hd) (Eq.trans ?_ (dif_pos (by omega)).symm)
    simp only [f, f']
  · have f : (n.val * 64 + d.val) % 32 = d.val - 32 := by omega
    have f' : n.val * 64 + (32 + (d.val - 32)) = n.val * 64 + d.val := by omega
    have f'' : n.val * 64 + (d.val - 32) = n.val * 64 + d.val - 32 := by omega
    refine Eq.trans (dif_neg hd) (Eq.trans ?_ (dif_neg (by omega)).symm)
    simp only [f, f', f'']

theorem lane_of_head (n : Fin 512) (h : n.val / 64 * 64 + n.val % 64 < 512) : (⟨n.val / 64 * 64 + n.val % 64, h⟩ : Fin 512) = n :=
  Fin.ext (by show n.val / 64 * 64 + n.val % 64 = n.val; omega)

/-- The log-sigmoid of an element over sixteen, as the reference takes it. -/
theorem log_sigmoid (t : EReal) :
    Ideal.div (-(max (-t) 0 + Ideal.log1p (Ideal.exp (-FloatOps.absf (F := Ideal) (φ := .f32) (-t))))) (Ideal.ofBits .f32 0x41800000#32) = decayAt t := by
  unfold decayAt
  have h16 : Ideal.ofBits .f32 0x41800000#32 = ((16 : ℝ) : EReal) := by
    simp [Ideal.ofBits, Ideal.ieee]
    rw [← EReal.coe_mul]; norm_num
  have hi : Ideal.ofBits .f32 0x3D800000#32 = ((1 / 16 : ℝ) : EReal) := by
    simp [Ideal.ofBits, Ideal.ieee]
    rw [← EReal.coe_mul]; norm_num
  rw [h16, hi, Ideal.div_coe (by norm_num)]
  refine congrArg (· * (((1 / 16 : ℝ)) : EReal)) ?_
  have ha : FloatOps.absf (F := Ideal) (φ := .f32) (-t) = FloatOps.absf (F := Ideal) (φ := .f32) t := by
    show max (-t) (- -t) = max t (-t)
    rw [neg_neg, max_comm]
  rw [ha, zero_sub]
  have hL : ∀ u : EReal, Ideal.log1p (Ideal.exp u) ≠ ⊥ := fun u => by
    unfold Ideal.log1p
    induction u with
    | bot =>
      rw [Ideal.exp_bot, add_zero, ← EReal.coe_one, Ideal.log_coe, if_neg (by norm_num)]
      exact EReal.coe_ne_bot _
    | top =>
      rw [Ideal.exp_top, ← EReal.coe_one, EReal.coe_add_top, Ideal.log_top]
      exact top_ne_bot
    | coe r =>
      rw [Ideal.exp_coe, ← EReal.coe_one, ← EReal.coe_add, Ideal.log_coe, if_neg (by have := Real.exp_pos r; linarith)]
      exact EReal.coe_ne_bot _
  have hm : (max (-t) 0 : EReal) ≠ ⊥ := fun h => by
    have := le_max_right (-t) (0 : EReal)
    rw [h] at this
    simp at this
  rw [EReal.neg_add (Or.inl hm) (Or.inr (hL _))]
  refine congrArg (· - _) ?_
  rcases le_total t 0 with h | h
  · rw [min_eq_left h, max_eq_left (EReal.neg_nonneg.mpr h), neg_neg]
  · rw [min_eq_right h, max_eq_right ((EReal.neg_le_neg_iff.mpr h).trans_eq neg_zero), neg_zero]

theorem R2_at (r : Fin 16384) (n : Fin 512) : R2 a0 a1 a2 (ix2 r n) = zAt a0 a1 a2 ⟨r.val / 4096, by omega⟩ ⟨r.val % 4096, by omega⟩ ⟨1024 + n.val, by omega⟩ := by
  pointwise [R2, Z_at]

theorem R3_at (r : Fin 16384) (n : Fin 256) : R3 a0 a1 a2 (ix2 r n) = zAt a0 a1 a2 ⟨r.val / 4096, by omega⟩ ⟨r.val % 4096, by omega⟩ ⟨1536 + n.val, by omega⟩ * Ideal.ofBits .f32 0x3E000000#32 := by
  pointwise [R3, Z_at]

theorem R4_at (r : Fin 16384) (n : Fin 256) : R4 a0 a1 a2 (ix2 r n) = zAt a0 a1 a2 ⟨r.val / 4096, by omega⟩ ⟨r.val % 4096, by omega⟩ ⟨1792 + n.val, by omega⟩ := by
  pointwise [R4, Z_at]

theorem R5_at (r : Fin 16384) (n : Fin 512) : R5 a0 a1 a2 (ix2 r n) = zAt a0 a1 a2 ⟨r.val / 4096, by omega⟩ ⟨r.val % 4096, by omega⟩ ⟨2048 + n.val, by omega⟩ := by
  pointwise [R5, Z_at]

theorem R7_at (r : Fin 16384) (n : Fin 512) : R7 a0 a1 a2 (ix2 r n) = zAt a0 a1 a2 ⟨r.val / 4096, by omega⟩ ⟨r.val % 4096, by omega⟩ ⟨2576 + n.val, by omega⟩ := by
  pointwise [R7, Z_at]

theorem R8_at (r : Fin 16384) (n : Fin 1024) : R8 a0 a1 a2 (ix2 r n) = zAt a0 a1 a2 ⟨r.val / 4096, by omega⟩ ⟨r.val % 4096, by omega⟩ ⟨3088 + n.val, by omega⟩ := by
  pointwise [R8, Z_at]

theorem R9_at (r : Fin 16384) (n : Fin 1024) : R9 a0 a1 a2 (ix2 r n) = zAt a0 a1 a2 ⟨r.val / 4096, by omega⟩ ⟨r.val % 4096, by omega⟩ ⟨4112 + n.val, by omega⟩ := by
  pointwise [R9, Z_at]

theorem R0_at (r : Fin 16384) (n : Fin 512) : R0 a0 a1 a2 g (ix2 r n)
    = qkAt (fun j => zAt a0 a1 a2 ⟨r.val / 4096, by omega⟩ ⟨r.val % 4096, by omega⟩ ⟨0 + j.val, by omega⟩) g ⟨r.val % 4096, by omega⟩ n := by
  pointwise [R0, rot_at, Z_at]
  simp only [lane_of_head]

theorem R1_at (r : Fin 16384) (n : Fin 512) : R1 a0 a1 a2 g (ix2 r n)
    = qkAt (fun j => zAt a0 a1 a2 ⟨r.val / 4096, by omega⟩ ⟨r.val % 4096, by omega⟩ ⟨512 + j.val, by omega⟩) g ⟨r.val % 4096, by omega⟩ n := by
  pointwise [R1, rot_at, Z_at]
  simp only [lane_of_head]

theorem R6_at (r : Fin 16384) (n : Fin 256) : R6 a0 a1 a2 a5 a6 (ix2 r n)
    = decayAt ((∑ e : Fin 16, zAt a0 a1 a2 ⟨r.val / 4096, by omega⟩ ⟨r.val % 4096, by omega⟩ ⟨2560 + e.val, by omega⟩ * a5 (ix3 0 e n)) + a6 (ix2 0 n)) := by
  pointwise [R6, lin, Z_at]
  rw [if_neg (fun h => h rfl)]
  exact log_sigmoid _

theorem R10_at (p : Fin 64) (n : Fin 512) : R10 a0 a1 a2 g (ix3 p 0 n)
    = Ideal.div (∑ x : Fin 256, qkAt (fun j => zAt a0 a1 a2 ⟨p.val / 16, by omega⟩ ⟨p.val % 16 * 256 + x.val, by omega⟩ ⟨512 + j.val, by omega⟩) g
        ⟨p.val % 16 * 256 + x.val, by omega⟩ n) (Ideal.ofBits .f32 0x43800000#32) := by
  pointwise [R10, rot_at, Z_at]
  simp only [lane_of_head]

theorem turned (y : FVec Ideal Cert.ReferenceInprojIdeal.S4x4096x8x64 .f32) (b : Fin 4) (n : Fin 512) (t : Fin 4096) :
    transpose Cert.ReferenceInprojIdeal.S4x512x4096 [0, 2, 1] (shapeCast _ y Cert.ReferenceInprojIdeal.Gen.shapeCasts_S4x4096x8x64_S4x4096x512) Cert.ReferenceInprojIdeal.Gen.transposes_S4x4096x512_S4x512x4096_0_2_1 (ix3 b n t)
      = y (ix4 b t ⟨n.val / 64, by omega⟩ ⟨n.val % 64, by omega⟩) := by
  pointwise []

theorem R11_at (b : Fin 4) (n : Fin 512) (t : Fin 4096) : R11 a0 a1 a2 g (ix3 b n t)
    = qkAt (fun j => zAt a0 a1 a2 b t ⟨512 + j.val, by omega⟩) g t n := by
  unfold R11
  refine (turned _ b n t).trans ((rot_at _ _ _ _ _ _).trans ?_)
  pointwise [Z_at]
  simp only [lane_of_head]

theorem R12_at (b : Fin 4) (n : Fin 512) (t : Fin 4096) : R12 a0 a1 a2 (ix3 b n t) = zAt a0 a1 a2 b t ⟨1024 + n.val, by omega⟩ := by
  pointwise [R12, Z_at]

end

end Cert.Inproj
-- ==== Proof.InprojFinite.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.Pre_inputs_finite
public import proofs.«01_k».proof.Proof.InprojRef

/-! Finite activations, gain and weights give finite projections. -/

@[expose] public section

set_option maxRecDepth 16384

noncomputable section

open Idealize.ShloMosaic Idealize.ShloMosaic.TcCoe Idealize.SL.Sem

namespace Cert.Inproj

/-- The sum of reals, as extended reals. -/
theorem coe_sum_real {n : Nat} (v : Fin n → ℝ) : ((∑ k, v k : ℝ) : EReal) = ∑ k, (v k : EReal) :=
  map_sum (⟨⟨(↑), EReal.coe_zero⟩, EReal.coe_add⟩ : ℝ →+ EReal) v Finset.univ

/-- A sum of reals is a real. -/
theorem real_sum {n : Nat} (f : Fin n → EReal) (h : ∀ k, ∃ v : ℝ, f k = v) : ∃ v : ℝ, ∑ k, f k = v := by
  choose v hv using h
  exact ⟨∑ k, v k, by rw [coe_sum_real]; exact Finset.sum_congr (M := EReal) rfl fun k _ => hv k⟩

/-- A product of reals is a real. -/
theorem real_mul {a b : EReal} (ha : ∃ v : ℝ, a = v) (hb : ∃ v : ℝ, b = v) : ∃ v : ℝ, a * b = v := by
  obtain ⟨v, rfl⟩ := ha
  obtain ⟨w, rfl⟩ := hb
  exact ⟨v * w, (EReal.coe_mul v w).symm⟩

/-- A finite row, normed, is finite. -/
theorem real_norm (x g : Fin 1024 → EReal) (hx : ∀ k, ∃ v : ℝ, x k = v) (hg : ∀ k, ∃ v : ℝ, g k = v) (k : Fin 1024) : ∃ v : ℝ, normAt x g k = v := by
  refine real_mul (real_mul (hx k) ?_) (hg k)
  choose v hv using hx
  have hs : ∑ j : Fin 1024, x j * x j = ((∑ j : Fin 1024, v j * v j : ℝ) : EReal) := by
    rw [coe_sum_real]
    exact Finset.sum_congr (M := EReal) rfl fun j _ => by rw [hv, EReal.coe_mul]
  have hp : 0 ≤ ∑ j : Fin 1024, v j * v j := Finset.sum_nonneg fun j _ => mul_self_nonneg _
  have h1 : Ideal.ofBits .f32 0x44800000#32 = ((1024 : ℝ) : EReal) := by
    simp [Ideal.ofBits, Ideal.ieee]; rw [← EReal.coe_mul]; norm_num
  obtain ⟨e, he, h2⟩ : ∃ e : ℝ, 0 < e ∧ Ideal.ofBits .f32 0x358637BD#32 = (e : EReal) := by
    refine ⟨8796093 * 2 ^ (-43 : ℤ), by positivity, ?_⟩
    simp [Ideal.ofBits, Ideal.ieee]
  rw [hs, h1, h2, Ideal.div_coe (by norm_num), ← EReal.coe_mul, ← EReal.coe_add, Ideal.rsqrt_coe]
  have hq : 0 < (∑ j : Fin 1024, v j * v j) * (1 / 1024) + e := by positivity
  rw [if_neg (not_lt.mpr hq.le), if_neg hq.ne']
  exact ⟨_, rfl⟩

section
variable (a0 : FVec Ideal Cert.ReferenceInprojIdeal.S4x4096x1024 .f32) (a1 : FVec Ideal Cert.ReferenceInprojIdeal.S1x1024 .f32)
  (a2 : FVec Ideal Cert.ReferenceInprojIdeal.S1x1024x5136 .f32) (a3 a4 : FVec Ideal Cert.ReferenceInprojIdeal.S1x64 .f32)
  (a5 : FVec Ideal Cert.ReferenceInprojIdeal.S1x16x256 .f32) (a6 : FVec Ideal Cert.ReferenceInprojIdeal.S1x256 .f32)

/-- The projection is finite when what it is taken of is. -/
theorem real_z (h0 : ∀ i, ∃ v : ℝ, a0 i = v) (h1 : ∀ i, ∃ v : ℝ, a1 i = v) (h2 : ∀ i, ∃ v : ℝ, a2 i = v) (b : Fin 4) (t : Fin 4096) (j : Fin 5136) :
    ∃ v : ℝ, zAt a0 a1 a2 b t j = v :=
  real_sum _ fun k => real_mul (real_norm _ _ (fun _ => h0 _) (fun _ => h1 _) k) (h2 _)

/-- What is below the top in size is a real. -/
theorem real_of_abs {x : EReal} (h : BitVec.ofBool (decide (FloatOps.absf (F := Ideal) (φ := .f32) x < ⊤)) = 1#1) : ∃ v : ℝ, x = v := by
  have h' : max x (-x) < ⊤ := by
    by_contra hn
    rw [decide_eq_false (show ¬ FloatOps.absf (F := Ideal) (φ := .f32) x < ⊤ from hn)] at h
    exact absurd h (by decide)
  induction x with
  | bot => simp at h'
  | top => simp at h'
  | coe r => exact ⟨r, rfl⟩

/-- The precondition, read. -/
theorem finite_of_pre
    (h : (Cert.Pre_inputs_finite.fn (F := Ideal) a0 a1 a2 a3 a4 a5 a6).1 = (fun _ => 1#1)
      ∧ (Cert.Pre_inputs_finite.fn (F := Ideal) a0 a1 a2 a3 a4 a5 a6).2.1 = (fun _ => 1#1)
      ∧ (Cert.Pre_inputs_finite.fn (F := Ideal) a0 a1 a2 a3 a4 a5 a6).2.2 = (fun _ => 1#1)) :
    (∀ i, ∃ v : ℝ, a0 i = v) ∧ (∀ i, ∃ v : ℝ, a1 i = v) ∧ (∀ i, ∃ v : ℝ, a2 i = v) := by
  have e : Ideal.ofBits .f32 0x7F800000#32 = (⊤ : EReal) := by simp [Ideal.ofBits, Ideal.ieee]
  refine ⟨fun i => real_of_abs ?_, fun i => real_of_abs ?_, fun i => real_of_abs ?_⟩
  · have := congrFun h.1 i
    revert this
    pointwise [Cert.Pre_inputs_finite.fn]
    rw [e]
    exact id
  · have := congrFun h.2.1 i
    revert this
    pointwise [Cert.Pre_inputs_finite.fn]
    rw [e]
    exact id
  · have := congrFun h.2.2 i
    revert this
    pointwise [Cert.Pre_inputs_finite.fn]
    rw [e]
    exact id

end

end Cert.Inproj
-- ==== Proof.InprojHost.lean ====
module
public import Idealize.ShloMosaic.Init
public import Idealize.ShloMosaic.Lib.Claim
public import Idealize.ShloMosaic.Lib.Pointwise
public import Idealize.ShloMosaic.Lib.StableHlo.Run
public import Idealize.ShloMosaic.Lib.Pipeline.ValueKit
public import proofs.«01_k».proof.Proof.InprojRow

/-! What the projection call finds in the arrays the host prepared. -/

@[expose] public section

set_option maxRecDepth 16384

noncomputable section

open Idealize.ShloMosaic Idealize.ShloMosaic.TcCoe Idealize.SL.Sem
open Idealize.ShloMosaic.Pipeline (Dat)

namespace Cert.Inproj
open Cert.KernelInprojIdeal Cert.KernelInprojIdeal.Gen

variable (m : (ℓ : Loc nD τ sig) → Buf (Elt Ideal) ℓ) (c : Dev nD)

set_option maxHeartbeats 4000000

/-- The padding's value. -/
theorem sitofp_zero : FloatOps.sitofp (F := Ideal) FTy.f32 (0#32) = (0 : EReal) := by
  show (((0#32 : BitVec 32).toInt : ℝ) : EReal) = 0; simp

/-- The head of a lane: the lane's number divided by sixty-four, rounded down. -/
theorem head_of : ∀ i : Fin 512, Scalar.select
          (IntOp.andi
            (IntOp.cmpi CmpIPredicate.ne
              (if BitVec.ofNat 32 ↑i = 0 then (0 : BitVec 32) else if (BitVec.ofNat 32 ↑i).msb = true then -1 else 1)
              (if id (constantI S_ 32 64#32) ix0 = 0 then (0 : BitVec 32)
              else if BitVec.msb (id (constantI S_ 32 64#32) ix0) = true then -1 else 1))
            (IntOp.cmpi CmpIPredicate.ne
              (IntOp.remsi ArithUnit.host (BitVec.ofNat 32 ↑i) (id (constantI S_ 32 64#32) ix0)) 0#32))
          (IntOp.subi (IntOp.divsi ArithUnit.host (BitVec.ofNat 32 ↑i) (id (constantI S_ 32 64#32) ix0)) 1#32)
          (IntOp.divsi ArithUnit.host (BitVec.ofNat 32 ↑i) (id (constantI S_ 32 64#32) ix0)) = BitVec.ofNat 32 (i.val / 64) := by
  decide +kernel

/-- Whether two lanes are of one head, as a number. -/
theorem one_or_zero (i j : Fin 512) : FloatOps.uitofp (F := Ideal) FTy.bf16 (IntOp.cmpi CmpIPredicate.eq (BitVec.ofNat 32 (i.val / 64)) (BitVec.ofNat 32 (j.val / 64)))
    = if i.val / 64 = j.val / 64 then (1 : EReal) else 0 := by
  have hb : ∀ a b : Fin 8, IntOp.cmpi CmpIPredicate.eq (BitVec.ofNat 32 a.val) (BitVec.ofNat 32 b.val) = if a.val = b.val then 1#1 else 0#1 := by
    decide +kernel
  have := hb ⟨i.val / 64, by omega⟩ ⟨j.val / 64, by omega⟩
  simp only at this
  rw [this]
  split_ifs
  · show (((1#1 : BitVec 1).toNat : ℝ) : EReal) = 1; simp
  · show (((0#1 : BitVec 1).toNat : ℝ) : EReal) = 0; simp

/-- The rows of the activations. -/
theorem host_x (r : Fin 16384) (k : Fin 1024) : V m c main_v53 (ix2 r k) = m ((c : Thread nD τ).loc main_arg0) (ix3 (⟨r.val / 4096, by omega⟩ : Fin 4) (⟨r.val % 4096, by omega⟩ : Fin 4096) k) := by
  refine (congrFun (?e : V m c main_v53 = ?X) (ix2 r k)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The gain of the rows' norm. -/
theorem host_g (k : Fin 1024) : V m c main_v14 (ix2 0 k) = m ((c : Thread nD τ).loc main_arg1) (ix2 0 k) := by
  refine (congrFun (?e : V m c main_v14 = ?X) (ix2 0 k)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The weights, with a hundred and twelve columns of zeros after the low-rank ones. -/
theorem host_w (k : Fin 1024) (j : Fin 5248) : V m c main_v11 (ix2 k j) = if h : j.val < 2576 then (m ((c : Thread nD τ).loc main_arg2) (ix3 (0 : Fin 1) k (⟨j.val, by omega⟩ : Fin 5136)) : EReal)
      else if h' : j.val < 2688 then (0 : EReal) else m ((c : Thread nD τ).loc main_arg2) (ix3 (0 : Fin 1) k (⟨j.val - 112, by omega⟩ : Fin 5136)) := by
  refine (congrFun (?e : V m c main_v11 = ?X) (ix2 k j)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []
    after_results_simp
    pointwise []
    rw [sitofp_zero]
    by_cases h1 : j.val < 2560
    · have h2 : j.val < 2576 := by omega
      refine Eq.trans (dif_pos h1) (Eq.symm ?_)
      exact dif_pos h2
    refine (dif_neg h1).trans ?_
    by_cases h2 : j.val < 2576
    · refine (dif_pos (show j.val - 2560 < 128 by omega)).trans ((dif_pos (show j.val - 2560 < 16 by omega)).trans (Eq.trans ?_ (dif_pos h2).symm))
      refine congrArg (m ((c : Thread nD τ).loc main_arg2)) ?_
      blk_ext
    by_cases h3 : j.val < 2688
    · refine Eq.trans (dif_pos (show j.val - 2560 < 128 by omega)) (Eq.trans (dif_neg (show ¬ j.val - 2560 < 16 by omega)) (Eq.symm ?_))
      exact (dif_neg h2).trans (dif_pos h3)
    · refine (dif_neg (show ¬ j.val - 2560 < 128 by omega)).trans (Eq.trans ?_ ((dif_neg h2).trans (dif_neg h3)).symm)
      refine congrArg (m ((c : Thread nD τ).loc main_arg2)) ?_
      blk_ext

/-- The table of cosines. -/
theorem host_cos (p : Fin 4096) (j : Fin 512) : V m c main_v48 (ix2 p j) = Ideal.cos (angles (ix2 p ⟨j.val % 32, by omega⟩)) := by
  refine (congrFun (?e : V m c main_v48 = ?X) (ix2 p j)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · unfold angles
    pointwise []

/-- The table of sines. -/
theorem host_sin (p : Fin 4096) (j : Fin 512) : V m c main_v52 (ix2 p j) = Ideal.sin (angles (ix2 p ⟨j.val % 32, by omega⟩)) := by
  refine (congrFun (?e : V m c main_v52 = ?X) (ix2 p j)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · unfold angles
    pointwise []

/-- The gain of the queries' norm, repeated head by head. -/
theorem host_qn (j : Fin 512) : V m c main_v18 (ix2 0 j) = m ((c : Thread nD τ).loc main_arg3) (ix2 0 (⟨j.val % 64, by omega⟩ : Fin 64)) := by
  refine (congrFun (?e : V m c main_v18 = ?X) (ix2 0 j)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The gain of the keys' norm, repeated head by head. -/
theorem host_kn (j : Fin 512) : V m c main_v22 (ix2 0 j) = m ((c : Thread nD τ).loc main_arg4) (ix2 0 (⟨j.val % 64, by omega⟩ : Fin 64)) := by
  refine (congrFun (?e : V m c main_v22 = ?X) (ix2 0 j)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The block-diagonal ones. -/
theorem host_bd (i j : Fin 512) : V m c main_v28 (ix2 i j) = if i.val / 64 = j.val / 64 then (1 : EReal) else 0 := by
  refine (congrFun (?e : V m c main_v28 = ?X) (ix2 i j)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []
    refine (congrArg₂ (fun a b => FloatOps.uitofp (F := Ideal) FTy.bf16 (IntOp.cmpi CmpIPredicate.eq a b)) (head_of i) (head_of j)).trans ?_
    exact one_or_zero i j

/-- The gate's second weights, padded with zero rows. -/
theorem host_w2 (e : Fin 128) (n : Fin 256) : V m c main_v30 (ix2 e n) = if h : e.val < 16 then (m ((c : Thread nD τ).loc main_arg5) (ix3 (0 : Fin 1) (⟨e.val, h⟩ : Fin 16) n) : EReal) else (0 : EReal) := by
  refine (congrFun (?e : V m c main_v30 = ?X) (ix2 e n)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []
    rw [sitofp_zero]

/-- The gate's bias. -/
theorem host_gb (n : Fin 256) : V m c main_v31 (ix2 0 n) = m ((c : Thread nD τ).loc main_arg6) (ix2 0 n) := by
  refine (congrFun (?e : V m c main_v31 = ?X) (ix2 0 n)).trans ?_
  rotate_left
  · unfold V hostOps0 hostOps0_1 hostOps0_2 hostOps0_3 hostOps0_4 hostOps0_5 hostOps0_6
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

end Cert.Inproj
-- ==== Proof.InprojValue.lean ====
module
public import Idealize.ShloMosaic.Init
public import Idealize.ShloMosaic.Lib.Claim
public import Idealize.ShloMosaic.Lib.Pointwise
public import Idealize.ShloMosaic.Lib.Pipeline.ValueKit
public import proofs.«01_k».proof.Proof.InprojHost
public import proofs.«01_k».proof.Proof.InprojRef

/-! The projection: what the kernel stores in each of its results is the reference's array. -/

@[expose] public section

set_option maxRecDepth 16384

noncomputable section

open Idealize.ShloMosaic Idealize.ShloMosaic.TcCoe Idealize.SL.Sem
open Idealize.ShloMosaic.Pipeline (Dat)

namespace Cert.Inproj
open Cert.KernelInprojIdeal Cert.KernelInprojIdeal.Gen

variable (m : (ℓ : Loc nD τ sig) → Buf (Elt Ideal) ℓ) (c : Dev nD)

/-- The windows' block indices at a point. -/
theorem idx : ∀ t : Fin cfg0.N, win0_0.index t = ![t.val, 0] ∧ win0_1.index t = ![0, 0] ∧ win0_2.index t = ![0, 0] ∧ win0_3.index t = ![t.val % 16, 0] ∧ win0_4.index t = ![t.val % 16, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] ∧ win0_20.index t = ![t.val, 0, 0] ∧ win0_21.index t = ![t.val / 16, 0, t.val % 16] ∧ win0_22.index t = ![t.val / 16, 0, t.val % 16] :=
  (by decide +kernel : ∀ t : Fin grid0.N, _)

theorem lt64 (t : Fin cfg0.N) : t.val < 64 := lt_of_lt_of_eq t.isLt N_0

/-! The blocks' elements. -/

section
variable (t : Fin cfg0.N)

theorem blk0 (r : Fin 256) (k : Fin 1024) : (iblk m c 0 t) (ix2 r k) = (m ((c : Thread nD τ).loc main_arg0)) (ix3 (⟨(t.val * 256 + r.val) / 4096, by have := lt64 t; omega⟩ : Fin 4) (⟨(t.val * 256 + r.val) % 4096, by omega⟩ : Fin 4096) k) := by
  have ht := lt64 t
  refine Eq.trans ?_ (host_x m c ⟨t.val * 256 + r.val, by omega⟩ k)
  blk_point [iblk, idx t]

theorem blk1 (k : Fin 1024) : (iblk m c 1 t) (ix2 0 k) = (m ((c : Thread nD τ).loc main_arg1)) (ix2 0 k) := by
  refine Eq.trans ?_ (host_g m c k)
  blk_point [iblk, idx t]

theorem blk2 (k : Fin 1024) (j : Fin 5248) : (iblk m c 2 t) (ix2 k j) = V m c main_v11 (ix2 k j) := by
  blk_point [iblk, idx t]

theorem blk3 (r : Fin 256) (j : Fin 512) : (iblk m c 3 t) (ix2 r j) = Ideal.cos (angles (ix2 ⟨(t.val * 256 + r.val) % 4096, by omega⟩ ⟨j.val % 32, by omega⟩)) := by
  have ht := lt64 t
  have e : (t.val * 256 + r.val) % 4096 = t.val % 16 * 256 + r.val := by omega
  refine Eq.trans ?_ (host_cos m c ⟨(t.val * 256 + r.val) % 4096, by omega⟩ j)
  simp only [e]
  blk_point [iblk, idx t]

theorem blk4 (r : Fin 256) (j : Fin 512) : (iblk m c 4 t) (ix2 r j) = Ideal.sin (angles (ix2 ⟨(t.val * 256 + r.val) % 4096, by omega⟩ ⟨j.val % 32, by omega⟩)) := by
  have ht := lt64 t
  have e : (t.val * 256 + r.val) % 4096 = t.val % 16 * 256 + r.val := by omega
  refine Eq.trans ?_ (host_sin m c ⟨(t.val * 256 + r.val) % 4096, by omega⟩ j)
  simp only [e]
  blk_point [iblk, idx t]

theorem blk5 (j : Fin 512) : (iblk m c 5 t) (ix2 0 j) = (m ((c : Thread nD τ).loc main_arg3)) (ix2 0 (⟨j.val % 64, by omega⟩ : Fin 64)) := by
  refine Eq.trans ?_ (host_qn m c j)
  blk_point [iblk, idx t]

theorem blk6 (j : Fin 512) : (iblk m c 6 t) (ix2 0 j) = (m ((c : Thread nD τ).loc main_arg4)) (ix2 0 (⟨j.val % 64, by omega⟩ : Fin 64)) := by
  refine Eq.trans ?_ (host_kn m c j)
  blk_point [iblk, idx t]

theorem blk7 (i j : Fin 512) : (iblk m c 7 t) (ix2 i j) = if i.val / 64 = j.val / 64 then (1 : EReal) else 0 := by
  refine Eq.trans ?_ (host_bd m c i j)
  blk_point [iblk, idx t]

theorem blk8 (e : Fin 128) (n : Fin 256) : (iblk m c 8 t) (ix2 e n) = V m c main_v30 (ix2 e n) := by
  blk_point [iblk, idx t]

theorem blk9 (n : Fin 256) : (iblk m c 9 t) (ix2 0 n) = (m ((c : Thread nD τ).loc main_arg6)) (ix2 0 n) := by
  refine Eq.trans ?_ (host_gb m c n)
  blk_point [iblk, idx t]

/-! A product of the block is the projection's: before the padding, and past it. -/

theorem pr_lo (r : Fin 256) (j : Fin 5248) (h : j.val < 2576) : prAt (iblk m c 0 t) (iblk m c 1 t) (iblk m c 2 t) r j
    = zAt (m ((c : Thread nD τ).loc main_arg0)) (m ((c : Thread nD τ).loc main_arg1)) (m ((c : Thread nD τ).loc main_arg2)) ⟨(t.val * 256 + r.val) / 4096, by have := lt64 t; omega⟩ ⟨(t.val * 256 + r.val) % 4096, by omega⟩ ⟨j.val, by omega⟩ := by
  unfold prAt zAt
  refine Finset.sum_congr (M := EReal) rfl fun k _ => ?_
  rw [blk2, host_w]
  simp only [blk0, blk1]
  exact congrArg (_ * ·) (dif_pos h)

theorem pr_hi (r : Fin 256) (j : Fin 5248) (h : 2688 ≤ j.val) : prAt (iblk m c 0 t) (iblk m c 1 t) (iblk m c 2 t) r j
    = zAt (m ((c : Thread nD τ).loc main_arg0)) (m ((c : Thread nD τ).loc main_arg1)) (m ((c : Thread nD τ).loc main_arg2)) ⟨(t.val * 256 + r.val) / 4096, by have := lt64 t; omega⟩ ⟨(t.val * 256 + r.val) % 4096, by omega⟩ ⟨j.val - 112, by omega⟩ := by
  unfold prAt zAt
  refine Finset.sum_congr (M := EReal) rfl fun k _ => ?_
  rw [blk2, host_w]
  simp only [blk0, blk1]
  exact congrArg (_ * ·) ((dif_neg (by omega)).trans (dif_neg (by omega)))

theorem pr_pad (r : Fin 256) (j : Fin 5248) (h : 2576 ≤ j.val) (h' : j.val < 2688) : prAt (iblk m c 0 t) (iblk m c 1 t) (iblk m c 2 t) r j = 0 := by
  unfold prAt
  refine Finset.sum_eq_zero fun k _ => ?_
  rw [blk2, host_w]
  exact (congrArg (_ * ·) ((dif_neg (by omega)).trans (dif_pos h'))).trans (mul_zero _)

/-- The low-rank product: the padding adds nothing. -/
theorem lin_eq (r n : Fin 256) : linAt (iblk m c 0 t) (iblk m c 1 t) (iblk m c 2 t) (iblk m c 8 t) (iblk m c 9 t) r n
    = (∑ e : Fin 16, zAt (m ((c : Thread nD τ).loc main_arg0)) (m ((c : Thread nD τ).loc main_arg1)) (m ((c : Thread nD τ).loc main_arg2)) ⟨(t.val * 256 + r.val) / 4096, by have := lt64 t; omega⟩ ⟨(t.val * 256 + r.val) % 4096, by omega⟩ ⟨2560 + e.val, by omega⟩ * (m ((c : Thread nD τ).loc main_arg5)) (ix3 0 e n)) + (m ((c : Thread nD τ).loc main_arg6)) (ix2 0 n) := by
  unfold linAt
  rw [blk9]
  refine Ideal.add_congr ?_ rfl
  refine (Fin.sum_univ_add (M := EReal) (a := 16) (b := 112) _).trans ?_
  refine (Ideal.add_congr (Finset.sum_congr (M := EReal) rfl fun e _ => ?_) (Finset.sum_eq_zero fun e _ => ?_)).trans (add_zero _)
  · rw [blk8, host_w2]
    exact Ideal.mul_congr (pr_lo m c t r _ (by show 2560 + e.val < 2576; omega)) (dif_pos e.isLt)
  · rw [blk8, host_w2]
    exact (congrArg (_ * ·) (dif_neg (by show ¬ 16 + e.val < 16; omega))).trans (mul_zero _)

section
variable (hz : ∀ b t j, ∃ v : ℝ, zAt (m ((c : Thread nD τ).loc main_arg0)) (m ((c : Thread nD τ).loc main_arg1)) (m ((c : Thread nD τ).loc main_arg2)) b t j = v)

include hz in
theorem pr_real (r : Fin 256) (j : Fin 5248) : ∃ v : ℝ, prAt (iblk m c 0 t) (iblk m c 1 t) (iblk m c 2 t) r j = v := by
  by_cases h : j.val < 2576
  · rw [pr_lo m c t r j h]; exact hz _ _ _
  · by_cases h' : j.val < 2688
    · rw [pr_pad m c t r j (by omega) h']; exact ⟨0, rfl⟩
    · rw [pr_hi m c t r j (by omega)]; exact hz _ _ _

include hz in
/-- The rotated keys of the block. -/
theorem keys_eq (r : Fin 256) (n : Fin 512) : keys (iblk m c 0 t) (iblk m c 1 t) (iblk m c 2 t) (iblk m c 3 t) (iblk m c 4 t) (iblk m c 6 t) (iblk m c 7 t) (ix2 r n)
    = qkAt (fun j => zAt (m ((c : Thread nD τ).loc main_arg0)) (m ((c : Thread nD τ).loc main_arg1)) (m ((c : Thread nD τ).loc main_arg2)) ⟨(t.val * 256 + r.val) / 4096, by have := lt64 t; omega⟩ ⟨(t.val * 256 + r.val) % 4096, by omega⟩ ⟨512 + j.val, by omega⟩) (m ((c : Thread nD τ).loc main_arg4)) ⟨(t.val * 256 + r.val) % 4096, by omega⟩ n := by
  rw [key_at _ _ _ _ _ _ _ (blk7 m c t) (pr_real m c t hz)]
  unfold qkAt
  simp only [blk3, blk4, blk6]
  have e : (fun j : Fin 512 => prAt (iblk m c 0 t) (iblk m c 1 t) (iblk m c 2 t) r ⟨512 + j.val, by omega⟩) = fun j => zAt (m ((c : Thread nD τ).loc main_arg0)) (m ((c : Thread nD τ).loc main_arg1)) (m ((c : Thread nD τ).loc main_arg2)) ⟨(t.val * 256 + r.val) / 4096, by have := lt64 t; omega⟩ ⟨(t.val * 256 + r.val) % 4096, by omega⟩ ⟨512 + j.val, by omega⟩ :=
    funext fun j => pr_lo m c t r _ (by show 512 + j.val < 2576; omega)
  rw [e]

end

end

/-! What the body stores at a block index is the reference's array where the block sits, result by result. -/

theorem point10 (t : Fin cfg0.N) (y : S256x512.Idx) (hz : ∀ b t j, ∃ v : ℝ, zAt (m ((c : Thread nD τ).loc main_arg0)) (m ((c : Thread nD τ).loc main_arg1)) (m ((c : Thread nD τ).loc main_arg2)) b t j = v) : out0_10 (F := Ideal) (iblk m c 0 t) (iblk m c 1 t) (iblk m c 2 t) (iblk m c 3 t) (iblk m c 4 t) (iblk m c 5 t) (iblk m c 7 t) y
    = R0 (m ((c : Thread nD τ).loc main_arg0)) (m ((c : Thread nD τ).loc main_arg1)) (m ((c : Thread nD τ).loc main_arg2)) (m ((c : Thread nD τ).loc main_arg3)) (((cfg0.win 10).blk t).view.emb y) := by
  obtain ⟨r, n, rfl⟩ : ∃ (r : Fin 256) (n : Fin 512), y = ix2 r n := ⟨y 0, y 1, by blk_ext⟩
  have ht := lt64 t
  have he : ((cfg0.win 10).blk t).view.emb (ix2 r n) = ix2 (⟨t.val * 256 + r.val, by omega⟩ : Fin 16384) n := by
    blk_ext [idx t]
  refine (out10 _ _ _ _ _ _ _ (blk7 m c t) (pr_real m c t hz) r n).trans (Eq.trans ?_ ((congrArg _ he).trans (R0_at _ _ _ _ _ _)).symm)
  unfold qkAt
  simp only [blk3, blk4, blk5]
  have e : (fun j : Fin 512 => prAt (iblk m c 0 t) (iblk m c 1 t) (iblk m c 2 t) r ⟨0 + j.val, by omega⟩) = fun j => zAt (m ((c : Thread nD τ).loc main_arg0)) (m ((c : Thread nD τ).loc main_arg1)) (m ((c : Thread nD τ).loc main_arg2)) ⟨(t.val * 256 + r.val) / 4096, by have := lt64 t; omega⟩ ⟨(t.val * 256 + r.val) % 4096, by omega⟩ ⟨0 + j.val, by omega⟩ :=
    funext fun j => pr_lo m c t r _ (by show 0 + j.val < 2576; omega)
  rw [e]

theorem final10 (hz : ∀ b t j, ∃ v : ℝ, zAt (m ((c : Thread nD τ).loc main_arg0)) (m ((c : Thread nD τ).loc main_arg1)) (m ((c : Thread nD τ).loc main_arg2)) b t j = v) : (dats m 0 c).arrAt 10 (cfgs 0).N
    = R0 (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  exact point10 m c t y hz

theorem point11 (t : Fin cfg0.N) (y : S256x512.Idx) (hz : ∀ b t j, ∃ v : ℝ, zAt (m ((c : Thread nD τ).loc main_arg0)) (m ((c : Thread nD τ).loc main_arg1)) (m ((c : Thread nD τ).loc main_arg2)) b t j = v) : out0_11 (F := Ideal) (iblk m c 0 t) (iblk m c 1 t) (iblk m c 2 t) (iblk m c 3 t) (iblk m c 4 t) (iblk m c 6 t) (iblk m c 7 t) y
    = R1 (m ((c : Thread nD τ).loc main_arg0)) (m ((c : Thread nD τ).loc main_arg1)) (m ((c : Thread nD τ).loc main_arg2)) (m ((c : Thread nD τ).loc main_arg4)) (((cfg0.win 11).blk t).view.emb y) := by
  obtain ⟨r, n, rfl⟩ : ∃ (r : Fin 256) (n : Fin 512), y = ix2 r n := ⟨y 0, y 1, by blk_ext⟩
  have ht := lt64 t
  have he : ((cfg0.win 11).blk t).view.emb (ix2 r n) = ix2 (⟨t.val * 256 + r.val, by omega⟩ : Fin 16384) n := by
    blk_ext [idx t]
  refine (out11 _ _ _ _ _ _ _ r n).trans (Eq.trans ?_ ((congrArg _ he).trans (R1_at _ _ _ _ _ _)).symm)
  exact keys_eq m c t hz r n

theorem final11 (hz : ∀ b t j, ∃ v : ℝ, zAt (m ((c : Thread nD τ).loc main_arg0)) (m ((c : Thread nD τ).loc main_arg1)) (m ((c : Thread nD τ).loc main_arg2)) b t j = v) : (dats m 0 c).arrAt 11 (cfgs 0).N
    = R1 (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  exact point11 m c t y hz

theorem point12 (t : Fin cfg0.N) (y : S256x512.Idx) : out0_12 (F := Ideal) (iblk m c 0 t) (iblk m c 1 t) (iblk m c 2 t) y
    = R2 (m ((c : Thread nD τ).loc main_arg0)) (m ((c : Thread nD τ).loc main_arg1)) (m ((c : Thread nD τ).loc main_arg2)) (((cfg0.win 12).blk t).view.emb y) := by
  obtain ⟨r, n, rfl⟩ : ∃ (r : Fin 256) (n : Fin 512), y = ix2 r n := ⟨y 0, y 1, by blk_ext⟩
  have ht := lt64 t
  have he : ((cfg0.win 12).blk t).view.emb (ix2 r n) = ix2 (⟨t.val * 256 + r.val, by omega⟩ : Fin 16384) n := by
    blk_ext [idx t]
  refine (out12 _ _ _ r n).trans (Eq.trans ?_ ((congrArg _ he).trans (R2_at _ _ _ _ _)).symm)
  exact pr_lo m c t r ⟨1024 + n.val, by omega⟩ (by show 1024 + n.val < 2576; omega)

theorem final12 : (dats m 0 c).arrAt 12 (cfgs 0).N
    = R2 (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  exact point12 m c t y

theorem point13 (t : Fin cfg0.N) (y : S256x256.Idx) : out0_13 (F := Ideal) (iblk m c 0 t) (iblk m c 1 t) (iblk m c 2 t) y
    = R3 (m ((c : Thread nD τ).loc main_arg0)) (m ((c : Thread nD τ).loc main_arg1)) (m ((c : Thread nD τ).loc main_arg2)) (((cfg0.win 13).blk t).view.emb y) := by
  obtain ⟨r, n, rfl⟩ : ∃ (r : Fin 256) (n : Fin 256), y = ix2 r n := ⟨y 0, y 1, by blk_ext⟩
  have ht := lt64 t
  have he : ((cfg0.win 13).blk t).view.emb (ix2 r n) = ix2 (⟨t.val * 256 + r.val, by omega⟩ : Fin 16384) n := by
    blk_ext [idx t]
  refine (out13 _ _ _ r n).trans (Eq.trans ?_ ((congrArg _ he).trans (R3_at _ _ _ _ _)).symm)
  exact Ideal.mul_congr (pr_lo m c t r ⟨1536 + n.val, by omega⟩ (by show 1536 + n.val < 2576; omega)) rfl

theorem final13 : (dats m 0 c).arrAt 13 (cfgs 0).N
    = R3 (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  exact point13 m c t y

theorem point14 (t : Fin cfg0.N) (y : S256x256.Idx) : out0_14 (F := Ideal) (iblk m c 0 t) (iblk m c 1 t) (iblk m c 2 t) y
    = R4 (m ((c : Thread nD τ).loc main_arg0)) (m ((c : Thread nD τ).loc main_arg1)) (m ((c : Thread nD τ).loc main_arg2)) (((cfg0.win 14).blk t).view.emb y) := by
  obtain ⟨r, n, rfl⟩ : ∃ (r : Fin 256) (n : Fin 256), y = ix2 r n := ⟨y 0, y 1, by blk_ext⟩
  have ht := lt64 t
  have he : ((cfg0.win 14).blk t).view.emb (ix2 r n) = ix2 (⟨t.val * 256 + r.val, by omega⟩ : Fin 16384) n := by
    blk_ext [idx t]
  refine (out14 _ _ _ r n).trans (Eq.trans ?_ ((congrArg _ he).trans (R4_at _ _ _ _ _)).symm)
  exact pr_lo m c t r ⟨1792 + n.val, by omega⟩ (by show 1792 + n.val < 2576; omega)

theorem final14 : (dats m 0 c).arrAt 14 (cfgs 0).N
    = R4 (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  exact point14 m c t y

theorem point15 (t : Fin cfg0.N) (y : S256x512.Idx) : out0_15 (F := Ideal) (iblk m c 0 t) (iblk m c 1 t) (iblk m c 2 t) y
    = R5 (m ((c : Thread nD τ).loc main_arg0)) (m ((c : Thread nD τ).loc main_arg1)) (m ((c : Thread nD τ).loc main_arg2)) (((cfg0.win 15).blk t).view.emb y) := by
  obtain ⟨r, n, rfl⟩ : ∃ (r : Fin 256) (n : Fin 512), y = ix2 r n := ⟨y 0, y 1, by blk_ext⟩
  have ht := lt64 t
  have he : ((cfg0.win 15).blk t).view.emb (ix2 r n) = ix2 (⟨t.val * 256 + r.val, by omega⟩ : Fin 16384) n := by
    blk_ext [idx t]
  refine (out15 _ _ _ r n).trans (Eq.trans ?_ ((congrArg _ he).trans (R5_at _ _ _ _ _)).symm)
  exact pr_lo m c t r ⟨2048 + n.val, by omega⟩ (by show 2048 + n.val < 2576; omega)

theorem final15 : (dats m 0 c).arrAt 15 (cfgs 0).N
    = R5 (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  exact point15 m c t y

theorem point16 (t : Fin cfg0.N) (y : S256x256.Idx) : out0_16 (F := Ideal) (iblk m c 0 t) (iblk m c 1 t) (iblk m c 2 t) (iblk m c 8 t) (iblk m c 9 t) y
    = R6 (m ((c : Thread nD τ).loc main_arg0)) (m ((c : Thread nD τ).loc main_arg1)) (m ((c : Thread nD τ).loc main_arg2)) (m ((c : Thread nD τ).loc main_arg5)) (m ((c : Thread nD τ).loc main_arg6)) (((cfg0.win 16).blk t).view.emb y) := by
  obtain ⟨r, n, rfl⟩ : ∃ (r : Fin 256) (n : Fin 256), y = ix2 r n := ⟨y 0, y 1, by blk_ext⟩
  have ht := lt64 t
  have he : ((cfg0.win 16).blk t).view.emb (ix2 r n) = ix2 (⟨t.val * 256 + r.val, by omega⟩ : Fin 16384) n := by
    blk_ext [idx t]
  refine (out16 _ _ _ _ _ r n).trans (Eq.trans ?_ ((congrArg _ he).trans (R6_at _ _ _ _ _ _ _)).symm)
  exact congrArg decayAt (lin_eq m c t r n)

theorem final16 : (dats m 0 c).arrAt 16 (cfgs 0).N
    = R6 (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 16 _ (by decide +kernel) fun t _ y => ?_
  blk_simp
  rw [after0_16]
  exact point16 m c t y

theorem point17 (t : Fin cfg0.N) (y : S256x512.Idx) : out0_17 (F := Ideal) (iblk m c 0 t) (iblk m c 1 t) (iblk m c 2 t) y
    = R7 (m ((c : Thread nD τ).loc main_arg0)) (m ((c : Thread nD τ).loc main_arg1)) (m ((c : Thread nD τ).loc main_arg2)) (((cfg0.win 17).blk t).view.emb y) := by
  obtain ⟨r, n, rfl⟩ : ∃ (r : Fin 256) (n : Fin 512), y = ix2 r n := ⟨y 0, y 1, by blk_ext⟩
  have ht := lt64 t
  have he : ((cfg0.win 17).blk t).view.emb (ix2 r n) = ix2 (⟨t.val * 256 + r.val, by omega⟩ : Fin 16384) n := by
    blk_ext [idx t]
  refine (out17 _ _ _ r n).trans (Eq.trans ?_ ((congrArg _ he).trans (R7_at _ _ _ _ _)).symm)
  refine (pr_hi m c t r ⟨2688 + n.val, by omega⟩ (by show 2688 ≤ 2688 + n.val; omega)).trans (congrArg _ (Fin.ext ?_))
  show 2688 + n.val - 112 = 2576 + n.val
  omega

theorem final17 : (dats m 0 c).arrAt 17 (cfgs 0).N
    = R7 (m ((c : Thread nD τ).loc main_arg0)) (m ((c : Thread nD τ).loc main_arg1)) (m ((c : Thread nD τ).loc main_arg2)) := by
  refine (dats m 0 c).arrAt_eq_of_covers 17 _ (by decide +kernel) fun t _ y => ?_
  blk_simp
  rw [after0_17]
  exact point17 m c t y

theorem point18 (t : Fin cfg0.N) (y : S256x1024.Idx) : out0_18 (F := Ideal) (iblk m c 0 t) (iblk m c 1 t) (iblk m c 2 t) y
    = R8 (m ((c : Thread nD τ).loc main_arg0)) (m ((c : Thread nD τ).loc main_arg1)) (m ((c : Thread nD τ).loc main_arg2)) (((cfg0.win 18).blk t).view.emb y) := by
  obtain ⟨r, n, rfl⟩ : ∃ (r : Fin 256) (n : Fin 1024), y = ix2 r n := ⟨y 0, y 1, by blk_ext⟩
  have ht := lt64 t
  have he : ((cfg0.win 18).blk t).view.emb (ix2 r n) = ix2 (⟨t.val * 256 + r.val, by omega⟩ : Fin 16384) n := by
    blk_ext [idx t]
  refine (out18 _ _ _ r n).trans (Eq.trans ?_ ((congrArg _ he).trans (R8_at _ _ _ _ _)).symm)
  refine (pr_hi m c t r ⟨3200 + n.val, by omega⟩ (by show 2688 ≤ 3200 + n.val; omega)).trans (congrArg _ (Fin.ext ?_))
  show 3200 + n.val - 112 = 3088 + n.val
  omega

theorem final18 : (dats m 0 c).arrAt 18 (cfgs 0).N
    = R8 (m ((c : Thread nD τ).loc main_arg0)) (m ((c : Thread nD τ).loc main_arg1)) (m ((c : Thread nD τ).loc main_arg2)) := by
  refine (dats m 0 c).arrAt_eq_of_covers 18 _ (by decide +kernel) fun t _ y => ?_
  blk_simp
  rw [after0_18]
  exact point18 m c t y

theorem point19 (t : Fin cfg0.N) (y : S256x1024.Idx) : out0_19 (F := Ideal) (iblk m c 0 t) (iblk m c 1 t) (iblk m c 2 t) y
    = R9 (m ((c : Thread nD τ).loc main_arg0)) (m ((c : Thread nD τ).loc main_arg1)) (m ((c : Thread nD τ).loc main_arg2)) (((cfg0.win 19).blk t).view.emb y) := by
  obtain ⟨r, n, rfl⟩ : ∃ (r : Fin 256) (n : Fin 1024), y = ix2 r n := ⟨y 0, y 1, by blk_ext⟩
  have ht := lt64 t
  have he : ((cfg0.win 19).blk t).view.emb (ix2 r n) = ix2 (⟨t.val * 256 + r.val, by omega⟩ : Fin 16384) n := by
    blk_ext [idx t]
  refine (out19 _ _ _ r n).trans (Eq.trans ?_ ((congrArg _ he).trans (R9_at _ _ _ _ _)).symm)
  refine (pr_hi m c t r ⟨4224 + n.val, by omega⟩ (by show 2688 ≤ 4224 + n.val; omega)).trans (congrArg _ (Fin.ext ?_))
  show 4224 + n.val - 112 = 4112 + n.val
  omega

theorem final19 : (dats m 0 c).arrAt 19 (cfgs 0).N
    = R9 (m ((c : Thread nD τ).loc main_arg0)) (m ((c : Thread nD τ).loc main_arg1)) (m ((c : Thread nD τ).loc main_arg2)) := by
  refine (dats m 0 c).arrAt_eq_of_covers 19 _ (by decide +kernel) fun t _ y => ?_
  blk_simp
  rw [after0_19]
  exact point19 m c t y

theorem point20 (t : Fin cfg0.N) (y : S1x1x512.Idx) (hz : ∀ b t j, ∃ v : ℝ, zAt (m ((c : Thread nD τ).loc main_arg0)) (m ((c : Thread nD τ).loc main_arg1)) (m ((c : Thread nD τ).loc main_arg2)) b t j = v) : out0_20 (F := Ideal) (iblk m c 0 t) (iblk m c 1 t) (iblk m c 2 t) (iblk m c 3 t) (iblk m c 4 t) (iblk m c 6 t) (iblk m c 7 t) y
    = R10 (m ((c : Thread nD τ).loc main_arg0)) (m ((c : Thread nD τ).loc main_arg1)) (m ((c : Thread nD τ).loc main_arg2)) (m ((c : Thread nD τ).loc main_arg4)) (((cfg0.win 20).blk t).view.emb y) := by
  obtain ⟨n, rfl⟩ : ∃ n : Fin 512, y = ix3 0 0 n := ⟨y 2, by blk_ext⟩
  have ht := lt64 t
  have he : ((cfg0.win 20).blk t).view.emb (ix3 0 0 n) = ix3 (⟨t.val, by omega⟩ : Fin 64) 0 n := by
    blk_ext [idx t]
  refine (out20 _ _ _ _ _ _ _ n).trans (Eq.trans ?_ ((congrArg _ he).trans (R10_at _ _ _ _ _ _)).symm)
  refine congrArg (fun s => Ideal.div s _) (Finset.sum_congr (M := EReal) rfl fun r _ => ?_)
  rw [keys_eq m c t hz r n]
  have e : (t.val * 256 + r.val) / 4096 = t.val / 16 := by omega
  have e' : (t.val * 256 + r.val) % 4096 = t.val % 16 * 256 + r.val := by omega
  simp only [e, e']

theorem final20 (hz : ∀ b t j, ∃ v : ℝ, zAt (m ((c : Thread nD τ).loc main_arg0)) (m ((c : Thread nD τ).loc main_arg1)) (m ((c : Thread nD τ).loc main_arg2)) b t j = v) : (dats m 0 c).arrAt 20 (cfgs 0).N
    = R10 (m ((c : Thread nD τ).loc main_arg0)) (m ((c : Thread nD τ).loc main_arg1)) (m ((c : Thread nD τ).loc main_arg2)) (m ((c : Thread nD τ).loc main_arg4)) := by
  refine (dats m 0 c).arrAt_eq_of_covers 20 _ (by decide +kernel) fun t _ y => ?_
  blk_simp
  rw [after0_20]
  exact point20 m c t y hz

theorem point21 (t : Fin cfg0.N) (y : S1x512x256.Idx) (hz : ∀ b t j, ∃ v : ℝ, zAt (m ((c : Thread nD τ).loc main_arg0)) (m ((c : Thread nD τ).loc main_arg1)) (m ((c : Thread nD τ).loc main_arg2)) b t j = v) : out0_21 (F := Ideal) (iblk m c 0 t) (iblk m c 1 t) (iblk m c 2 t) (iblk m c 3 t) (iblk m c 4 t) (iblk m c 6 t) (iblk m c 7 t) y
    = R11 (m ((c : Thread nD τ).loc main_arg0)) (m ((c : Thread nD τ).loc main_arg1)) (m ((c : Thread nD τ).loc main_arg2)) (m ((c : Thread nD τ).loc main_arg4)) (((cfg0.win 21).blk t).view.emb y) := by
  obtain ⟨n, r, rfl⟩ : ∃ (n : Fin 512) (r : Fin 256), y = ix3 0 n r := ⟨y 1, y 2, by blk_ext⟩
  have ht := lt64 t
  have e : (t.val * 256 + r.val) / 4096 = t.val / 16 := by omega
  have e' : (t.val * 256 + r.val) % 4096 = t.val % 16 * 256 + r.val := by omega
  have he : ((cfg0.win 21).blk t).view.emb (ix3 0 n r) = ix3 (⟨(t.val * 256 + r.val) / 4096, by omega⟩ : Fin 4) n (⟨(t.val * 256 + r.val) % 4096, by omega⟩ : Fin 4096) := by
    simp only [e, e']
    blk_ext [idx t]
  exact (out21 _ _ _ _ _ _ _ r n).trans ((keys_eq m c t hz r n).trans ((congrArg _ he).trans (R11_at _ _ _ _ _ _ _)).symm)

theorem final21 (hz : ∀ b t j, ∃ v : ℝ, zAt (m ((c : Thread nD τ).loc main_arg0)) (m ((c : Thread nD τ).loc main_arg1)) (m ((c : Thread nD τ).loc main_arg2)) b t j = v) : (dats m 0 c).arrAt 21 (cfgs 0).N
    = R11 (m ((c : Thread nD τ).loc main_arg0)) (m ((c : Thread nD τ).loc main_arg1)) (m ((c : Thread nD τ).loc main_arg2)) (m ((c : Thread nD τ).loc main_arg4)) := by
  refine (dats m 0 c).arrAt_eq_of_covers 21 _ (by decide +kernel) fun t _ y => ?_
  blk_simp
  rw [after0_21]
  exact point21 m c t y hz

theorem point22 (t : Fin cfg0.N) (y : S1x512x256.Idx) : out0_22 (F := Ideal) (iblk m c 0 t) (iblk m c 1 t) (iblk m c 2 t) y
    = R12 (m ((c : Thread nD τ).loc main_arg0)) (m ((c : Thread nD τ).loc main_arg1)) (m ((c : Thread nD τ).loc main_arg2)) (((cfg0.win 22).blk t).view.emb y) := by
  obtain ⟨n, r, rfl⟩ : ∃ (n : Fin 512) (r : Fin 256), y = ix3 0 n r := ⟨y 1, y 2, by blk_ext⟩
  have ht := lt64 t
  have e : (t.val * 256 + r.val) / 4096 = t.val / 16 := by omega
  have e' : (t.val * 256 + r.val) % 4096 = t.val % 16 * 256 + r.val := by omega
  have he : ((cfg0.win 22).blk t).view.emb (ix3 0 n r) = ix3 (⟨(t.val * 256 + r.val) / 4096, by omega⟩ : Fin 4) n (⟨(t.val * 256 + r.val) % 4096, by omega⟩ : Fin 4096) := by
    simp only [e, e']
    blk_ext [idx t]
  exact (out22 _ _ _ r n).trans ((pr_lo m c t r ⟨1024 + n.val, by omega⟩ (by show 1024 + n.val < 2576; omega)).trans ((congrArg _ he).trans (R12_at _ _ _ _ _ _)).symm)

theorem final22 : (dats m 0 c).arrAt 22 (cfgs 0).N
    = R12 (m ((c : Thread nD τ).loc main_arg0)) (m ((c : Thread nD τ).loc main_arg1)) (m ((c : Thread nD τ).loc main_arg2)) := by
  refine (dats m 0 c).arrAt_eq_of_covers 22 _ (by decide +kernel) fun t _ y => ?_
  blk_simp
  rw [after0_22]
  exact point22 m c t y

end Cert.Inproj
-- ==== Proof.InprojRun.lean ====
module
public import Idealize.ShloMosaic.Init
public import Idealize.ShloMosaic.Lib.Claim
public import proofs.«01_k».proof.Proof.InprojValue
public import proofs.«01_k».proof.Proof.InprojFinite

/-! The kernel's run: the thirteen results are the reference's arrays. -/

@[expose] public section

set_option maxRecDepth 16384

noncomputable section

open Idealize.ShloMosaic Idealize.ShloMosaic.TcCoe Idealize.SL.Sem

namespace Cert.Inproj
open Cert.KernelInprojIdeal Cert.KernelInprojIdeal.Gen

variable (m : (ℓ : Loc nD τ sig) → Buf (Elt Ideal) ℓ) (ρ : Dev nD → PrngReg)

set_option maxHeartbeats 4000000 in
/-- The run's results and arguments, where the projection is finite. -/
theorem kernel_run (hz : ∀ (c : Dev nD) b t j, ∃ v : ℝ, zAt (m ((c.tc : Thread nD τ).loc main_arg0)) (m ((c.tc : Thread nD τ).loc main_arg1)) (m ((c.tc : Thread nD τ).loc main_arg2)) b t j = v) :
    θ_run defs (onTc (τ := τ) (main (F := Ideal))) ⟨m, fun _ => 0, ρ⟩ (fun r => ∀ c : Dev nD,
      r.2.mem ((c.tc : Thread nD τ).loc main_v54_0) = Cert.Inproj.R0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v54_1) = Cert.Inproj.R1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v54_2) = Cert.Inproj.R2 (m ((c.tc : Thread nD τ).loc main_arg0)) (m ((c.tc : Thread nD τ).loc main_arg1)) (m ((c.tc : Thread nD τ).loc main_arg2))
      ∧ r.2.mem ((c.tc : Thread nD τ).loc main_v54_3) = Cert.Inproj.R3 (m ((c.tc : Thread nD τ).loc main_arg0)) (m ((c.tc : Thread nD τ).loc main_arg1)) (m ((c.tc : Thread nD τ).loc main_arg2))
      ∧ r.2.mem ((c.tc : Thread nD τ).loc main_v54_4) = Cert.Inproj.R4 (m ((c.tc : Thread nD τ).loc main_arg0)) (m ((c.tc : Thread nD τ).loc main_arg1)) (m ((c.tc : Thread nD τ).loc main_arg2))
      ∧ r.2.mem ((c.tc : Thread nD τ).loc main_v54_5) = Cert.Inproj.R5 (m ((c.tc : Thread nD τ).loc main_arg0)) (m ((c.tc : Thread nD τ).loc main_arg1)) (m ((c.tc : Thread nD τ).loc main_arg2))
      ∧ r.2.mem ((c.tc : Thread nD τ).loc main_v54_6) = Cert.Inproj.R6 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v54_7) = Cert.Inproj.R7 (m ((c.tc : Thread nD τ).loc main_arg0)) (m ((c.tc : Thread nD τ).loc main_arg1)) (m ((c.tc : Thread nD τ).loc main_arg2))
      ∧ r.2.mem ((c.tc : Thread nD τ).loc main_v54_8) = Cert.Inproj.R8 (m ((c.tc : Thread nD τ).loc main_arg0)) (m ((c.tc : Thread nD τ).loc main_arg1)) (m ((c.tc : Thread nD τ).loc main_arg2))
      ∧ r.2.mem ((c.tc : Thread nD τ).loc main_v54_9) = Cert.Inproj.R9 (m ((c.tc : Thread nD τ).loc main_arg0)) (m ((c.tc : Thread nD τ).loc main_arg1)) (m ((c.tc : Thread nD τ).loc main_arg2))
      ∧ r.2.mem ((c.tc : Thread nD τ).loc main_v54_10) = Cert.Inproj.R10 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v54_11) = Cert.Inproj.R11 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v54_12) = Cert.Inproj.R12 (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))) :=
  (θ_run defs _ _).mono (fun _ h c => ⟨((h c).1 10).trans (final10 m c (hz c)), ((h c).1 11).trans (final11 m c (hz c)), ((h c).1 12).trans (final12 m c), ((h c).1 13).trans (final13 m c), ((h c).1 14).trans (final14 m c), ((h c).1 15).trans (final15 m c), ((h c).1 16).trans (final16 m c), ((h c).1 17).trans (final17 m c), ((h c).1 18).trans (final18 m c), ((h c).1 19).trans (final19 m c), ((h c).1 20).trans (final20 m c (hz c)), ((h c).1 21).trans (final21 m c (hz c)), ((h c).1 22).trans (final22 m c),
      kept m h c _ (by decide) (by decide) (by decide), kept m h c _ (by decide) (by decide) (by decide), kept m h c _ (by decide) (by decide) (by decide), kept m h c _ (by decide) (by decide) (by decide), kept m h c _ (by decide) (by decide) (by decide), kept m h c _ (by decide) (by decide) (by decide), kept m h c _ (by decide) (by decide) (by decide)⟩) (run_main m ρ)

end Cert.Inproj
-- ==== Proof.InprojRefRun.lean ====
module
public import Idealize.ShloMosaic.Init
public import Idealize.ShloMosaic.Lib.Claim
public import proofs.«01_k».proof.Proof.InprojRef
public import proofs.«01_k».proof.Proof.Gen.ReferenceInprojIdeal.Run

/-! The reference's run. -/

@[expose] public section

set_option maxRecDepth 16384

noncomputable section

open Idealize.ShloMosaic Idealize.ShloMosaic.TcCoe Idealize.SL.Sem

namespace Cert.Inproj
open Cert.ReferenceInprojIdeal

/-- The run's results, by name. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v130) = Cert.Inproj.R0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v131) = Cert.Inproj.R1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v132) = Cert.Inproj.R2 (m ((c.tc : Thread nD τ).loc main_arg0)) (m ((c.tc : Thread nD τ).loc main_arg1)) (m ((c.tc : Thread nD τ).loc main_arg2))
      ∧ r.2.mem ((c.tc : Thread nD τ).loc main_v133) = Cert.Inproj.R3 (m ((c.tc : Thread nD τ).loc main_arg0)) (m ((c.tc : Thread nD τ).loc main_arg1)) (m ((c.tc : Thread nD τ).loc main_arg2))
      ∧ r.2.mem ((c.tc : Thread nD τ).loc main_v134) = Cert.Inproj.R4 (m ((c.tc : Thread nD τ).loc main_arg0)) (m ((c.tc : Thread nD τ).loc main_arg1)) (m ((c.tc : Thread nD τ).loc main_arg2))
      ∧ r.2.mem ((c.tc : Thread nD τ).loc main_v135) = Cert.Inproj.R5 (m ((c.tc : Thread nD τ).loc main_arg0)) (m ((c.tc : Thread nD τ).loc main_arg1)) (m ((c.tc : Thread nD τ).loc main_arg2))
      ∧ r.2.mem ((c.tc : Thread nD τ).loc main_v136) = Cert.Inproj.R6 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v137) = Cert.Inproj.R7 (m ((c.tc : Thread nD τ).loc main_arg0)) (m ((c.tc : Thread nD τ).loc main_arg1)) (m ((c.tc : Thread nD τ).loc main_arg2))
      ∧ r.2.mem ((c.tc : Thread nD τ).loc main_v138) = Cert.Inproj.R8 (m ((c.tc : Thread nD τ).loc main_arg0)) (m ((c.tc : Thread nD τ).loc main_arg1)) (m ((c.tc : Thread nD τ).loc main_arg2))
      ∧ r.2.mem ((c.tc : Thread nD τ).loc main_v139) = Cert.Inproj.R9 (m ((c.tc : Thread nD τ).loc main_arg0)) (m ((c.tc : Thread nD τ).loc main_arg1)) (m ((c.tc : Thread nD τ).loc main_arg2))
      ∧ r.2.mem ((c.tc : Thread nD τ).loc main_v140) = Cert.Inproj.R10 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v142) = Cert.Inproj.R11 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v143) = Cert.Inproj.R12 (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))) :=
  Value.run (F := Ideal) m ρ

end Cert.Inproj
-- ==== Proof.InprojSampleFrame.lean ====
module

public import proofs.«01_k».proof.Proof.Gen.KernelInprojSampleIdeal.Launch
public import proofs.«01_k».proof.Proof.Gen.KernelInprojSampleIdeal.Skeleton
public import proofs.«01_k».proof.Proof.Gen.KernelInprojSampleIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

/-! The run of the sample's projection call, whatever the values are: it ends, its arguments unchanged and its counters at zero,
    and each result's array holds what the body leaves block by block. -/

@[expose] public section

set_option maxRecDepth 16384

noncomputable section

namespace Cert.InprojSample

open Cert.KernelInprojSampleIdeal Cert.KernelInprojSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's operations -/

/-- The arrays of core `c` where the call begins: what the host's operations leave. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- The program up to the call, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No operation of the host writes an argument. -/
theorem untouched : ∀ b ∈ [main_arg0, main_arg1, main_arg2, main_arg3, main_arg4, main_arg5, main_arg6],
    (List.flatten [hostOps0, hostOps0_1, hostOps0_2, hostOps0_3, hostOps0_4, hostOps0_5, hostOps0_6, hostOps0_7, hostOps0_8] : List (HloOp τ sig (Elt F))).Forall fun op => Proc.devRef .tc b ∉ op.writes := by
  simp only [List.forall_mem_cons, List.not_mem_nil, hostOps0, hostOps0_1, hostOps0_2, hostOps0_3, hostOps0_4, hostOps0_5, hostOps0_6, hostOps0_7, hostOps0_8, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals first | exact StableHlo.devRef_ne_of_ne (by decide) | exact fun _ h => h.elim

/-- The call finds an argument as it was launched. -/
theorem V_arg (c : Dev nD) (b : Ref sig .tc) (hb : b ∈ [main_arg0, main_arg1, main_arg2, main_arg3, main_arg4, main_arg5, main_arg6]) :
    V m c b = m ((c : Thread nD τ).loc b) :=
  StableHlo.after_of_forall_not_mem (b := Proc.devRef .tc b) _ _ (List.forall_iff_forall_mem.mp (untouched b hb))

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S256x1024 := Rect.unit (s := S256x1024) ![0, 0] S256x1024.size inb_S256x1024_S256x1024_0_0
abbrev r0_1 : Rect S1x1024 := Rect.unit (s := S1x1024) ![0, 0] S1x1024.size inb_S1x1024_S1x1024_0_0
abbrev r0_2 : Rect S256x512 := Rect.unit (s := S256x512) ![0, 0] S256x512.size inb_S256x512_S256x512_0_0
abbrev r0_3 : Rect S512x512 := Rect.unit (s := S512x512) ![0, 0] S512x512.size inb_S512x512_S512x512_0_0
abbrev r0_4 : Rect S1024x5248 := Rect.unit (s := S1024x5248) ![0, 0] S1024x512.size inb_S1024x5248_S1024x512_0_0
abbrev r0_5 : Rect S1x512 := Rect.unit (s := S1x512) ![0, 0] S1x512.size inb_S1x512_S1x512_0_0
abbrev r0_6 : Rect S1024x5248 := Rect.unit (s := S1024x5248) ![0, 512] S1024x512.size inb_S1024x5248_S1024x512_0_512
abbrev r0_7 : Rect S1x1x512 := Rect.unit (s := S1x1x512) ![0, 0, 0] S1x1x512.size inb_S1x1x512_S1x1x512_0_0_0
abbrev r0_8 : Rect S1024x5248 := Rect.unit (s := S1024x5248) ![0, 1024] S1024x512.size inb_S1024x5248_S1024x512_0_1024
abbrev r0_9 : Rect S1024x5248 := Rect.unit (s := S1024x5248) ![0, 1536] S1024x256.size inb_S1024x5248_S1024x256_0_1536
abbrev r0_10 : Rect S256x256 := Rect.unit (s := S256x256) ![0, 0] S256x256.size inb_S256x256_S256x256_0_0
abbrev r0_11 : Rect S1024x5248 := Rect.unit (s := S1024x5248) ![0, 1792] S1024x256.size inb_S1024x5248_S1024x256_0_1792
abbrev r0_12 : Rect S1024x5248 := Rect.unit (s := S1024x5248) ![0, 2048] S1024x512.size inb_S1024x5248_S1024x512_0_2048
abbrev r0_13 : Rect S1024x5248 := Rect.unit (s := S1024x5248) ![0, 2560] S1024x128.size inb_S1024x5248_S1024x128_0_2560
abbrev r0_14 : Rect S128x256 := Rect.unit (s := S128x256) ![0, 0] S128x256.size inb_S128x256_S128x256_0_0
abbrev r0_15 : Rect S1x256 := Rect.unit (s := S1x256) ![0, 0] S1x256.size inb_S1x256_S1x256_0_0
abbrev r0_16 : Rect S1024x5248 := Rect.unit (s := S1024x5248) ![0, 2688] S1024x512.size inb_S1024x5248_S1024x512_0_2688
abbrev r0_17 : Rect S1024x5248 := Rect.unit (s := S1024x5248) ![0, 3200] S1024x1024.size inb_S1024x5248_S1024x1024_0_3200
abbrev r0_18 : Rect S1024x5248 := Rect.unit (s := S1024x5248) ![0, 4224] S1024x1024.size inb_S1024x5248_S1024x1024_0_4224

/-! ## What the body leaves in each output window -/

section

variable (x0 : Vec F S256x1024 .f32) (x1 : Vec F S1x1024 .f32) (x2 : Vec F S1024x5248 .bf16) (x3 : Vec F S256x512 .f32) (x4 : Vec F S256x512 .f32) (x5 : Vec F S1x512 .f32) (x6 : Vec F S1x512 .f32) (x7 : Vec F S512x512 .bf16) (x8 : Vec F S128x256 .bf16) (x9 : Vec F S1x256 .f32)

/-- The normed rows the projections are taken of. -/
def normed : FVec F S256x1024 .bf16 := k0_pay5 (View.ld x0 r0_0) (View.ld x1 r0_1)

/-- The cosines of the block. -/
def cosRow : FVec F S256x512 .f32 := k0_pay6 (View.ld x3 r0_2)

/-- The sines of the block. -/
def sinRow : FVec F S256x512 .f32 := k0_pay7 (View.ld x4 r0_2)

/-- The lanes in the first half of their head. -/
def lower : IVec S1x512 1 := k0_pay8

/-- The block-diagonal ones that sum a head. -/
def ones : FVec F S512x512 .bf16 := k0_pay9 (View.ld x7 r0_3)

/-- The keys' projection. -/
def keyRow : FVec F S256x512 .f32 := k0_pay11 (normed x0 x1) (View.ld x2 r0_6)

/-- The gain of the keys' norm. -/
def keyGain : FVec F S1x512 .f32 := k0_pay12 (View.ld x6 r0_5)

/-- What the body leaves in window 10: the rotated queries. -/
def out0_10 : Vec F S256x512 .f32 := View.canon [⟨r0_2, k0_pay10 (normed x0 x1) (cosRow x3) (sinRow x4) lower (View.ld x7 r0_3) (View.ld x2 r0_4) (View.ld x5 r0_5)⟩]

/-- What the body leaves in window 11: the rotated keys. -/
def out0_11 : Vec F S256x512 .f32 := View.canon [⟨r0_2, k0_pay13 (cosRow x3) (sinRow x4) lower (ones x7) (keyRow x0 x1 x2) (keyGain x6)⟩]

/-- What the body leaves in window 12: the values. -/
def out0_12 : Vec F S256x512 .f32 := View.canon [⟨r0_2, k0_pay15 (normed x0 x1) (View.ld x2 r0_8)⟩]

/-- What the body leaves in window 13: the recurrence's scaled queries. -/
def out0_13 : Vec F S256x256 .f32 := View.canon [⟨r0_10, k0_pay16 (normed x0 x1) (View.ld x2 r0_9)⟩]

/-- What the body leaves in window 14: the recurrence's keys. -/
def out0_14 : Vec F S256x256 .f32 := View.canon [⟨r0_10, k0_pay17 (normed x0 x1) (View.ld x2 r0_11)⟩]

/-- What the body leaves in window 15: the recurrence's values. -/
def out0_15 : Vec F S256x512 .f32 := View.canon [⟨r0_2, k0_pay18 (normed x0 x1) (View.ld x2 r0_12)⟩]

/-- What the body leaves in window 16: the recurrence's log decays. -/
def out0_16 : Vec F S256x256 .f32 := View.canon [⟨r0_10, k0_pay1 (k0_pay20 (normed x0 x1) (View.ld x2 r0_13) (View.ld x8 r0_14) (View.ld x9 r0_15)) (k0_pay21 (normed x0 x1) (View.ld x2 r0_13) (View.ld x8 r0_14) (View.ld x9 r0_15))⟩]

/-- What the body leaves in window 17: the recurrence's output gates. -/
def out0_17 : Vec F S256x512 .f32 := View.canon [⟨r0_2, k0_pay2 (normed x0 x1) (View.ld x2 r0_16)⟩]

/-- What the body leaves in window 18: the first branch's gates. -/
def out0_18 : Vec F S256x1024 .f32 := View.canon [⟨r0_0, k0_pay3 (normed x0 x1) (View.ld x2 r0_17)⟩]

/-- What the body leaves in window 19: the second branch's gates. -/
def out0_19 : Vec F S256x1024 .f32 := View.canon [⟨r0_0, k0_pay4 (normed x0 x1) (View.ld x2 r0_18)⟩]

/-- What the body leaves in window 20: the mean key of the block. -/
def out0_20 : Vec F S1x1x512 .f32 := View.canon [⟨r0_7, k0_pay14 (cosRow x3) (sinRow x4) lower (ones x7) (keyRow x0 x1 x2) (keyGain x6)⟩]

end

/-- One store covers the window. -/
theorem cover_r0_0 (p : Vec F S256x1024 .f32) (y : S256x1024.Idx) :
    ∃ pc ∈ ([⟨r0_0, p⟩] : List (View.Piece (Elt F) S256x1024 .f32)), y ∈ pc.1.set :=
  View.cover_of_tiled [⟨r0_0, p⟩] S256x1024.size (by rfl) y

/-- One store covers the window. -/
theorem cover_r0_10 (p : Vec F S256x256 .f32) (y : S256x256.Idx) :
    ∃ pc ∈ ([⟨r0_10, p⟩] : List (View.Piece (Elt F) S256x256 .f32)), y ∈ pc.1.set :=
  View.cover_of_tiled [⟨r0_10, p⟩] S256x256.size (by rfl) y

/-- One store covers the window. -/
theorem cover_r0_2 (p : Vec F S256x512 .f32) (y : S256x512.Idx) :
    ∃ pc ∈ ([⟨r0_2, p⟩] : List (View.Piece (Elt F) S256x512 .f32)), y ∈ pc.1.set :=
  View.cover_of_tiled [⟨r0_2, p⟩] S256x512.size (by rfl) y

/-- One store covers the window. -/
theorem cover_r0_7 (p : Vec F S1x1x512 .f32) (y : S1x1x512.Idx) :
    ∃ pc ∈ ([⟨r0_7, p⟩] : List (View.Piece (Elt F) S1x1x512 .f32)), y ∈ pc.1.set :=
  View.cover_of_tiled [⟨r0_7, p⟩] S1x1x512.size (by rfl) y

/-! ## The body -/

set_option maxHeartbeats 1000000 in
/-- The body run on whole buffers leaves the inputs' as they were and each output's at its value. -/
theorem sound_kernel (c : Dev nD) (E : Set ℕ) (i : grid0.Coords) (arg1 : Memref sig .tc .vmem S256x1024 .f32) (harg1 : arg1.IsWhole) (arg2 : Memref sig .tc .vmem S1x1024 .f32) (harg2 : arg2.IsWhole) (arg3 : Memref sig .tc .vmem S1024x5248 .bf16) (harg3 : arg3.IsWhole) (arg4 : Memref sig .tc .vmem S256x512 .f32) (harg4 : arg4.IsWhole) (arg5 : Memref sig .tc .vmem S256x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .bf16) (harg8 : arg8.IsWhole) (arg9 : Memref sig .tc .vmem S128x256 .bf16) (harg9 : arg9.IsWhole) (arg10 : Memref sig .tc .vmem S1x256 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole) (arg14 : Memref sig .tc .vmem S256x256 .f32) (harg14 : arg14.IsWhole) (arg15 : Memref sig .tc .vmem S256x256 .f32) (harg15 : arg15.IsWhole) (arg16 : Memref sig .tc .vmem S256x512 .f32) (harg16 : arg16.IsWhole) (arg17 : Memref sig .tc .vmem S256x256 .f32) (harg17 : arg17.IsWhole) (arg18 : Memref sig .tc .vmem S256x512 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S1x1x512 .f32) (harg21 : arg21.IsWhole)
    (x0 : Vec F S256x1024 .f32) (x1 : Vec F S1x1024 .f32) (x2 : Vec F S1024x5248 .bf16) (x3 : Vec F S256x512 .f32) (x4 : Vec F S256x512 .f32) (x5 : Vec F S1x512 .f32) (x6 : Vec F S1x512 .f32) (x7 : Vec F S512x512 .bf16) (x8 : Vec F S128x256 .bf16) (x9 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out0_10 x0 x1 x2 x3 x4 x5 x7) ∗ owns (c : Thread nD τ) arg12 fullShare (out0_11 x0 x1 x2 x3 x4 x6 x7) ∗ owns (c : Thread nD τ) arg13 fullShare (out0_12 x0 x1 x2) ∗ owns (c : Thread nD τ) arg14 fullShare (out0_13 x0 x1 x2) ∗ owns (c : Thread nD τ) arg15 fullShare (out0_14 x0 x1 x2) ∗ owns (c : Thread nD τ) arg16 fullShare (out0_15 x0 x1 x2) ∗ owns (c : Thread nD τ) arg17 fullShare (out0_16 x0 x1 x2 x8 x9) ∗ owns (c : Thread nD τ) arg18 fullShare (out0_17 x0 x1 x2) ∗ owns (c : Thread nD τ) arg19 fullShare (out0_18 x0 x1 x2) ∗ owns (c : Thread nD τ) arg20 fullShare (out0_19 x0 x1 x2) ∗ owns (c : Thread nD τ) arg21 fullShare (out0_20 x0 x1 x2 x3 x4 x6 x7)) -∗ K ⟨⟩))
      ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_inproj_eq_skeleton]; unfold cc0_inproj_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr; swap; · iexact H10
    ipureintro; exact (View.read_writes_eq_canon _ _ _ (cover_r0_2 _)).trans rfl
  isplitl [H11]
  · iexists _; isplitr; swap; · iexact H11
    ipureintro; exact (View.read_writes_eq_canon _ _ _ (cover_r0_2 _)).trans rfl
  isplitl [H12]
  · iexists _; isplitr; swap; · iexact H12
    ipureintro; exact (View.read_writes_eq_canon _ _ _ (cover_r0_2 _)).trans rfl
  isplitl [H13]
  · iexists _; isplitr; swap; · iexact H13
    ipureintro; exact (View.read_writes_eq_canon _ _ _ (cover_r0_10 _)).trans rfl
  isplitl [H14]
  · iexists _; isplitr; swap; · iexact H14
    ipureintro; exact (View.read_writes_eq_canon _ _ _ (cover_r0_10 _)).trans rfl
  isplitl [H15]
  · iexists _; isplitr; swap; · iexact H15
    ipureintro; exact (View.read_writes_eq_canon _ _ _ (cover_r0_2 _)).trans rfl
  isplitl [H16]
  · iexists _; isplitr; swap; · iexact H16
    ipureintro; exact (View.read_writes_eq_canon _ _ _ (cover_r0_10 _)).trans rfl
  isplitl [H17]
  · iexists _; isplitr; swap; · iexact H17
    ipureintro; exact (View.read_writes_eq_canon _ _ _ (cover_r0_2 _)).trans rfl
  isplitl [H18]
  · iexists _; isplitr; swap; · iexact H18
    ipureintro; exact (View.read_writes_eq_canon _ _ _ (cover_r0_0 _)).trans rfl
  isplitl [H19]
  · iexists _; isplitr; swap; · iexact H19
    ipureintro; exact (View.read_writes_eq_canon _ _ _ (cover_r0_0 _)).trans rfl
  iexists _; isplitr; swap; · iexact H20
  ipureintro; exact (View.read_writes_eq_canon _ _ _ (cover_r0_7 _)).trans rfl

/-! ## The pipeline's data -/

/-- The arrays as the call finds them; after the body at a point each input's buffer holds its block and each output's the body's value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 (iblk m c 0 t) (iblk m c 1 t) (iblk m c 2 t) (iblk m c 3 t) (iblk m c 4 t) (iblk m c 5 t) (iblk m c 7 t)
    | ⟨11, _⟩ => out0_11 (iblk m c 0 t) (iblk m c 1 t) (iblk m c 2 t) (iblk m c 3 t) (iblk m c 4 t) (iblk m c 6 t) (iblk m c 7 t)
    | ⟨12, _⟩ => out0_12 (iblk m c 0 t) (iblk m c 1 t) (iblk m c 2 t)
    | ⟨13, _⟩ => out0_13 (iblk m c 0 t) (iblk m c 1 t) (iblk m c 2 t)
    | ⟨14, _⟩ => out0_14 (iblk m c 0 t) (iblk m c 1 t) (iblk m c 2 t)
    | ⟨15, _⟩ => out0_15 (iblk m c 0 t) (iblk m c 1 t) (iblk m c 2 t)
    | ⟨16, _⟩ => out0_16 (iblk m c 0 t) (iblk m c 1 t) (iblk m c 2 t) (iblk m c 8 t) (iblk m c 9 t)
    | ⟨17, _⟩ => out0_17 (iblk m c 0 t) (iblk m c 1 t) (iblk m c 2 t)
    | ⟨18, _⟩ => out0_18 (iblk m c 0 t) (iblk m c 1 t) (iblk m c 2 t)
    | ⟨19, _⟩ => out0_19 (iblk m c 0 t) (iblk m c 1 t) (iblk m c 2 t)
    | ⟨20, _⟩ => out0_20 (iblk m c 0 t) (iblk m c 1 t) (iblk m c 2 t) (iblk m c 3 t) (iblk m c 4 t) (iblk m c 6 t) (iblk m c 7 t)
    | ⟨_ + 21, h⟩ => absurd h (Nat.not_lt.2 (Nat.le_add_left _ _))
  Φ _ := Pipeline.ΦA spec0 c
  q _ := fullShare
  owed _ := 0

/-- The data's arrays are those the call finds. -/
theorem A_eq (c : Dev nD) (w : Fin cfg0.W) : (dats m 0 c).A w = V m c (Pipeline.arrRef spec0 w) := by
  dsimp only [dats]

theorem after0_10 (c : Dev nD) (t : Fin cfg0.N) : (dats m 0 c).after 10 t = out0_10 (iblk m c 0 t) (iblk m c 1 t) (iblk m c 2 t) (iblk m c 3 t) (iblk m c 4 t) (iblk m c 5 t) (iblk m c 7 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 6 t) (iblk m c 7 t) := by dsimp only [dats]
theorem after0_12 (c : Dev nD) (t : Fin cfg0.N) : (dats m 0 c).after 12 t = out0_12 (iblk m c 0 t) (iblk m c 1 t) (iblk m c 2 t) := by dsimp only [dats]
theorem after0_13 (c : Dev nD) (t : Fin cfg0.N) : (dats m 0 c).after 13 t = out0_13 (iblk m c 0 t) (iblk m c 1 t) (iblk m c 2 t) := by dsimp only [dats]
theorem after0_14 (c : Dev nD) (t : Fin cfg0.N) : (dats m 0 c).after 14 t = out0_14 (iblk m c 0 t) (iblk m c 1 t) (iblk m c 2 t) := by dsimp only [dats]
theorem after0_15 (c : Dev nD) (t : Fin cfg0.N) : (dats m 0 c).after 15 t = out0_15 (iblk m c 0 t) (iblk m c 1 t) (iblk m c 2 t) := by dsimp only [dats]
theorem after0_16 (c : Dev nD) (t : Fin cfg0.N) : (dats m 0 c).after 16 t = out0_16 (iblk m c 0 t) (iblk m c 1 t) (iblk m c 2 t) (iblk m c 8 t) (iblk m c 9 t) := by dsimp only [dats]
theorem after0_17 (c : Dev nD) (t : Fin cfg0.N) : (dats m 0 c).after 17 t = out0_17 (iblk m c 0 t) (iblk m c 1 t) (iblk m c 2 t) := by dsimp only [dats]
theorem after0_18 (c : Dev nD) (t : Fin cfg0.N) : (dats m 0 c).after 18 t = out0_18 (iblk m c 0 t) (iblk m c 1 t) (iblk m c 2 t) := by dsimp only [dats]
theorem after0_19 (c : Dev nD) (t : Fin cfg0.N) : (dats m 0 c).after 19 t = out0_19 (iblk m c 0 t) (iblk m c 1 t) (iblk m c 2 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 6 t) (iblk m c 7 t) := by dsimp only [dats]
/-! Each input's buffer holds its block at every point, fetched there or not. -/

theorem after0_0 (c : Dev nD) (t : Fin cfg0.N) : (dats m 0 c).after 0 t = iblk m c 0 t := by dsimp only [dats]
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = iblk m c 8 t := by dsimp only [dats]
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin cfg0.N) (d) : (dats m 0 c).before 8 t d = iblk m c 8 t :=
  before0_8_of m (dats m 0 c) (A_eq m c 8) (after0_8 m c) t d
theorem after0_9 (c : Dev nD) (t : Fin cfg0.N) : (dats m 0 c).after 9 t = iblk m c 9 t := by dsimp only [dats]
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_9 (c : Dev nD) (t : Fin cfg0.N) (d) : (dats m 0 c).before 9 t d = iblk m c 9 t :=
  before0_9_of m (dats m 0 c) (A_eq m c 9) (after0_9 m c) t d
/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body of the table is the body at the point's buffers. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends, each array of the pipeline at what its windows give and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- An argument is among the arrays no window writes, and ends as it was launched. -/
theorem kept {r} (h : Pipeline.FramePost cfgs (dats (F := F) m) 0 (V m) r) (c : Dev nD) (b : Ref sig .tc)
    (hb : b ∈ [main_arg0, main_arg1, main_arg2, main_arg3, main_arg4, main_arg5, main_arg6]) (h1 : b.isScoped = false) (h2 : ∀ w, (spec0 w).arr.view.ref ≠ b) : r.2.mem ((c : Thread nD τ).loc b) = m ((c : Thread nD τ).loc b) :=
  ((h c).2 b (Pipeline.mem_restRefs_of b h1 h2)).trans (V_arg m c b hb)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨kept m h.1 c _ (by decide) (by decide) (by decide), kept m h.1 c _ (by decide) (by decide) (by decide), kept m h.1 c _ (by decide) (by decide) (by decide), kept m h.1 c _ (by decide) (by decide) (by decide), kept m h.1 c _ (by decide) (by decide) (by decide), kept m h.1 c _ (by decide) (by decide) (by decide), kept m h.1 c _ (by decide) (by decide) (by decide)⟩, h.2⟩) (run_main_quiescent m ρ)

end Cert.InprojSample

end
-- ==== Proof.InprojSampleTransport.lean ====
module
public import Idealize.ShloMosaic.Init
public import Idealize.ShloMosaic.Lib.Claim
public import proofs.«01_k».proof.Defs
public import proofs.«01_k».proof.Proof.Gen.KernelInprojSample
public import proofs.«01_k».proof.Proof.InprojSampleFrame

/-! The frame of the sample's projection, carried over to the program on machine floats: the two programs are the same one. -/

@[expose] public section

set_option maxRecDepth 16384
set_option maxHeartbeats 20000000

noncomputable section

open Idealize.ShloMosaic Idealize.ShloMosaic.TcCoe Idealize.SL.Sem

namespace Cert.InprojSample

theorem defs0_eq : Cert.KernelInprojSample.defs₀ (F := Bits) = Cert.KernelInprojSampleIdeal.defs₀ (F := Bits) := by
  unfold Cert.KernelInprojSample.defs₀ Cert.KernelInprojSampleIdeal.defs₀
  refine congrArg Defs.onTc (funext fun l => funext fun a => ?_)
  match l, a with
  | 0, (t, s) => rfl

theorem defs_eq : Cert.KernelInprojSample.defs (F := Bits) = Cert.KernelInprojSampleIdeal.defs (F := Bits) := by
  unfold Cert.KernelInprojSample.defs Cert.KernelInprojSampleIdeal.defs
  rw [defs0_eq]
  rfl

theorem frame_bits : Cert.quiescent_KernelInprojSample := fun m g _ => by
  rw [defs_eq]
  exact frame (F := Bits) m g

end Cert.InprojSample
-- ==== Proof.InprojSampleRef.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.ReferenceInprojSampleIdeal
public import proofs.«01_k».proof.Proof.InprojRef

/-! The reference's arrays of the sample's projection, and their elements. -/

@[expose] public section

set_option maxRecDepth 16384

noncomputable section

open Idealize.ShloMosaic Idealize.ShloMosaic.TcCoe Idealize.SL.Sem

namespace Cert.InprojSample
open Cert.Inproj (normAt headAt ropeAt decayAt log_sigmoid lane_of_head)

/-- The angles of the rotation: a position after the past times ten thousand to the power of minus the frequency's index over thirty-two. -/
def angles : FVec Ideal Cert.ReferenceInprojSampleIdeal.S8x32 .f32 :=
  mulf (broadcastInDim Cert.ReferenceInprojSampleIdeal.S8x32 ![0, 1] Cert.ReferenceInprojSampleIdeal.Gen.bcast_S8x1_S8x32_0_1 (broadcastInDim Cert.ReferenceInprojSampleIdeal.S8x1 ![0] Cert.ReferenceInprojSampleIdeal.Gen.bcast_S8_S8x1_0 (sitofp .f32 (addi (broadcastInDim Cert.ReferenceInprojSampleIdeal.S8 ![] Cert.ReferenceInprojSampleIdeal.Gen.bcast_S_S8 (constantI Cert.ReferenceInprojSampleIdeal.S_ 32 8192#32)) (iotaInDim Cert.ReferenceInprojSampleIdeal.S8 32 0))))) (broadcastInDim Cert.ReferenceInprojSampleIdeal.S8x32 ![0, 1] Cert.ReferenceInprojSampleIdeal.Gen.bcast_S1x32_S8x32_0_1 (broadcastInDim Cert.ReferenceInprojSampleIdeal.S1x32 ![1] Cert.ReferenceInprojSampleIdeal.Gen.bcast_S32_S1x32_1 (Host.powf (broadcastInDim Cert.ReferenceInprojSampleIdeal.S32 ![] Cert.ReferenceInprojSampleIdeal.Gen.bcast_S_S32 (constant Cert.ReferenceInprojSampleIdeal.S_ .f32 0x461C4000#32)) (Host.divf (Host.negf (sitofp .f32 (iotaInDim Cert.ReferenceInprojSampleIdeal.S32 32 0))) (broadcastInDim Cert.ReferenceInprojSampleIdeal.S32 ![] Cert.ReferenceInprojSampleIdeal.Gen.bcast_S_S32 (constant Cert.ReferenceInprojSampleIdeal.S_ .f32 0x42000000#32))))))

/-- The projection of every normed row. -/
def Z (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S128x8x5136 .f32 :=
  Host.dotGeneral Cert.ReferenceInprojSampleIdeal.dot_S128x8x1024_S1024x5136_S128x8x5136_2_0_01_1_n_n none (mulf (mulf a0 (broadcastInDim Cert.ReferenceInprojSampleIdeal.S128x8x1024 ![0, 1, 2] Cert.ReferenceInprojSampleIdeal.Gen.bcast_S128x8x1_S128x8x1024_0_1_2 (Host.rsqrt (addf (Host.divf (broadcastInDim Cert.ReferenceInprojSampleIdeal.S128x8x1 ![0, 1] Cert.ReferenceInprojSampleIdeal.Gen.bcast_S128x8_S128x8x1_0_1 (Host.reduceAdd (mulf a0 a0) (constant Cert.ReferenceInprojSampleIdeal.S_ .f32 0x00000000#32) Cert.ReferenceInprojSampleIdeal.Gen.reducesTo_S128x8x1024_S128x8_d2 Cert.ReferenceInprojSampleIdeal.Gen.h_S_)) (broadcastInDim Cert.ReferenceInprojSampleIdeal.S128x8x1 ![] Cert.ReferenceInprojSampleIdeal.Gen.bcast_S_S128x8x1 (constant Cert.ReferenceInprojSampleIdeal.S_ .f32 0x44800000#32))) (broadcastInDim Cert.ReferenceInprojSampleIdeal.S128x8x1 ![] Cert.ReferenceInprojSampleIdeal.Gen.bcast_S_S128x8x1 (constant Cert.ReferenceInprojSampleIdeal.S_ .f32 0x358637BD#32)))))) (broadcastInDim Cert.ReferenceInprojSampleIdeal.S128x8x1024 ![0, 1, 2] Cert.ReferenceInprojSampleIdeal.Gen.bcast_S1x1x1024_S128x8x1024_0_1_2 (broadcastInDim Cert.ReferenceInprojSampleIdeal.S1x1x1024 ![2] Cert.ReferenceInprojSampleIdeal.Gen.bcast_S1024_S1x1x1024_2 (shapeCast _ a1 Cert.ReferenceInprojSampleIdeal.Gen.shapeCasts_S1x1024_S1024)))) (shapeCast _ a2 Cert.ReferenceInprojSampleIdeal.Gen.shapeCasts_S1x1024x5136_S1024x5136)

/-- The heads of a projection, each normed by the root of its mean square. -/
def N (h : FVec Ideal Cert.ReferenceInprojSampleIdeal.S128x8x512 .f32) (g : FVec Ideal Cert.ReferenceInprojSampleIdeal.S1x64 .f32) : FVec Ideal Cert.ReferenceInprojSampleIdeal.S128x8x8x64 .f32 :=
  mulf (mulf (shapeCast _ h Cert.ReferenceInprojSampleIdeal.Gen.shapeCasts_S128x8x512_S128x8x8x64) (broadcastInDim Cert.ReferenceInprojSampleIdeal.S128x8x8x64 ![0, 1, 2, 3] Cert.ReferenceInprojSampleIdeal.Gen.bcast_S128x8x8x1_S128x8x8x64_0_1_2_3 (Host.rsqrt (addf (Host.divf (broadcastInDim Cert.ReferenceInprojSampleIdeal.S128x8x8x1 ![0, 1, 2] Cert.ReferenceInprojSampleIdeal.Gen.bcast_S128x8x8_S128x8x8x1_0_1_2 (Host.reduceAdd (mulf (shapeCast _ h Cert.ReferenceInprojSampleIdeal.Gen.shapeCasts_S128x8x512_S128x8x8x64) (shapeCast _ h Cert.ReferenceInprojSampleIdeal.Gen.shapeCasts_S128x8x512_S128x8x8x64)) (constant Cert.ReferenceInprojSampleIdeal.S_ .f32 0x00000000#32) Cert.ReferenceInprojSampleIdeal.Gen.reducesTo_S128x8x8x64_S128x8x8_d3 Cert.ReferenceInprojSampleIdeal.Gen.h_S_)) (broadcastInDim Cert.ReferenceInprojSampleIdeal.S128x8x8x1 ![] Cert.ReferenceInprojSampleIdeal.Gen.bcast_S_S128x8x8x1 (constant Cert.ReferenceInprojSampleIdeal.S_ .f32 0x42800000#32))) (broadcastInDim Cert.ReferenceInprojSampleIdeal.S128x8x8x1 ![] Cert.ReferenceInprojSampleIdeal.Gen.bcast_S_S128x8x8x1 (constant Cert.ReferenceInprojSampleIdeal.S_ .f32 0x358637BD#32)))))) (broadcastInDim Cert.ReferenceInprojSampleIdeal.S128x8x8x64 ![0, 1, 2, 3] Cert.ReferenceInprojSampleIdeal.Gen.bcast_S1x1x1x64_S128x8x8x64_0_1_2_3 (broadcastInDim Cert.ReferenceInprojSampleIdeal.S1x1x1x64 ![3] Cert.ReferenceInprojSampleIdeal.Gen.bcast_S64_S1x1x1x64_3 (shapeCast _ g Cert.ReferenceInprojSampleIdeal.Gen.shapeCasts_S1x64_S64)))

/-- The normed heads, rotated. -/
def rot (h : FVec Ideal Cert.ReferenceInprojSampleIdeal.S128x8x512 .f32) (g : FVec Ideal Cert.ReferenceInprojSampleIdeal.S1x64 .f32) : FVec Ideal Cert.ReferenceInprojSampleIdeal.S128x8x8x64 .f32 :=
  concatenate Cert.ReferenceInprojSampleIdeal.S128x8x8x64 3 [⟨Cert.ReferenceInprojSampleIdeal.S128x8x8x32, (subf (mulf (extractStridedSlice Cert.ReferenceInprojSampleIdeal.S128x8x8x32 ![0, 0, 0, 0] (N h g) Cert.ReferenceInprojSampleIdeal.Gen.slices_S128x8x8x64_S128x8x8x32_0_0_0_0) (broadcastInDim Cert.ReferenceInprojSampleIdeal.S128x8x8x32 ![0, 1, 2, 3] Cert.ReferenceInprojSampleIdeal.Gen.bcast_S1x8x1x32_S128x8x8x32_0_1_2_3 (broadcastInDim Cert.ReferenceInprojSampleIdeal.S1x8x1x32 ![1, 3] Cert.ReferenceInprojSampleIdeal.Gen.bcast_S8x32_S1x8x1x32_1_3 (Host.cos angles)))) (mulf (extractStridedSlice Cert.ReferenceInprojSampleIdeal.S128x8x8x32 ![0, 0, 0, 32] (N h g) Cert.ReferenceInprojSampleIdeal.Gen.slices_S128x8x8x64_S128x8x8x32_0_0_0_32) (broadcastInDim Cert.ReferenceInprojSampleIdeal.S128x8x8x32 ![0, 1, 2, 3] Cert.ReferenceInprojSampleIdeal.Gen.bcast_S1x8x1x32_S128x8x8x32_0_1_2_3 (broadcastInDim Cert.ReferenceInprojSampleIdeal.S1x8x1x32 ![1, 3] Cert.ReferenceInprojSampleIdeal.Gen.bcast_S8x32_S1x8x1x32_1_3 (Host.sin angles)))))⟩, ⟨Cert.ReferenceInprojSampleIdeal.S128x8x8x32, (addf (mulf (extractStridedSlice Cert.ReferenceInprojSampleIdeal.S128x8x8x32 ![0, 0, 0, 32] (N h g) Cert.ReferenceInprojSampleIdeal.Gen.slices_S128x8x8x64_S128x8x8x32_0_0_0_32) (broadcastInDim Cert.ReferenceInprojSampleIdeal.S128x8x8x32 ![0, 1, 2, 3] Cert.ReferenceInprojSampleIdeal.Gen.bcast_S1x8x1x32_S128x8x8x32_0_1_2_3 (broadcastInDim Cert.ReferenceInprojSampleIdeal.S1x8x1x32 ![1, 3] Cert.ReferenceInprojSampleIdeal.Gen.bcast_S8x32_S1x8x1x32_1_3 (Host.cos angles)))) (mulf (extractStridedSlice Cert.ReferenceInprojSampleIdeal.S128x8x8x32 ![0, 0, 0, 0] (N h g) Cert.ReferenceInprojSampleIdeal.Gen.slices_S128x8x8x64_S128x8x8x32_0_0_0_0) (broadcastInDim Cert.ReferenceInprojSampleIdeal.S128x8x8x32 ![0, 1, 2, 3] Cert.ReferenceInprojSampleIdeal.Gen.bcast_S1x8x1x32_S128x8x8x32_0_1_2_3 (broadcastInDim Cert.ReferenceInprojSampleIdeal.S1x8x1x32 ![1, 3] Cert.ReferenceInprojSampleIdeal.Gen.bcast_S8x32_S1x8x1x32_1_3 (Host.sin angles)))))⟩] Cert.ReferenceInprojSampleIdeal.Gen.concatenates_S128x8x8x32_S128x8x8x32_S128x8x8x64_d3

/-- What the gate's log-sigmoid is taken of. -/
def lin (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) (a5 : FVec Ideal Cert.ReferenceInprojSampleIdeal.S1x16x256 .f32) (a6 : FVec Ideal Cert.ReferenceInprojSampleIdeal.S1x256 .f32) : FVec Ideal Cert.ReferenceInprojSampleIdeal.S128x8x256 .f32 :=
  addf (Host.dotGeneral Cert.ReferenceInprojSampleIdeal.dot_S128x8x16_S16x256_S128x8x256_2_0_01_1_n_n none (extractStridedSlice Cert.ReferenceInprojSampleIdeal.S128x8x16 ![0, 0, 2560] (Z a0 a1 a2) Cert.ReferenceInprojSampleIdeal.Gen.slices_S128x8x5136_S128x8x16_0_0_2560) (shapeCast _ a5 Cert.ReferenceInprojSampleIdeal.Gen.shapeCasts_S1x16x256_S16x256)) (broadcastInDim Cert.ReferenceInprojSampleIdeal.S128x8x256 ![0, 1, 2] Cert.ReferenceInprojSampleIdeal.Gen.bcast_S1x1x256_S128x8x256_0_1_2 (broadcastInDim Cert.ReferenceInprojSampleIdeal.S1x1x256 ![2] Cert.ReferenceInprojSampleIdeal.Gen.bcast_S256_S1x1x256_2 (shapeCast _ a6 Cert.ReferenceInprojSampleIdeal.Gen.shapeCasts_S1x256_S256)))

/-- Result 0: the queries. -/
def R0 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) (a3 : FVec Ideal Cert.ReferenceInprojSampleIdeal.S1x64 .f32) : FVec Ideal Cert.ReferenceInprojSampleIdeal.S1024x512 .f32 :=
  shapeCast _ (rot (extractStridedSlice Cert.ReferenceInprojSampleIdeal.S128x8x512 ![0, 0, 0] (Z a0 a1 a2) Cert.ReferenceInprojSampleIdeal.Gen.slices_S128x8x5136_S128x8x512_0_0_0) a3) Cert.ReferenceInprojSampleIdeal.Gen.shapeCasts_S128x8x8x64_S1024x512

/-- Result 1: the keys. -/
def R1 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) (a4 : FVec Ideal Cert.ReferenceInprojSampleIdeal.S1x64 .f32) : FVec Ideal Cert.ReferenceInprojSampleIdeal.S1024x512 .f32 :=
  shapeCast _ (rot (extractStridedSlice Cert.ReferenceInprojSampleIdeal.S128x8x512 ![0, 0, 512] (Z a0 a1 a2) Cert.ReferenceInprojSampleIdeal.Gen.slices_S128x8x5136_S128x8x512_0_0_512) a4) Cert.ReferenceInprojSampleIdeal.Gen.shapeCasts_S128x8x8x64_S1024x512

/-- Result 2: the values. -/
def R2 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x512 .f32 :=
  shapeCast _ (extractStridedSlice Cert.ReferenceInprojSampleIdeal.S128x8x512 ![0, 0, 1024] (Z a0 a1 a2) Cert.ReferenceInprojSampleIdeal.Gen.slices_S128x8x5136_S128x8x512_0_0_1024) Cert.ReferenceInprojSampleIdeal.Gen.shapeCasts_S128x8x512_S1024x512

/-- Result 3: the recurrence's scaled queries. -/
def R3 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x256 .f32 :=
  shapeCast _ (mulf (extractStridedSlice Cert.ReferenceInprojSampleIdeal.S128x8x256 ![0, 0, 1536] (Z a0 a1 a2) Cert.ReferenceInprojSampleIdeal.Gen.slices_S128x8x5136_S128x8x256_0_0_1536) (broadcastInDim Cert.ReferenceInprojSampleIdeal.S128x8x256 ![] Cert.ReferenceInprojSampleIdeal.Gen.bcast_S_S128x8x256 (constant Cert.ReferenceInprojSampleIdeal.S_ .f32 0x3E000000#32))) Cert.ReferenceInprojSampleIdeal.Gen.shapeCasts_S128x8x256_S1024x256

/-- Result 4: the recurrence's keys. -/
def R4 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x256 .f32 :=
  shapeCast _ (extractStridedSlice Cert.ReferenceInprojSampleIdeal.S128x8x256 ![0, 0, 1792] (Z a0 a1 a2) Cert.ReferenceInprojSampleIdeal.Gen.slices_S128x8x5136_S128x8x256_0_0_1792) Cert.ReferenceInprojSampleIdeal.Gen.shapeCasts_S128x8x256_S1024x256

/-- Result 5: the recurrence's values. -/
def R5 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x512 .f32 :=
  shapeCast _ (extractStridedSlice Cert.ReferenceInprojSampleIdeal.S128x8x512 ![0, 0, 2048] (Z a0 a1 a2) Cert.ReferenceInprojSampleIdeal.Gen.slices_S128x8x5136_S128x8x512_0_0_2048) Cert.ReferenceInprojSampleIdeal.Gen.shapeCasts_S128x8x512_S1024x512

/-- Result 6: the recurrence's log decays. -/
def R6 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) (a5 : FVec Ideal Cert.ReferenceInprojSampleIdeal.S1x16x256 .f32) (a6 : FVec Ideal Cert.ReferenceInprojSampleIdeal.S1x256 .f32) : FVec Ideal Cert.ReferenceInprojSampleIdeal.S1024x256 .f32 :=
  shapeCast _ (Host.divf (Host.negf (select (cmpf .une (subf (Host.negf (lin a0 a1 a2 a5 a6)) (broadcastInDim Cert.ReferenceInprojSampleIdeal.S128x8x256 ![] Cert.ReferenceInprojSampleIdeal.Gen.bcast_S_S128x8x256 (constant Cert.ReferenceInprojSampleIdeal.S_ .f32 0x00000000#32))) (subf (Host.negf (lin a0 a1 a2 a5 a6)) (broadcastInDim Cert.ReferenceInprojSampleIdeal.S128x8x256 ![] Cert.ReferenceInprojSampleIdeal.Gen.bcast_S_S128x8x256 (constant Cert.ReferenceInprojSampleIdeal.S_ .f32 0x00000000#32)))) (addf (Host.negf (lin a0 a1 a2 a5 a6)) (broadcastInDim Cert.ReferenceInprojSampleIdeal.S128x8x256 ![] Cert.ReferenceInprojSampleIdeal.Gen.bcast_S_S128x8x256 (constant Cert.ReferenceInprojSampleIdeal.S_ .f32 0x00000000#32))) (addf (maximumf (Host.negf (lin a0 a1 a2 a5 a6)) (broadcastInDim Cert.ReferenceInprojSampleIdeal.S128x8x256 ![] Cert.ReferenceInprojSampleIdeal.Gen.bcast_S_S128x8x256 (constant Cert.ReferenceInprojSampleIdeal.S_ .f32 0x00000000#32))) (Host.log1p (Host.exp (Host.negf (Host.absf (subf (Host.negf (lin a0 a1 a2 a5 a6)) (broadcastInDim Cert.ReferenceInprojSampleIdeal.S128x8x256 ![] Cert.ReferenceInprojSampleIdeal.Gen.bcast_S_S128x8x256 (constant Cert.ReferenceInprojSampleIdeal.S_ .f32 0x00000000#32)))))))))) (broadcastInDim Cert.ReferenceInprojSampleIdeal.S128x8x256 ![] Cert.ReferenceInprojSampleIdeal.Gen.bcast_S_S128x8x256 (constant Cert.ReferenceInprojSampleIdeal.S_ .f32 0x41800000#32))) Cert.ReferenceInprojSampleIdeal.Gen.shapeCasts_S128x8x256_S1024x256

/-- Result 7: the recurrence's output gates. -/
def R7 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x512 .f32 :=
  shapeCast _ (extractStridedSlice Cert.ReferenceInprojSampleIdeal.S128x8x512 ![0, 0, 2576] (Z a0 a1 a2) Cert.ReferenceInprojSampleIdeal.Gen.slices_S128x8x5136_S128x8x512_0_0_2576) Cert.ReferenceInprojSampleIdeal.Gen.shapeCasts_S128x8x512_S1024x512

/-- Result 8: the first branch's gates. -/
def R8 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x1024 .f32 :=
  shapeCast _ (extractStridedSlice Cert.ReferenceInprojSampleIdeal.S128x8x1024 ![0, 0, 3088] (Z a0 a1 a2) Cert.ReferenceInprojSampleIdeal.Gen.slices_S128x8x5136_S128x8x1024_0_0_3088) Cert.ReferenceInprojSampleIdeal.Gen.shapeCasts_S128x8x1024_S1024x1024

/-- Result 9: the second branch's gates. -/
def R9 (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) : FVec Ideal Cert.ReferenceInprojSampleIdeal.S1024x1024 .f32 :=
  shapeCast _ (extractStridedSlice Cert.ReferenceInprojSampleIdeal.S128x8x1024 ![0, 0, 4112] (Z a0 a1 a2) Cert.ReferenceInprojSampleIdeal.Gen.slices_S128x8x5136_S128x8x1024_0_0_4112) Cert.ReferenceInprojSampleIdeal.Gen.shapeCasts_S128x8x1024_S1024x1024

/-- An element of the projection. -/
def zAt (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) (b : Fin 128) (t : Fin 8) (j : Fin 5136) : EReal :=
  ∑ k : Fin 1024, normAt (fun k => a0 (ix3 b t k)) (fun k => a1 (ix2 0 k)) k * a2 (ix3 0 k j)

/-- An element of the queries or keys: the row of a projection, normed head by head and rotated. -/
def qkAt (h : Fin 512 → EReal) (g : FVec Ideal Cert.ReferenceInprojSampleIdeal.S1x64 .f32) (t : Fin 8) (j : Fin 512) : EReal :=
  ropeAt (headAt h (fun j => g (ix2 0 ⟨j.val % 64, by omega⟩))) (fun j => Ideal.cos (angles (ix2 t ⟨j.val % 32, by omega⟩)))
    (fun j => Ideal.sin (angles (ix2 t ⟨j.val % 32, by omega⟩))) j

section
variable (a0 : FVec Ideal Cert.ReferenceInprojSampleIdeal.S128x8x1024 .f32) (a1 : FVec Ideal Cert.ReferenceInprojSampleIdeal.S1x1024 .f32) (a2 : FVec Ideal Cert.ReferenceInprojSampleIdeal.S1x1024x5136 .f32) (g : FVec Ideal Cert.ReferenceInprojSampleIdeal.S1x64 .f32)
  (a5 : FVec Ideal Cert.ReferenceInprojSampleIdeal.S1x16x256 .f32) (a6 : FVec Ideal Cert.ReferenceInprojSampleIdeal.S1x256 .f32)

theorem Z_at (b : Fin 128) (t : Fin 8) (j : Fin 5136) : Z a0 a1 a2 (ix3 b t j) = zAt a0 a1 a2 b t j := by
  pointwise [Z, zAt, normAt]

theorem N_at (h : FVec Ideal Cert.ReferenceInprojSampleIdeal.S128x8x512 .f32) (b : Fin 128) (t : Fin 8) (n : Fin 8) (d : Fin 64) :
    N h g (ix4 b t n d) = headAt (fun j => h (ix3 b t j)) (fun j => g (ix2 0 ⟨j.val % 64, by omega⟩)) ⟨n.val * 64 + d.val, by omega⟩ := by
  pointwise [N, headAt]
  have e : (n.val * 64 + d.val) / 64 = n.val := by omega
  have f : (n.val * 64 + d.val) % 64 = d.val := by omega
  simp only [e, f]

theorem rot_at (h : FVec Ideal Cert.ReferenceInprojSampleIdeal.S128x8x512 .f32) (b : Fin 128) (t : Fin 8) (n : Fin 8) (d : Fin 64) :
    rot h g (ix4 b t n d) = qkAt (fun j => h (ix3 b t j)) g t ⟨n.val * 64 + d.val, by omega⟩ := by
  pointwise [rot, qkAt, ropeAt, N_at]
  have e : (n.val * 64 + d.val) % 64 = d.val := by omega
  by_cases hd : d.val < 32
  · have f : (n.val * 64 + d.val) % 32 = d.val := by omega
    have f' : n.val * 64 + (32 + d.val) = n.val * 64 + d.val + 32 := by omega
    refine Eq.trans (dif_pos hd) (Eq.trans ?_ (dif_pos (by omega)).symm)
    simp only [f, f']
  · have f : (n.val * 64 + d.val) % 32 = d.val - 32 := by omega
    have f' : n.val * 64 + (32 + (d.val - 32)) = n.val * 64 + d.val := by omega
    have f'' : n.val * 64 + (d.val - 32) = n.val * 64 + d.val - 32 := by omega
    refine Eq.trans (dif_neg hd) (Eq.trans ?_ (dif_neg (by omega)).symm)
    simp only [f, f', f'']

theorem R2_at (r : Fin 1024) (n : Fin 512) : R2 a0 a1 a2 (ix2 r n) = zAt a0 a1 a2 ⟨r.val / 8, by omega⟩ ⟨r.val % 8, by omega⟩ ⟨1024 + n.val, by omega⟩ := by
  pointwise [R2, Z_at]

theorem R3_at (r : Fin 1024) (n : Fin 256) : R3 a0 a1 a2 (ix2 r n) = zAt a0 a1 a2 ⟨r.val / 8, by omega⟩ ⟨r.val % 8, by omega⟩ ⟨1536 + n.val, by omega⟩ * Ideal.ofBits .f32 0x3E000000#32 := by
  pointwise [R3, Z_at]

theorem R4_at (r : Fin 1024) (n : Fin 256) : R4 a0 a1 a2 (ix2 r n) = zAt a0 a1 a2 ⟨r.val / 8, by omega⟩ ⟨r.val % 8, by omega⟩ ⟨1792 + n.val, by omega⟩ := by
  pointwise [R4, Z_at]

theorem R5_at (r : Fin 1024) (n : Fin 512) : R5 a0 a1 a2 (ix2 r n) = zAt a0 a1 a2 ⟨r.val / 8, by omega⟩ ⟨r.val % 8, by omega⟩ ⟨2048 + n.val, by omega⟩ := by
  pointwise [R5, Z_at]

theorem R7_at (r : Fin 1024) (n : Fin 512) : R7 a0 a1 a2 (ix2 r n) = zAt a0 a1 a2 ⟨r.val / 8, by omega⟩ ⟨r.val % 8, by omega⟩ ⟨2576 + n.val, by omega⟩ := by
  pointwise [R7, Z_at]

theorem R8_at (r : Fin 1024) (n : Fin 1024) : R8 a0 a1 a2 (ix2 r n) = zAt a0 a1 a2 ⟨r.val / 8, by omega⟩ ⟨r.val % 8, by omega⟩ ⟨3088 + n.val, by omega⟩ := by
  pointwise [R8, Z_at]

theorem R9_at (r : Fin 1024) (n : Fin 1024) : R9 a0 a1 a2 (ix2 r n) = zAt a0 a1 a2 ⟨r.val / 8, by omega⟩ ⟨r.val % 8, by omega⟩ ⟨4112 + n.val, by omega⟩ := by
  pointwise [R9, Z_at]

theorem R0_at (r : Fin 1024) (n : Fin 512) : R0 a0 a1 a2 g (ix2 r n)
    = qkAt (fun j => zAt a0 a1 a2 ⟨r.val / 8, by omega⟩ ⟨r.val % 8, by omega⟩ ⟨0 + j.val, by omega⟩) g ⟨r.val % 8, by omega⟩ n := by
  pointwise [R0, rot_at, Z_at]
  simp only [lane_of_head]

theorem R1_at (r : Fin 1024) (n : Fin 512) : R1 a0 a1 a2 g (ix2 r n)
    = qkAt (fun j => zAt a0 a1 a2 ⟨r.val / 8, by omega⟩ ⟨r.val % 8, by omega⟩ ⟨512 + j.val, by omega⟩) g ⟨r.val % 8, by omega⟩ n := by
  pointwise [R1, rot_at, Z_at]
  simp only [lane_of_head]

theorem R6_at (r : Fin 1024) (n : Fin 256) : R6 a0 a1 a2 a5 a6 (ix2 r n)
    = decayAt ((∑ e : Fin 16, zAt a0 a1 a2 ⟨r.val / 8, by omega⟩ ⟨r.val % 8, by omega⟩ ⟨2560 + e.val, by omega⟩ * a5 (ix3 0 e n)) + a6 (ix2 0 n)) := by
  pointwise [R6, lin, Z_at]
  rw [if_neg (fun h => h rfl)]
  exact log_sigmoid _

end

end Cert.InprojSample
-- ==== Proof.InprojSampleFinite.lean ====
module
public import Idealize.ShloMosaic.Init
public import Idealize.ShloMosaic.Lib.Claim
public import Idealize.ShloMosaic.Lib.Pointwise
public import Idealize.ShloMosaic.Lib.Pipeline.ValueKit
public import proofs.«01_k».proof.Proof.Gen.Pre_sample_finite
public import proofs.«01_k».proof.Proof.InprojFinite
public import proofs.«01_k».proof.Proof.InprojSampleRef

/-! The sample: finite activations, gain and weights give finite projections. -/

@[expose] public section

set_option maxRecDepth 16384

noncomputable section

open Idealize.ShloMosaic Idealize.ShloMosaic.TcCoe Idealize.SL.Sem

namespace Cert.InprojSample
open Cert.Inproj (real_sum real_mul real_norm real_of_abs)

section
variable (a0 : FVec Ideal Cert.ReferenceInprojSampleIdeal.S128x8x1024 .f32) (a1 : FVec Ideal Cert.ReferenceInprojSampleIdeal.S1x1024 .f32)
  (a2 : FVec Ideal Cert.ReferenceInprojSampleIdeal.S1x1024x5136 .f32) (a3 a4 : FVec Ideal Cert.ReferenceInprojSampleIdeal.S1x64 .f32)
  (a5 : FVec Ideal Cert.ReferenceInprojSampleIdeal.S1x16x256 .f32) (a6 : FVec Ideal Cert.ReferenceInprojSampleIdeal.S1x256 .f32)

/-- The projection is finite when what it is taken of is. -/
theorem real_z (h0 : ∀ i, ∃ v : ℝ, a0 i = v) (h1 : ∀ i, ∃ v : ℝ, a1 i = v) (h2 : ∀ i, ∃ v : ℝ, a2 i = v) (b : Fin 128) (t : Fin 8) (j : Fin 5136) :
    ∃ v : ℝ, zAt a0 a1 a2 b t j = v :=
  real_sum _ fun k => real_mul (real_norm _ _ (fun _ => h0 _) (fun _ => h1 _) k) (h2 _)

/-- The precondition, read. -/
theorem finite_of_pre
    (h : (Cert.Pre_sample_finite.fn (F := Ideal) a0 a1 a2 a3 a4 a5 a6).1 = (fun _ => 1#1)
      ∧ (Cert.Pre_sample_finite.fn (F := Ideal) a0 a1 a2 a3 a4 a5 a6).2.1 = (fun _ => 1#1)
      ∧ (Cert.Pre_sample_finite.fn (F := Ideal) a0 a1 a2 a3 a4 a5 a6).2.2 = (fun _ => 1#1)) :
    (∀ i, ∃ v : ℝ, a0 i = v) ∧ (∀ i, ∃ v : ℝ, a1 i = v) ∧ (∀ i, ∃ v : ℝ, a2 i = v) := by
  have e : Ideal.ofBits .f32 0x7F800000#32 = (⊤ : EReal) := by simp [Ideal.ofBits, Ideal.ieee]
  refine ⟨fun i => real_of_abs ?_, fun i => real_of_abs ?_, fun i => real_of_abs ?_⟩
  · have := congrFun h.1 i
    revert this
    pointwise [Cert.Pre_sample_finite.fn]
    rw [e]
    exact id
  · have := congrFun h.2.1 i
    revert this
    pointwise [Cert.Pre_sample_finite.fn]
    rw [e]
    exact id
  · have := congrFun h.2.2 i
    revert this
    pointwise [Cert.Pre_sample_finite.fn]
    rw [e]
    exact id

end

end Cert.InprojSample
-- ==== Proof.InprojSampleHost.lean ====
module
public import Idealize.ShloMosaic.Init
public import Idealize.ShloMosaic.Lib.Claim
public import Idealize.ShloMosaic.Lib.Pointwise
public import Idealize.ShloMosaic.Lib.StableHlo.Run
public import Idealize.ShloMosaic.Lib.Pipeline.ValueKit
public import proofs.«01_k».proof.Proof.InprojHost
public import proofs.«01_k».proof.Proof.InprojSampleFrame
public import proofs.«01_k».proof.Proof.InprojSampleRef

/-! What the sample's projection call finds in the arrays the host prepared. -/

@[expose] public section

set_option maxRecDepth 16384

noncomputable section

open Idealize.ShloMosaic Idealize.ShloMosaic.TcCoe Idealize.SL.Sem
open Idealize.ShloMosaic.Pipeline (Dat)

namespace Cert.InprojSample
open Cert.KernelInprojSampleIdeal Cert.KernelInprojSampleIdeal.Gen
open Cert.Inproj (head_of one_or_zero sitofp_zero)

variable (m : (ℓ : Loc nD τ sig) → Buf (Elt Ideal) ℓ) (c : Dev nD)

set_option maxHeartbeats 4000000

/-- A position within its group of eight: the remainder, its sign put right. -/
theorem pos_of : ∀ p : Fin 256, Scalar.select
      (IntOp.andi
        (IntOp.cmpi CmpIPredicate.ne
          (IntOp.cmpi CmpIPredicate.slt (IntOp.remsi ArithUnit.host (BitVec.ofNat 32 p.val) (Scalar.select (IntOp.cmpi CmpIPredicate.eq (8#32) 0#32) (1#32) (8#32))) 0#32)
          (IntOp.cmpi CmpIPredicate.slt (Scalar.select (IntOp.cmpi CmpIPredicate.eq (8#32) 0#32) (1#32) (8#32)) 0#32))
        (IntOp.cmpi CmpIPredicate.ne (IntOp.remsi ArithUnit.host (BitVec.ofNat 32 p.val) (Scalar.select (IntOp.cmpi CmpIPredicate.eq (8#32) 0#32) (1#32) (8#32))) 0#32))
      (IntOp.addi (IntOp.remsi ArithUnit.host (BitVec.ofNat 32 p.val) (Scalar.select (IntOp.cmpi CmpIPredicate.eq (8#32) 0#32) (1#32) (8#32))) (Scalar.select (IntOp.cmpi CmpIPredicate.eq (8#32) 0#32) (1#32) (8#32)))
      (IntOp.remsi ArithUnit.host (BitVec.ofNat 32 p.val) (Scalar.select (IntOp.cmpi CmpIPredicate.eq (8#32) 0#32) (1#32) (8#32))) = BitVec.ofNat 32 (p.val % 8) := by
  decide +kernel

/-- The rows of the activations. -/
theorem host_x (r : Fin 1024) (k : Fin 1024) : V m c main_v56 (ix2 r k) = m ((c : Thread nD τ).loc main_arg0) (ix3 (⟨r.val / 8, by omega⟩ : Fin 128) (⟨r.val % 8, by omega⟩ : Fin 8) k) := by
  refine (congrFun (?e : V m c main_v56 = ?X) (ix2 r k)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The gain of the rows' norm. -/
theorem host_g (k : Fin 1024) : V m c main_v14 (ix2 0 k) = m ((c : Thread nD τ).loc main_arg1) (ix2 0 k) := by
  refine (congrFun (?e : V m c main_v14 = ?X) (ix2 0 k)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The weights, with a hundred and twelve columns of zeros after the low-rank ones. -/
theorem host_w (k : Fin 1024) (j : Fin 5248) : V m c main_v11 (ix2 k j) = if h : j.val < 2576 then (m ((c : Thread nD τ).loc main_arg2) (ix3 (0 : Fin 1) k (⟨j.val, by omega⟩ : Fin 5136)) : EReal)
      else if h' : j.val < 2688 then (0 : EReal) else m ((c : Thread nD τ).loc main_arg2) (ix3 (0 : Fin 1) k (⟨j.val - 112, by omega⟩ : Fin 5136)) := by
  refine (congrFun (?e : V m c main_v11 = ?X) (ix2 k j)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []
    after_results_simp
    pointwise []
    rw [sitofp_zero]
    by_cases h1 : j.val < 2560
    · have h2 : j.val < 2576 := by omega
      refine Eq.trans (dif_pos h1) (Eq.symm ?_)
      exact dif_pos h2
    refine (dif_neg h1).trans ?_
    by_cases h2 : j.val < 2576
    · refine (dif_pos (show j.val - 2560 < 128 by omega)).trans ((dif_pos (show j.val - 2560 < 16 by omega)).trans (Eq.trans ?_ (dif_pos h2).symm))
      refine congrArg (m ((c : Thread nD τ).loc main_arg2)) ?_
      blk_ext
    by_cases h3 : j.val < 2688
    · refine Eq.trans (dif_pos (show j.val - 2560 < 128 by omega)) (Eq.trans (dif_neg (show ¬ j.val - 2560 < 16 by omega)) (Eq.symm ?_))
      exact (dif_neg h2).trans (dif_pos h3)
    · refine (dif_neg (show ¬ j.val - 2560 < 128 by omega)).trans (Eq.trans ?_ ((dif_neg h2).trans (dif_neg h3)).symm)
      refine congrArg (m ((c : Thread nD τ).loc main_arg2)) ?_
      blk_ext

/-- The table of cosines. -/
theorem host_cos (p : Fin 256) (j : Fin 512) : V m c main_v51 (ix2 p j) = Ideal.cos (angles (ix2 ⟨p.val % 8, by omega⟩ ⟨j.val % 32, by omega⟩)) := by
  refine (congrFun (?e : V m c main_v51 = ?X) (ix2 p j)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · unfold angles
    pointwise []
    exact congrArg (fun w => Ideal.cos (FloatOps.sitofp (F := Ideal) FTy.f32 (IntOp.addi (8192#32) w) * _)) (pos_of p)

/-- The table of sines. -/
theorem host_sin (p : Fin 256) (j : Fin 512) : V m c main_v55 (ix2 p j) = Ideal.sin (angles (ix2 ⟨p.val % 8, by omega⟩ ⟨j.val % 32, by omega⟩)) := by
  refine (congrFun (?e : V m c main_v55 = ?X) (ix2 p j)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · unfold angles
    pointwise []
    exact congrArg (fun w => Ideal.sin (FloatOps.sitofp (F := Ideal) FTy.f32 (IntOp.addi (8192#32) w) * _)) (pos_of p)

/-- The gain of the queries' norm, repeated head by head. -/
theorem host_qn (j : Fin 512) : V m c main_v18 (ix2 0 j) = m ((c : Thread nD τ).loc main_arg3) (ix2 0 (⟨j.val % 64, by omega⟩ : Fin 64)) := by
  refine (congrFun (?e : V m c main_v18 = ?X) (ix2 0 j)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The gain of the keys' norm, repeated head by head. -/
theorem host_kn (j : Fin 512) : V m c main_v22 (ix2 0 j) = m ((c : Thread nD τ).loc main_arg4) (ix2 0 (⟨j.val % 64, by omega⟩ : Fin 64)) := by
  refine (congrFun (?e : V m c main_v22 = ?X) (ix2 0 j)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

/-- The block-diagonal ones. -/
theorem host_bd (i j : Fin 512) : V m c main_v28 (ix2 i j) = if i.val / 64 = j.val / 64 then (1 : EReal) else 0 := by
  refine (congrFun (?e : V m c main_v28 = ?X) (ix2 i j)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []
    refine (congrArg₂ (fun a b => FloatOps.uitofp (F := Ideal) FTy.bf16 (IntOp.cmpi CmpIPredicate.eq a b)) (head_of i) (head_of j)).trans ?_
    exact one_or_zero i j

/-- The gate's second weights, padded with zero rows. -/
theorem host_w2 (e : Fin 128) (n : Fin 256) : V m c main_v30 (ix2 e n) = if h : e.val < 16 then (m ((c : Thread nD τ).loc main_arg5) (ix3 (0 : Fin 1) (⟨e.val, h⟩ : Fin 16) n) : EReal) else (0 : EReal) := by
  refine (congrFun (?e : V m c main_v30 = ?X) (ix2 e n)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []
    rw [sitofp_zero]

/-- The gate's bias. -/
theorem host_gb (n : Fin 256) : V m c main_v31 (ix2 0 n) = m ((c : Thread nD τ).loc main_arg6) (ix2 0 n) := by
  refine (congrFun (?e : V m c main_v31 = ?X) (ix2 0 n)).trans ?_
  rotate_left
  · unfold V hostOps0 hostOps0_1 hostOps0_2 hostOps0_3 hostOps0_4 hostOps0_5 hostOps0_6 hostOps0_7 hostOps0_8
    simp only [List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
    after_results_simp
    exact rfl
  · pointwise []

end Cert.InprojSample
-- ==== Proof.InprojSampleValue.lean ====
module
public import Idealize.ShloMosaic.Init
public import Idealize.ShloMosaic.Lib.Claim
public import Idealize.ShloMosaic.Lib.Pointwise
public import Idealize.ShloMosaic.Lib.Pipeline.ValueKit
public import proofs.«01_k».proof.Proof.InprojSampleHost

/-! The sample's projection: what the kernel stores in each of its results is the reference's array. -/

@[expose] public section

set_option maxRecDepth 16384

noncomputable section

open Idealize.ShloMosaic Idealize.ShloMosaic.TcCoe Idealize.SL.Sem
open Idealize.ShloMosaic.Pipeline (Dat)

namespace Cert.InprojSample
open Cert.KernelInprojSampleIdeal Cert.KernelInprojSampleIdeal.Gen
open Cert.Inproj (prAt linAt keys key_at decayAt out10 out11 out12 out13 out14 out15 out16 out17 out18 out19)

variable (m : (ℓ : Loc nD τ sig) → Buf (Elt Ideal) ℓ) (c : Dev nD)

/-- The windows' block indices at a point. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] ∧ win0_18.index t = ![t.val, 0] ∧ win0_19.index t = ![t.val, 0] :=
  (by decide +kernel : ∀ t : Fin grid0.N, _)

theorem lt4 (t : Fin cfg0.N) : t.val < 4 := lt_of_lt_of_eq t.isLt N_0

/-! The blocks' elements. -/

section
variable (t : Fin cfg0.N)

theorem blk0 (r : Fin 256) (k : Fin 1024) : (iblk m c 0 t) (ix2 r k) = (m ((c : Thread nD τ).loc main_arg0)) (ix3 (⟨(t.val * 256 + r.val) / 8, by have := lt4 t; omega⟩ : Fin 128) (⟨(t.val * 256 + r.val) % 8, by omega⟩ : Fin 8) k) := by
  have ht := lt4 t
  refine Eq.trans ?_ (host_x m c ⟨t.val * 256 + r.val, by omega⟩ k)
  blk_point [iblk, idx t]

theorem blk1 (k : Fin 1024) : (iblk m c 1 t) (ix2 0 k) = (m ((c : Thread nD τ).loc main_arg1)) (ix2 0 k) := by
  refine Eq.trans ?_ (host_g m c k)
  blk_point [iblk, idx t]

theorem blk2 (k : Fin 1024) (j : Fin 5248) : (iblk m c 2 t) (ix2 k j) = V m c main_v11 (ix2 k j) := by
  blk_point [iblk, idx t]

theorem blk3 (r : Fin 256) (j : Fin 512) : (iblk m c 3 t) (ix2 r j) = Ideal.cos (angles (ix2 ⟨(t.val * 256 + r.val) % 8, by omega⟩ ⟨j.val % 32, by omega⟩)) := by
  have ht := lt4 t
  have e : (t.val * 256 + r.val) % 8 = r.val % 8 := by omega
  simp only [e]
  refine Eq.trans ?_ (host_cos m c r j)
  blk_point [iblk, idx t]

theorem blk4 (r : Fin 256) (j : Fin 512) : (iblk m c 4 t) (ix2 r j) = Ideal.sin (angles (ix2 ⟨(t.val * 256 + r.val) % 8, by omega⟩ ⟨j.val % 32, by omega⟩)) := by
  have ht := lt4 t
  have e : (t.val * 256 + r.val) % 8 = r.val % 8 := by omega
  simp only [e]
  refine Eq.trans ?_ (host_sin m c r j)
  blk_point [iblk, idx t]

theorem blk5 (j : Fin 512) : (iblk m c 5 t) (ix2 0 j) = (m ((c : Thread nD τ).loc main_arg3)) (ix2 0 (⟨j.val % 64, by omega⟩ : Fin 64)) := by
  refine Eq.trans ?_ (host_qn m c j)
  blk_point [iblk, idx t]

theorem blk6 (j : Fin 512) : (iblk m c 6 t) (ix2 0 j) = (m ((c : Thread nD τ).loc main_arg4)) (ix2 0 (⟨j.val % 64, by omega⟩ : Fin 64)) := by
  refine Eq.trans ?_ (host_kn m c j)
  blk_point [iblk, idx t]

theorem blk7 (i j : Fin 512) : (iblk m c 7 t) (ix2 i j) = if i.val / 64 = j.val / 64 then (1 : EReal) else 0 := by
  refine Eq.trans ?_ (host_bd m c i j)
  blk_point [iblk, idx t]

theorem blk8 (e : Fin 128) (n : Fin 256) : (iblk m c 8 t) (ix2 e n) = V m c main_v30 (ix2 e n) := by
  blk_point [iblk, idx t]

theorem blk9 (n : Fin 256) : (iblk m c 9 t) (ix2 0 n) = (m ((c : Thread nD τ).loc main_arg6)) (ix2 0 n) := by
  refine Eq.trans ?_ (host_gb m c n)
  blk_point [iblk, idx t]

/-! A product of the block is the projection's: before the padding, and past it. -/

theorem pr_lo (r : Fin 256) (j : Fin 5248) (h : j.val < 2576) : prAt (iblk m c 0 t) (iblk m c 1 t) (iblk m c 2 t) r j
    = zAt (m ((c : Thread nD τ).loc main_arg0)) (m ((c : Thread nD τ).loc main_arg1)) (m ((c : Thread nD τ).loc main_arg2)) ⟨(t.val * 256 + r.val) / 8, by have := lt4 t; omega⟩ ⟨(t.val * 256 + r.val) % 8, by omega⟩ ⟨j.val, by omega⟩ := by
  unfold prAt zAt
  refine Finset.sum_congr (M := EReal) rfl fun k _ => ?_
  rw [blk2, host_w]
  simp only [blk0, blk1]
  exact congrArg (_ * ·) (dif_pos h)

theorem pr_hi (r : Fin 256) (j : Fin 5248) (h : 2688 ≤ j.val) : prAt (iblk m c 0 t) (iblk m c 1 t) (iblk m c 2 t) r j
    = zAt (m ((c : Thread nD τ).loc main_arg0)) (m ((c : Thread nD τ).loc main_arg1)) (m ((c : Thread nD τ).loc main_arg2)) ⟨(t.val * 256 + r.val) / 8, by have := lt4 t; omega⟩ ⟨(t.val * 256 + r.val) % 8, by omega⟩ ⟨j.val - 112, by omega⟩ := by
  unfold prAt zAt
  refine Finset.sum_congr (M := EReal) rfl fun k _ => ?_
  rw [blk2, host_w]
  simp only [blk0, blk1]
  exact congrArg (_ * ·) ((dif_neg (by omega)).trans (dif_neg (by omega)))

theorem pr_pad (r : Fin 256) (j : Fin 5248) (h : 2576 ≤ j.val) (h' : j.val < 2688) : prAt (iblk m c 0 t) (iblk m c 1 t) (iblk m c 2 t) r j = 0 := by
  unfold prAt
  refine Finset.sum_eq_zero fun k _ => ?_
  rw [blk2, host_w]
  exact (congrArg (_ * ·) ((dif_neg (by omega)).trans (dif_pos h'))).trans (mul_zero _)

/-- The low-rank product: the padding adds nothing. -/
theorem lin_eq (r n : Fin 256) : linAt (iblk m c 0 t) (iblk m c 1 t) (iblk m c 2 t) (iblk m c 8 t) (iblk m c 9 t) r n
    = (∑ e : Fin 16, zAt (m ((c : Thread nD τ).loc main_arg0)) (m ((c : Thread nD τ).loc main_arg1)) (m ((c : Thread nD τ).loc main_arg2)) ⟨(t.val * 256 + r.val) / 8, by have := lt4 t; omega⟩ ⟨(t.val * 256 + r.val) % 8, by omega⟩ ⟨2560 + e.val, by omega⟩ * (m ((c : Thread nD τ).loc main_arg5)) (ix3 0 e n)) + (m ((c : Thread nD τ).loc main_arg6)) (ix2 0 n) := by
  unfold linAt
  rw [blk9]
  refine Ideal.add_congr ?_ rfl
  refine (Fin.sum_univ_add (M := EReal) (a := 16) (b := 112) _).trans ?_
  refine (Ideal.add_congr (Finset.sum_congr (M := EReal) rfl fun e _ => ?_) (Finset.sum_eq_zero fun e _ => ?_)).trans (add_zero _)
  · rw [blk8, host_w2]
    exact Ideal.mul_congr (pr_lo m c t r _ (by show 2560 + e.val < 2576; omega)) (dif_pos e.isLt)
  · rw [blk8, host_w2]
    exact (congrArg (_ * ·) (dif_neg (by show ¬ 16 + e.val < 16; omega))).trans (mul_zero _)

section
variable (hz : ∀ b t j, ∃ v : ℝ, zAt (m ((c : Thread nD τ).loc main_arg0)) (m ((c : Thread nD τ).loc main_arg1)) (m ((c : Thread nD τ).loc main_arg2)) b t j = v)

include hz in
theorem pr_real (r : Fin 256) (j : Fin 5248) : ∃ v : ℝ, prAt (iblk m c 0 t) (iblk m c 1 t) (iblk m c 2 t) r j = v := by
  by_cases h : j.val < 2576
  · rw [pr_lo m c t r j h]; exact hz _ _ _
  · by_cases h' : j.val < 2688
    · rw [pr_pad m c t r j (by omega) h']; exact ⟨0, rfl⟩
    · rw [pr_hi m c t r j (by omega)]; exact hz _ _ _

include hz in
/-- The rotated keys of the block. -/
theorem keys_eq (r : Fin 256) (n : Fin 512) : keys (iblk m c 0 t) (iblk m c 1 t) (iblk m c 2 t) (iblk m c 3 t) (iblk m c 4 t) (iblk m c 6 t) (iblk m c 7 t) (ix2 r n)
    = qkAt (fun j => zAt (m ((c : Thread nD τ).loc main_arg0)) (m ((c : Thread nD τ).loc main_arg1)) (m ((c : Thread nD τ).loc main_arg2)) ⟨(t.val * 256 + r.val) / 8, by have := lt4 t; omega⟩ ⟨(t.val * 256 + r.val) % 8, by omega⟩ ⟨512 + j.val, by omega⟩) (m ((c : Thread nD τ).loc main_arg4)) ⟨(t.val * 256 + r.val) % 8, by omega⟩ n := by
  rw [key_at _ _ _ _ _ _ _ (blk7 m c t) (pr_real m c t hz)]
  unfold qkAt
  simp only [blk3, blk4, blk6]
  have e : (fun j : Fin 512 => prAt (iblk m c 0 t) (iblk m c 1 t) (iblk m c 2 t) r ⟨512 + j.val, by omega⟩) = fun j => zAt (m ((c : Thread nD τ).loc main_arg0)) (m ((c : Thread nD τ).loc main_arg1)) (m ((c : Thread nD τ).loc main_arg2)) ⟨(t.val * 256 + r.val) / 8, by have := lt4 t; omega⟩ ⟨(t.val * 256 + r.val) % 8, by omega⟩ ⟨512 + j.val, by omega⟩ :=
    funext fun j => pr_lo m c t r _ (by show 512 + j.val < 2576; omega)
  rw [e]

end

end

/-! What the body stores at a block index is the reference's array where the block sits, result by result. -/

/-! The body is the prompt's: what it leaves in each window is the same function of the blocks. -/

theorem same10 (x0 : Vec Ideal S256x1024 .f32) (x1 : Vec Ideal S1x1024 .f32) (x2 : Vec Ideal S1024x5248 .bf16) (x3 : Vec Ideal S256x512 .f32) (x4 : Vec Ideal S256x512 .f32) (x5 : Vec Ideal S1x512 .f32) (x7 : Vec Ideal S512x512 .bf16) : out0_10 x0 x1 x2 x3 x4 x5 x7 = Cert.Inproj.out0_10 x0 x1 x2 x3 x4 x5 x7 := rfl
theorem same11 (x0 : Vec Ideal S256x1024 .f32) (x1 : Vec Ideal S1x1024 .f32) (x2 : Vec Ideal S1024x5248 .bf16) (x3 : Vec Ideal S256x512 .f32) (x4 : Vec Ideal S256x512 .f32) (x6 : Vec Ideal S1x512 .f32) (x7 : Vec Ideal S512x512 .bf16) : out0_11 x0 x1 x2 x3 x4 x6 x7 = Cert.Inproj.out0_11 x0 x1 x2 x3 x4 x6 x7 := rfl
theorem same12 (x0 : Vec Ideal S256x1024 .f32) (x1 : Vec Ideal S1x1024 .f32) (x2 : Vec Ideal S1024x5248 .bf16) : out0_12 x0 x1 x2 = Cert.Inproj.out0_12 x0 x1 x2 := rfl
theorem same13 (x0 : Vec Ideal S256x1024 .f32) (x1 : Vec Ideal S1x1024 .f32) (x2 : Vec Ideal S1024x5248 .bf16) : out0_13 x0 x1 x2 = Cert.Inproj.out0_13 x0 x1 x2 := rfl
theorem same14 (x0 : Vec Ideal S256x1024 .f32) (x1 : Vec Ideal S1x1024 .f32) (x2 : Vec Ideal S1024x5248 .bf16) : out0_14 x0 x1 x2 = Cert.Inproj.out0_14 x0 x1 x2 := rfl
theorem same15 (x0 : Vec Ideal S256x1024 .f32) (x1 : Vec Ideal S1x1024 .f32) (x2 : Vec Ideal S1024x5248 .bf16) : out0_15 x0 x1 x2 = Cert.Inproj.out0_15 x0 x1 x2 := rfl
theorem same16 (x0 : Vec Ideal S256x1024 .f32) (x1 : Vec Ideal S1x1024 .f32) (x2 : Vec Ideal S1024x5248 .bf16) (x8 : Vec Ideal S128x256 .bf16) (x9 : Vec Ideal S1x256 .f32) : out0_16 x0 x1 x2 x8 x9 = Cert.Inproj.out0_16 x0 x1 x2 x8 x9 := rfl
theorem same17 (x0 : Vec Ideal S256x1024 .f32) (x1 : Vec Ideal S1x1024 .f32) (x2 : Vec Ideal S1024x5248 .bf16) : out0_17 x0 x1 x2 = Cert.Inproj.out0_17 x0 x1 x2 := rfl
theorem same18 (x0 : Vec Ideal S256x1024 .f32) (x1 : Vec Ideal S1x1024 .f32) (x2 : Vec Ideal S1024x5248 .bf16) : out0_18 x0 x1 x2 = Cert.Inproj.out0_18 x0 x1 x2 := rfl
theorem same19 (x0 : Vec Ideal S256x1024 .f32) (x1 : Vec Ideal S1x1024 .f32) (x2 : Vec Ideal S1024x5248 .bf16) : out0_19 x0 x1 x2 = Cert.Inproj.out0_19 x0 x1 x2 := rfl

theorem point10 (t : Fin cfg0.N) (y : S256x512.Idx) (hz : ∀ b t j, ∃ v : ℝ, zAt (m ((c : Thread nD τ).loc main_arg0)) (m ((c : Thread nD τ).loc main_arg1)) (m ((c : Thread nD τ).loc main_arg2)) b t j = v) : out0_10 (F := Ideal) (iblk m c 0 t) (iblk m c 1 t) (iblk m c 2 t) (iblk m c 3 t) (iblk m c 4 t) (iblk m c 5 t) (iblk m c 7 t) y
    = R0 (m ((c : Thread nD τ).loc main_arg0)) (m ((c : Thread nD τ).loc main_arg1)) (m ((c : Thread nD τ).loc main_arg2)) (m ((c : Thread nD τ).loc main_arg3)) (((cfg0.win 10).blk t).view.emb y) := by
  obtain ⟨r, n, rfl⟩ : ∃ (r : Fin 256) (n : Fin 512), y = ix2 r n := ⟨y 0, y 1, by blk_ext⟩
  have ht := lt4 t
  have he : ((cfg0.win 10).blk t).view.emb (ix2 r n) = ix2 (⟨t.val * 256 + r.val, by omega⟩ : Fin 1024) n := by
    blk_ext [idx t]
  refine ((congrFun (same10 _ _ _ _ _ _ _ ) _).trans (out10 _ _ _ _ _ _ _ (blk7 m c t) (pr_real m c t hz) r n)).trans (Eq.trans ?_ ((congrArg _ he).trans (R0_at _ _ _ _ _ _)).symm)
  unfold qkAt
  simp only [blk3, blk4, blk5]
  have e : (fun j : Fin 512 => prAt (iblk m c 0 t) (iblk m c 1 t) (iblk m c 2 t) r ⟨0 + j.val, by omega⟩) = fun j => zAt (m ((c : Thread nD τ).loc main_arg0)) (m ((c : Thread nD τ).loc main_arg1)) (m ((c : Thread nD τ).loc main_arg2)) ⟨(t.val * 256 + r.val) / 8, by have := lt4 t; omega⟩ ⟨(t.val * 256 + r.val) % 8, by omega⟩ ⟨0 + j.val, by omega⟩ :=
    funext fun j => pr_lo m c t r _ (by show 0 + j.val < 2576; omega)
  rw [e]

theorem final10 (hz : ∀ b t j, ∃ v : ℝ, zAt (m ((c : Thread nD τ).loc main_arg0)) (m ((c : Thread nD τ).loc main_arg1)) (m ((c : Thread nD τ).loc main_arg2)) b t j = v) : (dats m 0 c).arrAt 10 (cfgs 0).N
    = R0 (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  exact point10 m c t y hz

theorem point11 (t : Fin cfg0.N) (y : S256x512.Idx) (hz : ∀ b t j, ∃ v : ℝ, zAt (m ((c : Thread nD τ).loc main_arg0)) (m ((c : Thread nD τ).loc main_arg1)) (m ((c : Thread nD τ).loc main_arg2)) b t j = v) : out0_11 (F := Ideal) (iblk m c 0 t) (iblk m c 1 t) (iblk m c 2 t) (iblk m c 3 t) (iblk m c 4 t) (iblk m c 6 t) (iblk m c 7 t) y
    = R1 (m ((c : Thread nD τ).loc main_arg0)) (m ((c : Thread nD τ).loc main_arg1)) (m ((c : Thread nD τ).loc main_arg2)) (m ((c : Thread nD τ).loc main_arg4)) (((cfg0.win 11).blk t).view.emb y) := by
  obtain ⟨r, n, rfl⟩ : ∃ (r : Fin 256) (n : Fin 512), y = ix2 r n := ⟨y 0, y 1, by blk_ext⟩
  have ht := lt4 t
  have he : ((cfg0.win 11).blk t).view.emb (ix2 r n) = ix2 (⟨t.val * 256 + r.val, by omega⟩ : Fin 1024) n := by
    blk_ext [idx t]
  refine ((congrFun (same11 _ _ _ _ _ _ _ ) _).trans (out11 _ _ _ _ _ _ _ r n)).trans (Eq.trans ?_ ((congrArg _ he).trans (R1_at _ _ _ _ _ _)).symm)
  exact keys_eq m c t hz r n

theorem final11 (hz : ∀ b t j, ∃ v : ℝ, zAt (m ((c : Thread nD τ).loc main_arg0)) (m ((c : Thread nD τ).loc main_arg1)) (m ((c : Thread nD τ).loc main_arg2)) b t j = v) : (dats m 0 c).arrAt 11 (cfgs 0).N
    = R1 (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t _ y => ?_
  blk_simp
  rw [after0_11]
  exact point11 m c t y hz

theorem point12 (t : Fin cfg0.N) (y : S256x512.Idx) : out0_12 (F := Ideal) (iblk m c 0 t) (iblk m c 1 t) (iblk m c 2 t) y
    = R2 (m ((c : Thread nD τ).loc main_arg0)) (m ((c : Thread nD τ).loc main_arg1)) (m ((c : Thread nD τ).loc main_arg2)) (((cfg0.win 12).blk t).view.emb y) := by
  obtain ⟨r, n, rfl⟩ : ∃ (r : Fin 256) (n : Fin 512), y = ix2 r n := ⟨y 0, y 1, by blk_ext⟩
  have ht := lt4 t
  have he : ((cfg0.win 12).blk t).view.emb (ix2 r n) = ix2 (⟨t.val * 256 + r.val, by omega⟩ : Fin 1024) n := by
    blk_ext [idx t]
  refine ((congrFun (same12 _ _ _ ) _).trans (out12 _ _ _ r n)).trans (Eq.trans ?_ ((congrArg _ he).trans (R2_at _ _ _ _ _)).symm)
  exact pr_lo m c t r ⟨1024 + n.val, by omega⟩ (by show 1024 + n.val < 2576; omega)

theorem final12 : (dats m 0 c).arrAt 12 (cfgs 0).N
    = R2 (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  exact point12 m c t y

theorem point13 (t : Fin cfg0.N) (y : S256x256.Idx) : out0_13 (F := Ideal) (iblk m c 0 t) (iblk m c 1 t) (iblk m c 2 t) y
    = R3 (m ((c : Thread nD τ).loc main_arg0)) (m ((c : Thread nD τ).loc main_arg1)) (m ((c : Thread nD τ).loc main_arg2)) (((cfg0.win 13).blk t).view.emb y) := by
  obtain ⟨r, n, rfl⟩ : ∃ (r : Fin 256) (n : Fin 256), y = ix2 r n := ⟨y 0, y 1, by blk_ext⟩
  have ht := lt4 t
  have he : ((cfg0.win 13).blk t).view.emb (ix2 r n) = ix2 (⟨t.val * 256 + r.val, by omega⟩ : Fin 1024) n := by
    blk_ext [idx t]
  refine ((congrFun (same13 _ _ _ ) _).trans (out13 _ _ _ r n)).trans (Eq.trans ?_ ((congrArg _ he).trans (R3_at _ _ _ _ _)).symm)
  exact Ideal.mul_congr (pr_lo m c t r ⟨1536 + n.val, by omega⟩ (by show 1536 + n.val < 2576; omega)) rfl

theorem final13 : (dats m 0 c).arrAt 13 (cfgs 0).N
    = R3 (m ((c : Thread nD τ).loc main_arg0)) (m ((c : Thread nD τ).loc main_arg1)) (m ((c : Thread nD τ).loc main_arg2)) := by
  refine (dats m 0 c).arrAt_eq_of_covers 13 _ (by decide +kernel) fun t _ y => ?_
  blk_simp
  rw [after0_13]
  exact point13 m c t y

theorem point14 (t : Fin cfg0.N) (y : S256x256.Idx) : out0_14 (F := Ideal) (iblk m c 0 t) (iblk m c 1 t) (iblk m c 2 t) y
    = R4 (m ((c : Thread nD τ).loc main_arg0)) (m ((c : Thread nD τ).loc main_arg1)) (m ((c : Thread nD τ).loc main_arg2)) (((cfg0.win 14).blk t).view.emb y) := by
  obtain ⟨r, n, rfl⟩ : ∃ (r : Fin 256) (n : Fin 256), y = ix2 r n := ⟨y 0, y 1, by blk_ext⟩
  have ht := lt4 t
  have he : ((cfg0.win 14).blk t).view.emb (ix2 r n) = ix2 (⟨t.val * 256 + r.val, by omega⟩ : Fin 1024) n := by
    blk_ext [idx t]
  refine ((congrFun (same14 _ _ _ ) _).trans (out14 _ _ _ r n)).trans (Eq.trans ?_ ((congrArg _ he).trans (R4_at _ _ _ _ _)).symm)
  exact pr_lo m c t r ⟨1792 + n.val, by omega⟩ (by show 1792 + n.val < 2576; omega)

theorem final14 : (dats m 0 c).arrAt 14 (cfgs 0).N
    = R4 (m ((c : Thread nD τ).loc main_arg0)) (m ((c : Thread nD τ).loc main_arg1)) (m ((c : Thread nD τ).loc main_arg2)) := by
  refine (dats m 0 c).arrAt_eq_of_covers 14 _ (by decide +kernel) fun t _ y => ?_
  blk_simp
  rw [after0_14]
  exact point14 m c t y

theorem point15 (t : Fin cfg0.N) (y : S256x512.Idx) : out0_15 (F := Ideal) (iblk m c 0 t) (iblk m c 1 t) (iblk m c 2 t) y
    = R5 (m ((c : Thread nD τ).loc main_arg0)) (m ((c : Thread nD τ).loc main_arg1)) (m ((c : Thread nD τ).loc main_arg2)) (((cfg0.win 15).blk t).view.emb y) := by
  obtain ⟨r, n, rfl⟩ : ∃ (r : Fin 256) (n : Fin 512), y = ix2 r n := ⟨y 0, y 1, by blk_ext⟩
  have ht := lt4 t
  have he : ((cfg0.win 15).blk t).view.emb (ix2 r n) = ix2 (⟨t.val * 256 + r.val, by omega⟩ : Fin 1024) n := by
    blk_ext [idx t]
  refine ((congrFun (same15 _ _ _ ) _).trans (out15 _ _ _ r n)).trans (Eq.trans ?_ ((congrArg _ he).trans (R5_at _ _ _ _ _)).symm)
  exact pr_lo m c t r ⟨2048 + n.val, by omega⟩ (by show 2048 + n.val < 2576; omega)

theorem final15 : (dats m 0 c).arrAt 15 (cfgs 0).N
    = R5 (m ((c : Thread nD τ).loc main_arg0)) (m ((c : Thread nD τ).loc main_arg1)) (m ((c : Thread nD τ).loc main_arg2)) := by
  refine (dats m 0 c).arrAt_eq_of_covers 15 _ (by decide +kernel) fun t _ y => ?_
  blk_simp
  rw [after0_15]
  exact point15 m c t y

theorem point16 (t : Fin cfg0.N) (y : S256x256.Idx) : out0_16 (F := Ideal) (iblk m c 0 t) (iblk m c 1 t) (iblk m c 2 t) (iblk m c 8 t) (iblk m c 9 t) y
    = R6 (m ((c : Thread nD τ).loc main_arg0)) (m ((c : Thread nD τ).loc main_arg1)) (m ((c : Thread nD τ).loc main_arg2)) (m ((c : Thread nD τ).loc main_arg5)) (m ((c : Thread nD τ).loc main_arg6)) (((cfg0.win 16).blk t).view.emb y) := by
  obtain ⟨r, n, rfl⟩ : ∃ (r : Fin 256) (n : Fin 256), y = ix2 r n := ⟨y 0, y 1, by blk_ext⟩
  have ht := lt4 t
  have he : ((cfg0.win 16).blk t).view.emb (ix2 r n) = ix2 (⟨t.val * 256 + r.val, by omega⟩ : Fin 1024) n := by
    blk_ext [idx t]
  refine ((congrFun (same16 _ _ _ _ _ ) _).trans (out16 _ _ _ _ _ r n)).trans (Eq.trans ?_ ((congrArg _ he).trans (R6_at _ _ _ _ _ _ _)).symm)
  exact congrArg decayAt (lin_eq m c t r n)

theorem final16 : (dats m 0 c).arrAt 16 (cfgs 0).N
    = R6 (m ((c : Thread nD τ).loc main_arg0)) (m ((c : Thread nD τ).loc main_arg1)) (m ((c : Thread nD τ).loc main_arg2)) (m ((c : Thread nD τ).loc main_arg5)) (m ((c : Thread nD τ).loc main_arg6)) := by
  refine (dats m 0 c).arrAt_eq_of_covers 16 _ (by decide +kernel) fun t _ y => ?_
  blk_simp
  rw [after0_16]
  exact point16 m c t y

theorem point17 (t : Fin cfg0.N) (y : S256x512.Idx) : out0_17 (F := Ideal) (iblk m c 0 t) (iblk m c 1 t) (iblk m c 2 t) y
    = R7 (m ((c : Thread nD τ).loc main_arg0)) (m ((c : Thread nD τ).loc main_arg1)) (m ((c : Thread nD τ).loc main_arg2)) (((cfg0.win 17).blk t).view.emb y) := by
  obtain ⟨r, n, rfl⟩ : ∃ (r : Fin 256) (n : Fin 512), y = ix2 r n := ⟨y 0, y 1, by blk_ext⟩
  have ht := lt4 t
  have he : ((cfg0.win 17).blk t).view.emb (ix2 r n) = ix2 (⟨t.val * 256 + r.val, by omega⟩ : Fin 1024) n := by
    blk_ext [idx t]
  refine ((congrFun (same17 _ _ _ ) _).trans (out17 _ _ _ r n)).trans (Eq.trans ?_ ((congrArg _ he).trans (R7_at _ _ _ _ _)).symm)
  refine (pr_hi m c t r ⟨2688 + n.val, by omega⟩ (by show 2688 ≤ 2688 + n.val; omega)).trans (congrArg _ (Fin.ext ?_))
  show 2688 + n.val - 112 = 2576 + n.val
  omega

theorem final17 : (dats m 0 c).arrAt 17 (cfgs 0).N
    = R7 (m ((c : Thread nD τ).loc main_arg0)) (m ((c : Thread nD τ).loc main_arg1)) (m ((c : Thread nD τ).loc main_arg2)) := by
  refine (dats m 0 c).arrAt_eq_of_covers 17 _ (by decide +kernel) fun t _ y => ?_
  blk_simp
  rw [after0_17]
  exact point17 m c t y

theorem point18 (t : Fin cfg0.N) (y : S256x1024.Idx) : out0_18 (F := Ideal) (iblk m c 0 t) (iblk m c 1 t) (iblk m c 2 t) y
    = R8 (m ((c : Thread nD τ).loc main_arg0)) (m ((c : Thread nD τ).loc main_arg1)) (m ((c : Thread nD τ).loc main_arg2)) (((cfg0.win 18).blk t).view.emb y) := by
  obtain ⟨r, n, rfl⟩ : ∃ (r : Fin 256) (n : Fin 1024), y = ix2 r n := ⟨y 0, y 1, by blk_ext⟩
  have ht := lt4 t
  have he : ((cfg0.win 18).blk t).view.emb (ix2 r n) = ix2 (⟨t.val * 256 + r.val, by omega⟩ : Fin 1024) n := by
    blk_ext [idx t]
  refine ((congrFun (same18 _ _ _ ) _).trans (out18 _ _ _ r n)).trans (Eq.trans ?_ ((congrArg _ he).trans (R8_at _ _ _ _ _)).symm)
  refine (pr_hi m c t r ⟨3200 + n.val, by omega⟩ (by show 2688 ≤ 3200 + n.val; omega)).trans (congrArg _ (Fin.ext ?_))
  show 3200 + n.val - 112 = 3088 + n.val
  omega

theorem final18 : (dats m 0 c).arrAt 18 (cfgs 0).N
    = R8 (m ((c : Thread nD τ).loc main_arg0)) (m ((c : Thread nD τ).loc main_arg1)) (m ((c : Thread nD τ).loc main_arg2)) := by
  refine (dats m 0 c).arrAt_eq_of_covers 18 _ (by decide +kernel) fun t _ y => ?_
  blk_simp
  rw [after0_18]
  exact point18 m c t y

theorem point19 (t : Fin cfg0.N) (y : S256x1024.Idx) : out0_19 (F := Ideal) (iblk m c 0 t) (iblk m c 1 t) (iblk m c 2 t) y
    = R9 (m ((c : Thread nD τ).loc main_arg0)) (m ((c : Thread nD τ).loc main_arg1)) (m ((c : Thread nD τ).loc main_arg2)) (((cfg0.win 19).blk t).view.emb y) := by
  obtain ⟨r, n, rfl⟩ : ∃ (r : Fin 256) (n : Fin 1024), y = ix2 r n := ⟨y 0, y 1, by blk_ext⟩
  have ht := lt4 t
  have he : ((cfg0.win 19).blk t).view.emb (ix2 r n) = ix2 (⟨t.val * 256 + r.val, by omega⟩ : Fin 1024) n := by
    blk_ext [idx t]
  refine ((congrFun (same19 _ _ _ ) _).trans (out19 _ _ _ r n)).trans (Eq.trans ?_ ((congrArg _ he).trans (R9_at _ _ _ _ _)).symm)
  refine (pr_hi m c t r ⟨4224 + n.val, by omega⟩ (by show 2688 ≤ 4224 + n.val; omega)).trans (congrArg _ (Fin.ext ?_))
  show 4224 + n.val - 112 = 4112 + n.val
  omega

theorem final19 : (dats m 0 c).arrAt 19 (cfgs 0).N
    = R9 (m ((c : Thread nD τ).loc main_arg0)) (m ((c : Thread nD τ).loc main_arg1)) (m ((c : Thread nD τ).loc main_arg2)) := by
  refine (dats m 0 c).arrAt_eq_of_covers 19 _ (by decide +kernel) fun t _ y => ?_
  blk_simp
  rw [after0_19]
  exact point19 m c t y

end Cert.InprojSample
-- ==== Proof.InprojSampleRun.lean ====
module
public import Idealize.ShloMosaic.Init
public import Idealize.ShloMosaic.Lib.Claim
public import proofs.«01_k».proof.Proof.InprojSampleValue
public import proofs.«01_k».proof.Proof.InprojSampleFinite

/-! The sample's projection runs: the ten results are the reference's arrays. -/

@[expose] public section

set_option maxRecDepth 16384

noncomputable section

open Idealize.ShloMosaic Idealize.ShloMosaic.TcCoe Idealize.SL.Sem

namespace Cert.InprojSample
open Cert.KernelInprojSampleIdeal Cert.KernelInprojSampleIdeal.Gen

variable (m : (ℓ : Loc nD τ sig) → Buf (Elt Ideal) ℓ) (ρ : Dev nD → PrngReg)

set_option maxHeartbeats 4000000 in
/-- The run's results and arguments, where the projection is finite. -/
theorem kernel_run (hz : ∀ (c : Dev nD) b t j, ∃ v : ℝ, zAt (m ((c.tc : Thread nD τ).loc main_arg0)) (m ((c.tc : Thread nD τ).loc main_arg1)) (m ((c.tc : Thread nD τ).loc main_arg2)) b t j = v) :
    θ_run defs (onTc (τ := τ) (main (F := Ideal))) ⟨m, fun _ => 0, ρ⟩ (fun r => ∀ c : Dev nD,
      r.2.mem ((c.tc : Thread nD τ).loc main_v57_0) = Cert.InprojSample.R0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v57_1) = Cert.InprojSample.R1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v57_2) = Cert.InprojSample.R2 (m ((c.tc : Thread nD τ).loc main_arg0)) (m ((c.tc : Thread nD τ).loc main_arg1)) (m ((c.tc : Thread nD τ).loc main_arg2))
      ∧ r.2.mem ((c.tc : Thread nD τ).loc main_v57_3) = Cert.InprojSample.R3 (m ((c.tc : Thread nD τ).loc main_arg0)) (m ((c.tc : Thread nD τ).loc main_arg1)) (m ((c.tc : Thread nD τ).loc main_arg2))
      ∧ r.2.mem ((c.tc : Thread nD τ).loc main_v57_4) = Cert.InprojSample.R4 (m ((c.tc : Thread nD τ).loc main_arg0)) (m ((c.tc : Thread nD τ).loc main_arg1)) (m ((c.tc : Thread nD τ).loc main_arg2))
      ∧ r.2.mem ((c.tc : Thread nD τ).loc main_v57_5) = Cert.InprojSample.R5 (m ((c.tc : Thread nD τ).loc main_arg0)) (m ((c.tc : Thread nD τ).loc main_arg1)) (m ((c.tc : Thread nD τ).loc main_arg2))
      ∧ r.2.mem ((c.tc : Thread nD τ).loc main_v57_6) = Cert.InprojSample.R6 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v57_7) = Cert.InprojSample.R7 (m ((c.tc : Thread nD τ).loc main_arg0)) (m ((c.tc : Thread nD τ).loc main_arg1)) (m ((c.tc : Thread nD τ).loc main_arg2))
      ∧ r.2.mem ((c.tc : Thread nD τ).loc main_v57_8) = Cert.InprojSample.R8 (m ((c.tc : Thread nD τ).loc main_arg0)) (m ((c.tc : Thread nD τ).loc main_arg1)) (m ((c.tc : Thread nD τ).loc main_arg2))
      ∧ r.2.mem ((c.tc : Thread nD τ).loc main_v57_9) = Cert.InprojSample.R9 (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))) :=
  (θ_run defs _ _).mono (fun _ h c => ⟨((h c).1 10).trans (final10 m c (hz c)), ((h c).1 11).trans (final11 m c (hz c)), ((h c).1 12).trans (final12 m c), ((h c).1 13).trans (final13 m c), ((h c).1 14).trans (final14 m c), ((h c).1 15).trans (final15 m c), ((h c).1 16).trans (final16 m c), ((h c).1 17).trans (final17 m c), ((h c).1 18).trans (final18 m c), ((h c).1 19).trans (final19 m c),
      kept m h c _ (by decide) (by decide) (by decide), kept m h c _ (by decide) (by decide) (by decide), kept m h c _ (by decide) (by decide) (by decide), kept m h c _ (by decide) (by decide) (by decide), kept m h c _ (by decide) (by decide) (by decide), kept m h c _ (by decide) (by decide) (by decide), kept m h c _ (by decide) (by decide) (by decide)⟩) (run_main m ρ)

end Cert.InprojSample
-- ==== Proof.InprojSampleRefRun.lean ====
module
public import Idealize.ShloMosaic.Init
public import Idealize.ShloMosaic.Lib.Claim
public import proofs.«01_k».proof.Proof.InprojSampleRef
public import proofs.«01_k».proof.Proof.Gen.ReferenceInprojSampleIdeal.Run

/-! The run of the sample's reference. -/

@[expose] public section

set_option maxRecDepth 16384

noncomputable section

open Idealize.ShloMosaic Idealize.ShloMosaic.TcCoe Idealize.SL.Sem

namespace Cert.InprojSample
open Cert.ReferenceInprojSampleIdeal

/-- The run's results, by name. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v128) = Cert.InprojSample.R0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v129) = Cert.InprojSample.R1 (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v130) = Cert.InprojSample.R2 (m ((c.tc : Thread nD τ).loc main_arg0)) (m ((c.tc : Thread nD τ).loc main_arg1)) (m ((c.tc : Thread nD τ).loc main_arg2))
      ∧ r.2.mem ((c.tc : Thread nD τ).loc main_v131) = Cert.InprojSample.R3 (m ((c.tc : Thread nD τ).loc main_arg0)) (m ((c.tc : Thread nD τ).loc main_arg1)) (m ((c.tc : Thread nD τ).loc main_arg2))
      ∧ r.2.mem ((c.tc : Thread nD τ).loc main_v132) = Cert.InprojSample.R4 (m ((c.tc : Thread nD τ).loc main_arg0)) (m ((c.tc : Thread nD τ).loc main_arg1)) (m ((c.tc : Thread nD τ).loc main_arg2))
      ∧ r.2.mem ((c.tc : Thread nD τ).loc main_v133) = Cert.InprojSample.R5 (m ((c.tc : Thread nD τ).loc main_arg0)) (m ((c.tc : Thread nD τ).loc main_arg1)) (m ((c.tc : Thread nD τ).loc main_arg2))
      ∧ r.2.mem ((c.tc : Thread nD τ).loc main_v134) = Cert.InprojSample.R6 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v135) = Cert.InprojSample.R7 (m ((c.tc : Thread nD τ).loc main_arg0)) (m ((c.tc : Thread nD τ).loc main_arg1)) (m ((c.tc : Thread nD τ).loc main_arg2))
      ∧ r.2.mem ((c.tc : Thread nD τ).loc main_v136) = Cert.InprojSample.R8 (m ((c.tc : Thread nD τ).loc main_arg0)) (m ((c.tc : Thread nD τ).loc main_arg1)) (m ((c.tc : Thread nD τ).loc main_arg2))
      ∧ r.2.mem ((c.tc : Thread nD τ).loc main_v137) = Cert.InprojSample.R9 (m ((c.tc : Thread nD τ).loc main_arg0)) (m ((c.tc : Thread nD τ).loc main_arg1)) (m ((c.tc : Thread nD τ).loc main_arg2))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))) :=
  Value.run (F := Ideal) m ρ

end Cert.InprojSample
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.ReferenceMergeIdeal.Run
public import proofs.«01_k».proof.Proof.Gen.KernelInproj
public import proofs.«01_k».proof.Proof.Gen.KernelInproj.Skeleton
public import proofs.«01_k».proof.Proof.Gen.KernelInproj.Launch
public import proofs.«01_k».proof.Proof.Gen.KernelInproj.Points
public import proofs.«01_k».proof.Proof.Gen.KernelInprojIdeal
public import proofs.«01_k».proof.Proof.Gen.KernelInprojIdeal.Skeleton
public import proofs.«01_k».proof.Proof.Gen.KernelInprojIdeal.Launch
public import proofs.«01_k».proof.Proof.Gen.KernelInprojIdeal.Points
public import proofs.«01_k».proof.Proof.Gen.ReferenceInprojIdeal
public import proofs.«01_k».proof.Proof.Gen.ReferenceInprojIdeal.Run
public import proofs.«01_k».proof.Proof.Gen.KernelInprojSample
public import proofs.«01_k».proof.Proof.Gen.KernelInprojSample.Skeleton
public import proofs.«01_k».proof.Proof.Gen.KernelInprojSample.Launch
public import proofs.«01_k».proof.Proof.Gen.KernelInprojSample.Points
public import proofs.«01_k».proof.Proof.Gen.KernelInprojSampleIdeal
public import proofs.«01_k».proof.Proof.Gen.KernelInprojSampleIdeal.Skeleton
public import proofs.«01_k».proof.Proof.Gen.KernelInprojSampleIdeal.Launch
public import proofs.«01_k».proof.Proof.Gen.KernelInprojSampleIdeal.Points
public import proofs.«01_k».proof.Proof.Gen.ReferenceInprojSampleIdeal
public import proofs.«01_k».proof.Proof.Gen.ReferenceInprojSampleIdeal.Run
public import proofs.«01_k».proof.Proof.Gen.KernelGla
public import proofs.«01_k».proof.Proof.Gen.KernelGla.Skeleton
public import proofs.«01_k».proof.Proof.Gen.KernelGla.Launch
public import proofs.«01_k».proof.Proof.Gen.KernelGla.Points
public import proofs.«01_k».proof.Proof.Gen.KernelGla.Frame
public import proofs.«01_k».proof.Proof.Gen.KernelGlaIdeal
public import proofs.«01_k».proof.Proof.Gen.KernelGlaIdeal.Skeleton
public import proofs.«01_k».proof.Proof.Gen.KernelGlaIdeal.Launch
public import proofs.«01_k».proof.Proof.Gen.KernelGlaIdeal.Points
public import proofs.«01_k».proof.Proof.Gen.KernelGlaIdeal.Frame
public import proofs.«01_k».proof.Proof.Gen.KernelGlaIdeal.Value
public import proofs.«01_k».proof.Proof.Gen.ReferenceGlaIdeal
public import proofs.«01_k».proof.Proof.Gen.ReferenceGlaIdeal.Run
public import proofs.«01_k».proof.Proof.Gen.Pre_prompt_decay_below_top
public import proofs.«01_k».proof.Proof.Gen.Pre_decay_below_top
public import proofs.«01_k».proof.Proof.Gen.Pre_inputs_finite
public import proofs.«01_k».proof.Proof.Gen.Pre_sample_finite
public import proofs.«01_k».proof.Proof.GlaValue
public import proofs.«01_k».proof.Proof.GlaFold
public import proofs.«01_k».proof.Proof.GlaScan
public import proofs.«01_k».proof.Proof.MergeValue
public import proofs.«01_k».proof.Proof.InprojTransport
public import proofs.«01_k».proof.Proof.InprojFinite
public import proofs.«01_k».proof.Proof.InprojRun
public import proofs.«01_k».proof.Proof.InprojRefRun
public import proofs.«01_k».proof.Proof.InprojSampleTransport
public import proofs.«01_k».proof.Proof.InprojSampleFinite
public import proofs.«01_k».proof.Proof.InprojSampleRun
public import proofs.«01_k».proof.Proof.InprojSampleRefRun
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/- conjunct 1 of `Cert.Claim`. -/
theorem quiescent_Kernel : Cert.quiescent_Kernel := fun m ρ _ => Cert.Kernel.Gen.frame m ρ

/- conjunct 2 of `Cert.Claim`. -/
theorem quiescent_KernelIdeal : Cert.quiescent_KernelIdeal := fun m ρ _ => Cert.KernelIdeal.Gen.frame m ρ

/- conjunct 3 of `Cert.Claim`. -/
theorem quiescent_KernelIdeal_pre_decay_below_top : Cert.quiescent_KernelIdeal_pre_decay_below_top := fun m ρ _ => Cert.KernelIdeal.Gen.frame m ρ

/- conjunct 4 of `Cert.Claim`. -/
theorem quiescent_ReferenceIdeal : Cert.quiescent_ReferenceIdeal := by
  intro m ρ _
  exact (θ_run Cert.ReferenceIdeal.defs _ _).mono (fun r h => ⟨fun c => (h c).2.2, sem_eq_zero_of_no_sems (by decide) r.2⟩)
    (Cert.ReferenceIdeal.Value.run (F := Ideal) m ρ)

/- conjunct 5 of `Cert.Claim`. -/
theorem quiescent_ReferenceIdeal_pre_decay_below_top : Cert.quiescent_ReferenceIdeal_pre_decay_below_top := fun m ρ _ => quiescent_ReferenceIdeal m ρ trivial

/- conjunct 6 of `Cert.Claim`. -/
theorem quiescent_KernelMerge : Cert.quiescent_KernelMerge := fun m ρ _ => Cert.KernelMerge.Gen.frame m ρ

/- conjunct 7 of `Cert.Claim`. -/
theorem quiescent_KernelMergeIdeal : Cert.quiescent_KernelMergeIdeal := fun m ρ _ => Cert.KernelMergeIdeal.Gen.frame m ρ

/- conjunct 8 of `Cert.Claim`. -/
theorem quiescent_ReferenceMergeIdeal : Cert.quiescent_ReferenceMergeIdeal := by
  intro m ρ _
  exact (θ_run Cert.ReferenceMergeIdeal.defs _ _).mono (fun r h => ⟨fun c => (h c).2, sem_eq_zero_of_no_sems (by decide) r.2⟩)
    (Cert.ReferenceMergeIdeal.Value.run (F := Ideal) m ρ)

/- conjunct 9 of `Cert.Claim`. -/
theorem quiescent_KernelInproj : Cert.quiescent_KernelInproj := Cert.Inproj.frame_bits

/- conjunct 10 of `Cert.Claim`. -/
theorem quiescent_KernelInprojIdeal : Cert.quiescent_KernelInprojIdeal := fun m ρ _ => Cert.Inproj.frame m ρ

/- conjunct 11 of `Cert.Claim`. -/
theorem quiescent_KernelInprojIdeal_pre_inputs_finite : Cert.quiescent_KernelInprojIdeal_pre_inputs_finite := fun m ρ _ => Cert.Inproj.frame m ρ

/- conjunct 12 of `Cert.Claim`. -/
theorem quiescent_ReferenceInprojIdeal : Cert.quiescent_ReferenceInprojIdeal := by
  intro m ρ _
  exact (θ_run Cert.ReferenceInprojIdeal.defs _ _).mono (fun r h => ⟨fun c => (h c).2.2.2.2.2.2.2.2.2.2.2.2.2, sem_eq_zero_of_no_sems (by decide) r.2⟩)
    (Cert.ReferenceInprojIdeal.Value.run (F := Ideal) m ρ)

/- conjunct 13 of `Cert.Claim`. -/
theorem quiescent_ReferenceInprojIdeal_pre_inputs_finite : Cert.quiescent_ReferenceInprojIdeal_pre_inputs_finite := fun m ρ _ => quiescent_ReferenceInprojIdeal m ρ trivial

/- conjunct 14 of `Cert.Claim`. -/
theorem quiescent_KernelInprojSample : Cert.quiescent_KernelInprojSample := Cert.InprojSample.frame_bits

/- conjunct 15 of `Cert.Claim`. -/
theorem quiescent_KernelInprojSampleIdeal : Cert.quiescent_KernelInprojSampleIdeal := fun m ρ _ => Cert.InprojSample.frame m ρ

/- conjunct 16 of `Cert.Claim`. -/
theorem quiescent_KernelInprojSampleIdeal_pre_sample_finite : Cert.quiescent_KernelInprojSampleIdeal_pre_sample_finite := fun m ρ _ => Cert.InprojSample.frame m ρ

/- conjunct 17 of `Cert.Claim`. -/
theorem quiescent_ReferenceInprojSampleIdeal : Cert.quiescent_ReferenceInprojSampleIdeal := by
  intro m ρ _
  exact (θ_run Cert.ReferenceInprojSampleIdeal.defs _ _).mono (fun r h => ⟨fun c => (h c).2.2.2.2.2.2.2.2.2.2, sem_eq_zero_of_no_sems (by decide) r.2⟩)
    (Cert.ReferenceInprojSampleIdeal.Value.run (F := Ideal) m ρ)

/- conjunct 18 of `Cert.Claim`. -/
theorem quiescent_ReferenceInprojSampleIdeal_pre_sample_finite : Cert.quiescent_ReferenceInprojSampleIdeal_pre_sample_finite := fun m ρ _ => quiescent_ReferenceInprojSampleIdeal m ρ trivial

/- conjunct 19 of `Cert.Claim`. -/
theorem quiescent_KernelGla : Cert.quiescent_KernelGla := fun m ρ _ => Cert.KernelGla.Gen.frame m ρ

/- conjunct 20 of `Cert.Claim`. -/
theorem quiescent_KernelGlaIdeal : Cert.quiescent_KernelGlaIdeal := fun m ρ _ => Cert.KernelGlaIdeal.Gen.frame m ρ

/- conjunct 21 of `Cert.Claim`. -/
theorem quiescent_KernelGlaIdeal_pre_prompt_decay_below_top : Cert.quiescent_KernelGlaIdeal_pre_prompt_decay_below_top := fun m ρ _ => Cert.KernelGlaIdeal.Gen.frame m ρ

/- conjunct 22 of `Cert.Claim`. -/
theorem quiescent_ReferenceGlaIdeal : Cert.quiescent_ReferenceGlaIdeal := by
  intro m ρ _
  exact (θ_run Cert.ReferenceGlaIdeal.defs _ _).mono (fun r h => ⟨fun c => (h c).2, sem_eq_zero_of_no_sems (by decide) r.2⟩)
    (Cert.ReferenceGlaIdeal.Value.run (F := Ideal) m ρ)

/- conjunct 23 of `Cert.Claim`. -/
theorem quiescent_ReferenceGlaIdeal_pre_prompt_decay_below_top : Cert.quiescent_ReferenceGlaIdeal_pre_prompt_decay_below_top := fun m ρ _ => quiescent_ReferenceGlaIdeal m ρ trivial

/- conjunct 24 of `Cert.Claim`. -/
theorem preserves_Kernel_KernelIdeal : Cert.preserves_Kernel_KernelIdeal := trivial

/- conjunct 25 of `Cert.Claim`. -/
theorem algebraic_KernelIdeal_ReferenceIdeal_pre_decay_below_top : Cert.algebraic_KernelIdeal_ReferenceIdeal_pre_decay_below_top := by
  pair_intro
  · run_from Cert.KernelIdeal.Gen.run_main m g
    exact Cert.KernelIdeal.Gen.V_main_arg4 m c
  · run_from Cert.ReferenceIdeal.Value.run m' g'
    · exact (Cert.GlaStep.finalo m c (Cert.GlaStep.below_top _ _ _ _ _ (hpre c))).symm
    · exact (Cert.GlaStep.finals m c (Cert.GlaStep.below_top _ _ _ _ _ (hpre c))).symm

/- conjunct 26 of `Cert.Claim`. -/
theorem preserves_KernelMerge_KernelMergeIdeal : Cert.preserves_KernelMerge_KernelMergeIdeal := trivial

/- conjunct 27 of `Cert.Claim`. -/
theorem algebraic_KernelMergeIdeal_ReferenceMergeIdeal : Cert.algebraic_KernelMergeIdeal_ReferenceMergeIdeal := by
  pair_intro
  · run_from Cert.KernelMergeIdeal.Gen.run_main m g
  · run_from Cert.ReferenceMergeIdeal.Value.run m' g'
    exact (Cert.Merge.final m c).symm

/- conjunct 28 of `Cert.Claim`. -/
theorem preserves_KernelInproj_KernelInprojIdeal : Cert.preserves_KernelInproj_KernelInprojIdeal := trivial

/-- A function of equal arguments. -/
theorem same3 {α β γ δ : Type} (f : α → β → γ → δ) {a a' : α} {b b' : β} {c c' : γ} (ha : a = a') (hb : b = b') (hc : c = c') :
    f a b c = f a' b' c' := by
  rw [ha, hb, hc]

theorem same4 {α β γ δ ε : Type} (f : α → β → γ → δ → ε) {a a' : α} {b b' : β} {c c' : γ} {d d' : δ} (ha : a = a') (hb : b = b') (hc : c = c') (hd : d = d') :
    f a b c d = f a' b' c' d' := by
  rw [ha, hb, hc, hd]

theorem same5 {α β γ δ ε ζ : Type} (f : α → β → γ → δ → ε → ζ) {a a' : α} {b b' : β} {c c' : γ} {d d' : δ} {e e' : ε} (ha : a = a') (hb : b = b') (hc : c = c') (hd : d = d')
    (he : e = e') : f a b c d e = f a' b' c' d' e' := by
  rw [ha, hb, hc, hd, he]

/- conjunct 29 of `Cert.Claim`. -/
theorem algebraic_KernelInprojIdeal_ReferenceInprojIdeal_pre_inputs_finite : Cert.algebraic_KernelInprojIdeal_ReferenceInprojIdeal_pre_inputs_finite := by
  intro m g m' g' hpre hagree
  have hz : ∀ (c : Dev Cert.KernelInprojIdeal.nD) b t j, ∃ v : ℝ, Cert.Inproj.zAt (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) b t j = v := fun c b t j => by
    obtain ⟨h0, h1, h2⟩ := Cert.Inproj.finite_of_pre _ _ _ _ _ _ _ (hpre c)
    exact Cert.Inproj.real_z _ _ _ h0 h1 h2 b t j
  refine ⟨fun c => Cert.Inproj.R0 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg3)), fun c => Cert.Inproj.R1 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg4)), fun c => Cert.Inproj.R2 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R3 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R4 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R5 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R6 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg5)) (m ((c.tc : Thread Cert.KernelInprojIdeal.nD Cert.KernelInprojIdeal.τ).loc Cert.KernelInprojIdeal.main_arg6)), fun c => Cert.Inproj.R7 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R8 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R9 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), fun c => Cert.Inproj.R10 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg4)), fun c => Cert.Inproj.R11 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)) (m ((c.tc : Thread Cert.KernelInprojIdeal.nD Cert.KernelInprojIdeal.τ).loc Cert.KernelInprojIdeal.main_arg4)), fun c => Cert.Inproj.R12 (m ((c.tc : Thread Cert.KernelInprojIdeal.nD Cert.KernelInprojIdeal.τ).loc Cert.KernelInprojIdeal.main_arg0)) (m ((c.tc : Thread Cert.KernelInprojIdeal.nD Cert.KernelInprojIdeal.τ).loc Cert.KernelInprojIdeal.main_arg1)) (m ((c.tc : Thread Cert.KernelInprojIdeal.nD Cert.KernelInprojIdeal.τ).loc Cert.KernelInprojIdeal.main_arg2)), Cert.Inproj.kernel_run m g hz, (θ_run Cert.ReferenceInprojIdeal.defs _ _).mono (fun r h c => ?_) (Cert.Inproj.reference_run m' g')⟩
  obtain ⟨e0, e1, e2, e3, e4, e5, e6⟩ := hagree c
  exact ⟨((h c).1).trans (same4 Cert.Inproj.R0 e0 e1 e2 e3), ((h c).2.1).trans (same4 Cert.Inproj.R1 e0 e1 e2 e4), ((h c).2.2.1).trans (same3 Cert.Inproj.R2 e0 e1 e2), ((h c).2.2.2.1).trans (same3 Cert.Inproj.R3 e0 e1 e2), ((h c).2.2.2.2.1).trans (same3 Cert.Inproj.R4 e0 e1 e2), ((h c).2.2.2.2.2.1).trans (same3 Cert.Inproj.R5 e0 e1 e2), ((h c).2.2.2.2.2.2.1).trans (same5 Cert.Inproj.R6 e0 e1 e2 e5 e6), ((h c).2.2.2.2.2.2.2.1).trans (same3 Cert.Inproj.R7 e0 e1 e2), ((h c).2.2.2.2.2.2.2.2.1).trans (same3 Cert.Inproj.R8 e0 e1 e2), ((h c).2.2.2.2.2.2.2.2.2.1).trans (same3 Cert.Inproj.R9 e0 e1 e2), ((h c).2.2.2.2.2.2.2.2.2.2.1).trans (same4 Cert.Inproj.R10 e0 e1 e2 e4), ((h c).2.2.2.2.2.2.2.2.2.2.2.1).trans (same4 Cert.Inproj.R11 e0 e1 e2 e4), ((h c).2.2.2.2.2.2.2.2.2.2.2.2.1).trans (same3 Cert.Inproj.R12 e0 e1 e2),
    (h c).2.2.2.2.2.2.2.2.2.2.2.2.2⟩

/- conjunct 30 of `Cert.Claim`. -/
theorem preserves_KernelInprojSample_KernelInprojSampleIdeal : Cert.preserves_KernelInprojSample_KernelInprojSampleIdeal := trivial

/- conjunct 31 of `Cert.Claim`. -/
theorem algebraic_KernelInprojSampleIdeal_ReferenceInprojSampleIdeal_pre_sample_finite : Cert.algebraic_KernelInprojSampleIdeal_ReferenceInprojSampleIdeal_pre_sample_finite := by
  intro m g m' g' hpre hagree
  have hz : ∀ (c : Dev Cert.KernelInprojSampleIdeal.nD) b t j, ∃ v : ℝ, Cert.InprojSample.zAt (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) b t j = v := fun c b t j => by
    obtain ⟨h0, h1, h2⟩ := Cert.InprojSample.finite_of_pre _ _ _ _ _ _ _ (hpre c)
    exact Cert.InprojSample.real_z _ _ _ h0 h1 h2 b t j
  refine ⟨fun c => Cert.InprojSample.R0 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) (m ((c.tc : Thread Cert.KernelInprojSampleIdeal.nD Cert.KernelInprojSampleIdeal.τ).loc Cert.KernelInprojSampleIdeal.main_arg3)), fun c => Cert.InprojSample.R1 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) (m ((c.tc : Thread Cert.KernelInprojSampleIdeal.nD Cert.KernelInprojSampleIdeal.τ).loc Cert.KernelInprojSampleIdeal.main_arg4)), fun c => Cert.InprojSample.R2 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), fun c => Cert.InprojSample.R3 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), fun c => Cert.InprojSample.R4 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), fun c => Cert.InprojSample.R5 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), fun c => Cert.InprojSample.R6 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)) (m ((c.tc : Thread Cert.KernelInprojSampleIdeal.nD Cert.KernelInprojSampleIdeal.τ).loc Cert.KernelInprojSampleIdeal.main_arg5)) (m ((c.tc : Thread Cert.KernelInprojSampleIdeal.nD Cert.KernelInprojSampleIdeal.τ).loc Cert.KernelInprojSampleIdeal.main_arg6)), fun c => Cert.InprojSample.R7 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), fun c => Cert.InprojSample.R8 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), fun c => Cert.InprojSample.R9 (m ((c.tc : Thread Cert.KernelInprojSampleIdeal.nD Cert.KernelInprojSampleIdeal.τ).loc Cert.KernelInprojSampleIdeal.main_arg0)) (m ((c.tc : Thread Cert.KernelInprojSampleIdeal.nD Cert.KernelInprojSampleIdeal.τ).loc Cert.KernelInprojSampleIdeal.main_arg1)) (m ((c.tc : Thread Cert.KernelInprojSampleIdeal.nD Cert.KernelInprojSampleIdeal.τ).loc Cert.KernelInprojSampleIdeal.main_arg2)), Cert.InprojSample.kernel_run m g hz, (θ_run Cert.ReferenceInprojSampleIdeal.defs _ _).mono (fun r h c => ?_) (Cert.InprojSample.reference_run m' g')⟩
  obtain ⟨e0, e1, e2, e3, e4, e5, e6⟩ := hagree c
  exact ⟨((h c).1).trans (same4 Cert.InprojSample.R0 e0 e1 e2 e3), ((h c).2.1).trans (same4 Cert.InprojSample.R1 e0 e1 e2 e4), ((h c).2.2.1).trans (same3 Cert.InprojSample.R2 e0 e1 e2), ((h c).2.2.2.1).trans (same3 Cert.InprojSample.R3 e0 e1 e2), ((h c).2.2.2.2.1).trans (same3 Cert.InprojSample.R4 e0 e1 e2), ((h c).2.2.2.2.2.1).trans (same3 Cert.InprojSample.R5 e0 e1 e2), ((h c).2.2.2.2.2.2.1).trans (same5 Cert.InprojSample.R6 e0 e1 e2 e5 e6), ((h c).2.2.2.2.2.2.2.1).trans (same3 Cert.InprojSample.R7 e0 e1 e2), ((h c).2.2.2.2.2.2.2.2.1).trans (same3 Cert.InprojSample.R8 e0 e1 e2), ((h c).2.2.2.2.2.2.2.2.2.1).trans (same3 Cert.InprojSample.R9 e0 e1 e2),
    (h c).2.2.2.2.2.2.2.2.2.2⟩

/- conjunct 32 of `Cert.Claim`. -/
theorem preserves_KernelGla_KernelGlaIdeal : Cert.preserves_KernelGla_KernelGlaIdeal := trivial

/- conjunct 33 of `Cert.Claim`. -/
theorem algebraic_KernelGlaIdeal_ReferenceGlaIdeal_pre_prompt_decay_below_top : Cert.algebraic_KernelGlaIdeal_ReferenceGlaIdeal_pre_prompt_decay_below_top := by
  intro m g m' g' hpre hagree
  refine ⟨fun c => Cert.Prompt.final (m ((c.tc : Thread Cert.KernelGlaIdeal.nD Cert.KernelGlaIdeal.τ).loc Cert.KernelGlaIdeal.main_arg1)) (m ((c.tc : Thread Cert.KernelGlaIdeal.nD Cert.KernelGlaIdeal.τ).loc Cert.KernelGlaIdeal.main_arg2)) (m ((c.tc : Thread Cert.KernelGlaIdeal.nD Cert.KernelGlaIdeal.τ).loc Cert.KernelGlaIdeal.main_arg3)),
    (θ_run Cert.KernelGlaIdeal.defs _ _).mono (fun r h c =>
      ⟨((h c).2.1).trans (Cert.Prompt.result m c (Cert.Prompt.below_top _ _ _ _ (hpre c))), (h c).2.2⟩) (Cert.KernelGlaIdeal.Value.run (F := Ideal) m g),
    (θ_run Cert.ReferenceGlaIdeal.defs _ _).mono (fun r h c => ?_) (Cert.ReferenceGlaIdeal.Value.run (F := Ideal) m' g')⟩
  obtain ⟨e0, e1, e2, e3⟩ := hagree c
  exact ⟨((h c).1).trans ((Cert.PromptRef.result m' c).trans (same3 Cert.Prompt.final e1 e2 e3)), (h c).2⟩

theorem claim : Cert.Claim :=
  ⟨Cert.Kernel.Gen.facts, Cert.KernelIdeal.Gen.facts, Cert.ReferenceIdeal.Gen.facts, Cert.KernelMerge.Gen.facts, Cert.KernelMergeIdeal.Gen.facts, Cert.ReferenceMergeIdeal.Gen.facts, Cert.KernelInproj.Gen.facts, Cert.KernelInprojIdeal.Gen.facts, Cert.ReferenceInprojIdeal.Gen.facts, Cert.KernelInprojSample.Gen.facts, Cert.KernelInprojSampleIdeal.Gen.facts, Cert.ReferenceInprojSampleIdeal.Gen.facts, Cert.KernelGla.Gen.facts, Cert.KernelGlaIdeal.Gen.facts, Cert.ReferenceGlaIdeal.Gen.facts, Cert.Pre_decay_below_top.Gen.facts, Cert.Pre_inputs_finite.Gen.facts, Cert.Pre_sample_finite.Gen.facts, Cert.Pre_prompt_decay_below_top.Gen.facts,
   quiescent_Kernel,
   quiescent_KernelIdeal,
   quiescent_KernelIdeal_pre_decay_below_top,
   quiescent_ReferenceIdeal,
   quiescent_ReferenceIdeal_pre_decay_below_top,
   quiescent_KernelMerge,
   quiescent_KernelMergeIdeal,
   quiescent_ReferenceMergeIdeal,
   quiescent_KernelInproj,
   quiescent_KernelInprojIdeal,
   quiescent_KernelInprojIdeal_pre_inputs_finite,
   quiescent_ReferenceInprojIdeal,
   quiescent_ReferenceInprojIdeal_pre_inputs_finite,
   quiescent_KernelInprojSample,
   quiescent_KernelInprojSampleIdeal,
   quiescent_KernelInprojSampleIdeal_pre_sample_finite,
   quiescent_ReferenceInprojSampleIdeal,
   quiescent_ReferenceInprojSampleIdeal_pre_sample_finite,
   quiescent_KernelGla,
   quiescent_KernelGlaIdeal,
   quiescent_KernelGlaIdeal_pre_prompt_decay_below_top,
   quiescent_ReferenceGlaIdeal,
   quiescent_ReferenceGlaIdeal_pre_prompt_decay_below_top,
   preserves_Kernel_KernelIdeal,
   algebraic_KernelIdeal_ReferenceIdeal_pre_decay_below_top,
   preserves_KernelMerge_KernelMergeIdeal,
   algebraic_KernelMergeIdeal_ReferenceMergeIdeal,
   preserves_KernelInproj_KernelInprojIdeal,
   algebraic_KernelInprojIdeal_ReferenceInprojIdeal_pre_inputs_finite,
   preserves_KernelInprojSample_KernelInprojSampleIdeal,
   algebraic_KernelInprojSampleIdeal_ReferenceInprojSampleIdeal_pre_sample_finite,
   preserves_KernelGla_KernelGlaIdeal,
   algebraic_KernelGlaIdeal_ReferenceGlaIdeal_pre_prompt_decay_below_top⟩

end Cert.Proof

end
